-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_qkv_finite [hPre_qkv_finite : Cert.Pre_qkv_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_qkv_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_qkv_finite [hPre_qkv_finite : Cert.Pre_qkv_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_qkv_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_qkv_finite [hKernel3Ideal : Cert.Kernel3Ideal.Facts] [hPre_qkv_finite : Cert.Pre_qkv_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_qkv_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_qkv_finite [hReference3Ideal : Cert.Reference3Ideal.Facts] [hPre_qkv_finite : Cert.Pre_qkv_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_qkv_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_qkv_finite [hKernel3Ideal : Cert.Kernel3Ideal.Facts] [hReference3Ideal : Cert.Reference3Ideal.Facts] [hPre_qkv_finite : Cert.Pre_qkv_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_qkv_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v26)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v72) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_qk_finite : Cert.Pre_qk_finite.Facts) (hPre_qkv_finite : Cert.Pre_qkv_finite.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_qkv_finite (hKernel3Ideal := hKernel3Ideal) (hPre_qkv_finite := hPre_qkv_finite)
    ∧ quiescent_Reference3Ideal (hReference3Ideal := hReference3Ideal)
    ∧ quiescent_Reference3Ideal_pre_qkv_finite (hReference3Ideal := hReference3Ideal) (hPre_qkv_finite := hPre_qkv_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_qkv_finite (hKernel3Ideal := hKernel3Ideal) (hReference3Ideal := hReference3Ideal) (hPre_qkv_finite := hPre_qkv_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_qk_finite.lean ====
abbrev S2x16384x1024 : Shape := ⟨3, ![2, 16384, 1024]⟩
abbrev S2x16384x256 : Shape := ⟨3, ![2, 16384, 256]⟩
abbrev S2x256x1024 : Shape := ⟨3, ![2, 256, 1024]⟩
abbrev S2x256x256 : Shape := ⟨3, ![2, 256, 256]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x16384x256 : S_.BroadcastsInDim S2x16384x256 (![] : Fin 0 → Fin S2x16384x256.rank)
  reducesTo_S2x16384x256_S_d0_1_2 : S2x16384x256.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_

variable [Facts]

def fn_part1 {F : FTy → Type} [FloatOps F] (main_arg4 : FVec F S2x256x256 .f32) (main_v12 : IVec S_ 1) (main_v14 : IVec S2x256x256 1) (main_v15 : FVec F S2x256x256 .f32) : IVec S_ 1 :=
  let main_v16 : IVec S2x256x256 1 := cmpf .olt main_arg4 main_v15
  let main_v17 : IVec S2x256x256 1 := andi main_v14 main_v16
  let main_c_6 : IVec S_ 1 := constantI S_ 1 1#1
  let main_v18 : IVec S_ 1 := (fun x v => Host.reduce IntOp.andi x v reducesTo_S2x256x256_S_d0_1_2 h_S_) main_v17 main_c_6
  let main_v19 : IVec S_ 1 := andi main_v12 main_v18
  main_v19

def fn {F : FTy → Type} [FloatOps F] (main_arg0 : FVec F S2x16384x1024 .f32) (main_arg1 : FVec F S2x16384x256 .f32) (main_arg2 : FVec F S2x16384x256 .f32) (main_arg3 : FVec F S2x256x1024 .f32) (main_arg4 : FVec F S2x256x256 .f32) (main_arg5 : FVec F S2x256x256 .f32) : IVec S_ 1 :=
  let main_cst : FVec F S_ .f32 := constant S_ .f32 0xFF800000#32
  let main_v0 : FVec F S2x16384x1024 .f32 := broadcastInDim S2x16384x1024 ![] bcast_S_S2x16384x1024 main_cst
  let main_v1 : IVec S2x16384x1024 1 := cmpf .ogt main_arg0 main_v0
  let main_cst_0 : FVec F S_ .f32 := constant S_ .f32 0x7F800000#32
  let main_v2 : FVec F S2x16384x1024 .f32 := broadcastInDim S2x16384x1024 ![] bcast_S_S2x16384x1024 main_cst_0
  let main_v3 : IVec S2x16384x1024 1 := cmpf .olt main_arg0 main_v2
  let main_v4 : IVec S2x16384x1024 1 := andi main_v1 main_v3
  let main_c : IVec S_ 1 := constantI S_ 1 1#1
  let main_v5 : IVec S_ 1 := (fun x v => Host.reduce IntOp.andi x v reducesTo_S2x16384x1024_S_d0_1_2 h_S_) main_v4 main_c
  let main_cst_1 : FVec F S_ .f32 := constant S_ .f32 0xFF800000#32
  let main_v6 : FVec F S2x16384x256 .f32 := broadcastInDim S2x16384x256 ![] bcast_S_S2x16384x256 main_cst_1
  let main_v7 : IVec S2x16384x256 1 := cmpf .ogt main_arg1 main_v6
  let main_cst_2 : FVec F S_ .f32 := constant S_ .f32 0x7F800000#32
  let main_v8 : FVec F S2x16384x256 .f32 := broadcastInDim S2x16384x256 ![] bcast_S_S2x16384x256 main_cst_2
  let main_v9 : IVec S2x16384x256 1 := cmpf .olt main_arg1 main_v8
  let main_v10 : IVec S2x16384x256 1 := andi main_v7 main_v9
  let main_c_3 : IVec S_ 1 := constantI S_ 1 1#1
  let main_v11 : IVec S_ 1 := (fun x v => Host.reduce IntOp.andi x v reducesTo_S2x16384x256_S_d0_1_2 h_S_) main_v10 main_c_3
  let main_v12 : IVec S_ 1 := andi main_v5 main_v11
  let main_cst_4 : FVec F S_ .f32 := constant S_ .f32 0xFF800000#32
  let main_v13 : FVec F S2x256x256 .f32 := broadcastInDim S2x256x256 ![] bcast_S_S2x256x256 main_cst_4
  let main_v14 : IVec S2x256x256 1 := cmpf .ogt main_arg4 main_v13
  let main_cst_5 : FVec F S_ .f32 := constant S_ .f32 0x7F800000#32
  let main_v15 : FVec F S2x256x256 .f32 := broadcastInDim S2x256x256 ![] bcast_S_S2x256x256 main_cst_5
  fn_part1 (F := F) main_arg4 main_v12 main_v14 main_v15
-- ==== Pre_qkv_finite.lean ====
abbrev S2x16384x1024 : Shape := ⟨3, ![2, 16384, 1024]⟩
abbrev S2x256x1024 : Shape := ⟨3, ![2, 256, 1024]⟩
abbrev S_ : Shape := ⟨0, ![]⟩
abbrev S128 : Shape := ⟨1, ![128]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  reducesTo_S_S_d : S_.ReducesTo [] S_

variable [Facts]

def fn_part2 {F : FTy → Type} [FloatOps F] (main_arg6 : FVec F S_ .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : IVec S_ 1 := cmpf .ogt main_arg6 main_cst_13
  let main_cst_14 : FVec F S_ .f32 := constant S_ .f32 0x7F800000#32
  let main_v35 : IVec S_ 1 := cmpf .olt main_arg6 main_cst_14
  let main_v36 : IVec S_ 1 := andi main_v34 main_v35
  let main_c_15 : IVec S_ 1 := constantI S_ 1 1#1
  let main_v37 : IVec S_ 1 := (fun x v => Host.reduce IntOp.andi x v reducesTo_S_S_d h_S_) main_v36 main_c_15
  let main_v38 : IVec S_ 1 := andi main_v33 main_v37
  main_v38

def fn_part1 {F : FTy → Type} [FloatOps F] (main_arg2 : FVec F S2x16384x1024 .f32) (main_arg4 : FVec F S2x256x1024 .f32) (main_arg5 : FVec F S2x256x1024 .f32) (main_arg6 : FVec F S_ .f32) (main_v12 : IVec S_ 1) (main_v14 : IVec S2x16384x1024 1) (main_v15 : FVec F S2x16384x1024 .f32) : IVec S_ 1 :=
  let main_v16 : IVec S2x16384x1024 1 := cmpf .olt main_arg2 main_v15
  let main_v17 : IVec S2x16384x1024 1 := andi main_v14 main_v16
  let main_c_6 : IVec S_ 1 := constantI S_ 1 1#1
  let main_v18 : IVec S_ 1 := (fun x v => Host.reduce IntOp.andi x v reducesTo_S2x16384x1024_S_d0_1_2 h_S_) main_v17 main_c_6
  let main_v19 : IVec S_ 1 := andi main_v12 main_v18
  let main_cst_7 : FVec F S_ .f32 := constant S_ .f32 0xFF800000#32
  let main_v20 : FVec F S2x256x1024 .f32 := broadcastInDim S2x256x1024 ![] bcast_S_S2x256x1024 main_cst_7
  let main_v21 : IVec S2x256x1024 1 := cmpf .ogt main_arg4 main_v20
  let main_cst_8 : FVec F S_ .f32 := constant S_ .f32 0x7F800000#32
  let main_v22 : FVec F S2x256x1024 .f32 := broadcastInDim S2x256x1024 ![] bcast_S_S2x256x1024 main_cst_8
  let main_v23 : IVec S2x256x1024 1 := cmpf .olt main_arg4 main_v22
  let main_v24 : IVec S2x256x1024 1 := andi main_v21 main_v23
  let main_c_9 : IVec S_ 1 := constantI S_ 1 1#1
  let main_v25 : IVec S_ 1 := (fun x v => Host.reduce IntOp.andi x v reducesTo_S2x256x1024_S_d0_1_2 h_S_) main_v24 main_c_9
  let main_v26 : IVec S_ 1 := andi main_v19 main_v25
  let main_cst_10 : FVec F S_ .f32 := constant S_ .f32 0xFF800000#32
  let main_v27 : FVec F S2x256x1024 .f32 := broadcastInDim S2x256x1024 ![] bcast_S_S2x256x1024 main_cst_10
  let main_v28 : IVec S2x256x1024 1 := cmpf .ogt main_arg5 main_v27
  let main_cst_11 : FVec F S_ .f32 := constant S_ .f32 0x7F800000#32
  let main_v29 : FVec F S2x256x1024 .f32 := broadcastInDim S2x256x1024 ![] bcast_S_S2x256x1024 main_cst_11
  let main_v30 : IVec S2x256x1024 1 := cmpf .olt main_arg5 main_v29
  let main_v31 : IVec S2x256x1024 1 := andi main_v28 main_v30
  let main_c_12 : IVec S_ 1 := constantI S_ 1 1#1
  let main_v32 : IVec S_ 1 := (fun x v => Host.reduce IntOp.andi x v reducesTo_S2x256x1024_S_d0_1_2 h_S_) main_v31 main_c_12
  fn_part2 (F := F) main_arg6 main_v26 main_v32

def fn {F : FTy → Type} [FloatOps F] (main_arg0 : FVec F S2x16384x1024 .f32) (main_arg1 : FVec F S2x16384x1024 .f32) (main_arg2 : FVec F S2x16384x1024 .f32) (main_arg3 : FVec F S2x256x1024 .f32) (main_arg4 : FVec F S2x256x1024 .f32) (main_arg5 : FVec F S2x256x1024 .f32) (main_arg6 : FVec F S_ .f32) (main_arg7 : FVec F S128 .f32) : IVec S_ 1 :=
  let main_cst : FVec F S_ .f32 := constant S_ .f32 0xFF800000#32
  let main_v0 : FVec F S2x16384x1024 .f32 := broadcastInDim S2x16384x1024 ![] bcast_S_S2x16384x1024 main_cst
  let main_v1 : IVec S2x16384x1024 1 := cmpf .ogt main_arg0 main_v0
  let main_cst_0 : FVec F S_ .f32 := constant S_ .f32 0x7F800000#32
  let main_v2 : FVec F S2x16384x1024 .f32 := broadcastInDim S2x16384x1024 ![] bcast_S_S2x16384x1024 main_cst_0
  let main_v3 : IVec S2x16384x1024 1 := cmpf .olt main_arg0 main_v2
  let main_v4 : IVec S2x16384x1024 1 := andi main_v1 main_v3
  let main_c : IVec S_ 1 := constantI S_ 1 1#1
  let main_v5 : IVec S_ 1 := (fun x v => Host.reduce IntOp.andi x v reducesTo_S2x16384x1024_S_d0_1_2 h_S_) main_v4 main_c
  let main_cst_1 : FVec F S_ .f32 := constant S_ .f32 0xFF800000#32
  let main_v6 : FVec F S2x16384x1024 .f32 := broadcastInDim S2x16384x1024 ![] bcast_S_S2x16384x1024 main_cst_1
  let main_v7 : IVec S2x16384x1024 1 := cmpf .ogt main_arg1 main_v6
  let main_cst_2 : FVec F S_ .f32 := constant S_ .f32 0x7F800000#32
  let main_v8 : FVec F S2x16384x1024 .f32 := broadcastInDim S2x16384x1024 ![] bcast_S_S2x16384x1024 main_cst_2
  let main_v9 : IVec S2x16384x1024 1 := cmpf .olt main_arg1 main_v8
  let main_v10 : IVec S2x16384x1024 1 := andi main_v7 main_v9
  let main_c_3 : IVec S_ 1 := constantI S_ 1 1#1
  let main_v11 : IVec S_ 1 := (fun x v => Host.reduce IntOp.andi x v reducesTo_S2x16384x1024_S_d0_1_2 h_S_) main_v10 main_c_3
  let main_v12 : IVec S_ 1 := andi main_v5 main_v11
  let main_cst_4 : FVec F S_ .f32 := constant S_ .f32 0xFF800000#32
  let main_v13 : FVec F S2x16384x1024 .f32 := broadcastInDim S2x16384x1024 ![] bcast_S_S2x16384x1024 main_cst_4
  let main_v14 : IVec S2x16384x1024 1 := cmpf .ogt main_arg2 main_v13
  let main_cst_5 : FVec F S_ .f32 := constant S_ .f32 0x7F800000#32
  let main_v15 : FVec F S2x16384x1024 .f32 := broadcastInDim S2x16384x1024 ![] bcast_S_S2x16384x1024 main_cst_5
  fn_part1 (F := F) main_arg2 main_arg4 main_arg5 main_arg6 main_v12 main_v14 main_v15
-- ==== Kernel.lean ====
abbrev S2x16384x1024 : Shape := ⟨3, ![2, 16384, 1024]⟩
abbrev S2x16384x256 : Shape := ⟨3, ![2, 16384, 256]⟩
abbrev S2x256x1024 : Shape := ⟨3, ![2, 256, 1024]⟩
abbrev S2x256x256 : Shape := ⟨3, ![2, 256, 256]⟩
abbrev S_ : Shape := ⟨0, ![]⟩
abbrev S2x16384x1280 : Shape := ⟨3, ![2, 16384, 1280]⟩
abbrev S2x256x1280 : Shape := ⟨3, ![2, 256, 1280]⟩
abbrev S1x2048x512 : Shape := ⟨3, ![1, 2048, 512]⟩
abbrev S1x16384x128 : Shape := ⟨3, ![1, 16384, 128]⟩
abbrev S1x256x128 : Shape := ⟨3, ![1, 256, 128]⟩
abbrev S2x128x1024 : Shape := ⟨3, ![2, 128, 1024]⟩
abbrev S32x144x512 : Shape := ⟨3, ![32, 144, 512]⟩
abbrev S144x256 : Shape := ⟨2, ![144, 256]⟩
abbrev S512x1024 : Shape := ⟨2, ![512, 1024]⟩
abbrev S256x1024 : Shape := ⟨2, ![256, 1024]⟩
abbrev S1x1024 : Shape := ⟨2, ![1, 1024]⟩
abbrev S144x1024 : Shape := ⟨2, ![144, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S256x128 : Shape := ⟨2, ![256, 128]⟩
abbrev S128x256 : Shape := ⟨2, ![128, 256]⟩
abbrev S16x256 : Shape := ⟨2, ![16, 256]⟩
abbrev S1x128x256 : Shape := ⟨3, ![1, 128, 256]⟩
abbrev S1x128x1024 : Shape := ⟨3, ![1, 128, 1024]⟩
abbrev S128x1024 : Shape := ⟨2, ![128, 1024]⟩
abbrev S1x144x512 : Shape := ⟨3, ![1, 144, 512]⟩
abbrev S144x512 : Shape := ⟨2, ![144, 512]⟩
abbrev S1024 : Shape := ⟨1, ![1024]⟩
abbrev S1024x128 : Shape := ⟨2, ![1024, 128]⟩

abbrev nBuf : Space → Nat
  | .hbm => 24
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x256x1024, .f32⟩
  | .hbm, ⟨4, _⟩ => ⟨S2x256x256, .f32⟩
  | .hbm, ⟨5, _⟩ => ⟨S2x256x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16384x1024, .f32⟩
  | .hbm, ⟨14, _⟩ => ⟨S2x16384x1024, .f32⟩
  | .hbm, ⟨15, _⟩ => ⟨S2x16384x1280, .f32⟩
  | .hbm, ⟨16, _⟩ => ⟨S2x16384x1280, .bf16⟩
  | .hbm, ⟨17, _⟩ => ⟨S2x256x1024, .f32⟩
  | .hbm, ⟨18, _⟩ => ⟨S2x256x1024, .f32⟩
  | .hbm, ⟨19, _⟩ => ⟨S2x256x1280, .f32⟩
  | .hbm, ⟨20, _⟩ => ⟨S2x256x1280, .bf16⟩
  | .hbm, ⟨21, _⟩ => ⟨S2x16384x256, .bf16⟩
  | .hbm, ⟨22, _⟩ => ⟨S2x256x256, .bf16⟩
  | .hbm, ⟨23, _⟩ => ⟨S2x16384x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x512, .bf16⟩
  | .local _ .vmem, ⟨11, _⟩ => ⟨S1x2048x512, .bf16⟩
  | .local _ .vmem, ⟨12, _⟩ => ⟨S2x128x1024, .bf16⟩
  | .local _ .vmem, ⟨13, _⟩ => ⟨S32x144x512, .bf16⟩
  | .local _ .vmem, ⟨14, _⟩ => ⟨S144x256, .bf16⟩
  | .local _ .vmem, ⟨15, _⟩ => ⟨S512x1024, .f32⟩
  | .local _ .vmem, ⟨16, _⟩ => ⟨S512x1024, .f32⟩
  | .local _ .vmem, ⟨17, _⟩ => ⟨S256x1024, .f32⟩
  | .local _ .vmem, ⟨18, _⟩ => ⟨S1x1024, .f32⟩
  | .local _ .vmem, ⟨19, _⟩ => ⟨S144x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def k0_mult1 : BitVec 32 :=
  let c0_i32_1 : BitVec 32 := 0#32
  c0_i32_1
def k0_mult2 : BitVec 32 :=
  let c0_i32_6 : BitVec 32 := 0#32
  c0_i32_6
def k0_mult3 : BitVec 32 :=
  let c0_i32_10 : BitVec 32 := 0#32
  c0_i32_10
def k0_mult4 : BitVec 32 :=
  let c0_i32_15 : BitVec 32 := 0#32
  c0_i32_15
def k0_mult5 : BitVec 32 :=
  let c0_i32_19 : BitVec 32 := 0#32
  c0_i32_19
@[reducible] def k0_t1_loop : Scf.Loop 32 :=
  let c0_i32_27 : BitVec 32 := 0#32
  let c8_i32 : BitVec 32 := 8#32
  let v53 : BitVec 32 := Scalar.addi c0_i32_27 c8_i32
  let c1_i32 : BitVec 32 := 1#32
  ⟨c0_i32_27, v53, c1_i32⟩
@[reducible] def k0_t2_loop : Scf.Loop 32 :=
  let c0_i32_40 : BitVec 32 := 0#32
  let c14_i32 : BitVec 32 := 14#32
  let v72 : BitVec 32 := Scalar.addi c0_i32_40 c14_i32
  let c1_i32_41 : BitVec 32 := 1#32
  ⟨c0_i32_40, v72, c1_i32_41⟩
def k0_mult6 (k0_t2 : Fin k0_t2_loop.trips) : BitVec 32 :=
  let c2_i32_198 : BitVec 32 := 2#32
  let c0_i32_40 : BitVec 32 := 0#32
  let c1_i32_41 : BitVec 32 := 1#32
  let arg18 : BitVec 32 := Scf.iv c0_i32_40 c1_i32_41 k0_t2
  let v339 : BitVec 32 := Scalar.muli c2_i32_198 arg18
  let c1_i32_199 : BitVec 32 := 1#32
  let v340 : BitVec 32 := Scalar.addi v339 c1_i32_199
  let c512_i32 : BitVec 32 := 512#32
  let v341 : BitVec 32 := Scalar.muli v340 c512_i32
  v341
def k0_off1 (k0_t2 : Fin k0_t2_loop.trips) (c1_i32_199 : BitVec 32) : Fin 3 → Nat :=
  let c0_200 : Index := 0#32
  let c2_i32_198 : BitVec 32 := 2#32
  let c0_i32_40 : BitVec 32 := 0#32
  let c1_i32_41 : BitVec 32 := 1#32
  let arg18 : BitVec 32 := Scf.iv c0_i32_40 c1_i32_41 k0_t2
  let v339 : BitVec 32 := Scalar.muli c2_i32_198 arg18
  let v340 : BitVec 32 := Scalar.addi v339 c1_i32_199
  let c512_i32 : BitVec 32 := 512#32
  let v341 : BitVec 32 := Scalar.muli v340 c512_i32
  let v342 : BitVec 32 := v341
  let v343 : Index := Scalar.indexCast v342
  let c0_201 : Index := 0#32
  ![0, v343.toNat, 0]
def k0_off2 (k0_t1 : Fin k0_t1_loop.trips) : Fin 3 → Nat :=
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v346 : Index := Scalar.indexCast v63
  let c0_202 : Index := 0#32
  let c0_203 : Index := 0#32
  ![v346.toNat, 0, 0]
def k0_off3 (k0_t2 : Fin k0_t2_loop.trips) : Fin 3 → Nat :=
  let c2_i32_198 : BitVec 32 := 2#32
  let c0_i32_40 : BitVec 32 := 0#32
  let c1_i32_41 : BitVec 32 := 1#32
  let arg18 : BitVec 32 := Scf.iv c0_i32_40 c1_i32_41 k0_t2
  let v339 : BitVec 32 := Scalar.muli c2_i32_198 arg18
  let v353 : Index := Scalar.indexCast v339
  let c0_207 : Index := 0#32
  let c0_208 : Index := 0#32
  ![v353.toNat, 0, 0]
def k0_mult7 (k0_t2 : Fin k0_t2_loop.trips) : BitVec 32 :=
  let c2_i32_198 : BitVec 32 := 2#32
  let c0_i32_40 : BitVec 32 := 0#32
  let c1_i32_41 : BitVec 32 := 1#32
  let arg18 : BitVec 32 := Scf.iv c0_i32_40 c1_i32_41 k0_t2
  let v339 : BitVec 32 := Scalar.muli c2_i32_198 arg18
  let c2_i32_223 : BitVec 32 := 2#32
  let v379 : BitVec 32 := Scalar.addi v339 c2_i32_223
  let c512_i32_224 : BitVec 32 := 512#32
  let v380 : BitVec 32 := Scalar.muli v379 c512_i32_224
  v380
def k0_off4 (k0_t2 : Fin k0_t2_loop.trips) : Fin 3 → Nat :=
  let c2_i32_198 : BitVec 32 := 2#32
  let c0_i32_40 : BitVec 32 := 0#32
  let c1_i32_41 : BitVec 32 := 1#32
  let arg18 : BitVec 32 := Scf.iv c0_i32_40 c1_i32_41 k0_t2
  let v339 : BitVec 32 := Scalar.muli c2_i32_198 arg18
  let c1_i32_232 : BitVec 32 := 1#32
  let v392 : BitVec 32 := Scalar.addi v339 c1_i32_232
  let v393 : Index := Scalar.indexCast v392
  let c0_233 : Index := 0#32
  let c0_234 : Index := 0#32
  ![v393.toNat, 0, 0]
def k0_mult8 : BitVec 32 :=
  let c14848_i32 : BitVec 32 := 14848#32
  c14848_i32
def k0_off5 (k0_t1 : Fin k0_t1_loop.trips) : Fin 3 → Nat :=
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v77 : Index := Scalar.indexCast v63
  let c0_45 : Index := 0#32
  let c0_46 : Index := 0#32
  ![v77.toNat, 0, 0]
def k0_mult9 : BitVec 32 :=
  let c15360_i32 : BitVec 32 := 15360#32
  c15360_i32
def k0_mult10 : BitVec 32 :=
  let c15872_i32 : BitVec 32 := 15872#32
  c15872_i32
def k0_mult11 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32 : BitVec 32 := 256#32
  let v193 : BitVec 32 := Scalar.muli v191 c256_i32
  v193
def k0_off6 (k0_t1 : Fin k0_t1_loop.trips) : Fin 3 → Nat :=
  let c0_122 : Index := 0#32
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32 : BitVec 32 := 256#32
  let v193 : BitVec 32 := Scalar.muli v191 c256_i32
  let v194 : BitVec 32 := v193
  let v195 : Index := Scalar.indexCast v194
  let c0_123 : Index := 0#32
  ![0, v195.toNat, 0]
def k0_off7 (k0_t1 : Fin k0_t1_loop.trips) : Fin 3 → Nat :=
  let c1_i32_121 : BitVec 32 := 1#32
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v192 : BitVec 32 := Scalar.subi c1_i32_121 v63
  let v201 : Index := Scalar.indexCast v192
  let c0_124 : Index := 0#32
  let c0_125 : Index := 0#32
  ![v201.toNat, 0, 0]
def k0_mult12 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_126 : BitVec 32 := 256#32
  let v205 : BitVec 32 := Scalar.muli v191 c256_i32_126
  v205
def k0_off8 (k0_t1 : Fin k0_t1_loop.trips) : Fin 3 → Nat :=
  let c0_127 : Index := 0#32
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_126 : BitVec 32 := 256#32
  let v205 : BitVec 32 := Scalar.muli v191 c256_i32_126
  let v206 : BitVec 32 := v205
  let v207 : Index := Scalar.indexCast v206
  let c128_128 : Index := 128#32
  ![0, v207.toNat, 128]
def k0_off9 (k0_t1 : Fin k0_t1_loop.trips) : Fin 3 → Nat :=
  let c1_i32_121 : BitVec 32 := 1#32
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v192 : BitVec 32 := Scalar.subi c1_i32_121 v63
  let v213 : Index := Scalar.indexCast v192
  let c0_129 : Index := 0#32
  let c256_130 : Index := 256#32
  ![v213.toNat, 0, 256]
def k0_mult13 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_131 : BitVec 32 := 256#32
  let v217 : BitVec 32 := Scalar.muli v191 c256_i32_131
  v217
def k0_off10 (k0_t1 : Fin k0_t1_loop.trips) : Fin 3 → Nat :=
  let c0_132 : Index := 0#32
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_131 : BitVec 32 := 256#32
  let v217 : BitVec 32 := Scalar.muli v191 c256_i32_131
  let v218 : BitVec 32 := v217
  let v219 : Index := Scalar.indexCast v218
  let c256_133 : Index := 256#32
  ![0, v219.toNat, 256]
def k0_off11 (k0_t1 : Fin k0_t1_loop.trips) : Fin 3 → Nat :=
  let c1_i32_121 : BitVec 32 := 1#32
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v192 : BitVec 32 := Scalar.subi c1_i32_121 v63
  let v225 : Index := Scalar.indexCast v192
  let c0_134 : Index := 0#32
  let c512_135 : Index := 512#32
  ![v225.toNat, 0, 512]
def k0_mult14 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_136 : BitVec 32 := 256#32
  let v229 : BitVec 32 := Scalar.muli v191 c256_i32_136
  v229
def k0_off12 (k0_t1 : Fin k0_t1_loop.trips) : Fin 3 → Nat :=
  let c0_137 : Index := 0#32
  let c0_i32_27 : BitVec 32 := 0#32
  let c1_i32 : BitVec 32 := 1#32
  let arg17 : BitVec 32 := Scf.iv c0_i32_27 c1_i32 k0_t1
  let c1_i32_120 : BitVec 32 := 1#32
  let v190 : BitVec 32 := Scalar.addi arg17 c1_i32_120
  let c7_i32 : BitVec 32 := 7#32
  let v191 : BitVec 32 := Scalar.minsi v190 c7_i32
  let c256_i32_136 : BitVec 32 := 256#32
  let v229 : BitVec 32 := Scalar.muli v191 c256_i32_136
  let v230 : BitVec 32 := v229
  let v231 : Index := Scalar.indexCast v230
  let c384_138 : Index := 384#32
  ![0, v231.toNat, 384]
def k0_off13 (k0_t1 : Fin k0_t1_loop.trips) : Fin 3 → Nat :=
  let c1_i32_121 : BitVec 32 := 1#32
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v192 : BitVec 32 := Scalar.subi c1_i32_121 v63
  let v237 : Index := Scalar.indexCast v192
  let c0_139 : Index := 0#32
  let c768_140 : Index := 768#32
  ![v237.toNat, 0, 768]
def k0_mult15 : BitVec 32 :=
  let c0_i32_142 : BitVec 32 := 0#32
  c0_i32_142
def k0_off14 (k0_t1 : Fin k0_t1_loop.trips) : Fin 3 → Nat :=
  let c1_i32_141 : BitVec 32 := 1#32
  let c0_i32_27 : BitVec 32 := 0#32
  let c1_i32 : BitVec 32 := 1#32
  let arg17 : BitVec 32 := Scf.iv c0_i32_27 c1_i32 k0_t1
  let c2_i32 : BitVec 32 := 2#32
  let c0_i32_29 : BitVec 32 := 0#32
  let v54 : BitVec 1 := Scalar.cmpi .eq c2_i32 c0_i32_29
  let c1_i32_30 : BitVec 32 := 1#32
  let v55 : BitVec 32 := Scalar.select v54 c1_i32_30 c2_i32
  let v56 : BitVec 32 := Scalar.remsi arg17 v55
  let c0_i32_32 : BitVec 32 := 0#32
  let v58 : BitVec 1 := Scalar.cmpi .slt v56 c0_i32_32
  let c0_i32_33 : BitVec 32 := 0#32
  let v59 : BitVec 1 := Scalar.cmpi .slt v55 c0_i32_33
  let v60 : BitVec 1 := Scalar.xori v58 v59
  let c0_i32_31 : BitVec 32 := 0#32
  let v57 : BitVec 1 := Scalar.cmpi .ne v56 c0_i32_31
  let v61 : BitVec 1 := Scalar.andi v60 v57
  let v62 : BitVec 32 := Scalar.addi v56 v55
  let v63 : BitVec 32 := Scalar.select v61 v62 v56
  let v241 : BitVec 32 := Scalar.subi c1_i32_141 v63
  let v246 : Index := Scalar.indexCast v241
  let c0_145 : Index := 0#32
  let c0_146 : Index := 0#32
  ![v246.toNat, 0, 0]
def k0_mult16 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c256_i32_186 : BitVec 32 := 256#32
  let v309 : BitVec 32 := Scalar.muli arg17 c256_i32_186
  v309
def k0_off15 (k0_t1 : Fin k0_t1_loop.trips) : Fin 3 → Nat :=
  let c0_187 : Index := 0#32
  let c0_i32_27 : BitVec 32 := 0#32
  let c1_i32 : BitVec 32 := 1#32
  let arg17 : BitVec 32 := Scf.iv c0_i32_27 c1_i32 k0_t1
  let c256_i32_186 : BitVec 32 := 256#32
  let v309 : BitVec 32 := Scalar.muli arg17 c256_i32_186
  let v310 : BitVec 32 := v309
  let v311 : Index := Scalar.indexCast v310
  let c0_188 : Index := 0#32
  ![0, v311.toNat, 0]
def k0_mult17 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c256_i32_189 : BitVec 32 := 256#32
  let v317 : BitVec 32 := Scalar.muli arg17 c256_i32_189
  v317
def k0_off16 (k0_t1 : Fin k0_t1_loop.trips) : Fin 3 → Nat :=
  let c0_190 : Index := 0#32
  let c0_i32_27 : BitVec 32 := 0#32
  let c1_i32 : BitVec 32 := 1#32
  let arg17 : BitVec 32 := Scf.iv c0_i32_27 c1_i32 k0_t1
  let c256_i32_189 : BitVec 32 := 256#32
  let v317 : BitVec 32 := Scalar.muli arg17 c256_i32_189
  let v318 : BitVec 32 := v317
  let v319 : Index := Scalar.indexCast v318
  let c128_191 : Index := 128#32
  ![0, v319.toNat, 128]
def k0_mult18 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c256_i32_192 : BitVec 32 := 256#32
  let v325 : BitVec 32 := Scalar.muli arg17 c256_i32_192
  v325
def k0_off17 (k0_t1 : Fin k0_t1_loop.trips) : Fin 3 → Nat :=
  let c0_193 : Index := 0#32
  let c0_i32_27 : BitVec 32 := 0#32
  let c1_i32 : BitVec 32 := 1#32
  let arg17 : BitVec 32 := Scf.iv c0_i32_27 c1_i32 k0_t1
  let c256_i32_192 : BitVec 32 := 256#32
  let v325 : BitVec 32 := Scalar.muli arg17 c256_i32_192
  let v326 : BitVec 32 := v325
  let v327 : Index := Scalar.indexCast v326
  let c256_194 : Index := 256#32
  ![0, v327.toNat, 256]
def k0_mult19 (k0_t1 : Fin k0_t1_loop.trips) : BitVec 32 :=
  let c0_i32_27 : BitVec 32 := 0#32
  let c1_i32 : BitVec 32 := 1#32
  let arg17 : BitVec 32 := Scf.iv c0_i32_27 c1_i32 k0_t1
  let c256_i32_195 : BitVec 32 := 256#32
  let v333 : BitVec 32 := Scalar.muli arg17 c256_i32_195
  v333
def k0_off18 (k0_t1 : Fin k0_t1_loop.trips) : Fin 3 → Nat :=
  let c0_196 : Index := 0#32
  let c0_i32_27 : BitVec 32 := 0#32
  let c1_i32 : BitVec 32 := 1#32
  let arg17 : BitVec 32 := Scf.iv c0_i32_27 c1_i32 k0_t1
  let c256_i32_195 : BitVec 32 := 256#32
  let v333 : BitVec 32 := Scalar.muli arg17 c256_i32_195
  let v334 : BitVec 32 := v333
  let v335 : Index := Scalar.indexCast v334
  let c384_197 : Index := 384#32
  ![0, v335.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x1024 : Shape := ⟨3, ![2, 16384, 1024]⟩
abbrev S2x16384x256 : Shape := ⟨3, ![2, 16384, 256]⟩
abbrev S2x256x1024 : Shape := ⟨3, ![2, 256, 1024]⟩
abbrev S2x256x256 : Shape := ⟨3, ![2, 256, 256]⟩
abbrev S2x16640x256 : Shape := ⟨3, ![2, 16640, 256]⟩
abbrev S2x16640x2x128 : Shape := ⟨4, ![2, 16640, 2, 128]⟩
abbrev S2x16384x2x4x128 : Shape := ⟨5, ![2, 16384, 2, 4, 128]⟩
abbrev S2x2x16640x16384x4 : Shape := ⟨5, ![2, 2, 16640, 16384, 4]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x128x4x16384 : Shape := ⟨5, ![2, 2, 128, 4, 16384]⟩

abbrev nBuf : Space → Nat
  | .hbm => 35
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x256, .f32⟩
  | .hbm, ⟨2, _⟩ => ⟨S2x16384x256, .f32⟩
  | .hbm, ⟨3, _⟩ => ⟨S2x256x1024, .f32⟩
  | .hbm, ⟨4, _⟩ => ⟨S2x256x256, .f32⟩
  | .hbm, ⟨5, _⟩ => ⟨S2x256x256, .f32⟩
  | .hbm, ⟨6, _⟩ => ⟨S2x16640x256, .f32⟩
  | .hbm, ⟨7, _⟩ => ⟨S2x16640x256, .f32⟩
  | .hbm, ⟨8, _⟩ => ⟨S2x16640x2x128, .f32⟩
  | .hbm, ⟨9, _⟩ => ⟨S2x16640x2x128, .f32⟩
  | .hbm, ⟨10, _⟩ => ⟨S2x16384x2x4x128, .f32⟩
  | .hbm, ⟨11, _⟩ => ⟨S2x2x16640x16384x4, .f32⟩
  | .hbm, ⟨12, _⟩ => ⟨S2x2x4x16384x16640, .f32⟩
  | .hbm, ⟨13, _⟩ => ⟨S_, .f32⟩
  | .hbm, ⟨14, _⟩ => ⟨S_, .f32⟩
  | .hbm, ⟨15, _⟩ => ⟨S2x2x4x16384x16640, .f32⟩
  | .hbm, ⟨16, _⟩ => ⟨S2x2x4x16384x16640, .f32⟩
  | .hbm, ⟨17, _⟩ => ⟨S_, .f32⟩
  | .hbm, ⟨18, _⟩ => ⟨S2x2x4x16384, .f32⟩
  | .hbm, ⟨19, _⟩ => ⟨S_, .f32⟩
  | .hbm, ⟨20, _⟩ => ⟨S2x2x4x16384, .f32⟩
  | .hbm, ⟨21, _⟩ => ⟨S2x2x4x16384, .f32⟩
  | .hbm, ⟨22, _⟩ => ⟨S2x2x4x16384x1, .f32⟩
  | .hbm, ⟨23, _⟩ => ⟨S2x2x4x16384x16640, .f32⟩
  | .hbm, ⟨24, _⟩ => ⟨S2x2x4x16384x16640, .f32⟩
  | .hbm, ⟨25, _⟩ => ⟨S2x2x4x16384x16640, .f32⟩
  | .hbm, ⟨26, _⟩ => ⟨S_, .f32⟩
  | .hbm, ⟨27, _⟩ => ⟨S2x2x4x16384, .f32⟩
  | .hbm, ⟨28, _⟩ => ⟨S2x2x4x16384x1, .f32⟩
  | .hbm, ⟨29, _⟩ => ⟨S2x2x4x16384x16640, .f32⟩
  | .hbm, ⟨30, _⟩ => ⟨S2x2x4x16384x16640, .f32⟩
  | .hbm, ⟨31, _⟩ => ⟨S2x2x128x4x16384, .f32⟩
  | .hbm, ⟨32, _⟩ => ⟨S2x16384x2x4x128, .f32⟩
  | .hbm, ⟨33, _⟩ => ⟨S2x16384x1024, .f32⟩
  | .hbm, ⟨34, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2x12288 : Shape := ⟨2, ![2, 12288]⟩
abbrev S2048x5632 : Shape := ⟨2, ![2048, 5632]⟩
abbrev S5632x2048 : Shape := ⟨2, ![5632, 2048]⟩
abbrev S2x6x1x2048 : Shape := ⟨4, ![2, 6, 1, 2048]⟩
abbrev S32768x2048 : Shape := ⟨2, ![32768, 2048]⟩
abbrev S1x2048 : Shape := ⟨2, ![1, 2048]⟩
abbrev S512x2048 : Shape := ⟨2, ![512, 2048]⟩
abbrev S1x1x1x2048 : Shape := ⟨4, ![1, 1, 1, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 15
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S2x6x1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S32768x2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S2x16384x2048 : Shape := ⟨3, ![2, 16384, 2048]⟩
abbrev S2048 : Shape := ⟨1, ![2048]⟩
abbrev S2x12288 : Shape := ⟨2, ![2, 12288]⟩
abbrev S2048x5632 : Shape := ⟨2, ![2048, 5632]⟩
abbrev S5632x2048 : Shape := ⟨2, ![5632, 2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S2x16384x5632, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S2x16384x2048, .f32⟩
  | .hbm, ⟨54, _⟩ => ⟨S_, .f32⟩
  | .hbm, ⟨55, _⟩ => ⟨S2x16384, .f32⟩
  | .hbm, ⟨56, _⟩ => ⟨S2x16384x1, .f32⟩
  | .hbm, ⟨57, _⟩ => ⟨S_, .f32⟩
  | .hbm, ⟨58, _⟩ => ⟨S2x16384x1, .f32⟩
  | .hbm, ⟨59, _⟩ => ⟨S2x16384x1, .f32⟩
  | .hbm, ⟨60, _⟩ => ⟨S_, .f32⟩
  | .hbm, ⟨61, _⟩ => ⟨S2x16384x1, .f32⟩
  | .hbm, ⟨62, _⟩ => ⟨S2x16384x1, .f32⟩
  | .hbm, ⟨63, _⟩ => ⟨S2x16384x1, .f32⟩
  | .hbm, ⟨64, _⟩ => ⟨S2x16384x2048, .f32⟩
  | .hbm, ⟨65, _⟩ => ⟨S2x16384x2048, .f32⟩
  | .hbm, ⟨66, _⟩ => ⟨S1x1x2048, .f32⟩
  | .hbm, ⟨67, _⟩ => ⟨S2x16384x2048, .f32⟩
  | .hbm, ⟨68, _⟩ => ⟨S2x16384x2048, .f32⟩
  | .hbm, ⟨69, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x256x1024 : Shape := ⟨3, ![2, 256, 1024]⟩
abbrev S_ : Shape := ⟨0, ![]⟩
abbrev S128 : Shape := ⟨1, ![128]⟩
abbrev S2x16384x2048 : Shape := ⟨3, ![2, 16384, 2048]⟩
abbrev S2x256x2048 : Shape := ⟨3, ![2, 256, 2048]⟩
abbrev S1x128 : Shape := ⟨2, ![1, 128]⟩
abbrev S1x4096x128 : Shape := ⟨3, ![1, 4096, 128]⟩
abbrev S1x16384x128 : Shape := ⟨3, ![1, 16384, 128]⟩
abbrev S1x256x128 : Shape := ⟨3, ![1, 256, 128]⟩
abbrev S2x128x1024 : Shape := ⟨3, ![2, 128, 1024]⟩
abbrev S32x144x512 : Shape := ⟨3, ![32, 144, 512]⟩
abbrev S144x256 : Shape := ⟨2, ![144, 256]⟩
abbrev S512x1024 : Shape := ⟨2, ![512, 1024]⟩
abbrev S256x1024 : Shape := ⟨2, ![256, 1024]⟩
abbrev S1x1024 : Shape := ⟨2, ![1, 1024]⟩
abbrev S144x1024 : Shape := ⟨2, ![144, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S256x128 : Shape := ⟨2, ![256, 128]⟩
abbrev S128x256 : Shape := ⟨2, ![128, 256]⟩
abbrev S16x256 : Shape := ⟨2, ![16, 256]⟩
abbrev S1x128x1024 : Shape := ⟨3, ![1, 128, 1024]⟩
abbrev S128x1024 : Shape := ⟨2, ![128, 1024]⟩
abbrev S1x144x512 : Shape := ⟨3, ![1, 144, 512]⟩
abbrev S144x512 : Shape := ⟨2, ![144, 512]⟩
abbrev S1024 : Shape := ⟨1, ![1024]⟩
abbrev S1024x128 : Shape := ⟨2, ![1024, 128]⟩
abbrev S512 : Shape := ⟨1, ![512]⟩
abbrev S512x1 : Shape := ⟨2, ![512, 1]⟩

abbrev nBuf : Space → Nat
  | .hbm => 25
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x1024, .f32⟩
  | .hbm, ⟨13, _⟩ => ⟨S2x16384x1024, .f32⟩
  | .hbm, ⟨14, _⟩ => ⟨S2x16384x2048, .f32⟩
  | .hbm, ⟨15, _⟩ => ⟨S2x16384x2048, .bf16⟩
  | .hbm, ⟨16, _⟩ => ⟨S2x256x1024, .f32⟩
  | .hbm, ⟨17, _⟩ => ⟨S2x256x1024, .f32⟩
  | .hbm, ⟨18, _⟩ => ⟨S2x256x2048, .f32⟩
  | .hbm, ⟨19, _⟩ => ⟨S2x256x2048, .bf16⟩
  | .hbm, ⟨20, _⟩ => ⟨S1x128, .f32⟩
  | .hbm, ⟨21, _⟩ => ⟨S2x16384x1024, .bf16⟩
  | .hbm, ⟨22, _⟩ => ⟨S2x256x1024, .bf16⟩
  | .hbm, ⟨23, _⟩ => ⟨S1x128, .f32⟩
  | .hbm, ⟨24, _⟩ => ⟨S2x16384x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128, .f32⟩
  | .local _ .vmem, ⟨11, _⟩ => ⟨S1x128, .f32⟩
  | .local _ .vmem, ⟨12, _⟩ => ⟨S1x4096x128, .bf16⟩
  | .local _ .vmem, ⟨13, _⟩ => ⟨S1x4096x128, .bf16⟩
  | .local _ .vmem, ⟨14, _⟩ => ⟨S2x128x1024, .bf16⟩
  | .local _ .vmem, ⟨15, _⟩ => ⟨S32x144x512, .bf16⟩
  | .local _ .vmem, ⟨16, _⟩ => ⟨S144x256, .bf16⟩
  | .local _ .vmem, ⟨17, _⟩ => ⟨S512x1024, .f32⟩
  | .local _ .vmem, ⟨18, _⟩ => ⟨S512x1024, .f32⟩
  | .local _ .vmem, ⟨19, _⟩ => ⟨S256x1024, .f32⟩
  | .local _ .vmem, ⟨20, _⟩ => ⟨S1x1024, .f32⟩
  | .local _ .vmem, ⟨21, _⟩ => ⟨S144x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 4], ![false, false, false]⟩

def k0_mult1 : BitVec 32 :=
  let c0_i32_1 : BitVec 32 := 0#32
  c0_i32_1
def k0_mult2 : BitVec 32 :=
  let c0_i32_10 : BitVec 32 := 0#32
  c0_i32_10
@[reducible] def k0_t1_loop : Scf.Loop 32 :=
  let c0_i32_19 : BitVec 32 := 0#32
  let c8_i32 : BitVec 32 := 8#32
  let v37 : BitVec 32 := Scalar.addi c0_i32_19 c8_i32
  let c1_i32 : BitVec 32 := 1#32
  ⟨c0_i32_19, v37, c1_i32⟩
@[reducible] def k0_t2_loop : Scf.Loop 32 :=
  let c0_i32_32 : BitVec 32 := 0#32
  let c14_i32 : BitVec 32 := 14#32
  let v56 : BitVec 32 := Scalar.addi c0_i32_32 c14_i32
  let c1_i32_33 : BitVec 32 := 1#32
  ⟨c0_i32_32, v56, c1_i32_33⟩
def k0_mult3 (k0_t2 : Fin k0_t2_loop.trips) : BitVec 32 :=
  let c2_i32_179 : BitVec 32 := 2#32
  let c0_i32_32 : BitVec 32 := 0#32
  let c1_i32_33 : BitVec 32 := 1#32
  let arg20 : BitVec 32 := Scf.iv c0_i32_32 c1_i32_33 k0_t2
  let v300 : BitVec 32 := Scalar.muli c2_i32_179 arg20
  let c1_i32_180 : BitVec 32 := 1#32
  let v301 : BitVec 32 := Scalar.addi v300 c1_i32_180
  let c512_i32_181 : BitVec 32 := 512#32
  let v302 : BitVec 32 := Scalar.muli v301 c512_i32_181
  v302
def k0_off1 (k0_t2 : Fin k0_t2_loop.trips) (c1_i32_180 : BitVec 32) : Fin 3 → Nat :=
  let c0_182 : Index := 0#32
  let c2_i32_179 : BitVec 32 := 2#32
  let c0_i32_32 : BitVec 32 := 0#32
  let c1_i32_33 : BitVec 32 := 1#32
  let arg20 : BitVec 32 := Scf.iv c0_i32_32 c1_i32_33 k0_t2
  let v300 : BitVec 32 := Scalar.muli c2_i32_179 arg20
  let v301 : BitVec 32 := Scalar.addi v300 c1_i32_180
  let c512_i32_181 : BitVec 32 := 512#32
  let v302 : BitVec 32 := Scalar.muli v301 c512_i32_181
  let v303 : BitVec 32 := v302
  let v304 : Index := Scalar.indexCast v303
  let c0_183 : Index := 0#32
  ![0, v304.toNat, 0]
def k0_off2 (k0_t1 : Fin k0_t1_loop.trips) : Fin 3 → Nat :=
  let c0_i32_19 : BitVec 32 := 0#32
  let c1_i32 : BitVec 32 := 1#32
  let arg19 : BitVec 32 := Scf.iv c0_i32_19 c1_i32 k0_t1
  let c2_i32 : BitVec 32 := 2#32
  let c0_i32_21 : BitVec 32 := 0#32
  let v38 : BitVec 1 := Scalar.cmpi .eq c2_i32 c0_i32_21
  let c1_i32_22 : BitVec 32 := 1#32
  let v39 : BitVec 32 := Scalar.select v38 c1_i32_22 c2_i32
  let v40 : BitVec 32 := Scalar.remsi arg19 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v307 : Index := Scalar.indexCast v47
  let c0_184 : Index := 0#32
  let c0_185 : Index := 0#32
  ![v307.toNat, 0, 0]
def k0_off3 (k0_t2 : Fin k0_t2_loop.trips) : Fin 3 → Nat :=
  let c2_i32_179 : BitVec 32 := 2#32
  let c0_i32_32 : BitVec 32 := 0#32
  let c1_i32_33 : BitVec 32 := 1#32
  let arg20 : BitVec 32 := Scf.iv c0_i32_32 c1_i32_33 k0_t2
  let v300 : BitVec 32 := Scalar.muli c2_i32_179 arg20
  let v314 : Index := Scalar.indexCast v300
  let c0_189 : Index := 0#32
  let c0_190 : Index := 0#32
  ![v314.toNat, 0, 0]
def k0_mult4 (k0_t2 : Fin k0_t2_loop.trips) : BitVec 32 :=
  let c2_i32_179 : BitVec 32 := 2#32
  let c0_i32_32 : BitVec 32 := 0#32
  let c1_i32_33 : BitVec 32 := 1#32
  let arg20 : BitVec 32 := Scf.iv c0_i32_32 c1_i32_33 k0_t2
  let v300 : BitVec 32 := Scalar.muli c2_i32_179 arg20
  let c2_i32_205 : BitVec 32 := 2#32
  let v340 : BitVec 32 := Scalar.addi v300 c2_i32_205
  let c512_i32_206 : BitVec 32 := 512#32
  let v341 : BitVec 32 := Scalar.muli v340 c512_i32_206
  v341
def k0_off4 (k0_t2 : Fin k0_t2_loop.trips) : Fin 3 → Nat :=
  let c2_i32_179 : BitVec 32 := 2#32
  let c0_i32_32 : BitVec 32 := 0#32
  let c1_i32_33 : BitVec 32 := 1#32
  let arg20 : BitVec 32 := Scf.iv c0_i32_32 c1_i32_33 k0_t2
  let v300 : BitVec 32 := Scalar.muli c2_i32_179 arg20
  let c1_i32_214 : BitVec 32 := 1#32
  let v353 : BitVec 32 := Scalar.addi v300 c1_i32_214
  let v354 : Index := Scalar.indexCast v353
  let c0_215 : Index := 0#32
  let c0_216 : Index := 0#32
  ![v354.toNat, 0, 0]
def k0_mult5 : BitVec 32 :=
  let c14848_i32 : BitVec 32 := 14848#32
  c14848_i32
def k0_off5 (k0_t1 : Fin k0_t1_loop.trips) : Fin 3 → Nat :=
  let c0_i32_19 : BitVec 32 := 0#32
  let c1_i32 : BitVec 32 := 1#32
  let arg19 : BitVec 32 := Scf.iv c0_i32_19 c1_i32 k0_t1
  let c2_i32 : BitVec 32 := 2#32
  let c0_i32_21 : BitVec 32 := 0#32
  let v38 : BitVec 1 := Scalar.cmpi .eq c2_i32 c0_i32_21
  let c1_i32_22 : BitVec 32 := 1#32
  let v39 : BitVec 32 := Scalar.select v38 c1_i32_22 c2_i32
  let v40 : BitVec 32 := Scalar.remsi arg19 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v61 : Index := Scalar.indexCast v47
  let c0_37 : Index := 0#32
  let c0_38 : Index := 0#32
  ![v61.toNat, 0, 0]
def k0_mult6 : BitVec 32 :=
  let c15360_i32 : BitVec 32 := 15360#32
  c15360_i32
def k0_mult7 : BitVec 32 :=
  let c15872_i32 : BitVec 32 := 15872#32
  c15872_i32
def k0_mult8 (k0_t1 : Fin k0_t1_loop.trips) : BitVec 32 :=
  let c0_i32_19 : BitVec 32 := 0#32
  let c1_i32 : BitVec 32 := 1#32
  let arg19 : BitVec 32 := Scf.iv c0_i32_19 c1_i32 k0_t1
  let c1_i32_112 : BitVec 32 := 1#32
  let v174 : BitVec 32 := Scalar.addi arg19 c1_i32_112
  let c7_i32 : BitVec 32 := 7#32
  let v175 : BitVec 32 := Scalar.minsi v174 c7_i32
  let c512_i32 : BitVec 32 := 512#32
  let v177 : BitVec 32 := Scalar.muli v175 c512_i32
  v177
def k0_off6 (k0_t1 : Fin k0_t1_loop.trips) : Fin 3 → Nat :=
  let c0_114 : Index := 0#32
  let c0_i32_19 : BitVec 32 := 0#32
  let c1_i32 : BitVec 32 := 1#32
  let arg19 : BitVec 32 := Scf.iv c0_i32_19 c1_i32 k0_t1
  let c1_i32_112 : BitVec 32 := 1#32
  let v174 : BitVec 32 := Scalar.addi arg19 c1_i32_112
  let c7_i32 : BitVec 32 := 7#32
  let v175 : BitVec 32 := Scalar.minsi v174 c7_i32
  let c512_i32 : BitVec 32 := 512#32
  let v177 : BitVec 32 := Scalar.muli v175 c512_i32
  let v178 : BitVec 32 := v177
  let v179 : Index := Scalar.indexCast v178
  let c0_115 : Index := 0#32
  ![0, v179.toNat, 0]
def k0_off7 (k0_t1 : Fin k0_t1_loop.trips) : Fin 3 → Nat :=
  let c1_i32_113 : BitVec 32 := 1#32
  let c0_i32_19 : BitVec 32 := 0#32
  let c1_i32 : BitVec 32 := 1#32
  let arg19 : BitVec 32 := Scf.iv c0_i32_19 c1_i32 k0_t1
  let c2_i32 : BitVec 32 := 2#32
  let c0_i32_21 : BitVec 32 := 0#32
  let v38 : BitVec 1 := Scalar.cmpi .eq c2_i32 c0_i32_21
  let c1_i32_22 : BitVec 32 := 1#32
  let v39 : BitVec 32 := Scalar.select v38 c1_i32_22 c2_i32
  let v40 : BitVec 32 := Scalar.remsi arg19 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v176 : BitVec 32 := Scalar.subi c1_i32_113 v47
  let v190 : Index := Scalar.indexCast v176
  let c0_118 : Index := 0#32
  let c0_119 : Index := 0#32
  ![v190.toNat, 0, 0]
def k0_off8 (k0_t1 : Fin k0_t1_loop.trips) : Fin 3 → Nat :=
  let c1_i32_113 : BitVec 32 := 1#32
  let c0_i32_19 : BitVec 32 := 0#32
  let c1_i32 : BitVec 32 := 1#32
  let arg19 : BitVec 32 := Scf.iv c0_i32_19 c1_i32 k0_t1
  let c2_i32 : BitVec 32 := 2#32
  let c0_i32_21 : BitVec 32 := 0#32
  let v38 : BitVec 1 := Scalar.cmpi .eq c2_i32 c0_i32_21
  let c1_i32_22 : BitVec 32 := 1#32
  let v39 : BitVec 32 := Scalar.select v38 c1_i32_22 c2_i32
  let v40 : BitVec 32 := Scalar.remsi arg19 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v176 : BitVec 32 := Scalar.subi c1_i32_113 v47
  let v200 : Index := Scalar.indexCast v176
  let c0_122 : Index := 0#32
  let c512_123 : Index := 512#32
  ![v200.toNat, 0, 512]
def k0_mult9 : BitVec 32 :=
  let c0_i32_125 : BitVec 32 := 0#32
  c0_i32_125
def k0_off9 (k0_t1 : Fin k0_t1_loop.trips) : Fin 3 → Nat :=
  let c1_i32_124 : BitVec 32 := 1#32
  let c0_i32_19 : BitVec 32 := 0#32
  let c1_i32 : BitVec 32 := 1#32
  let arg19 : BitVec 32 := Scf.iv c0_i32_19 c1_i32 k0_t1
  let c2_i32 : BitVec 32 := 2#32
  let c0_i32_21 : BitVec 32 := 0#32
  let v38 : BitVec 1 := Scalar.cmpi .eq c2_i32 c0_i32_21
  let c1_i32_22 : BitVec 32 := 1#32
  let v39 : BitVec 32 := Scalar.select v38 c1_i32_22 c2_i32
  let v40 : BitVec 32 := Scalar.remsi arg19 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v204 : BitVec 32 := Scalar.subi c1_i32_124 v47
  let v209 : Index := Scalar.indexCast v204
  let c0_128 : Index := 0#32
  let c0_129 : Index := 0#32
  ![v209.toNat, 0, 0]
def k0_mult10 (k0_t1 : Fin k0_t1_loop.trips) : BitVec 32 :=
  let c0_i32_19 : BitVec 32 := 0#32
  let c1_i32 : BitVec 32 := 1#32
  let arg19 : BitVec 32 := Scf.iv c0_i32_19 c1_i32 k0_t1
  let c512_i32_176 : BitVec 32 := 512#32
  let v294 : BitVec 32 := Scalar.muli arg19 c512_i32_176
  v294
def k0_off10 (k0_t1 : Fin k0_t1_loop.trips) : Fin 3 → Nat :=
  let c0_177 : Index := 0#32
  let c0_i32_19 : BitVec 32 := 0#32
  let c1_i32 : BitVec 32 := 1#32
  let arg19 : BitVec 32 := Scf.iv c0_i32_19 c1_i32 k0_t1
  let c512_i32_176 : BitVec 32 := 512#32
  let v294 : BitVec 32 := Scalar.muli arg19 c512_i32_176
  let v295 : BitVec 32 := v294
  let v296 : Index := Scalar.indexCast v295
  let c0_178 : Index := 0#32
  ![0, v296.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S2x16384x1024 : Shape := ⟨3, ![2, 16384, 1024]⟩
abbrev S2x256x1024 : Shape := ⟨3, ![2, 256, 1024]⟩
abbrev S_ : Shape := ⟨0, ![]⟩
abbrev S128 : Shape := ⟨1, ![128]⟩
abbrev S2x16640x1024 : Shape := ⟨3, ![2, 16640, 1024]⟩
abbrev S2x16384x8x2x64 : Shape := ⟨5, ![2, 16384, 8, 2, 64]⟩
abbrev S2x16640x8x2x64 : Shape := ⟨5, ![2, 16640, 8, 2, 64]⟩
abbrev S2x16640x8x128 : Shape := ⟨4, ![2, 16640, 8, 128]⟩
abbrev S2x8x2x16384x16640 : Shape := ⟨5, ![2, 8, 2, 16384, 16640]⟩
abbrev S2x8x2x16384 : Shape := ⟨4, ![2, 8, 2, 16384]⟩
abbrev S2x8x2x16384x1 : Shape := ⟨5, ![2, 8, 2, 16384, 1]⟩
abbrev S2x8x1x16384x16640 : Shape := ⟨5, ![2, 8, 1, 16384, 16640]⟩
abbrev S2x8x16384x16640 : Shape := ⟨4, ![2, 8, 16384, 16640]⟩
abbrev S2x8x128x16384 : Shape := ⟨4, ![2, 8, 128, 16384]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S128, .f32⟩
  | .hbm, ⟨8, _⟩ => ⟨S2x16640x1024, .f32⟩
  | .hbm, ⟨9, _⟩ => ⟨S2x16640x1024, .f32⟩
  | .hbm, ⟨10, _⟩ => ⟨S2x16384x8x2x64, .f32⟩
  | .hbm, ⟨11, _⟩ => ⟨S2x16640x8x2x64, .f32⟩
  | .hbm, ⟨12, _⟩ => ⟨S2x16640x8x128, .f32⟩
  | .hbm, ⟨13, _⟩ => ⟨S2x8x2x16384x16640, .f32⟩
  | .hbm, ⟨14, _⟩ => ⟨S_, .f32⟩
  | .hbm, ⟨15, _⟩ => ⟨S2x8x2x16384x16640, .f32⟩
  | .hbm, ⟨16, _⟩ => ⟨S2x8x2x16384x16640, .f32⟩
  | .hbm, ⟨17, _⟩ => ⟨S_, .f32⟩
  | .hbm, ⟨18, _⟩ => ⟨S2x8x2x16384, .f32⟩
  | .hbm, ⟨19, _⟩ => ⟨S_, .f32⟩
  | .hbm, ⟨20, _⟩ => ⟨S2x8x2x16384, .f32⟩
  | .hbm, ⟨21, _⟩ => ⟨S2x8x2x16384, .f32⟩
  | .hbm, ⟨22, _⟩ => ⟨S2x8x2x16384x1, .f32⟩
  | .hbm, ⟨23, _⟩ => ⟨S2x8x2x16384x16640, .f32⟩
  | .hbm, ⟨24, _⟩ => ⟨S2x8x2x16384x16640, .f32⟩
  | .hbm, ⟨25, _⟩ => ⟨S2x8x2x16384x16640, .f32⟩
  | .hbm, ⟨26, _⟩ => ⟨S_, .f32⟩
  | .hbm, ⟨27, _⟩ => ⟨S2x8x2x16384, .f32⟩
  | .hbm, ⟨28, _⟩ => ⟨S2x8x2x16384x1, .f32⟩
  | .hbm, ⟨29, _⟩ => ⟨S2x8x2x16384x16640, .f32⟩
  | .hbm, ⟨30, _⟩ => ⟨S2x8x2x16384x16640, .f32⟩
  | .hbm, ⟨31, _⟩ => ⟨S2x8x1x16384x16640, .f32⟩
  | .hbm, ⟨32, _⟩ => ⟨S2x8x16384x16640, .f32⟩
  | .hbm, ⟨33, _⟩ => ⟨S2x8x1x16384x16640, .f32⟩
  | .hbm, ⟨34, _⟩ => ⟨S2x8x16384x16640, .f32⟩
  | .hbm, ⟨35, _⟩ => ⟨S2x8x16384x16640, .f32⟩
  | .hbm, ⟨36, _⟩ => ⟨S2x8x16384x16640, .f32⟩
  | .hbm, ⟨37, _⟩ => ⟨S2x8x16384x16640, .f32⟩
  | .hbm, ⟨38, _⟩ => ⟨S2x8x128x16384, .f32⟩
  | .hbm, ⟨39, _⟩ => ⟨S2x16384x8x128, .f32⟩
  | .hbm, ⟨40, _⟩ => ⟨S2x16384x8x128, .f32⟩
  | .hbm, ⟨41, _⟩ => ⟨S_, .f32⟩
  | .hbm, ⟨42, _⟩ => ⟨S2x16384x8, .f32⟩
  | .hbm, ⟨43, _⟩ => ⟨S2x16384x8x1, .f32⟩
  | .hbm, ⟨44, _⟩ => ⟨S_, .f32⟩
  | .hbm, ⟨45, _⟩ => ⟨S2x16384x8x1, .f32⟩
  | .hbm, ⟨46, _⟩ => ⟨S2x16384x8x1, .f32⟩
  | .hbm, ⟨47, _⟩ => ⟨S_, .f32⟩
  | .hbm, ⟨48, _⟩ => ⟨S2x16384x8x1, .f32⟩
  | .hbm, ⟨49, _⟩ => ⟨S2x16384x8x1, .f32⟩
  | .hbm, ⟨50, _⟩ => ⟨S2x16384x8x1, .f32⟩
  | .hbm, ⟨51, _⟩ => ⟨S2x16384x8x128, .f32⟩
  | .hbm, ⟨52, _⟩ => ⟨S2x16384x8x128, .f32⟩
  | .hbm, ⟨53, _⟩ => ⟨S1x1x1x128, .f32⟩
  | .hbm, ⟨54, _⟩ => ⟨S2x16384x8x128, .f32⟩
  | .hbm, ⟨55, _⟩ => ⟨S2x16384x8x128, .f32⟩
  | .hbm, ⟨56, _⟩ => ⟨S_, .f32⟩
  | .hbm, ⟨57, _⟩ => ⟨S2x16384x8x128, .f32⟩
  | .hbm, ⟨58, _⟩ => ⟨S2x16384x8x128, .f32⟩
  | .hbm, ⟨59, _⟩ => ⟨S2x16384x1024, .f32⟩
  | .hbm, ⟨60, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S2x12288 : Shape := ⟨2, ![2, 12288]⟩
abbrev S2048x5632 : Shape := ⟨2, ![2048, 5632]⟩
abbrev S5632x2048 : Shape := ⟨2, ![5632, 2048]⟩
abbrev S2x6x1x2048 : Shape := ⟨4, ![2, 6, 1, 2048]⟩
abbrev S32768x2048 : Shape := ⟨2, ![32768, 2048]⟩
abbrev S1x2048 : Shape := ⟨2, ![1, 2048]⟩
abbrev S512x2048 : Shape := ⟨2, ![512, 2048]⟩
abbrev S1x1x1x2048 : Shape := ⟨4, ![1, 1, 1, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 15
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S2x6x1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S32768x2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S2x16384x2048 : Shape := ⟨3, ![2, 16384, 2048]⟩
abbrev S2048 : Shape := ⟨1, ![2048]⟩
abbrev S2x12288 : Shape := ⟨2, ![2, 12288]⟩
abbrev S2048x5632 : Shape := ⟨2, ![2048, 5632]⟩
abbrev S5632x2048 : Shape := ⟨2, ![5632, 2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S2x16384x5632, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | .hbm, ⟨53, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048x6656 : Shape := ⟨2, ![2048, 6656]⟩
abbrev S32768x2048 : Shape := ⟨2, ![32768, 2048]⟩
abbrev S32768x5120 : Shape := ⟨2, ![32768, 5120]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S32768x2048, .f32⟩
  | .hbm, ⟨3, _⟩ => ⟨S32768x2048, .bf16⟩
  | .hbm, ⟨4, _⟩ => ⟨S2048x6656, .bf16⟩
  | .hbm, ⟨5, _⟩ => ⟨S32768x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x16384x2048 : Shape := ⟨3, ![2, 16384, 2048]⟩
abbrev S2048x6656 : Shape := ⟨2, ![2048, 6656]⟩
abbrev S2x16384x6656 : Shape := ⟨3, ![2, 16384, 6656]⟩
abbrev S2x16384x5120 : Shape := ⟨3, ![2, 16384, 5120]⟩
abbrev S32768x5120 : Shape := ⟨2, ![32768, 5120]⟩

abbrev nBuf : Space → Nat
  | .hbm => 5
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S2x16384x6656, .f32⟩
  | .hbm, ⟨3, _⟩ => ⟨S2x16384x5120, .f32⟩
  | .hbm, ⟨4, _⟩ => ⟨S32768x5120, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2x12288 : Shape := ⟨2, ![2, 12288]⟩
abbrev S2x6x1x2048 : Shape := ⟨4, ![2, 6, 1, 2048]⟩
abbrev S32768x2048 : Shape := ⟨2, ![32768, 2048]⟩
abbrev S32768x1024 : Shape := ⟨2, ![32768, 1024]⟩
abbrev S_ : Shape := ⟨0, ![]⟩
abbrev S1x128 : Shape := ⟨2, ![1, 128]⟩
abbrev S512x2048 : Shape := ⟨2, ![512, 2048]⟩
abbrev S512x1024 : Shape := ⟨2, ![512, 1024]⟩
abbrev S1x1x1x2048 : Shape := ⟨4, ![1, 1, 1, 2048]⟩
abbrev S1024x2048 : Shape := ⟨2, ![1024, 2048]⟩
abbrev S1x2048 : Shape := ⟨2, ![1, 2048]⟩

abbrev nBuf : Space → Nat
  | .hbm => 18
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x2048, .f32⟩
  | .hbm, ⟨4, _⟩ => ⟨S2x16384x1024, .f32⟩
  | .hbm, ⟨5, _⟩ => ⟨S2048x2048, .f32⟩
  | .hbm, ⟨6, _⟩ => ⟨S2x12288, .f32⟩
  | .hbm, ⟨7, _⟩ => ⟨S2x6x1x2048, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S32768x2048, .f32⟩
  | .hbm, ⟨12, _⟩ => ⟨S32768x1024, .f32⟩
  | .hbm, ⟨13, _⟩ => ⟨S32768x1024, .bf16⟩
  | .hbm, ⟨14, _⟩ => ⟨S_, .f32⟩
  | .hbm, ⟨15, _⟩ => ⟨S1x128, .f32⟩
  | .hbm, ⟨16, _⟩ => ⟨S2048x2048, .bf16⟩
  | .hbm, ⟨17, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S2048x2048, .bf16⟩
  | .local _ .vmem, ⟨12, _⟩ => ⟨S1x1x1x2048, .f32⟩
  | .local _ .vmem, ⟨13, _⟩ => ⟨S1x1x1x2048, .f32⟩
  | .local _ .vmem, ⟨14, _⟩ => ⟨S512x2048, .f32⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2x12288 : Shape := ⟨2, ![2, 12288]⟩
abbrev S2x1x12288 : Shape := ⟨3, ![2, 1, 12288]⟩
abbrev S2x1x2048 : Shape := ⟨3, ![2, 1, 2048]⟩
abbrev S_ : Shape := ⟨0, ![]⟩
abbrev S32768x2048 : Shape := ⟨2, ![32768, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x2048, .f32⟩
  | .hbm, ⟨4, _⟩ => ⟨S2x16384x1024, .f32⟩
  | .hbm, ⟨5, _⟩ => ⟨S2048x2048, .f32⟩
  | .hbm, ⟨6, _⟩ => ⟨S2x12288, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x16384x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S2x16384x2048 : Shape := ⟨3, ![2, 16384, 2048]⟩
abbrev S2x16384x1024 : Shape := ⟨3, ![2, 16384, 1024]⟩
abbrev S2x16384x5120 : Shape := ⟨3, ![2, 16384, 5120]⟩
abbrev S128 : Shape := ⟨1, ![128]⟩
abbrev S2048x2048 : Shape := ⟨2, ![2048, 2048]⟩
abbrev S2x12288 : Shape := ⟨2, ![2, 12288]⟩
abbrev S2x6x1x2048 : Shape := ⟨4, ![2, 6, 1, 2048]⟩
abbrev S32768x2048 : Shape := ⟨2, ![32768, 2048]⟩
abbrev S32768x1024 : Shape := ⟨2, ![32768, 1024]⟩
abbrev S32768x5120 : Shape := ⟨2, ![32768, 5120]⟩
abbrev S1x128 : Shape := ⟨2, ![1, 128]⟩
abbrev S512x2048 : Shape := ⟨2, ![512, 2048]⟩
abbrev S512x1024 : Shape := ⟨2, ![512, 1024]⟩
abbrev S1x1x1x2048 : Shape := ⟨4, ![1, 1, 1, 2048]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S1x2048 : Shape := ⟨2, ![1, 2048]⟩

abbrev nBuf : Space → Nat
  | .hbm => 18
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x5120, .f32⟩
  | .hbm, ⟨4, _⟩ => ⟨S2x16384x1024, .f32⟩
  | .hbm, ⟨5, _⟩ => ⟨S128, .f32⟩
  | .hbm, ⟨6, _⟩ => ⟨S2048x2048, .f32⟩
  | .hbm, ⟨7, _⟩ => ⟨S2x12288, .f32⟩
  | .hbm, ⟨8, _⟩ => ⟨S2x6x1x2048, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S32768x5120, .f32⟩
  | .hbm, ⟨13, _⟩ => ⟨S32768x1024, .f32⟩
  | .hbm, ⟨14, _⟩ => ⟨S32768x1024, .bf16⟩
  | .hbm, ⟨15, _⟩ => ⟨S1x128, .f32⟩
  | .hbm, ⟨16, _⟩ => ⟨S2048x2048, .bf16⟩
  | .hbm, ⟨17, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S2048x2048, .bf16⟩
  | .local _ .vmem, ⟨12, _⟩ => ⟨S1x1x1x2048, .f32⟩
  | .local _ .vmem, ⟨13, _⟩ => ⟨S1x1x1x2048, .f32⟩
  | .local _ .vmem, ⟨14, _⟩ => ⟨S512x2048, .f32⟩
  | .local _ .vmem, ⟨15, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S2x16384x2048 : Shape := ⟨3, ![2, 16384, 2048]⟩
abbrev S2x16384x1024 : Shape := ⟨3, ![2, 16384, 1024]⟩
abbrev S2x16384x5120 : Shape := ⟨3, ![2, 16384, 5120]⟩
abbrev S128 : Shape := ⟨1, ![128]⟩
abbrev S2048x2048 : Shape := ⟨2, ![2048, 2048]⟩
abbrev S2x12288 : Shape := ⟨2, ![2, 12288]⟩
abbrev S2x1x12288 : Shape := ⟨3, ![2, 1, 12288]⟩
abbrev S2x1x2048 : Shape := ⟨3, ![2, 1, 2048]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2x16384x5120, .f32⟩
  | .hbm, ⟨4, _⟩ => ⟨S2x16384x1024, .f32⟩
  | .hbm, ⟨5, _⟩ => ⟨S128, .f32⟩
  | .hbm, ⟨6, _⟩ => ⟨S2048x2048, .f32⟩
  | .hbm, ⟨7, _⟩ => ⟨S2x12288, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x16384x1024, .f32⟩
  | .hbm, ⟨16, _⟩ => ⟨S2x16384x8x128, .f32⟩
  | .hbm, ⟨17, _⟩ => ⟨S2x16384x8x128, .f32⟩
  | .hbm, ⟨18, _⟩ => ⟨S_, .f32⟩
  | .hbm, ⟨19, _⟩ => ⟨S2x16384x8, .f32⟩
  | .hbm, ⟨20, _⟩ => ⟨S2x16384x8x1, .f32⟩
  | .hbm, ⟨21, _⟩ => ⟨S_, .f32⟩
  | .hbm, ⟨22, _⟩ => ⟨S2x16384x8x1, .f32⟩
  | .hbm, ⟨23, _⟩ => ⟨S2x16384x8x1, .f32⟩
  | .hbm, ⟨24, _⟩ => ⟨S_, .f32⟩
  | .hbm, ⟨25, _⟩ => ⟨S2x16384x8x1, .f32⟩
  | .hbm, ⟨26, _⟩ => ⟨S2x16384x8x1, .f32⟩
  | .hbm, ⟨27, _⟩ => ⟨S2x16384x8x1, .f32⟩
  | .hbm, ⟨28, _⟩ => ⟨S2x16384x8x128, .f32⟩
  | .hbm, ⟨29, _⟩ => ⟨S2x16384x8x128, .f32⟩
  | .hbm, ⟨30, _⟩ => ⟨S1x1x1x128, .f32⟩
  | .hbm, ⟨31, _⟩ => ⟨S2x16384x8x128, .f32⟩
  | .hbm, ⟨32, _⟩ => ⟨S2x16384x8x128, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel8.lean ====
abbrev S2x16384x2048 : Shape := ⟨3, ![2, 16384, 2048]⟩
abbrev S2048x5120 : Shape := ⟨2, ![2048, 5120]⟩
abbrev S16384x32 : Shape := ⟨2, ![16384, 32]⟩
abbrev S_ : Shape := ⟨0, ![]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x16384x128 : Shape := ⟨3, ![1, 16384, 128]⟩
abbrev S2x16384x128 : Shape := ⟨3, ![2, 16384, 128]⟩
abbrev S32768x2048 : Shape := ⟨2, ![32768, 2048]⟩
abbrev S1024x2048 : Shape := ⟨2, ![1024, 2048]⟩
abbrev S2048x1024 : Shape := ⟨2, ![2048, 1024]⟩
abbrev S1x1024x128 : Shape := ⟨3, ![1, 1024, 128]⟩
abbrev S1024x1024 : Shape := ⟨2, ![1024, 1024]⟩
abbrev S1024x128 : Shape := ⟨2, ![1024, 128]⟩

abbrev nBuf : Space → Nat
  | .hbm => 32
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384x32, .f32⟩
  | .hbm, ⟨6, _⟩ => ⟨S16384x64, .f32⟩
  | .hbm, ⟨7, _⟩ => ⟨S1x16384x1x64, .f32⟩
  | .hbm, ⟨8, _⟩ => ⟨S1x16384x2x64, .f32⟩
  | .hbm, ⟨9, _⟩ => ⟨S16384x128, .f32⟩
  | .hbm, ⟨10, _⟩ => ⟨S16384x32, .f32⟩
  | .hbm, ⟨11, _⟩ => ⟨S16384x64, .f32⟩
  | .hbm, ⟨12, _⟩ => ⟨S1x16384x1x64, .f32⟩
  | .hbm, ⟨13, _⟩ => ⟨S1x16384x2x64, .f32⟩
  | .hbm, ⟨14, _⟩ => ⟨S16384x128, .f32⟩
  | .hbm, ⟨15, _⟩ => ⟨S16384x64, .f32⟩
  | .hbm, ⟨16, _⟩ => ⟨S1x16384x1x64, .f32⟩
  | .hbm, ⟨17, _⟩ => ⟨S1x16384x2x64, .f32⟩
  | .hbm, ⟨18, _⟩ => ⟨S16384x128, .f32⟩
  | .hbm, ⟨19, _⟩ => ⟨S1x16384x128, .f32⟩
  | .hbm, ⟨20, _⟩ => ⟨S1x16384x128, .f32⟩
  | .hbm, ⟨21, _⟩ => ⟨S2x16384x128, .f32⟩
  | .hbm, ⟨22, _⟩ => ⟨S1x16384x128, .f32⟩
  | .hbm, ⟨23, _⟩ => ⟨S1x16384x128, .f32⟩
  | .hbm, ⟨24, _⟩ => ⟨S2x16384x128, .f32⟩
  | .hbm, ⟨25, _⟩ => ⟨S1x16384x128, .f32⟩
  | .hbm, ⟨26, _⟩ => ⟨S1x16384x128, .f32⟩
  | .hbm, ⟨27, _⟩ => ⟨S2x16384x128, .f32⟩
  | .hbm, ⟨28, _⟩ => ⟨S32768x2048, .f32⟩
  | .hbm, ⟨29, _⟩ => ⟨S32768x2048, .bf16⟩
  | .hbm, ⟨30, _⟩ => ⟨S2048x5120, .bf16⟩
  | .hbm, ⟨31, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x1024, .bf16⟩
  | .local _ .vmem, ⟨11, _⟩ => ⟨S1024x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg1.toNat, v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S2x16384x2048 : Shape := ⟨3, ![2, 16384, 2048]⟩
abbrev S2048x5120 : Shape := ⟨2, ![2048, 5120]⟩
abbrev S16384x32 : Shape := ⟨2, ![16384, 32]⟩
abbrev S2x16384x5120 : Shape := ⟨3, ![2, 16384, 5120]⟩
abbrev S2x16384x1024 : Shape := ⟨3, ![2, 16384, 1024]⟩
abbrev S2x16384x8x2x64 : Shape := ⟨5, ![2, 16384, 8, 2, 64]⟩
abbrev S16384x1x1x32 : Shape := ⟨4, ![16384, 1, 1, 32]⟩
abbrev S2x16384x8x2x32 : Shape := ⟨5, ![2, 16384, 8, 2, 32]⟩
abbrev S1x16384x1x1x32 : Shape := ⟨5, ![1, 16384, 1, 1, 32]⟩
abbrev S32768x1024 : Shape := ⟨2, ![32768, 1024]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S16384x32, .f32⟩
  | .hbm, ⟨3, _⟩ => ⟨S16384x32, .f32⟩
  | .hbm, ⟨4, _⟩ => ⟨S2x16384x5120, .f32⟩
  | .hbm, ⟨5, _⟩ => ⟨S2x16384x1024, .f32⟩
  | .hbm, ⟨6, _⟩ => ⟨S2x16384x8x2x64, .f32⟩
  | .hbm, ⟨7, _⟩ => ⟨S16384x1x1x32, .f32⟩
  | .hbm, ⟨8, _⟩ => ⟨S16384x1x1x32, .f32⟩
  | .hbm, ⟨9, _⟩ => ⟨S2x16384x8x2x32, .f32⟩
  | .hbm, ⟨10, _⟩ => ⟨S2x16384x8x2x32, .f32⟩
  | .hbm, ⟨11, _⟩ => ⟨S1x16384x1x1x32, .f32⟩
  | .hbm, ⟨12, _⟩ => ⟨S2x16384x8x2x32, .f32⟩
  | .hbm, ⟨13, _⟩ => ⟨S2x16384x8x2x32, .f32⟩
  | .hbm, ⟨14, _⟩ => ⟨S1x16384x1x1x32, .f32⟩
  | .hbm, ⟨15, _⟩ => ⟨S2x16384x8x2x32, .f32⟩
  | .hbm, ⟨16, _⟩ => ⟨S2x16384x8x2x32, .f32⟩
  | .hbm, ⟨17, _⟩ => ⟨S2x16384x8x2x32, .f32⟩
  | .hbm, ⟨18, _⟩ => ⟨S1x16384x1x1x32, .f32⟩
  | .hbm, ⟨19, _⟩ => ⟨S2x16384x8x2x32, .f32⟩
  | .hbm, ⟨20, _⟩ => ⟨S2x16384x8x2x32, .f32⟩
  | .hbm, ⟨21, _⟩ => ⟨S1x16384x1x1x32, .f32⟩
  | .hbm, ⟨22, _⟩ => ⟨S2x16384x8x2x32, .f32⟩
  | .hbm, ⟨23, _⟩ => ⟨S2x16384x8x2x32, .f32⟩
  | .hbm, ⟨24, _⟩ => ⟨S2x16384x8x2x32, .f32⟩
  | .hbm, ⟨25, _⟩ => ⟨S2x16384x8x2x64, .f32⟩
  | .hbm, ⟨26, _⟩ => ⟨S32768x1024, .f32⟩
  | .hbm, ⟨27, _⟩ => ⟨S2x16384x1024, .f32⟩
  | .hbm, ⟨28, _⟩ => ⟨S2x16384x8x2x64, .f32⟩
  | .hbm, ⟨29, _⟩ => ⟨S16384x1x1x32, .f32⟩
  | .hbm, ⟨30, _⟩ => ⟨S16384x1x1x32, .f32⟩
  | .hbm, ⟨31, _⟩ => ⟨S2x16384x8x2x32, .f32⟩
  | .hbm, ⟨32, _⟩ => ⟨S2x16384x8x2x32, .f32⟩
  | .hbm, ⟨33, _⟩ => ⟨S1x16384x1x1x32, .f32⟩
  | .hbm, ⟨34, _⟩ => ⟨S2x16384x8x2x32, .f32⟩
  | .hbm, ⟨35, _⟩ => ⟨S2x16384x8x2x32, .f32⟩
  | .hbm, ⟨36, _⟩ => ⟨S1x16384x1x1x32, .f32⟩
  | .hbm, ⟨37, _⟩ => ⟨S2x16384x8x2x32, .f32⟩
  | .hbm, ⟨38, _⟩ => ⟨S2x16384x8x2x32, .f32⟩
  | .hbm, ⟨39, _⟩ => ⟨S2x16384x8x2x32, .f32⟩
  | .hbm, ⟨40, _⟩ => ⟨S1x16384x1x1x32, .f32⟩
  | .hbm, ⟨41, _⟩ => ⟨S2x16384x8x2x32, .f32⟩
  | .hbm, ⟨42, _⟩ => ⟨S2x16384x8x2x32, .f32⟩
  | .hbm, ⟨43, _⟩ => ⟨S1x16384x1x1x32, .f32⟩
  | .hbm, ⟨44, _⟩ => ⟨S2x16384x8x2x32, .f32⟩
  | .hbm, ⟨45, _⟩ => ⟨S2x16384x8x2x32, .f32⟩
  | .hbm, ⟨46, _⟩ => ⟨S2x16384x8x2x32, .f32⟩
  | .hbm, ⟨47, _⟩ => ⟨S2x16384x8x2x64, .f32⟩
  | .hbm, ⟨48, _⟩ => ⟨S32768x1024, .f32⟩
  | .hbm, ⟨49, _⟩ => ⟨S32768x2048, .f32⟩
  | .hbm, ⟨50, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩

abbrev nD : Nat := 1
abbrev τ : Topo := Topo.v7x

variable {F : FTy → Type} [FloatOps F]
-- ==== Kernel9.lean ====
abbrev S2x16384x2048 : Shape := ⟨3, ![2, 16384, 2048]⟩
abbrev S2048x5120 : Shape := ⟨2, ![2048, 5120]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S32768x2048, .f32⟩
  | .hbm, ⟨3, _⟩ => ⟨S32768x2048, .bf16⟩
  | .hbm, ⟨4, _⟩ => ⟨S2048x5120, .bf16⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x16384x2048 : Shape := ⟨3, ![2, 16384, 2048]⟩
abbrev S2048x5120 : Shape := ⟨2, ![2048, 5120]⟩
abbrev S2x16384x5120 : Shape := ⟨3, ![2, 16384, 5120]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S2x16384x5120, .f32⟩
  | .hbm, ⟨3, _⟩ => ⟨S2x16384x2048, .f32⟩
  | .hbm, ⟨4, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2x16384x2048 : Shape := ⟨3, ![2, 16384, 2048]⟩
abbrev S2048x5120 : Shape := ⟨2, ![2048, 5120]⟩
abbrev S32768x2048 : Shape := ⟨2, ![32768, 2048]⟩
abbrev S32768x1024 : Shape := ⟨2, ![32768, 1024]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S32768x2048, .f32⟩
  | .hbm, ⟨3, _⟩ => ⟨S32768x2048, .bf16⟩
  | .hbm, ⟨4, _⟩ => ⟨S2048x5120, .bf16⟩
  | .hbm, ⟨5, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2x16384x2048 : Shape := ⟨3, ![2, 16384, 2048]⟩
abbrev S2048x5120 : Shape := ⟨2, ![2048, 5120]⟩
abbrev S2x16384x5120 : Shape := ⟨3, ![2, 16384, 5120]⟩
abbrev S2x16384x1024 : Shape := ⟨3, ![2, 16384, 1024]⟩
abbrev S32768x1024 : Shape := ⟨2, ![32768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x5120, .f32⟩
  | .hbm, ⟨2, _⟩ => ⟨S2x16384x5120, .f32⟩
  | .hbm, ⟨3, _⟩ => ⟨S2x16384x1024, .f32⟩
  | .hbm, ⟨4, _⟩ => ⟨S32768x1024, .f32⟩
  | .hbm, ⟨5, _⟩ => ⟨S32768x1024, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S2x16384x2048 : Shape := ⟨3, ![2, 16384, 2048]⟩
abbrev S2048x6656 : Shape := ⟨2, ![2048, 6656]⟩
abbrev S128 : Shape := ⟨1, ![128]⟩
abbrev S16384x64 : Shape := ⟨2, ![16384, 64]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S1280 : Shape := ⟨1, ![1280]⟩
abbrev S1x1280 : Shape := ⟨2, ![1, 1280]⟩
abbrev S16384x128 : Shape := ⟨2, ![16384, 128]⟩
abbrev S32768x2048 : Shape := ⟨2, ![32768, 2048]⟩
abbrev S32768x1280 : Shape := ⟨2, ![32768, 1280]⟩
abbrev S1024x2048 : Shape := ⟨2, ![1024, 2048]⟩
abbrev S2048x1280 : Shape := ⟨2, ![2048, 1280]⟩
abbrev S1024x128 : Shape := ⟨2, ![1024, 128]⟩
abbrev S1024x1280 : Shape := ⟨2, ![1024, 1280]⟩
abbrev S1024x1 : Shape := ⟨2, ![1024, 1]⟩

abbrev nBuf : Space → Nat
  | .hbm => 21
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S128, .f32⟩
  | .hbm, ⟨3, _⟩ => ⟨S128, .f32⟩
  | .hbm, ⟨4, _⟩ => ⟨S16384x64, .f32⟩
  | .hbm, ⟨5, _⟩ => ⟨S16384x64, .f32⟩
  | .hbm, ⟨6, _⟩ => ⟨S1x128, .f32⟩
  | .hbm, ⟨7, _⟩ => ⟨S8x128, .f32⟩
  | .hbm, ⟨8, _⟩ => ⟨S1024, .f32⟩
  | .hbm, ⟨9, _⟩ => ⟨S1x128, .f32⟩
  | .hbm, ⟨10, _⟩ => ⟨S2x128, .f32⟩
  | .hbm, ⟨11, _⟩ => ⟨S256, .f32⟩
  | .hbm, ⟨12, _⟩ => ⟨S1280, .f32⟩
  | .hbm, ⟨13, _⟩ => ⟨S1x1280, .f32⟩
  | .hbm, ⟨14, _⟩ => ⟨S16384x128, .f32⟩
  | .hbm, ⟨15, _⟩ => ⟨S16384x64, .f32⟩
  | .hbm, ⟨16, _⟩ => ⟨S16384x128, .f32⟩
  | .hbm, ⟨17, _⟩ => ⟨S32768x2048, .f32⟩
  | .hbm, ⟨18, _⟩ => ⟨S32768x2048, .bf16⟩
  | .hbm, ⟨19, _⟩ => ⟨S2048x6656, .bf16⟩
  | .hbm, ⟨20, _⟩ => ⟨S32768x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S1x1280, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1280, .bf16⟩
  | .local _ .vmem, ⟨9, _⟩ => ⟨S1024x1280, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2x16384x2048 : Shape := ⟨3, ![2, 16384, 2048]⟩
abbrev S2048x6656 : Shape := ⟨2, ![2048, 6656]⟩
abbrev S128 : Shape := ⟨1, ![128]⟩
abbrev S16384x64 : Shape := ⟨2, ![16384, 64]⟩
abbrev S2x16384x6656 : Shape := ⟨3, ![2, 16384, 6656]⟩
abbrev S2x16384x1024 : Shape := ⟨3, ![2, 16384, 1024]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S16384x1x64 : Shape := ⟨3, ![16384, 1, 64]⟩
abbrev S2x16384x8x64 : Shape := ⟨4, ![2, 16384, 8, 64]⟩
abbrev S1x16384x1x64 : Shape := ⟨4, ![1, 16384, 1, 64]⟩
abbrev S32768x1024 : Shape := ⟨2, ![32768, 1024]⟩
abbrev S2x16384x256 : Shape := ⟨3, ![2, 16384, 256]⟩
abbrev S2x16384x2x128 : Shape := ⟨4, ![2, 16384, 2, 128]⟩
abbrev S2x16384x2 : Shape := ⟨3, ![2, 16384, 2]⟩
abbrev S2x16384x2x1 : Shape := ⟨4, ![2, 16384, 2, 1]⟩
abbrev S2x16384x2x64 : Shape := ⟨4, ![2, 16384, 2, 64]⟩
abbrev S32768x256 : Shape := ⟨2, ![32768, 256]⟩
abbrev S32768x1280 : Shape := ⟨2, ![32768, 1280]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S128, .f32⟩
  | .hbm, ⟨3, _⟩ => ⟨S128, .f32⟩
  | .hbm, ⟨4, _⟩ => ⟨S16384x64, .f32⟩
  | .hbm, ⟨5, _⟩ => ⟨S16384x64, .f32⟩
  | .hbm, ⟨6, _⟩ => ⟨S2x16384x6656, .f32⟩
  | .hbm, ⟨7, _⟩ => ⟨S2x16384x1024, .f32⟩
  | .hbm, ⟨8, _⟩ => ⟨S2x16384x8x128, .f32⟩
  | .hbm, ⟨9, _⟩ => ⟨S2x16384x8x128, .f32⟩
  | .hbm, ⟨10, _⟩ => ⟨S_, .f32⟩
  | .hbm, ⟨11, _⟩ => ⟨S2x16384x8, .f32⟩
  | .hbm, ⟨12, _⟩ => ⟨S2x16384x8x1, .f32⟩
  | .hbm, ⟨13, _⟩ => ⟨S_, .f32⟩
  | .hbm, ⟨14, _⟩ => ⟨S2x16384x8x1, .f32⟩
  | .hbm, ⟨15, _⟩ => ⟨S2x16384x8x1, .f32⟩
  | .hbm, ⟨16, _⟩ => ⟨S_, .f32⟩
  | .hbm, ⟨17, _⟩ => ⟨S2x16384x8x1, .f32⟩
  | .hbm, ⟨18, _⟩ => ⟨S2x16384x8x1, .f32⟩
  | .hbm, ⟨19, _⟩ => ⟨S2x16384x8x1, .f32⟩
  | .hbm, ⟨20, _⟩ => ⟨S2x16384x8x128, .f32⟩
  | .hbm, ⟨21, _⟩ => ⟨S2x16384x8x128, .f32⟩
  | .hbm, ⟨22, _⟩ => ⟨S1x1x1x128, .f32⟩
  | .hbm, ⟨23, _⟩ => ⟨S2x16384x8x128, .f32⟩
  | .hbm, ⟨24, _⟩ => ⟨S2x16384x8x128, .f32⟩
  | .hbm, ⟨25, _⟩ => ⟨S16384x1x64, .f32⟩
  | .hbm, ⟨26, _⟩ => ⟨S16384x1x64, .f32⟩
  | .hbm, ⟨27, _⟩ => ⟨S2x16384x8x64, .f32⟩
  | .hbm, ⟨28, _⟩ => ⟨S2x16384x8x64, .f32⟩
  | .hbm, ⟨29, _⟩ => ⟨S1x16384x1x64, .f32⟩
  | .hbm, ⟨30, _⟩ => ⟨S2x16384x8x64, .f32⟩
  | .hbm, ⟨31, _⟩ => ⟨S2x16384x8x64, .f32⟩
  | .hbm, ⟨32, _⟩ => ⟨S1x16384x1x64, .f32⟩
  | .hbm, ⟨33, _⟩ => ⟨S2x16384x8x64, .f32⟩
  | .hbm, ⟨34, _⟩ => ⟨S2x16384x8x64, .f32⟩
  | .hbm, ⟨35, _⟩ => ⟨S2x16384x8x64, .f32⟩
  | .hbm, ⟨36, _⟩ => ⟨S1x16384x1x64, .f32⟩
  | .hbm, ⟨37, _⟩ => ⟨S2x16384x8x64, .f32⟩
  | .hbm, ⟨38, _⟩ => ⟨S2x16384x8x64, .f32⟩
  | .hbm, ⟨39, _⟩ => ⟨S1x16384x1x64, .f32⟩
  | .hbm, ⟨40, _⟩ => ⟨S2x16384x8x64, .f32⟩
  | .hbm, ⟨41, _⟩ => ⟨S2x16384x8x64, .f32⟩
  | .hbm, ⟨42, _⟩ => ⟨S2x16384x8x64, .f32⟩
  | .hbm, ⟨43, _⟩ => ⟨S2x16384x8x128, .f32⟩
  | .hbm, ⟨44, _⟩ => ⟨S32768x1024, .f32⟩
  | .hbm, ⟨45, _⟩ => ⟨S2x16384x256, .f32⟩
  | .hbm, ⟨46, _⟩ => ⟨S2x16384x2x128, .f32⟩
  | .hbm, ⟨47, _⟩ => ⟨S2x16384x2x128, .f32⟩
  | .hbm, ⟨48, _⟩ => ⟨S_, .f32⟩
  | .hbm, ⟨49, _⟩ => ⟨S2x16384x2, .f32⟩
  | .hbm, ⟨50, _⟩ => ⟨S2x16384x2x1, .f32⟩
  | .hbm, ⟨51, _⟩ => ⟨S_, .f32⟩
  | .hbm, ⟨52, _⟩ => ⟨S2x16384x2x1, .f32⟩
  | .hbm, ⟨53, _⟩ => ⟨S2x16384x2x1, .f32⟩
  | .hbm, ⟨54, _⟩ => ⟨S_, .f32⟩
  | .hbm, ⟨55, _⟩ => ⟨S2x16384x2x1, .f32⟩
  | .hbm, ⟨56, _⟩ => ⟨S2x16384x2x1, .f32⟩
  | .hbm, ⟨57, _⟩ => ⟨S2x16384x2x1, .f32⟩
  | .hbm, ⟨58, _⟩ => ⟨S2x16384x2x128, .f32⟩
  | .hbm, ⟨59, _⟩ => ⟨S2x16384x2x128, .f32⟩
  | .hbm, ⟨60, _⟩ => ⟨S1x1x1x128, .f32⟩
  | .hbm, ⟨61, _⟩ => ⟨S2x16384x2x128, .f32⟩
  | .hbm, ⟨62, _⟩ => ⟨S2x16384x2x128, .f32⟩
  | .hbm, ⟨63, _⟩ => ⟨S16384x1x64, .f32⟩
  | .hbm, ⟨64, _⟩ => ⟨S16384x1x64, .f32⟩
  | .hbm, ⟨65, _⟩ => ⟨S2x16384x2x64, .f32⟩
  | .hbm, ⟨66, _⟩ => ⟨S2x16384x2x64, .f32⟩
  | .hbm, ⟨67, _⟩ => ⟨S1x16384x1x64, .f32⟩
  | .hbm, ⟨68, _⟩ => ⟨S2x16384x2x64, .f32⟩
  | .hbm, ⟨69, _⟩ => ⟨S2x16384x2x64, .f32⟩
  | .hbm, ⟨70, _⟩ => ⟨S1x16384x1x64, .f32⟩
  | .hbm, ⟨71, _⟩ => ⟨S2x16384x2x64, .f32⟩
  | .hbm, ⟨72, _⟩ => ⟨S2x16384x2x64, .f32⟩
  | .hbm, ⟨73, _⟩ => ⟨S2x16384x2x64, .f32⟩
  | .hbm, ⟨74, _⟩ => ⟨S1x16384x1x64, .f32⟩
  | .hbm, ⟨75, _⟩ => ⟨S2x16384x2x64, .f32⟩
  | .hbm, ⟨76, _⟩ => ⟨S2x16384x2x64, .f32⟩
  | .hbm, ⟨77, _⟩ => ⟨S1x16384x1x64, .f32⟩
  | .hbm, ⟨78, _⟩ => ⟨S2x16384x2x64, .f32⟩
  | .hbm, ⟨79, _⟩ => ⟨S2x16384x2x64, .f32⟩
  | .hbm, ⟨80, _⟩ => ⟨S2x16384x2x64, .f32⟩
  | .hbm, ⟨81, _⟩ => ⟨S2x16384x2x128, .f32⟩
  | .hbm, ⟨82, _⟩ => ⟨S32768x256, .f32⟩
  | .hbm, ⟨83, _⟩ => ⟨S32768x1280, .f32⟩
  | .hbm, ⟨84, _⟩ => ⟨S32768x1280, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== Kernel12.lean ====
abbrev S2x16384x2048 : Shape := ⟨3, ![2, 16384, 2048]⟩
abbrev S2048x6656 : Shape := ⟨2, ![2048, 6656]⟩
abbrev S32768x2048 : Shape := ⟨2, ![32768, 2048]⟩
abbrev S32768x256 : Shape := ⟨2, ![32768, 256]⟩
abbrev S1024x2048 : Shape := ⟨2, ![1024, 2048]⟩
abbrev S2048x256 : Shape := ⟨2, ![2048, 256]⟩
abbrev S1024x256 : Shape := ⟨2, ![1024, 256]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S32768x2048, .f32⟩
  | .hbm, ⟨3, _⟩ => ⟨S32768x2048, .bf16⟩
  | .hbm, ⟨4, _⟩ => ⟨S2048x6656, .bf16⟩
  | .hbm, ⟨5, _⟩ => ⟨S32768x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .bf16⟩
  | .local _ .vmem, ⟨4, _⟩ => ⟨S1024x256, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2x16384x2048 : Shape := ⟨3, ![2, 16384, 2048]⟩
abbrev S2048x6656 : Shape := ⟨2, ![2048, 6656]⟩
abbrev S2x16384x6656 : Shape := ⟨3, ![2, 16384, 6656]⟩
abbrev S2x16384x256 : Shape := ⟨3, ![2, 16384, 256]⟩
abbrev S32768x256 : Shape := ⟨2, ![32768, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6656, .f32⟩
  | .hbm, ⟨2, _⟩ => ⟨S2x16384x6656, .f32⟩
  | .hbm, ⟨3, _⟩ => ⟨S2x16384x256, .f32⟩
  | .hbm, ⟨4, _⟩ => ⟨S32768x256, .f32⟩
  | .hbm, ⟨5, _⟩ => ⟨S32768x256, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.GqaOffsets.lean ====
/- Where the attention's outer loop finds and leaves the transposed query tiles: the two slots of the query scratch
   buffer alternate, trip `k` reading slot `k % 2` and filling the other one. -/
module

public import proofs.«01_k».proof.Proof.Gen.KernelIdeal.Loops

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem off2_eq : ∀ k : Fin k0_t1_loop.trips, k0_off2 k = ![k.val % 2, 0, 0] := by decide +kernel
instance closedOff2 (k : Fin k0_t1_loop.trips) : ClosedOff (k0_off2 k) := ⟨![k.val % 2, 0, 0], off2_eq k⟩

theorem off5_eq : ∀ k : Fin k0_t1_loop.trips, k0_off5 k = ![k.val % 2, 0, 0] := by decide +kernel
instance closedOff5 (k : Fin k0_t1_loop.trips) : ClosedOff (k0_off5 k) := ⟨![k.val % 2, 0, 0], off5_eq k⟩

theorem off7_eq : ∀ k : Fin k0_t1_loop.trips, k0_off7 k = ![(k.val + 1) % 2, 0, 0] := by decide +kernel
instance closedOff7 (k : Fin k0_t1_loop.trips) : ClosedOff (k0_off7 k) := ⟨![(k.val + 1) % 2, 0, 0], off7_eq k⟩

theorem off9_eq : ∀ k : Fin k0_t1_loop.trips, k0_off9 k = ![(k.val + 1) % 2, 0, 256] := by decide +kernel
instance closedOff9 (k : Fin k0_t1_loop.trips) : ClosedOff (k0_off9 k) := ⟨![(k.val + 1) % 2, 0, 256], off9_eq k⟩

theorem off11_eq : ∀ k : Fin k0_t1_loop.trips, k0_off11 k = ![(k.val + 1) % 2, 0, 512] := by decide +kernel
instance closedOff11 (k : Fin k0_t1_loop.trips) : ClosedOff (k0_off11 k) := ⟨![(k.val + 1) % 2, 0, 512], off11_eq k⟩

theorem off13_eq : ∀ k : Fin k0_t1_loop.trips, k0_off13 k = ![(k.val + 1) % 2, 0, 768] := by decide +kernel
instance closedOff13 (k : Fin k0_t1_loop.trips) : ClosedOff (k0_off13 k) := ⟨![(k.val + 1) % 2, 0, 768], off13_eq k⟩

theorem off14_eq : ∀ k : Fin k0_t1_loop.trips, k0_off14 k = ![(k.val + 1) % 2, 0, 0] := by decide +kernel
instance closedOff14 (k : Fin k0_t1_loop.trips) : ClosedOff (k0_off14 k) := ⟨![(k.val + 1) % 2, 0, 0], off14_eq k⟩

end Cert.Gqa

end
-- ==== Proof.GqaTrip.lean ====
/- One trip of the attention's outer loop: one tile of 256 query rows, four heads at once, against every key. -/
module

public import proofs.«01_k».proof.Proof.GqaOffsets

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip holds: the blocks and the transposed values it reads, and the buffers it writes. -/
abbrev Trip (c : Dev nD) (arg3 : Memref sig .tc .vmem S1x2048x512 .bf16) (arg4 : Memref sig .tc .vmem S1x16384x128 .bf16) (arg6 : Memref sig .tc .vmem S1x256x128 .bf16) (arg10 : Memref sig .tc .vmem S32x144x512 .bf16) (arg11 : Memref sig .tc .vmem S144x256 .bf16) (arg8 : Memref sig .tc .vmem S1x2048x512 .bf16) (arg9 : Memref sig .tc .vmem S2x128x1024 .bf16) (arg12 : Memref sig .tc .vmem S512x1024 .f32) (arg13 : Memref sig .tc .vmem S512x1024 .f32) (arg14 : Memref sig .tc .vmem S256x1024 .f32) (arg15 : Memref sig .tc .vmem S1x1024 .f32) (arg16 : Memref sig .tc .vmem S144x1024 .f32) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 1600000 in
/-- One trip, run once at any trip number: what it writes is found by the run, as a function of what the buffers held. -/
@[irreducible] def trip (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t1_loop.trips) :
    Σ' (C8 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg8.view.ty), Σ' (C9 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg9.view.ty), Σ' (C12 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg12.view.ty), Σ' (C13 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg13.view.ty), Σ' (C14 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg14.view.ty), Σ' (C15 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg15.view.ty), { C16 : BufTy.Contents (Elt F) arg8.view.ty → BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg16.view.ty // ∀ (E : Set ℕ) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Trip c arg3 arg4 arg6 arg10 arg11 arg8 arg9 arg12 arg13 arg14 arg15 arg16 X3 X4 X6 X10 X11 f8 f9 f12 f13 f14 f15 f16
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 k PUnit.unit)
        (fun _ => Trip c arg3 arg4 arg6 arg10 arg11 arg8 arg9 arg12 arg13 arg14 arg15 arg16 X3 X4 X6 X10 X11 (C8 f8 f9 f12 f13 f14 f15 f16) (C9 f8 f9 f12 f13 f14 f15 f16) (C12 f8 f9 f12 f13 f14 f15 f16) (C13 f8 f9 f12 f13 f14 f15 f16) (C14 f8 f9 f12 f13 f14 f15 f16) (C15 f8 f9 f12 f13 f14 f15 f16) (C16 f8 f9 f12 f13 f14 f15 f16)) } := by
  have hk : k.val < 8 := Nat.lt_of_lt_of_le k.isLt k0_t1_abs.2.1
  refine ⟨?_, ?_, ?_, ?_, ?_, ?_, ?_, fun E f8 f9 f12 f13 f14 f15 f16 => ?run⟩
  case run =>
    unfold k0_t1_body
    iintro ⟨HR3, HR4, HR6, HR10, HR11, HW8, HW9, HW12, HW13, HW14, HW15, HW16⟩
    sl_exec
    sl_step
    sl_close

end Cert.Gqa

end
-- ==== Proof.GqaState.lean ====
/- The attention's running state, at any floats: the maximum and the weighted sums after the first chunks of keys,
   as a recursion on the number of chunks. -/
module

public import proofs.«01_k».proof.Proof.GqaTrip
public import Idealize.ShloMosaic.Lib.VecWindow
public import Idealize.ShloMosaic.Lib.Pipeline.ValueKit

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Chunk `n` of the keys: 512 rows. -/
def kchunk (x : Vec F S1x16384x128 .bf16) (n : ℕ) : Vec F S1x512x128 .bf16 :=
  fun j => x (ix3 (j 0) ⟨(512 * n + (j 1).val) % 16384, Nat.mod_lt _ (by decide)⟩ (j 2))

/-- Chunk `n` of the transposed values with their rows of ones. -/
def vchunk (x : Vec F S32x144x512 .bf16) (n : ℕ) : Vec F S1x144x512 .bf16 :=
  fun j => x (ix3 ⟨n % 32, Nat.mod_lt _ (by decide)⟩ (j 1) (j 2))

/-- Slot `b` of the transposed query tiles. -/
def qslot (x : Vec F S2x128x1024 .bf16) (b : ℕ) : Vec F S1x128x1024 .bf16 :=
  fun j => x (ix3 ⟨b % 2, Nat.mod_lt _ (by decide)⟩ (j 1) (j 2))

/-- The scores of chunk `n` of the keys against one query tile. -/
def scores (x : Vec F S1x16384x128 .bf16) (q : Vec F S1x128x1024 .bf16) (n : ℕ) : Vec F S512x1024 .f32 :=
  k0_pay2 (kchunk x n) q

/-- The running maximum and the running sums after `n` chunks. -/
def soft (x : Vec F S1x16384x128 .bf16) (v : Vec F S32x144x512 .bf16) (q : Vec F S1x128x1024 .bf16) :
    ℕ → Vec F S1x1024 .f32 × Vec F S144x1024 .f32
  | 0 => (k0_pay85, k0_pay86)
  | n + 1 => (k0_pay76 (soft x v q n).1 (scores x q n),
      k0_pay77 (vchunk v n) (soft x v q n).1 (scores x q n) (scores x q n) (soft x v q n).2)

theorem soft_succ (x : Vec F S1x16384x128 .bf16) (v : Vec F S32x144x512 .bf16) (q : Vec F S1x128x1024 .bf16) (n : ℕ) :
    soft x v q (n + 1) = (k0_pay76 (soft x v q n).1 (scores x q n),
      k0_pay77 (vchunk v n) (soft x v q n).1 (scores x q n) (scores x q n) (soft x v q n).2) := rfl

/-! ## The payloads that are spelt more than once -/

theorem pay75_eq (a : Vec F S1x512x128 .bf16) (b : Vec F S1x128x1024 .bf16) : k0_pay75 a b = k0_pay2 a b := rfl
theorem pay80_eq (a : Vec F S1x512x128 .bf16) (b : Vec F S1x128x1024 .bf16) : k0_pay80 a b = k0_pay2 a b := rfl
theorem pay89_eq (a : Vec F S1x512x128 .bf16) (b : Vec F S1x128x1024 .bf16) : k0_pay89 a b = k0_pay2 a b := rfl
theorem pay93_eq (a : Vec F S1x512x128 .bf16) (b : Vec F S1x128x1024 .bf16) : k0_pay94 (k0_pay93 a b) = k0_pay2 a b := rfl
theorem pay100_eq (a : Vec F S1x512x128 .bf16) (b : Vec F S1x128x1024 .bf16) :
    k0_pay100 (k0_pay98 a) (k0_pay99 b) (constant S512x1024 .f32 0x00000000#32) = k0_pay2 a b := rfl
theorem pay111_eq (a : Vec F S1x512x128 .bf16) (b : Vec F S1x128x1024 .bf16) : k0_pay111 a b = k0_pay2 a b := rfl

theorem pay78_eq (a : Vec F S144x1024 .f32) : k0_pay78 a = a := shapeCast_self _ _
theorem pay79_eq (a : Vec F S1x1024 .f32) : k0_pay79 a = a := shapeCast_self _ _
theorem pay88_eq (m : Vec F S1x1024 .f32) (s : Vec F S512x1024 .f32) : k0_pay88 (k0_pay82 m s) = k0_pay76 m s := shapeCast_self _ _
theorem pay92_eq (m : Vec F S1x1024 .f32) (s : Vec F S512x1024 .f32) : k0_pay92 m s = k0_pay76 m s := shapeCast_self _ _
theorem pay97_eq (m : Vec F S1x1024 .f32) (s : Vec F S512x1024 .f32) : k0_pay97 m s = k0_pay76 m s := shapeCast_self _ _
theorem pay105_eq (m : Vec F S1x1024 .f32) (s : Vec F S512x1024 .f32) : k0_pay105 (k0_pay102 m s) = k0_pay76 m s := shapeCast_self _ _
theorem pay115_eq (m : Vec F S1x1024 .f32) (s : Vec F S512x1024 .f32) : k0_pay115 m s = k0_pay76 m s := shapeCast_self _ _
theorem pay120_eq (m : Vec F S1x1024 .f32) : k0_pay120 m = m := shapeCast_self _ _

theorem pay87_eq (v : Vec F S1x144x512 .bf16) (m : Vec F S1x1024 .f32) (s s' : Vec F S512x1024 .f32) (a : Vec F S144x1024 .f32) :
    k0_pay87 (k0_pay81 v) (k0_pay83 m s) (k0_pay84 m s s') a = k0_pay77 v m s s' a := shapeCast_self _ _
theorem pay91_eq (v : Vec F S1x144x512 .bf16) (m : Vec F S1x1024 .f32) (s s' : Vec F S512x1024 .f32) (a : Vec F S144x1024 .f32) :
    k0_pay91 v m s s' a = k0_pay77 v m s s' a := shapeCast_self _ _
theorem pay96_eq (v : Vec F S1x144x512 .bf16) (m : Vec F S1x1024 .f32) (s s' : Vec F S512x1024 .f32) (a : Vec F S144x1024 .f32) :
    k0_pay96 v m s s' a = k0_pay77 v m s s' a := shapeCast_self _ _
theorem pay104_eq (v : Vec F S1x144x512 .bf16) (m : Vec F S1x1024 .f32) (s s' : Vec F S512x1024 .f32) (a : Vec F S144x1024 .f32) :
    k0_pay104 (k0_pay103 v m s s' a) = k0_pay77 v m s s' a := shapeCast_self _ _
theorem pay114_eq (v : Vec F S1x144x512 .bf16) (m : Vec F S1x1024 .f32) (s s' : Vec F S512x1024 .f32) (a : Vec F S144x1024 .f32) :
    k0_pay114 (k0_pay112 v) m s s' a = k0_pay77 v m s s' a := shapeCast_self _ _

/-! ## What the loads read -/

/-- A load of 512 rows of the keys is a chunk. -/
theorem kread {arg4 : Memref sig .tc .vmem S1x16384x128 .bf16} (X : BufTy.Contents (Elt F) arg4.view.ty) (n : ℕ) (hn : n < 32)
    {off : Fin 3 → ℕ} (inb) (h : off = ![0, 512 * n, 0]) :
    View.readAt (Elt F) arg4.view (Rect.unit (s := S1x16384x128) off S1x512x128.size inb).toLoadRect X
      = kchunk (arg4.view.read (Elt F) X) n := by
  subst h
  funext j
  refine congrArg (arg4.view.read (Elt F) X) (funext fun a => Fin.ext ?_)
  have h1 : (j 1).val < 512 := (j 1).isLt
  match a with
  | ⟨0, _⟩ => show 0 + 1 * (j 0).val = (j 0).val; omega
  | ⟨1, _⟩ => show 512 * n + 1 * (j 1).val = (512 * n + (j 1).val) % 16384; omega
  | ⟨2, _⟩ => show 0 + 1 * (j 2).val = (j 2).val; omega

/-- A load of one panel of the transposed values is a chunk. -/
theorem vread {arg10 : Memref sig .tc .vmem S32x144x512 .bf16} (X : BufTy.Contents (Elt F) arg10.view.ty) (n : ℕ) (hn : n < 32)
    {off : Fin 3 → ℕ} (inb) (h : off = ![n, 0, 0]) :
    View.readAt (Elt F) arg10.view (Rect.unit (s := S32x144x512) off S1x144x512.size inb).toLoadRect X
      = vchunk (arg10.view.read (Elt F) X) n := by
  subst h
  funext j
  refine congrArg (arg10.view.read (Elt F) X) (funext fun a => Fin.ext ?_)
  have h0 : (j 0).val < 1 := (j 0).isLt
  match a with
  | ⟨0, _⟩ => show n + 1 * (j 0).val = n % 32; omega
  | ⟨1, _⟩ => show 0 + 1 * (j 1).val = (j 1).val; omega
  | ⟨2, _⟩ => show 0 + 1 * (j 2).val = (j 2).val; omega

/-- A load of one slot of the query tiles. -/
theorem qread {arg9 : Memref sig .tc .vmem S2x128x1024 .bf16} (X : BufTy.Contents (Elt F) arg9.view.ty) (b : ℕ)
    {off : Fin 3 → ℕ} (inb) (h : off = ![b % 2, 0, 0]) :
    View.readAt (Elt F) arg9.view (Rect.unit (s := S2x128x1024) off S1x128x1024.size inb).toLoadRect X
      = qslot (arg9.view.read (Elt F) X) b := by
  subst h
  funext j
  refine congrArg (arg9.view.read (Elt F) X) (funext fun a => Fin.ext ?_)
  have h0 : (j 0).val < 1 := (j 0).isLt
  match a with
  | ⟨0, _⟩ => show b % 2 + 1 * (j 0).val = b % 2; omega
  | ⟨1, _⟩ => show 0 + 1 * (j 1).val = (j 1).val; omega
  | ⟨2, _⟩ => show 0 + 1 * (j 2).val = (j 2).val; omega

/-! ## A buffer stored whole and read back whole -/

theorem cov_s (w : View sig .tc .vmem S512x1024 .f32) (z : Vec F S512x1024 .f32) (L : List (View.Piece (Elt F) S512x1024 .f32)) (inb inb') :
    w.readCov ((⟨Rect.unit (s := S512x1024) ![0, 0] ![512, 1024] inb, z⟩ : View.Piece (Elt F) S512x1024 .f32) :: L)
      (Rect.unit (s := S512x1024) ![0, 0] ![512, 1024] inb').toLoadRect = z := View.readCov_full w inb' inb z L

theorem cov_t (w : View sig .tc .vmem S256x1024 .f32) (z : Vec F S256x1024 .f32) (L : List (View.Piece (Elt F) S256x1024 .f32)) (inb inb') :
    w.readCov ((⟨Rect.unit (s := S256x1024) ![0, 0] ![256, 1024] inb, z⟩ : View.Piece (Elt F) S256x1024 .f32) :: L)
      (Rect.unit (s := S256x1024) ![0, 0] ![256, 1024] inb').toLoadRect = z := View.readCov_full w inb' inb z L

theorem cov_m (w : View sig .tc .vmem S1x1024 .f32) (z : Vec F S1x1024 .f32) (L : List (View.Piece (Elt F) S1x1024 .f32)) (inb inb') :
    w.readCov ((⟨Rect.unit (s := S1x1024) ![0, 0] ![1, 1024] inb, z⟩ : View.Piece (Elt F) S1x1024 .f32) :: L)
      (Rect.unit (s := S1x1024) ![0, 0] ![1, 1024] inb').toLoadRect = z := View.readCov_full w inb' inb z L

theorem cov_a (w : View sig .tc .vmem S144x1024 .f32) (z : Vec F S144x1024 .f32) (L : List (View.Piece (Elt F) S144x1024 .f32)) (inb inb') :
    w.readCov ((⟨Rect.unit (s := S144x1024) ![0, 0] ![144, 1024] inb, z⟩ : View.Piece (Elt F) S144x1024 .f32) :: L)
      (Rect.unit (s := S144x1024) ![0, 0] ![144, 1024] inb').toLoadRect = z := View.readCov_full w inb' inb z L

end Cert.Gqa

end
-- ==== Proof.GqaInner.lean ====
/- The attention's inner loop: each of its fourteen trips advances the running state by two chunks of keys. -/
module

public import proofs.«01_k».proof.Proof.GqaState

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem off1_a : ∀ k : Fin k0_t2_loop.trips, k0_off1 k 1#32 = ![0, 512 * (2 * k.val + 1), 0] := by decide +kernel
theorem off1_b : ∀ k : Fin k0_t2_loop.trips, k0_off1 k 2#32 = ![0, 512 * (2 * k.val + 2), 0] := by decide +kernel

/-- One inner trip: from the state after `2k` chunks to the state after `2k + 2`, the next scores ready. -/
theorem inner_step (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (k1 : Fin k0_t1_loop.trips) (v63 : BitVec 32) (X4 : BufTy.Contents (Elt F) arg4.view.ty) (X9 : BufTy.Contents (Elt F) arg9.view.ty) (X10 : BufTy.Contents (Elt F) arg10.view.ty) (k : Fin k0_t2_loop.trips) (f12 : BufTy.Contents (Elt F) arg12.view.ty) (f13 : BufTy.Contents (Elt F) arg13.view.ty) (f15 : BufTy.Contents (Elt F) arg15.view.ty) (f16 : BufTy.Contents (Elt F) arg16.view.ty)
    (x : Vec F S1x16384x128 .bf16) (v : Vec F S32x144x512 .bf16) (q : Vec F S1x128x1024 .bf16)
    (hx : arg4.view.read (Elt F) X4 = x) (hv : arg10.view.read (Elt F) X10 = v)
    (hq : qslot (arg9.view.read (Elt F) X9) k1.val = q)
    (h12 : arg12.view.read (Elt F) f12 = scores x q (2 * k.val))
    (h15 : arg15.view.read (Elt F) f15 = (soft x v q (2 * k.val)).1)
    (h16 : arg16.view.read (Elt F) f16 = (soft x v q (2 * k.val)).2) :
    arg12.view.read (Elt F) (arg12.view.writes (Elt F) f12 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 k f12 f13 f15 f16).1) = scores x q (2 * k.val + 2)
    ∧ arg15.view.read (Elt F) (arg15.view.writes (Elt F) f15 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 k f12 f13 f15 f16).2.2.1) = (soft x v q (2 * k.val + 2)).1
    ∧ arg16.view.read (Elt F) (arg16.view.writes (Elt F) f16 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 k f12 f13 f15 f16).2.2.2) = (soft x v q (2 * k.val + 2)).2 := by
  have hk : k.val < 14 := Nat.lt_of_lt_of_le k.isLt k0_t2_abs.2.1
  have e1 := fun inb => kread X4 (2 * k.val + 1) (by omega) (off := k0_off1 k 1#32) inb (off1_a k)
  have e2 := fun inb => kread X4 (2 * k.val + 2) (by omega) (off := k0_off1 k 2#32) inb (off1_b k)
  have e3 := fun inb => vread X10 (2 * k.val) (by omega) (off := k0_off3 k) inb (k0_off3_eq k)
  have e4 := fun inb => vread X10 (2 * k.val + 1) (by omega) (off := k0_off4 k) inb (k0_off4_eq k)
  have e9 := fun inb => qread X9 k1.val (off := k0_off2 k1) inb (off2_eq k1)
  have r12 := fun inb => View.readAt_full arg12.view f12 (off := ![0, 0]) inb
  have r15 := fun inb => View.readAt_full arg15.view f15 (off := ![0, 0]) inb
  have r16 := fun inb => View.readAt_full arg16.view f16 (off := ![0, 0]) inb
  rw [hx] at e1 e2
  rw [hv] at e3 e4
  rw [hq] at e9
  rw [h12] at r12
  rw [h15] at r15
  rw [h16] at r16
  unfold tripL_k0_t2 trip_k0_t2
  dsimp only
  sl_unfold_run_names
  rw [soft_succ x v q (2 * k.val + 1), soft_succ x v q (2 * k.val)]
  refine ⟨?_, ?_, ?_⟩
  · rw [View.read_writes_full, pay80_eq, e2, e9]; rfl
  · rw [View.read_writes_full, pay88_eq]
    simp only [cov_s, cov_m, cov_a, e1, e9, r12, r15, pay79_eq, pay75_eq]; rfl
  · rw [View.read_writes_full, pay87_eq]
    simp only [cov_s, cov_m, cov_a, e1, e3, e4, e9, r12, r15, r16, pay79_eq, pay75_eq, pay78_eq]; rfl

/-- The inner loop, by induction on its trips. -/
theorem inner_loop (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (k1 : Fin k0_t1_loop.trips) (v63 : BitVec 32) (X4 : BufTy.Contents (Elt F) arg4.view.ty) (X9 : BufTy.Contents (Elt F) arg9.view.ty) (X10 : BufTy.Contents (Elt F) arg10.view.ty) (f12 : BufTy.Contents (Elt F) arg12.view.ty) (f13 : BufTy.Contents (Elt F) arg13.view.ty) (f15 : BufTy.Contents (Elt F) arg15.view.ty) (f16 : BufTy.Contents (Elt F) arg16.view.ty)
    (x : Vec F S1x16384x128 .bf16) (v : Vec F S32x144x512 .bf16) (q : Vec F S1x128x1024 .bf16)
    (hx : arg4.view.read (Elt F) X4 = x) (hv : arg10.view.read (Elt F) X10 = v)
    (hq : qslot (arg9.view.read (Elt F) X9) k1.val = q)
    (h12 : arg12.view.read (Elt F) f12 = scores x q 0)
    (h15 : arg15.view.read (Elt F) f15 = k0_pay85)
    (h16 : arg16.view.read (Elt F) f16 = k0_pay86) (n : ℕ) (hn : n ≤ k0_t2_loop.trips) :
    arg12.view.read (Elt F) (arg12.view.writes (Elt F) f12 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 f12 f13 f15 f16 n).1) = scores x q (2 * n)
    ∧ arg15.view.read (Elt F) (arg15.view.writes (Elt F) f15 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 f12 f13 f15 f16 n).2.2.1) = (soft x v q (2 * n)).1
    ∧ arg16.view.read (Elt F) (arg16.view.writes (Elt F) f16 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 f12 f13 f15 f16 n).2.2.2) = (soft x v q (2 * n)).2 := by
  induction n with
  | zero => exact ⟨h12, h15, h16⟩
  | succ n ih =>
    obtain ⟨i12, i15, i16⟩ := ih (by omega)
    rw [pb_k0_t2_succ Variants.none c none i arg3 harg3 arg4 harg4 arg5 harg5 arg6 harg6 arg7 harg7 arg8 harg8 arg9 harg9 arg10 harg10 arg11 harg11 arg12 harg12 arg13 harg13 arg14 harg14 arg15 harg15 arg16 harg16 0#32 1#32 k1 v63 X4 X9 X10 f12 f13 f15 f16 ⟨n, hn⟩]
    dsimp only
    rw [View.writes_append, View.writes_append, View.writes_append]
    exact inner_step c i arg3 harg3 arg4 harg4 arg5 harg5 arg6 harg6 arg7 harg7 arg8 harg8 arg9 harg9 arg10 harg10 arg11 harg11 arg12 harg12 arg13 harg13 arg14 harg14 arg15 harg15 arg16 harg16 k1 v63 X4 X9 X10 ⟨n, hn⟩ _ _ _ _ x v q hx hv hq i12 i15 i16

end Cert.Gqa

end
-- ==== Proof.GqaTiles.lean ====
/- The attention's tiles, at any floats: a tile of 256 query rows of four heads laid out as 1024 columns, and the tile of results cut back into four heads. -/
module

public import proofs.«01_k».proof.Proof.GqaInner

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One tile of results: 256 rows of four heads. -/
abbrev S1x256x512 : Shape := ⟨3, ![1, 256, 512]⟩

/-- Query rows `256 j ..` of head `r` of the four. -/
def qrows (x : Vec F S1x2048x512 .bf16) (j r : ℕ) : Vec F S1x256x128 .bf16 :=
  fun z => x (ix3 (z 0) ⟨(256 * j + (z 1).val) % 2048, Nat.mod_lt _ (by decide)⟩
    ⟨(128 * r + (z 2).val) % 512, Nat.mod_lt _ (by decide)⟩)

/-- Four panels of 256 columns side by side. -/
def panels (p : ℕ → Vec F S1x128x256 .bf16) : Vec F S1x128x1024 .bf16 :=
  fun y => p ((y 2).val / 256) (ix3 (y 0) (y 1) ⟨(y 2).val % 256, Nat.mod_lt _ (by decide)⟩)

/-- The transposed query tile: column `256 r + i` is row `256 j + i` of head `r`. -/
def qtile (x : Vec F S1x2048x512 .bf16) (j : ℕ) : Vec F S1x128x1024 .bf16 := panels fun r => k0_pay1 (qrows x j r)

/-- The tile of results of the sums `A` and the denominators `D`: row `i`, column `128 r + d` is column `256 r + i`, row `d`
    of their quotient. -/
def otile (A : Vec F S128x1024 .f32) (D : Vec F S1x1024 .f32) : Vec F S1x256x512 .bf16 :=
  fun y =>
    let z : S1x256x128.Idx := ix3 (y 0) (y 1) ⟨(y 2).val % 128, Nat.mod_lt _ (by decide)⟩
    if (y 2).val / 128 = 0 then k0_pay122 A D z
    else if (y 2).val / 128 = 1 then k0_pay123 A D z
    else if (y 2).val / 128 = 2 then k0_pay124 A D z
    else k0_pay3 (k0_pay121 A D) z

/-- The first 128 rows of the running sums. -/
def accRows (a : Vec F S144x1024 .f32) : Vec F S128x1024 .f32 :=
  fun y => a (ix2 ⟨(y 0).val % 144, Nat.mod_lt _ (by decide)⟩ (y 1))

/-- Row 128 of the running sums, which counts with the row of ones. -/
def accOnes (a : Vec F S144x1024 .f32) : Vec F S1x1024 .f32 :=
  fun y => a (ix2 ⟨128, by decide⟩ (y 1))

/-- The sums once the context keys are in. -/
def accEnd (x : Vec F S1x16384x128 .bf16) (v : Vec F S32x144x512 .bf16) (x6 : Vec F S1x256x128 .bf16)
    (x11 : Vec F S144x256 .bf16) (q : Vec F S1x128x1024 .bf16) : Vec F S144x1024 .f32 :=
  k0_pay119 x11 (k0_pay117 (soft x v q 32).1 (k0_pay101 x6 q) (k0_pay101 x6 q))
    (k0_pay118 (soft x v q 32).1 (k0_pay101 x6 q) (soft x v q 32).2)

/-- The tile of results of one query tile. -/
def oval (x : Vec F S1x16384x128 .bf16) (v : Vec F S32x144x512 .bf16) (x6 : Vec F S1x256x128 .bf16)
    (x11 : Vec F S144x256 .bf16) (q : Vec F S1x128x1024 .bf16) : Vec F S1x256x512 .bf16 :=
  otile (accRows (accEnd x v x6 x11 q)) (accOnes (accEnd x v x6 x11 q))

theorem pay106_eq (a : Vec F S1x256x128 .bf16) : k0_pay106 a = k0_pay1 a := rfl
theorem pay107_eq (a : Vec F S1x256x128 .bf16) : k0_pay107 a = k0_pay1 a := rfl
theorem pay109_eq (a : Vec F S1x256x128 .bf16) : k0_pay109 (k0_pay108 a) = k0_pay1 a := rfl
theorem pay110_eq (a : Vec F S1x256x128 .bf16) : k0_pay110 a = k0_pay1 a := rfl
theorem pay127_eq (a : Vec F S1x256x128 .bf16) : k0_pay127 a = k0_pay1 a := rfl
theorem pay128_eq (a : Vec F S1x256x128 .bf16) : k0_pay128 a = k0_pay1 a := rfl
theorem pay129_eq (a : Vec F S1x256x128 .bf16) : k0_pay129 a = k0_pay1 a := rfl

/-- A load of 256 query rows of one head. -/
theorem qrows_read {arg3 : Memref sig .tc .vmem S1x2048x512 .bf16} (X : BufTy.Contents (Elt F) arg3.view.ty) (j r : ℕ)
    (hj : j < 8) (hr : r < 4) {off : Fin 3 → ℕ} (inb) (h : off = ![0, 256 * j, 128 * r]) :
    View.readAt (Elt F) arg3.view (Rect.unit (s := S1x2048x512) off S1x256x128.size inb).toLoadRect X
      = qrows (arg3.view.read (Elt F) X) j r := by
  subst h
  funext z
  refine congrArg (arg3.view.read (Elt F) X) (funext fun a => Fin.ext ?_)
  have h1 : (z 1).val < 256 := (z 1).isLt
  have h2 : (z 2).val < 128 := (z 2).isLt
  match a with
  | ⟨0, _⟩ => show 0 + 1 * (z 0).val = (z 0).val; omega
  | ⟨1, _⟩ => show 256 * j + 1 * (z 1).val = (256 * j + (z 1).val) % 2048; omega
  | ⟨2, _⟩ => show 128 * r + 1 * (z 2).val = (128 * r + (z 2).val) % 512; omega

/-- Four panels stored into one slot are read back as the slot. -/
theorem qslot_writes (w : View sig .tc .vmem S2x128x1024 .bf16) (f : w.ty.Contents (Elt F)) (b : ℕ)
    (p0 p1 p2 p3 : Vec F S1x128x256 .bf16) {o0 o1 o2 o3 : Fin 3 → ℕ} (n0 n1 n2 n3)
    (h0 : o0 = ![b % 2, 0, 0]) (h1 : o1 = ![b % 2, 0, 256]) (h2 : o2 = ![b % 2, 0, 512]) (h3 : o3 = ![b % 2, 0, 768]) :
    qslot (w.read (Elt F) (w.writes (Elt F) f
      [(⟨Rect.unit (s := S2x128x1024) o3 S1x128x256.size n3, p3⟩ : View.Piece (Elt F) S2x128x1024 .bf16),
       (⟨Rect.unit (s := S2x128x1024) o2 S1x128x256.size n2, p2⟩ : View.Piece (Elt F) S2x128x1024 .bf16),
       (⟨Rect.unit (s := S2x128x1024) o1 S1x128x256.size n1, p1⟩ : View.Piece (Elt F) S2x128x1024 .bf16),
       (⟨Rect.unit (s := S2x128x1024) o0 S1x128x256.size n0, p0⟩ : View.Piece (Elt F) S2x128x1024 .bf16)])) b
      = panels fun r => if r = 0 then p0 else if r = 1 then p1 else if r = 2 then p2 else p3 := by
  funext y
  have hy0 : (y 0).val < 1 := (y 0).isLt
  have hy1 : (y 1).val < 128 := (y 1).isLt
  have hy2 : (y 2).val < 1024 := (y 2).isLt
  have hin : ∀ o : ℕ, o ≤ (y 2).val → (y 2).val < o + 256 → o % 256 = 0 → ∀ a : Fin 3,
      ((ix3 (⟨b % 2, Nat.mod_lt _ (by decide)⟩ : Fin 2) (y 1) (y 2) : S2x128x1024.Idx) a).val
        = (![b % 2, 0, o] : Fin 3 → ℕ) a
          + ((ix3 (y 0) (y 1) ⟨(y 2).val % 256, Nat.mod_lt _ (by decide)⟩ : S1x128x256.Idx) a).val := by
    intro o ho ho' hm a
    match a with
    | ⟨0, _⟩ => show b % 2 = b % 2 + (y 0).val; omega
    | ⟨1, _⟩ => show (y 1).val = 0 + (y 1).val; omega
    | ⟨2, _⟩ => show (y 2).val = o + (y 2).val % 256; omega
  unfold qslot panels
  dsimp only
  by_cases c3 : 768 ≤ (y 2).val
  · rw [View.read_writes_cons_unit_of_mem w f n3 p3 _ _ _ h3 (hin 768 c3 (by omega) rfl)]
    have e : (y 2).val / 256 = 3 := by omega
    simp [e]
  · rw [View.read_writes_cons_unit_of_not_mem w f n3 p3 _ _ h3 2 (Or.inl (show (y 2).val < 768 by omega))]
    by_cases c2 : 512 ≤ (y 2).val
    · rw [View.read_writes_cons_unit_of_mem w f n2 p2 _ _ _ h2 (hin 512 c2 (by omega) rfl)]
      have e : (y 2).val / 256 = 2 := by omega
      simp [e]
    · rw [View.read_writes_cons_unit_of_not_mem w f n2 p2 _ _ h2 2 (Or.inl (show (y 2).val < 512 by omega))]
      by_cases c1 : 256 ≤ (y 2).val
      · rw [View.read_writes_cons_unit_of_mem w f n1 p1 _ _ _ h1 (hin 256 c1 (by omega) rfl)]
        have e : (y 2).val / 256 = 1 := by omega
        simp [e]
      · rw [View.read_writes_cons_unit_of_not_mem w f n1 p1 _ _ h1 2 (Or.inl (show (y 2).val < 256 by omega))]
        rw [View.read_writes_cons_unit_of_mem w f n0 p0 _ _ _ h0 (hin 0 (by omega) (by omega) rfl)]
        have e : (y 2).val / 256 = 0 := by omega
        simp [e]

/-- The four panels of a query tile. -/
theorem qtile_eq (x : Vec F S1x2048x512 .bf16) (j : ℕ) :
    (panels fun r => if r = 0 then k0_pay1 (qrows x j 0) else if r = 1 then k0_pay1 (qrows x j 1)
      else if r = 2 then k0_pay1 (qrows x j 2) else k0_pay1 (qrows x j 3)) = qtile x j := by
  funext y
  have hy2 : (y 2).val < 1024 := (y 2).isLt
  unfold qtile panels
  dsimp only
  have h : (y 2).val / 256 = 0 ∨ (y 2).val / 256 = 1 ∨ (y 2).val / 256 = 2 ∨ (y 2).val / 256 = 3 := by omega
  rcases h with h | h | h | h <;> simp [h]

/-- The four stores of a trip put the tile of results over its 256 rows. -/
theorem otile_writes (w : View sig .tc .vmem S1x2048x512 .bf16) (f : w.ty.Contents (Elt F)) (k : ℕ)
    (A : Vec F S128x1024 .f32) (D : Vec F S1x1024 .f32) {o0 o1 o2 o3 : Fin 3 → ℕ} (n0 n1 n2 n3)
    (h0 : o0 = ![0, 256 * k, 0]) (h1 : o1 = ![0, 256 * k, 128]) (h2 : o2 = ![0, 256 * k, 256]) (h3 : o3 = ![0, 256 * k, 384]) :
    w.read (Elt F) (w.writes (Elt F) f
      [(⟨Rect.unit (s := S1x2048x512) o3 S1x256x128.size n3, k0_pay3 (k0_pay121 A D)⟩ : View.Piece (Elt F) S1x2048x512 .bf16),
       (⟨Rect.unit (s := S1x2048x512) o2 S1x256x128.size n2, k0_pay124 A D⟩ : View.Piece (Elt F) S1x2048x512 .bf16),
       (⟨Rect.unit (s := S1x2048x512) o1 S1x256x128.size n1, k0_pay123 A D⟩ : View.Piece (Elt F) S1x2048x512 .bf16),
       (⟨Rect.unit (s := S1x2048x512) o0 S1x256x128.size n0, k0_pay122 A D⟩ : View.Piece (Elt F) S1x2048x512 .bf16)])
      = fun y => if (y 1).val / 256 = k then otile A D (ix3 (y 0) ⟨(y 1).val % 256, Nat.mod_lt _ (by decide)⟩ (y 2))
          else w.read (Elt F) f y := by
  funext y
  have hy0 : (y 0).val < 1 := (y 0).isLt
  have hy1 : (y 1).val < 2048 := (y 1).isLt
  have hy2 : (y 2).val < 512 := (y 2).isLt
  by_cases hk : (y 1).val / 256 = k
  · have hin : ∀ o : ℕ, o ≤ (y 2).val → (y 2).val < o + 128 → o % 128 = 0 → ∀ a : Fin 3,
        (y a).val = (![0, 256 * k, o] : Fin 3 → ℕ) a
          + ((ix3 (y 0) ⟨(y 1).val % 256, Nat.mod_lt _ (by decide)⟩ ⟨(y 2).val % 128, Nat.mod_lt _ (by decide)⟩ : S1x256x128.Idx) a).val := by
      intro o ho ho' hm a
      match a with
      | ⟨0, _⟩ => show (y 0).val = 0 + (y 0).val; omega
      | ⟨1, _⟩ => show (y 1).val = 256 * k + (y 1).val % 256; omega
      | ⟨2, _⟩ => show (y 2).val = o + (y 2).val % 128; omega
    rw [if_pos hk]
    unfold otile
    dsimp only
    by_cases c3 : 384 ≤ (y 2).val
    · rw [View.read_writes_cons_unit_of_mem w f n3 _ _ _ _ h3 (hin 384 c3 (by omega) rfl)]
      have e : (y 2).val / 128 = 3 := by omega
      show _ = if (y 2).val / 128 = 0 then _ else if (y 2).val / 128 = 1 then _ else if (y 2).val / 128 = 2 then _ else _
      rw [if_neg (by omega), if_neg (by omega), if_neg (by omega)]
      rfl
    · rw [View.read_writes_cons_unit_of_not_mem w f n3 _ _ _ h3 2 (Or.inl (show (y 2).val < 384 by omega))]
      by_cases c2 : 256 ≤ (y 2).val
      · rw [View.read_writes_cons_unit_of_mem w f n2 _ _ _ _ h2 (hin 256 c2 (by omega) rfl)]
        show _ = if (y 2).val / 128 = 0 then _ else if (y 2).val / 128 = 1 then _ else if (y 2).val / 128 = 2 then _ else _
        rw [if_neg (by omega), if_neg (by omega), if_pos (by omega)]
        rfl
      · rw [View.read_writes_cons_unit_of_not_mem w f n2 _ _ _ h2 2 (Or.inl (show (y 2).val < 256 by omega))]
        by_cases c1 : 128 ≤ (y 2).val
        · rw [View.read_writes_cons_unit_of_mem w f n1 _ _ _ _ h1 (hin 128 c1 (by omega) rfl)]
          show _ = if (y 2).val / 128 = 0 then _ else if (y 2).val / 128 = 1 then _ else if (y 2).val / 128 = 2 then _ else _
          rw [if_neg (by omega), if_pos (by omega)]
          rfl
        · rw [View.read_writes_cons_unit_of_not_mem w f n1 _ _ _ h1 2 (Or.inl (show (y 2).val < 128 by omega))]
          rw [View.read_writes_cons_unit_of_mem w f n0 _ _ _ _ h0 (hin 0 (by omega) (by omega) rfl)]
          show _ = if (y 2).val / 128 = 0 then _ else if (y 2).val / 128 = 1 then _ else if (y 2).val / 128 = 2 then _ else _
          rw [if_pos (by omega)]
          rfl
  · have hout : ∀ o : ℕ, (y 1).val < (![0, 256 * k, o] : Fin 3 → ℕ) 1 ∨ (![0, 256 * k, o] : Fin 3 → ℕ) 1 + S1x256x128.size 1 ≤ (y 1).val :=
      fun o => by show (y 1).val < 256 * k ∨ 256 * k + 256 ≤ (y 1).val; omega
    rw [if_neg hk, View.read_writes_cons_unit_of_not_mem w f n3 _ _ _ h3 1 (hout _),
      View.read_writes_cons_unit_of_not_mem w f n2 _ _ _ h2 1 (hout _),
      View.read_writes_cons_unit_of_not_mem w f n1 _ _ _ h1 1 (hout _),
      View.read_writes_cons_unit_of_not_mem w f n0 _ _ _ h0 1 (hout _)]
    rfl

/-- A load of the first 128 rows of the sums after a whole store. -/
theorem cov_rows (w : View sig .tc .vmem S144x1024 .f32) (z : Vec F S144x1024 .f32) (L : List (View.Piece (Elt F) S144x1024 .f32)) (inb inb') :
    w.readCov ((⟨Rect.unit (s := S144x1024) ![0, 0] S144x1024.size inb, z⟩ : View.Piece (Elt F) S144x1024 .f32) :: L)
      (Rect.unit (s := S144x1024) ![0, 0] S128x1024.size inb').toLoadRect = accRows z := by
  show View.readAt (Elt F) w _ _ = _
  funext y
  have h0 : (y 0).val < 128 := (y 0).isLt
  refine (congrFun (View.read_writes_full w w.junk inb z L) _).trans (congrArg z (funext fun a => Fin.ext ?_))
  match a with
  | ⟨0, _⟩ => show 0 + 1 * (y 0).val = (y 0).val % 144; omega
  | ⟨1, _⟩ => show 0 + 1 * (y 1).val = (y 1).val; omega

/-- A load of row 128 of the sums after a whole store. -/
theorem cov_ones (w : View sig .tc .vmem S144x1024 .f32) (z : Vec F S144x1024 .f32) (L : List (View.Piece (Elt F) S144x1024 .f32)) (inb inb') :
    w.readCov ((⟨Rect.unit (s := S144x1024) ![0, 0] S144x1024.size inb, z⟩ : View.Piece (Elt F) S144x1024 .f32) :: L)
      (Rect.unit (s := S144x1024) ![128, 0] S1x1024.size inb').toLoadRect = accOnes z := by
  show View.readAt (Elt F) w _ _ = _
  funext y
  have h0 : (y 0).val < 1 := (y 0).isLt
  refine (congrFun (View.read_writes_full w w.junk inb z L) _).trans (congrArg z (funext fun a => Fin.ext ?_))
  match a with
  | ⟨0, _⟩ => show 128 + 1 * (y 0).val = 128; omega
  | ⟨1, _⟩ => show 0 + 1 * (y 1).val = (y 1).val; omega

end Cert.Gqa

end
-- ==== Proof.GqaOuter.lean ====
/- What one trip of the attention's outer loop leaves: its tile of results, the next query tile and its first scores. -/
module

public import proofs.«01_k».proof.Proof.GqaTiles

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of the whole context keys. -/
theorem ctx_read {arg6 : Memref sig .tc .vmem S1x256x128 .bf16} (X : BufTy.Contents (Elt F) arg6.view.ty) (inb) :
    View.readAt (Elt F) arg6.view (Rect.unit (s := S1x256x128) ![0, 0, 0] S1x256x128.size inb).toLoadRect X
      = arg6.view.read (Elt F) X := View.readAt_full arg6.view X inb

/-- The sums a trip divides: the state after 32 chunks and the context keys. -/
theorem outer_acc (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t1_loop.trips) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (x3 : Vec F S1x2048x512 .bf16) (x : Vec F S1x16384x128 .bf16) (x6 : Vec F S1x256x128 .bf16) (v : Vec F S32x144x512 .bf16)
    (x11 : Vec F S144x256 .bf16) (q : Vec F S1x128x1024 .bf16)
    (hx3 : arg3.view.read (Elt F) X3 = x3) (hx : arg4.view.read (Elt F) X4 = x) (hx6 : arg6.view.read (Elt F) X6 = x6)
    (hv : arg10.view.read (Elt F) X10 = v) (hx11 : arg11.view.read (Elt F) X11 = x11)
    (hq : qslot (arg9.view.read (Elt F) f9) k.val = q) (h12 : arg12.view.read (Elt F) f12 = scores x q 0) :
    trip.sl.v302 c i arg3 harg3 arg4 harg4 arg5 harg5 arg6 harg6 arg7 harg7 arg8 harg8 arg9 harg9 arg10 harg10 arg11 harg11 arg12 harg12 arg13 harg13 arg14 harg14 arg15 harg15 arg16 harg16 X4 X6 X10 X11 k f9 f12 f13 = accRows (accEnd x v x6 x11 q) ∧ trip.sl.v303 c i arg3 harg3 arg4 harg4 arg5 harg5 arg6 harg6 arg7 harg7 arg8 harg8 arg9 harg9 arg10 harg10 arg11 harg11 arg12 harg12 arg13 harg13 arg14 harg14 arg15 harg15 arg16 harg16 X4 X6 X10 X11 k f9 f12 f13 = accOnes (accEnd x v x6 x11 q) := by
  have hk : k.val < 8 := Nat.lt_of_lt_of_le k.isLt k0_t1_abs.2.1
  have e29 := fun inb => kread X4 29 (by omega) (off := ![0, 14848, 0]) inb rfl
  have e30 := fun inb => kread X4 30 (by omega) (off := ![0, 15360, 0]) inb rfl
  have e31 := fun inb => kread X4 31 (by omega) (off := ![0, 15872, 0]) inb rfl
  have g28 := fun inb => vread X10 28 (by omega) (off := ![28, 0, 0]) inb rfl
  have g29 := fun inb => vread X10 29 (by omega) (off := ![29, 0, 0]) inb rfl
  have g30 := fun inb => vread X10 30 (by omega) (off := ![30, 0, 0]) inb rfl
  have g31 := fun inb => vread X10 31 (by omega) (off := ![31, 0, 0]) inb rfl
  have e9 := fun inb => qread f9 k.val (off := k0_off5 k) inb (off5_eq k)
  have e6 := fun inb => ctx_read X6 inb
  have e11 := fun inb => View.readAt_full arg11.view X11 (off := ![0, 0]) inb
  rw [hx] at e29 e30 e31
  rw [hv] at g28 g29 g30 g31
  rw [hq] at e9
  rw [hx6] at e6
  rw [hx11] at e11
  have hl := inner_loop c i arg3 harg3 arg4 harg4 arg5 harg5 arg6 harg6 arg7 harg7 arg8 harg8 arg9 harg9 arg10 harg10 arg11 harg11 arg12 harg12 arg13 harg13 arg14 harg14 arg15 harg15 arg16 harg16 k (trip.sl.v63 k) X4 f9 X10 f12 f13
    (arg15.view.writes (Elt F) arg15.view.junk trip.sl.HW15_1) (arg16.view.writes (Elt F) arg16.view.junk trip.sl.HW16_1)
    x v q hx hv hq h12 (View.read_writes_full arg15.view _ _ _ _) (View.read_writes_full arg16.view _ _ _ _) k0_t2_loop.trips (le_refl _)
  obtain ⟨l12, l15, l16⟩ := hl
  have ht : 2 * k0_t2_loop.trips = 28 := by decide +kernel
  rw [ht] at l12 l15 l16
  have a87 : trip.sl.v87 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = scores x q 28 := by
    unfold trip.sl.v87
    exact (View.readAt_full arg12.view _ _).trans l12
  have a86 : trip.sl.v86 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 28).1 := by
    unfold trip.sl.v86
    refine Eq.trans ?_ l15
    show View.readAt (Elt F) arg15.view _ _ = _
    rw [View.writes_append]
    exact View.readAt_full arg15.view _ _
  have a98 : trip.sl.v98 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 28).2 := by
    unfold trip.sl.v98
    refine Eq.trans ?_ l16
    show View.readAt (Elt F) arg16.view _ _ = _
    rw [View.writes_append]
    exact View.readAt_full arg16.view _ _
  have a122 : trip.sl.v122 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 29).1 := by
    unfold trip.sl.v122 trip.sl.HW15_1_1
    rw [View.readCov_full, pay92_eq, a86, a87]; rfl
  have a134 : trip.sl.v134 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 29).2 := by
    unfold trip.sl.v134 trip.sl.HW16_1_1
    rw [View.readCov_full, pay91_eq, a86, a87, a98, g28]; rfl
  have a123 : trip.sl.v123 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = scores x q 29 := by
    unfold trip.sl.v123 trip.sl.HW13_1
    rw [View.readCov_full, pay89_eq, e29, e9]; rfl
  have a167 : trip.sl.v167 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 30).1 := by
    unfold trip.sl.v167 trip.sl.HW15_2
    rw [View.readCov_full, pay97_eq, a122, a123]; rfl
  have a179 : trip.sl.v179 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 30).2 := by
    unfold trip.sl.v179 trip.sl.HW16_2
    rw [View.readCov_full, pay96_eq, a122, a123, a134, g29]; rfl
  have a168 : trip.sl.v168 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = scores x q 30 := by
    unfold trip.sl.v168 trip.sl.HW12_1 trip.sl.r
    rw [View.readCov_full, pay93_eq, e30, e9]; rfl
  have a255 : trip.sl.v255 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 31).1 := by
    unfold trip.sl.v255 trip.sl.HW15_3 trip.sl.r_3
    rw [View.readCov_full, pay105_eq, a167, a168]; rfl
  have a267 : trip.sl.v267 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 31).2 := by
    unfold trip.sl.v267 trip.sl.HW16_3 trip.sl.r_4
    rw [View.readCov_full, pay104_eq, a167, a168, a179, g30]; rfl
  have a256 : trip.sl.v256 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = scores x q 31 := by
    unfold trip.sl.v256 trip.sl.HW13_2 trip.sl.r_1 trip.sl.r_2 trip.sl.cst_93
    rw [View.readCov_full, pay100_eq, e31, e9]; rfl
  have a279 : trip.sl.v279 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 32).1 := by
    unfold trip.sl.v279 trip.sl.HW15_4
    rw [View.readCov_full, pay115_eq, a255, a256]; rfl
  have a291 : trip.sl.v291 c i arg3 harg3 arg4 harg4 arg5 harg5 arg6 harg6 arg7 harg7 arg8 harg8 arg9 harg9 arg10 harg10 arg11 harg11 arg12 harg12 arg13 harg13 arg14 harg14 arg15 harg15 arg16 harg16 X4 X10 k f9 f12 f13 = (soft x v q 32).2 := by
    unfold trip.sl.v291 trip.sl.HW16_4 trip.sl.r_6
    rw [View.readCov_full, pay114_eq, a255, a256, a267, g31]; rfl
  have a280 : trip.sl.v280 arg6 arg9 arg14 X6 k f9 = k0_pay101 x6 q := by
    unfold trip.sl.v280 trip.sl.HW14_1
    rw [View.readCov_full, e6, e9]
  have a7 : trip.sl.r_7 arg11 X11 = x11 := by
    unfold trip.sl.r_7
    exact e11 _
  refine ⟨?_, ?_⟩
  · unfold trip.sl.v302 trip.sl.HW16_5 trip.sl.r_9 trip.sl.r_10
    rw [cov_rows, a279, a280, a291, a7]; rfl
  · unfold trip.sl.v303 trip.sl.HW16_5 trip.sl.r_9 trip.sl.r_10
    rw [cov_ones, a279, a280, a291, a7]; rfl

/-- What one trip leaves. -/
theorem outer_step (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t1_loop.trips) (f8 : BufTy.Contents (Elt F) arg8.view.ty) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (x3 : Vec F S1x2048x512 .bf16) (x : Vec F S1x16384x128 .bf16) (x6 : Vec F S1x256x128 .bf16) (v : Vec F S32x144x512 .bf16)
    (x11 : Vec F S144x256 .bf16) (q : Vec F S1x128x1024 .bf16)
    (hx3 : arg3.view.read (Elt F) X3 = x3) (hx : arg4.view.read (Elt F) X4 = x) (hx6 : arg6.view.read (Elt F) X6 = x6)
    (hv : arg10.view.read (Elt F) X10 = v) (hx11 : arg11.view.read (Elt F) X11 = x11)
    (hq : qslot (arg9.view.read (Elt F) f9) k.val = q) (h12 : arg12.view.read (Elt F) f12 = scores x q 0) :
    arg8.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).1 f8 f9 f12 f13 f14 f15 f16)
        = (fun y => if (y 1).val / 256 = k.val then oval x v x6 x11 q (ix3 (y 0) ⟨(y 1).val % 256, Nat.mod_lt _ (by decide)⟩ (y 2))
            else arg8.view.read (Elt F) f8 y)
    ∧ qslot (arg9.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.1 f8 f9 f12 f13 f14 f15 f16)) (k.val + 1) = qtile x3 (min (k.val + 1) 7)
    ∧ arg12.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.1 f8 f9 f12 f13 f14 f15 f16) = scores x (qtile x3 (min (k.val + 1) 7)) 0 := by
  have hk : k.val < 8 := Nat.lt_of_lt_of_le k.isLt k0_t1_abs.2.1
  obtain ⟨b302, b303⟩ := outer_acc c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k f8 f9 f12 f13 f14 f15 f16 x3 x x6 v x11 q hx3 hx hx6 hv hx11 hq h12
  have t0 := fun inb => qrows_read X3 (min (k.val + 1) 7) 0 (by omega) (by omega) (off := k0_off6 k) inb (k0_off6_eq k)
  have t1 := fun inb => qrows_read X3 (min (k.val + 1) 7) 1 (by omega) (by omega) (off := k0_off8 k) inb (k0_off8_eq k)
  have t2 := fun inb => qrows_read X3 (min (k.val + 1) 7) 2 (by omega) (by omega) (off := k0_off10 k) inb (k0_off10_eq k)
  have t3 := fun inb => qrows_read X3 (min (k.val + 1) 7) 3 (by omega) (by omega) (off := k0_off12 k) inb (k0_off12_eq k)
  have e0 := fun inb => kread X4 0 (by omega) (off := ![0, 0, 0]) inb rfl
  rw [hx3] at t0 t1 t2 t3
  rw [hx] at e0
  have hs : ∀ g : BufTy.Contents (Elt F) arg9.view.ty,
      qslot (arg9.view.read (Elt F) (arg9.view.writes (Elt F) g (trip.sl.HW9_4 arg3 X3 k))) (k.val + 1) = qtile x3 (min (k.val + 1) 7) := by
    intro g
    unfold trip.sl.HW9_4 trip.sl.r_5
    rw [qslot_writes arg9.view g (k.val + 1) _ _ _ _ _ _ _ _ (off7_eq k) (off9_eq k) (off11_eq k) (off13_eq k),
      pay106_eq, pay107_eq, pay109_eq, pay110_eq, t0, t1, t2, t3, qtile_eq]
  have a247 : trip.sl.v247 arg3 arg9 X3 k = qtile x3 (min (k.val + 1) 7) := by
    unfold trip.sl.v247
    show View.readAt (Elt F) arg9.view _ _ = _
    rw [qread _ (k.val + 1) _ (off14_eq k)]
    exact hs _
  unfold trip
  dsimp only
  refine ⟨?_, ?_, ?_⟩
  · unfold trip.sl.r_11
    rw [b302, b303]
    rw [otile_writes arg8.view f8 k.val _ _ _ _ _ _ (k0_off15_eq k) (k0_off16_eq k) (k0_off17_eq k) (k0_off18_eq k)]
    rfl
  · exact hs f9
  · rw [View.read_writes_full, pay111_eq, a247, e0]; rfl

end Cert.Gqa

end
-- ==== Proof.GqaLoop.lean ====
/- The attention's outer loop: the buffers' contents trip by trip, and what they hold after some trips. -/
module

public import proofs.«01_k».proof.Proof.GqaOuter

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What trip `k` makes of the contents of the written buffers. -/
def next (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : ℕ) (s : BufTy.Contents (Elt F) arg8.view.ty × BufTy.Contents (Elt F) arg9.view.ty × BufTy.Contents (Elt F) arg12.view.ty × BufTy.Contents (Elt F) arg13.view.ty × BufTy.Contents (Elt F) arg14.view.ty × BufTy.Contents (Elt F) arg15.view.ty × BufTy.Contents (Elt F) arg16.view.ty) :
    BufTy.Contents (Elt F) arg8.view.ty × BufTy.Contents (Elt F) arg9.view.ty × BufTy.Contents (Elt F) arg12.view.ty × BufTy.Contents (Elt F) arg13.view.ty × BufTy.Contents (Elt F) arg14.view.ty × BufTy.Contents (Elt F) arg15.view.ty × BufTy.Contents (Elt F) arg16.view.ty :=
  if h : k < k0_t1_loop.trips then
    ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.2.2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, h⟩).2.2.2.2.2.2.1 (s.1) (s.2.1) (s.2.2.1) (s.2.2.2.1) (s.2.2.2.2.1) (s.2.2.2.2.2.1) (s.2.2.2.2.2.2))
  else s

/-- The contents of the written buffers after `k` trips, from those at entry. -/
def contents (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    ℕ → BufTy.Contents (Elt F) arg8.view.ty × BufTy.Contents (Elt F) arg9.view.ty × BufTy.Contents (Elt F) arg12.view.ty × BufTy.Contents (Elt F) arg13.view.ty × BufTy.Contents (Elt F) arg14.view.ty × BufTy.Contents (Elt F) arg15.view.ty × BufTy.Contents (Elt F) arg16.view.ty
  | 0 => (G8, G9, G12, G13, G14, G15, G16)
  | k + 1 => next c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k)

/-- One trip more. -/
theorem contents_succ (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : Fin k0_t1_loop.trips) :
    contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 (k.val + 1)
      = (fun s : BufTy.Contents (Elt F) arg8.view.ty × BufTy.Contents (Elt F) arg9.view.ty × BufTy.Contents (Elt F) arg12.view.ty × BufTy.Contents (Elt F) arg13.view.ty × BufTy.Contents (Elt F) arg14.view.ty × BufTy.Contents (Elt F) arg15.view.ty × BufTy.Contents (Elt F) arg16.view.ty => ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.2.2.2.2.1 s.1 s.2.1 s.2.2.1 s.2.2.2.1 s.2.2.2.2.1 s.2.2.2.2.2.1 s.2.2.2.2.2.2)) (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k.val) := by
  show next c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k.val (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k.val) = _
  generalize contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k.val = s
  exact dif_pos k.isLt

/-- The buffers before trip `k`. -/
abbrev loopHeld (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : ℕ) (_ : PUnit) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg10.view.loc (c : Thread nD τ) ↦[arg10.view.set]{fullShare} X10) ∗ (arg11.view.loc (c : Thread nD τ) ↦[arg11.view.set]{fullShare} X11) ∗ (∃ f, (arg8.view.loc (c : Thread nD τ) ↦[arg8.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).1⌝) ∗ (∃ f, (arg9.view.loc (c : Thread nD τ) ↦[arg9.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.1⌝) ∗ (∃ f, (arg12.view.loc (c : Thread nD τ) ↦[arg12.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.1⌝) ∗ (∃ f, (arg13.view.loc (c : Thread nD τ) ↦[arg13.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.1⌝) ∗ (∃ f, (arg14.view.loc (c : Thread nD τ) ↦[arg14.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.1⌝) ∗ (∃ f, (arg15.view.loc (c : Thread nD τ) ↦[arg15.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.2.1⌝) ∗ (∃ f, (arg16.view.loc (c : Thread nD τ) ↦[arg16.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.2.2⌝))

set_option maxHeartbeats 1600000 in
set_option warn.classDefReducibility false in
/-- The outer loop by its contents: one trip takes those before `k` to those before `k + 1`. -/
@[sl_loop] def outerLoop (c : Dev nD) (E : Set ℕ) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 where
  inv := loopHeld c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16
  step k acc := by
    iintro ⟨HR3, HR4, HR6, HR10, HR11, ⟨%f8, HW8, %h8⟩, ⟨%f9, HW9, %h9⟩, ⟨%f12, HW12, %h12⟩, ⟨%f13, HW13, %h13⟩, ⟨%f14, HW14, %h14⟩, ⟨%f15, HW15, %h15⟩, ⟨%f16, HW16, %h16⟩⟩
    iapply (wp_wand_r Idealize.ShloMosaic.frame (wpE (defs₀ (F := F)) Variants.none (c : Thread nD τ) none) E)
    isplitl [HR3 HR4 HR6 HR10 HR11 HW8 HW9 HW12 HW13 HW14 HW15 HW16]
    · iapply ((trip c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 k).2.2.2.2.2.2.2 E f8 f9 f12 f13 f14 f15 f16)
      isplitl [HR3]; · iexact HR3
      isplitl [HR4]; · iexact HR4
      isplitl [HR6]; · iexact HR6
      isplitl [HR10]; · iexact HR10
      isplitl [HR11]; · iexact HR11
      isplitl [HW8]; · iexact HW8
      isplitl [HW9]; · iexact HW9
      isplitl [HW12]; · iexact HW12
      isplitl [HW13]; · iexact HW13
      isplitl [HW14]; · iexact HW14
      isplitl [HW15]; · iexact HW15
      iexact HW16
    · iintro %_ ⟨HR3, HR4, HR6, HR10, HR11, HW8, HW9, HW12, HW13, HW14, HW15, HW16⟩
      isplitl [HR3]; · iexact HR3
      isplitl [HR4]; · iexact HR4
      isplitl [HR6]; · iexact HR6
      isplitl [HR10]; · iexact HR10
      isplitl [HR11]; · iexact HR11
      rw [contents_succ c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k]
      isplitl [HW8]
      · iexists _; isplitl [HW8]; · iexact HW8
        ipureintro; rw [h8, h9, h12, h13, h14, h15, h16]
      isplitl [HW9]
      · iexists _; isplitl [HW9]; · iexact HW9
        ipureintro; rw [h8, h9, h12, h13, h14, h15, h16]
      isplitl [HW12]
      · iexists _; isplitl [HW12]; · iexact HW12
        ipureintro; rw [h8, h9, h12, h13, h14, h15, h16]
      isplitl [HW13]
      · iexists _; isplitl [HW13]; · iexact HW13
        ipureintro; rw [h8, h9, h12, h13, h14, h15, h16]
      isplitl [HW14]
      · iexists _; isplitl [HW14]; · iexact HW14
        ipureintro; rw [h8, h9, h12, h13, h14, h15, h16]
      isplitl [HW15]
      · iexists _; isplitl [HW15]; · iexact HW15
        ipureintro; rw [h8, h9, h12, h13, h14, h15, h16]
      iexists _; isplitl [HW16]; · iexact HW16
      ipureintro; rw [h8, h9, h12, h13, h14, h15, h16]

/-- The result block: row tile by row tile, the tile of results of its query tile. -/
def oblock (x3 : Vec F S1x2048x512 .bf16) (x : Vec F S1x16384x128 .bf16) (x6 : Vec F S1x256x128 .bf16) (v : Vec F S32x144x512 .bf16)
    (x11 : Vec F S144x256 .bf16) : Vec F S1x2048x512 .bf16 :=
  fun y => oval x v x6 x11 (qtile x3 ((y 1).val / 256)) (ix3 (y 0) ⟨(y 1).val % 256, Nat.mod_lt _ (by decide)⟩ (y 2))

/-- After `k` trips: the first `k` row tiles are results, the next query tile lies in its slot, and its first scores are ready. -/
theorem contents_read (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)
    (x3 : Vec F S1x2048x512 .bf16) (x : Vec F S1x16384x128 .bf16) (x6 : Vec F S1x256x128 .bf16) (v : Vec F S32x144x512 .bf16)
    (x11 : Vec F S144x256 .bf16)
    (hx3 : arg3.view.read (Elt F) X3 = x3) (hx : arg4.view.read (Elt F) X4 = x) (hx6 : arg6.view.read (Elt F) X6 = x6)
    (hv : arg10.view.read (Elt F) X10 = v) (hx11 : arg11.view.read (Elt F) X11 = x11)
    (hq : qslot (arg9.view.read (Elt F) G9) 0 = qtile x3 0) (h12 : arg12.view.read (Elt F) G12 = scores x (qtile x3 0) 0) (k : ℕ) (hk : k ≤ k0_t1_loop.trips) :
    (∀ y : S1x2048x512.Idx, (y 1).val < 256 * k → arg8.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).1 y = oblock x3 x x6 v x11 y)
    ∧ qslot (arg9.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.1) k = qtile x3 (min k 7)
    ∧ arg12.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.1 = scores x (qtile x3 (min k 7)) 0 := by
  induction k with
  | zero => exact ⟨fun y hy => absurd hy (by omega), hq, h12⟩
  | succ k ih =>
    obtain ⟨i8, i9, i12⟩ := ih (by omega)
    have h8 : k < 8 := Nat.lt_of_lt_of_le hk k0_t1_abs.2.1
    obtain ⟨o8, o9, o12⟩ := outer_step c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 ⟨k, hk⟩ ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k).2.2.2.2.2.2) x3 x x6 v x11 (qtile x3 (min k 7)) hx3 hx hx6 hv hx11 i9 i12
    rw [contents_succ c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 ⟨k, hk⟩]
    refine ⟨fun y hy => ?_, o9, o12⟩
    dsimp only
    rw [o8]
    dsimp only
    by_cases e : (y 1).val / 256 = k
    · rw [if_pos e]
      unfold oblock
      rw [e, show min k 7 = k by omega]
    · rw [if_neg e]
      exact i8 y (by omega)

/-- After the loop the whole block is results. -/
theorem contents_end (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (G8 : BufTy.Contents (Elt F) arg8.view.ty) (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)
    (x3 : Vec F S1x2048x512 .bf16) (x : Vec F S1x16384x128 .bf16) (x6 : Vec F S1x256x128 .bf16) (v : Vec F S32x144x512 .bf16)
    (x11 : Vec F S144x256 .bf16)
    (hx3 : arg3.view.read (Elt F) X3 = x3) (hx : arg4.view.read (Elt F) X4 = x) (hx6 : arg6.view.read (Elt F) X6 = x6)
    (hv : arg10.view.read (Elt F) X10 = v) (hx11 : arg11.view.read (Elt F) X11 = x11)
    (hq : qslot (arg9.view.read (Elt F) G9) 0 = qtile x3 0) (h12 : arg12.view.read (Elt F) G12 = scores x (qtile x3 0) 0) :
    arg8.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 k0_t1_loop.trips).1 = oblock x3 x x6 v x11 := by
  have ht : k0_t1_loop.trips = 8 := by decide +kernel
  funext y
  have hy : (y 1).val < 2048 := (y 1).isLt
  exact (contents_read c i arg3 harg3 arg4 harg4 arg5 harg5 arg6 harg6 arg7 harg7 arg8 harg8 arg9 harg9 arg10 harg10 arg11 harg11 arg12 harg12 arg13 harg13 arg14 harg14 arg15 harg15 arg16 harg16 X3 X4 X6 X10 X11 G8 G9 G12 G13 G14 G15 G16 x3 x x6 v x11 hx3 hx hx6 hv hx11 hq h12 _ (le_refl _)).1 y (by rw [ht]; omega)

end Cert.Gqa

end
-- ==== Proof.GqaPanels.lean ====
/- The values transposed once per row of points: the panels with their rows of ones, and the stores that make them. -/
module

public import proofs.«01_k».proof.Proof.GqaLoop

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The transposed values with sixteen rows of ones under each panel. -/
def vpanels (x5 : Vec F S1x16384x128 .bf16) : Vec F S32x144x512 .bf16 :=
  fun y => if (y 1).val < 128 then k0_pay4 (kchunk x5 (y 0).val) (ix3 0 ⟨(y 1).val % 128, Nat.mod_lt _ (by decide)⟩ (y 2))
    else k0_pay5 (F := F) (ix3 0 ⟨((y 1).val - 128) % 16, Nat.mod_lt _ (by decide)⟩ (y 2))

/-- The transposed context values over sixteen rows of ones. -/
def cpanel (x7 : Vec F S1x256x128 .bf16) : Vec F S144x256 .bf16 :=
  fun y => if (y 0).val < 128 then k0_pay125 (k0_pay74 x7) (ix2 ⟨(y 0).val % 128, Nat.mod_lt _ (by decide)⟩ (y 1))
    else k0_pay126 (F := F) (ix2 ⟨((y 0).val - 128) % 16, Nat.mod_lt _ (by decide)⟩ (y 1))

/-- One more panel and its ones extend the panels already right. -/
theorem panel_step (w : View sig .tc .vmem S32x144x512 .bf16) (f : w.ty.Contents (Elt F)) (x5 : Vec F S1x16384x128 .bf16) (n : ℕ)
    (L : List (View.Piece (Elt F) S32x144x512 .bf16)) (p : Vec F S1x128x512 .bf16) (q : Vec F S1x16x512 .bf16) (i1 i2)
    (hp : p = k0_pay4 (kchunk x5 n)) (hq : q = k0_pay5)
    (h : ∀ y : S32x144x512.Idx, (y 0).val < n → w.read (Elt F) (w.writes (Elt F) f L) y = vpanels x5 y) :
    ∀ y : S32x144x512.Idx, (y 0).val < n + 1 → w.read (Elt F) (w.writes (Elt F) f
      ((⟨Rect.unit (s := S32x144x512) ![n, 128, 0] S1x16x512.size i2, q⟩ : View.Piece (Elt F) S32x144x512 .bf16) ::
       (⟨Rect.unit (s := S32x144x512) ![n, 0, 0] S1x128x512.size i1, p⟩ : View.Piece (Elt F) S32x144x512 .bf16) :: L)) y = vpanels x5 y := by
  intro y hy
  subst hp hq
  have h1 : (y 1).val < 144 := (y 1).isLt
  by_cases hn : (y 0).val < n
  · rw [View.read_writes_cons_unit_of_not_mem w f i2 _ _ y rfl 0 (Or.inl hn),
      View.read_writes_cons_unit_of_not_mem w f i1 _ _ y rfl 0 (Or.inl hn)]
    exact h y hn
  · have e : (y 0).val = n := by omega
    unfold vpanels
    by_cases hc : (y 1).val < 128
    · rw [View.read_writes_cons_unit_of_not_mem w f i2 _ _ y rfl 1 (Or.inl hc),
        View.read_writes_cons_unit_of_mem w f i1 _ _ y (ix3 0 ⟨(y 1).val % 128, Nat.mod_lt _ (by decide)⟩ (y 2) : S1x128x512.Idx) rfl
          (fun a => by
            match a with
            | ⟨0, _⟩ => show (y 0).val = n + 0; omega
            | ⟨1, _⟩ => show (y 1).val = 0 + (y 1).val % 128; omega
            | ⟨2, _⟩ => show (y 2).val = 0 + (y 2).val; omega), if_pos hc, e]
    · rw [View.read_writes_cons_unit_of_mem w f i2 _ _ y (ix3 0 ⟨((y 1).val - 128) % 16, Nat.mod_lt _ (by decide)⟩ (y 2) : S1x16x512.Idx) rfl
          (fun a => by
            match a with
            | ⟨0, _⟩ => show (y 0).val = n + 0; omega
            | ⟨1, _⟩ => show (y 1).val = 128 + ((y 1).val - 128) % 16; omega
            | ⟨2, _⟩ => show (y 2).val = 0 + (y 2).val; omega), if_neg hc]

/-- The two stores of the context values. -/
theorem cpanel_writes (w : View sig .tc .vmem S144x256 .bf16) (f : w.ty.Contents (Elt F)) (x7 : Vec F S1x256x128 .bf16)
    (p : Vec F S128x256 .bf16) (i1 i2) (hp : p = k0_pay125 (k0_pay74 x7)) :
    w.read (Elt F) (w.writes (Elt F) f
      [(⟨Rect.unit (s := S144x256) ![128, 0] S16x256.size i2, k0_pay126 (F := F)⟩ : View.Piece (Elt F) S144x256 .bf16),
       (⟨Rect.unit (s := S144x256) ![0, 0] S128x256.size i1, p⟩ : View.Piece (Elt F) S144x256 .bf16)]) = cpanel x7 := by
  funext y
  subst hp
  have h0 : (y 0).val < 144 := (y 0).isLt
  unfold cpanel
  by_cases hc : (y 0).val < 128
  · rw [View.read_writes_cons_unit_of_not_mem w f i2 _ _ y rfl 0 (Or.inl hc),
      View.read_writes_cons_unit_of_mem w f i1 _ _ y (ix2 ⟨(y 0).val % 128, Nat.mod_lt _ (by decide)⟩ (y 1) : S128x256.Idx) rfl
        (fun a => by
          match a with
          | ⟨0, _⟩ => show (y 0).val = 0 + (y 0).val % 128; omega
          | ⟨1, _⟩ => show (y 1).val = 0 + (y 1).val; omega), if_pos hc]
  · rw [View.read_writes_cons_unit_of_mem w f i2 _ _ y (ix2 ⟨((y 0).val - 128) % 16, Nat.mod_lt _ (by decide)⟩ (y 1) : S16x256.Idx) rfl
        (fun a => by
          match a with
          | ⟨0, _⟩ => show (y 0).val = 128 + ((y 0).val - 128) % 16; omega
          | ⟨1, _⟩ => show (y 1).val = 0 + (y 1).val; omega), if_neg hc]

/-- The condition of the body's conditional: the first point of a row of eight. -/
abbrev firstOf (i : grid0.Coords) : Prop :=
  Scalar.cmpi .ne (Scalar.extui (Scalar.cmpi .eq (BitVec.ofNat 32 (i 2).val) 0#32)) 0#32 = 1#1

end Cert.Gqa

end
-- ==== Proof.GqaRun.lean ====
/- The attention's body at a point where the transposed values are already there. -/
module

public import proofs.«01_k».proof.Proof.GqaPanels

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body at a later point of a row: the result block from the values transposed before. -/
theorem run_later (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (hc : ¬firstOf i)
    (x3 : Vec F S1x2048x512 .bf16) (x4 : Vec F S1x16384x128 .bf16) (x5 : Vec F S1x16384x128 .bf16) (x6 : Vec F S1x256x128 .bf16) (x7 : Vec F S1x256x128 .bf16) (v : Vec F S32x144x512 .bf16) (w : Vec F S144x256 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare v ∗ owns (c : Thread nD τ) arg11 fullShare w ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oblock x3 x4 x6 v w) ∗ (∃ d, owns (c : Thread nD τ) arg9 fullShare d) ∗ owns (c : Thread nD τ) arg10 fullShare v ∗ owns (c : Thread nD τ) arg11 fullShare w ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_gqa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gqa_attn_eq_skeleton]; unfold cc0_gqa_attn_skel
  simp only [k0_part24_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, %_, H8⟩, ⟨%d9, %f9, %_, H9⟩, ⟨%f10, %hf10, H10⟩, ⟨%f11, %hf11, H11⟩, ⟨%d12, %f12, %_, H12⟩, ⟨%d13, %f13, %_, H13⟩, ⟨%d14, %f14, %_, H14⟩, ⟨%d15, %f15, %_, H15⟩, ⟨%d16, %f16, %_, H16⟩, Hk⟩
  sl_exec (disch := first | sl_exact hc)
  have hG9 : ∃ G, G = arg9.view.writes (Elt F) f9 (run_later.sl.H9_4 c arg3 f3) := ⟨_, rfl⟩
  have hG12 : ∃ G, G = arg12.view.writes (Elt F) arg12.view.junk (run_later.sl.H12_1 c arg3 arg4 arg9 f3 f4) := ⟨_, rfl⟩
  obtain ⟨G9, hG9⟩ := hG9
  obtain ⟨G12, hG12⟩ := hG12
  rw [← hG9, ← hG12]
  sl_exec
  have t0 := fun inb => qrows_read f3 0 0 (by omega) (by omega) (off := ![0, 0, 0]) inb rfl
  have t1 := fun inb => qrows_read f3 0 1 (by omega) (by omega) (off := ![0, 0, 128]) inb rfl
  have t2 := fun inb => qrows_read f3 0 2 (by omega) (by omega) (off := ![0, 0, 256]) inb rfl
  have t3 := fun inb => qrows_read f3 0 3 (by omega) (by omega) (off := ![0, 0, 384]) inb rfl
  have e0 := fun inb => kread f4 0 (by omega) (off := ![0, 0, 0]) inb rfl
  rw [hf3] at t0 t1 t2 t3
  rw [hf4] at e0
  have hs : ∀ g : BufTy.Contents (Elt F) arg9.view.ty,
      qslot (arg9.view.read (Elt F) (arg9.view.writes (Elt F) g (run_later.sl.H9_4 c arg3 f3))) 0 = qtile x3 0 := by
    intro g
    unfold run_later.sl.H9_4
    rw [qslot_writes arg9.view g 0 _ _ _ _ _ _ _ _ rfl rfl rfl rfl,
      pay127_eq, pay128_eq, pay129_eq, t0, t1, t2, t3, qtile_eq]
  have hq : qslot (arg9.view.read (Elt F) G9) 0 = qtile x3 0 := by
    rw [hG9]; exact hs _
  have h12 : arg12.view.read (Elt F) G12 = scores x4 (qtile x3 0) 0 := by
    rw [hG12]
    unfold run_later.sl.H12_1
    have a47 : run_later.sl.v47 c arg3 arg9 f3 = qtile x3 0 := by
      unfold run_later.sl.v47
      show View.readAt (Elt F) arg9.view _ _ = _
      rw [qread _ 0 _ rfl]
      exact hs _
    rw [e0, a47]
    exact View.read_writes_full arg12.view _ _ _ _
  have hres := contents_end c i arg3 harg3 arg4 harg4 arg5 harg5 arg6 harg6 arg7 harg7 arg8 harg8 arg9 harg9 arg10 harg10 arg11 harg11 arg12 harg12 arg13 harg13 arg14 harg14 arg15 harg15 arg16 harg16 f3 f4 f6 f10 f11 f8 G9 G12 f13 f14 f15 f16 x3 x4 x6 _ _ hf3 hf4 hf6 hf10 hf11 hq h12
  sl_step
  iapply Hk
  isplitl [H3]
  · iexists _
    isplitr
    · ipureintro; exact hf3
    · iexact H3
  isplitl [H4]
  · iexists _
    isplitr
    · ipureintro; exact hf4
    · iexact H4
  isplitl [H5]
  · iexists _
    isplitr
    · ipureintro; exact hf5
    · iexact H5
  isplitl [H6]
  · iexists _
    isplitr
    · ipureintro; exact hf6
    · iexact H6
  isplitl [H7]
  · iexists _
    isplitr
    · ipureintro; exact hf7
    · iexact H7
  isplitl [H8]
  · iexists _
    isplitr
    · ipureintro; exact hres
    · iexact H8
  isplitl [H9]
  · iexists _; iexists _
    isplitr
    swap
    · iexact H9
    · ipureintro; rfl
  isplitl [H10]
  · iexists _
    isplitr
    · ipureintro; exact hf10
    · iexact H10
  isplitl [H11]
  · iexists _
    isplitr
    · ipureintro; exact hf11
    · iexact H11
  isplitl [H12]
  · iexists _; iexists _
    isplitr
    swap
    · iexact H12
    · ipureintro; rfl
  isplitl [H13]
  · iexists _; iexists _
    isplitr
    swap
    · iexact H13
    · ipureintro; rfl
  isplitl [H14]
  · iexists _; iexists _
    isplitr
    swap
    · iexact H14
    · ipureintro; rfl
  isplitl [H15]
  · iexists _; iexists _
    isplitr
    swap
    · iexact H15
    · ipureintro; rfl
  · iexists _; iexists _
    isplitr
    swap
    · iexact H16
    · ipureintro; rfl

end Cert.Gqa

end
-- ==== Proof.GqaFirst.lean ====
/- The attention's body at the first point of a row, where the values are transposed. -/
module

public import proofs.«01_k».proof.Proof.GqaRun

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body at the first point of a row: the transposed values and the result block. -/
theorem run_first (c : Dev nD) (i : grid0.Coords) (arg3 : Memref sig .tc .vmem S1x2048x512 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x2048x512 .bf16) (harg8 : arg8.IsWhole) (arg9 : Memref sig .tc .vmem S2x128x1024 .bf16) (harg9 : arg9.IsWhole) (arg10 : Memref sig .tc .vmem S32x144x512 .bf16) (harg10 : arg10.IsWhole) (arg11 : Memref sig .tc .vmem S144x256 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S144x1024 .f32) (harg16 : arg16.IsWhole) (hc : firstOf i)
    (x3 : Vec F S1x2048x512 .bf16) (x4 : Vec F S1x16384x128 .bf16) (x5 : Vec F S1x16384x128 .bf16) (x6 : Vec F S1x256x128 .bf16) (x7 : Vec F S1x256x128 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oblock x3 x4 x6 (vpanels x5) (cpanel x7)) ∗ (∃ d, owns (c : Thread nD τ) arg9 fullShare d) ∗ owns (c : Thread nD τ) arg10 fullShare (vpanels x5) ∗ owns (c : Thread nD τ) arg11 fullShare (cpanel x7) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_gqa_attn i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gqa_attn_eq_skeleton]; unfold cc0_gqa_attn_skel
  simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, %_, H8⟩, ⟨%d9, %f9, %_, H9⟩, ⟨%d10, %f10, %_, H10⟩, ⟨%d11, %f11, %_, H11⟩, ⟨%d12, %f12, %_, H12⟩, ⟨%d13, %f13, %_, H13⟩, ⟨%d14, %f14, %_, H14⟩, ⟨%d15, %f15, %_, H15⟩, ⟨%d16, %f16, %_, H16⟩, Hk⟩
  sl_exec (disch := first | sl_exact hc)
  have hG9 : ∃ G, G = arg9.view.writes (Elt F) f9 (run_first.sl.H9_4 c arg3 f3) := ⟨_, rfl⟩
  have hG10 : ∃ G, G = arg10.view.writes (Elt F) arg10.view.junk (run_first.sl.H10_64 c arg5 f5) := ⟨_, rfl⟩
  have hG11 : ∃ G, G = arg11.view.writes (Elt F) arg11.view.junk (run_first.sl.H11_2 c arg7 f7) := ⟨_, rfl⟩
  have hG12 : ∃ G, G = arg12.view.writes (Elt F) arg12.view.junk (run_first.sl.H12_1 c arg3 arg4 arg9 f3 f4) := ⟨_, rfl⟩
  obtain ⟨G9, hG9⟩ := hG9
  obtain ⟨G10, hG10⟩ := hG10
  obtain ⟨G11, hG11⟩ := hG11
  obtain ⟨G12, hG12⟩ := hG12
  rw [← hG9, ← hG10, ← hG11, ← hG12]
  sl_exec
  have e5 : ∀ (n : ℕ) (hn : n < 32) {off : Fin 3 → ℕ} (inb) (h : off = ![0, 512 * n, 0]),
      View.readAt (Elt F) arg5.view (Rect.unit (s := S1x16384x128) off S1x512x128.size inb).toLoadRect f5 = kchunk x5 n :=
    fun n hn off inb h => (kread f5 n hn inb h).trans (by rw [hf5])
  have h10 : arg10.view.read (Elt F) G10 = vpanels x5 := by
    rw [hG10]
    unfold run_first.sl.H10_64
    funext y
    exact (panel_step _ _ x5 31 _ _ _ _ _ (congrArg k0_pay4 (e5 31 (by omega) _ rfl)) rfl (panel_step _ _ x5 30 _ _ _ _ _ (congrArg k0_pay4 (e5 30 (by omega) _ rfl)) rfl (panel_step _ _ x5 29 _ _ _ _ _ (congrArg k0_pay4 (e5 29 (by omega) _ rfl)) rfl (panel_step _ _ x5 28 _ _ _ _ _ (congrArg k0_pay4 (e5 28 (by omega) _ rfl)) rfl
        (panel_step _ _ x5 27 _ _ _ _ _ (congrArg k0_pay4 (e5 27 (by omega) _ rfl)) rfl (panel_step _ _ x5 26 _ _ _ _ _ (congrArg k0_pay4 (e5 26 (by omega) _ rfl)) rfl (panel_step _ _ x5 25 _ _ _ _ _ (congrArg k0_pay4 (e5 25 (by omega) _ rfl)) rfl (panel_step _ _ x5 24 _ _ _ _ _ (congrArg k0_pay4 (e5 24 (by omega) _ rfl)) rfl
        (panel_step _ _ x5 23 _ _ _ _ _ (congrArg k0_pay4 (e5 23 (by omega) _ rfl)) rfl (panel_step _ _ x5 22 _ _ _ _ _ (congrArg k0_pay4 (e5 22 (by omega) _ rfl)) rfl (panel_step _ _ x5 21 _ _ _ _ _ (congrArg k0_pay4 (e5 21 (by omega) _ rfl)) rfl (panel_step _ _ x5 20 _ _ _ _ _ (congrArg k0_pay4 (e5 20 (by omega) _ rfl)) rfl
        (panel_step _ _ x5 19 _ _ _ _ _ (congrArg k0_pay4 (e5 19 (by omega) _ rfl)) rfl (panel_step _ _ x5 18 _ _ _ _ _ (congrArg k0_pay4 (e5 18 (by omega) _ rfl)) rfl (panel_step _ _ x5 17 _ _ _ _ _ (congrArg k0_pay4 (e5 17 (by omega) _ rfl)) rfl (panel_step _ _ x5 16 _ _ _ _ _ (congrArg k0_pay4 (e5 16 (by omega) _ rfl)) rfl
        (panel_step _ _ x5 15 _ _ _ _ _ (congrArg k0_pay4 (e5 15 (by omega) _ rfl)) rfl (panel_step _ _ x5 14 _ _ _ _ _ (congrArg k0_pay4 (e5 14 (by omega) _ rfl)) rfl (panel_step _ _ x5 13 _ _ _ _ _ (congrArg k0_pay4 (e5 13 (by omega) _ rfl)) rfl (panel_step _ _ x5 12 _ _ _ _ _ (congrArg k0_pay4 (e5 12 (by omega) _ rfl)) rfl
        (panel_step _ _ x5 11 _ _ _ _ _ (congrArg k0_pay4 (e5 11 (by omega) _ rfl)) rfl (panel_step _ _ x5 10 _ _ _ _ _ (congrArg k0_pay4 (e5 10 (by omega) _ rfl)) rfl (panel_step _ _ x5 9 _ _ _ _ _ (congrArg k0_pay4 (e5 9 (by omega) _ rfl)) rfl (panel_step _ _ x5 8 _ _ _ _ _ (congrArg k0_pay4 (e5 8 (by omega) _ rfl)) rfl
        (panel_step _ _ x5 7 _ _ _ _ _ (congrArg k0_pay4 (e5 7 (by omega) _ rfl)) rfl (panel_step _ _ x5 6 _ _ _ _ _ (congrArg k0_pay4 (e5 6 (by omega) _ rfl)) rfl (panel_step _ _ x5 5 _ _ _ _ _ (congrArg k0_pay4 (e5 5 (by omega) _ rfl)) rfl (panel_step _ _ x5 4 _ _ _ _ _ (congrArg k0_pay4 (e5 4 (by omega) _ rfl)) rfl
        (panel_step _ _ x5 3 _ _ _ _ _ (congrArg k0_pay4 (e5 3 (by omega) _ rfl)) rfl (panel_step _ _ x5 2 _ _ _ _ _ (congrArg k0_pay4 (e5 2 (by omega) _ rfl)) rfl (panel_step _ _ x5 1 _ _ _ _ _ (congrArg k0_pay4 (e5 1 (by omega) _ rfl)) rfl (panel_step _ _ x5 0 _ _ _ _ _ (congrArg k0_pay4 (e5 0 (by omega) _ rfl)) rfl
        (fun y hy => absurd hy (Nat.not_lt_zero _)))))))))))))))))))))))))))))))))) y (y 0).isLt
  have h11 : arg11.view.read (Elt F) G11 = cpanel x7 := by
    rw [hG11]
    unfold run_first.sl.H11_2
    exact cpanel_writes _ _ x7 _ _ _ (congrArg (fun z => k0_pay125 (k0_pay74 z)) ((View.readAt_full arg7.view f7 _).trans hf7))
  have t0 := fun inb => qrows_read f3 0 0 (by omega) (by omega) (off := ![0, 0, 0]) inb rfl
  have t1 := fun inb => qrows_read f3 0 1 (by omega) (by omega) (off := ![0, 0, 128]) inb rfl
  have t2 := fun inb => qrows_read f3 0 2 (by omega) (by omega) (off := ![0, 0, 256]) inb rfl
  have t3 := fun inb => qrows_read f3 0 3 (by omega) (by omega) (off := ![0, 0, 384]) inb rfl
  have e0 := fun inb => kread f4 0 (by omega) (off := ![0, 0, 0]) inb rfl
  rw [hf3] at t0 t1 t2 t3
  rw [hf4] at e0
  have hs : ∀ g : BufTy.Contents (Elt F) arg9.view.ty,
      qslot (arg9.view.read (Elt F) (arg9.view.writes (Elt F) g (run_first.sl.H9_4 c arg3 f3))) 0 = qtile x3 0 := by
    intro g
    unfold run_first.sl.H9_4
    rw [qslot_writes arg9.view g 0 _ _ _ _ _ _ _ _ rfl rfl rfl rfl,
      pay127_eq, pay128_eq, pay129_eq, t0, t1, t2, t3, qtile_eq]
  have hq : qslot (arg9.view.read (Elt F) G9) 0 = qtile x3 0 := by
    rw [hG9]; exact hs _
  have h12 : arg12.view.read (Elt F) G12 = scores x4 (qtile x3 0) 0 := by
    rw [hG12]
    unfold run_first.sl.H12_1
    have a47 : run_first.sl.v47 c arg3 arg9 f3 = qtile x3 0 := by
      unfold run_first.sl.v47
      show View.readAt (Elt F) arg9.view _ _ = _
      rw [qread _ 0 _ rfl]
      exact hs _
    rw [e0, a47]
    exact View.read_writes_full arg12.view _ _ _ _
  have hres := contents_end c i arg3 harg3 arg4 harg4 arg5 harg5 arg6 harg6 arg7 harg7 arg8 harg8 arg9 harg9 arg10 harg10 arg11 harg11 arg12 harg12 arg13 harg13 arg14 harg14 arg15 harg15 arg16 harg16 f3 f4 f6 G10 G11 f8 G9 G12 f13 f14 f15 f16 x3 x4 x6 _ _ hf3 hf4 hf6 h10 h11 hq h12
  sl_step
  iapply Hk
  isplitl [H3]
  · iexists _
    isplitr
    · ipureintro; exact hf3
    · iexact H3
  isplitl [H4]
  · iexists _
    isplitr
    · ipureintro; exact hf4
    · iexact H4
  isplitl [H5]
  · iexists _
    isplitr
    · ipureintro; exact hf5
    · iexact H5
  isplitl [H6]
  · iexists _
    isplitr
    · ipureintro; exact hf6
    · iexact H6
  isplitl [H7]
  · iexists _
    isplitr
    · ipureintro; exact hf7
    · iexact H7
  isplitl [H8]
  · iexists _
    isplitr
    · ipureintro; exact hres
    · iexact H8
  isplitl [H9]
  · iexists _; iexists _
    isplitr
    swap
    · iexact H9
    · ipureintro; rfl
  isplitl [H10]
  · iexists _
    isplitr
    · ipureintro; exact h10
    · iexact H10
  isplitl [H11]
  · iexists _
    isplitr
    · ipureintro; exact h11
    · iexact H11
  isplitl [H12]
  · iexists _; iexists _
    isplitr
    swap
    · iexact H12
    · ipureintro; rfl
  isplitl [H13]
  · iexists _; iexists _
    isplitr
    swap
    · iexact H13
    · ipureintro; rfl
  isplitl [H14]
  · iexists _; iexists _
    isplitr
    swap
    · iexact H14
    · ipureintro; rfl
  isplitl [H15]
  · iexists _; iexists _
    isplitr
    swap
    · iexact H15
    · ipureintro; rfl
  · iexists _; iexists _
    isplitr
    swap
    · iexact H16
    · ipureintro; rfl

end Cert.Gqa

end
-- ==== Proof.GqaFrame.lean ====
/- The attention kernel's run: the contents of the windows and of the carried scratch point by point, and the frame. -/
module

public import proofs.«01_k».proof.Proof.GqaFirst
public import proofs.«01_k».proof.Proof.Gen.KernelIdeal.Frame
public import Idealize.ShloMosaic.Lib.Claim

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition holds at the first point of each row of eight. -/
theorem firstOf_iff : ∀ t : Fin cfg0.N, firstOf (grid0.coords t) ↔ t.val % 8 = 0 :=
  (fun t => by
    have ht : t.val < 32 := Nat.lt_of_lt_of_eq t.isLt N_0
    have e2 : (grid0.coords t 2).val = t.val / 1 % 8 := Pipeline.Grid.coords_val t 2 (by decide) rfl
    simp only [firstOf, e2]
    word_cmp
   : ∀ t : Fin grid0.N, firstOf (grid0.coords t) ↔ t.val % 8 = 0)

/-- The whole scratch buffer 0. -/
abbrev scr9 : Memref sig .tc .vmem S2x128x1024 .bf16 := Memref.whole cc0_scratch0
/-- The whole scratch buffer 1. -/
abbrev scr10 : Memref sig .tc .vmem S32x144x512 .bf16 := Memref.whole cc0_scratch1
/-- The whole scratch buffer 2. -/
abbrev scr11 : Memref sig .tc .vmem S144x256 .bf16 := Memref.whole cc0_scratch2
/-- The whole scratch buffer 3. -/
abbrev scr12 : Memref sig .tc .vmem S512x1024 .f32 := Memref.whole cc0_scratch3
/-- The whole scratch buffer 4. -/
abbrev scr13 : Memref sig .tc .vmem S512x1024 .f32 := Memref.whole cc0_scratch4
/-- The whole scratch buffer 5. -/
abbrev scr14 : Memref sig .tc .vmem S256x1024 .f32 := Memref.whole cc0_scratch5
/-- The whole scratch buffer 6. -/
abbrev scr15 : Memref sig .tc .vmem S1x1024 .f32 := Memref.whole cc0_scratch6
/-- The whole scratch buffer 7. -/
abbrev scr16 : Memref sig .tc .vmem S144x1024 .f32 := Memref.whole cc0_scratch7
/-- The staging buffer of window 0 at a point. -/
abbrev stg0 (t : Fin cfg0.N) : Memref sig .tc .vmem S1x2048x512 .bf16 := win0_0.stage (cfg0.slots t 0)
/-- The staging buffer of window 1 at a point. -/
abbrev stg1 (t : Fin cfg0.N) : Memref sig .tc .vmem S1x16384x128 .bf16 := win0_1.stage (cfg0.slots t 1)
/-- The staging buffer of window 2 at a point. -/
abbrev stg2 (t : Fin cfg0.N) : Memref sig .tc .vmem S1x16384x128 .bf16 := win0_2.stage (cfg0.slots t 2)
/-- The staging buffer of window 3 at a point. -/
abbrev stg3 (t : Fin cfg0.N) : Memref sig .tc .vmem S1x256x128 .bf16 := win0_3.stage (cfg0.slots t 3)
/-- The staging buffer of window 4 at a point. -/
abbrev stg4 (t : Fin cfg0.N) : Memref sig .tc .vmem S1x256x128 .bf16 := win0_4.stage (cfg0.slots t 4)
/-- The staging buffer of window 5 at a point. -/
abbrev stg5 (t : Fin cfg0.N) : Memref sig .tc .vmem S1x2048x512 .bf16 := win0_5.stage (cfg0.slots t 5)

/-- The invariant before the first point: every scratch buffer at some contents. -/
theorem phiA_eq (c : Dev nD) :
    (Pipeline.ΦA spec0 c : sProp 𝕄) = iprop(((∃ d, owns (c : Thread nD τ) scr9 fullShare d) ∗ (∃ d, owns (c : Thread nD τ) scr10 fullShare d) ∗ (∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d)) ∗ (∃ r, prngReg c r)) := by
  unfold Pipeline.ΦA; rw [scopedRest0_eq]; simp only [scr9, scr10, scr11, scr12, scr13, scr14, scr15, scr16, owns_whole]; try rfl

/-- The first point of the row of eight a point lies in. -/
def base (t : Fin cfg0.N) : Fin cfg0.N := ⟨t.val / 8 * 8, lt_of_le_of_lt (Nat.div_mul_le_self _ _) t.isLt⟩

theorem base_first (t : Fin cfg0.N) (h : t.val % 8 = 0) : base t = t := Fin.ext (by show t.val / 8 * 8 = t.val; omega)

theorem base_later (t : Fin cfg0.N) (h : ¬t.val % 8 = 0) (h' : t.val - 1 < cfg0.N) : base ⟨t.val - 1, h'⟩ = base t :=
  Fin.ext (by show (t.val - 1) / 8 * 8 = t.val / 8 * 8; omega)

/-- The transposed values of a point's row. -/
def vrow (c : Dev nD) (t : Fin cfg0.N) : Vec F S32x144x512 .bf16 := vpanels (iblk m c 2 (base t))

/-- The transposed context values of a point's row. -/
def crow (c : Dev nD) (t : Fin cfg0.N) : Vec F S144x256 .bf16 := cpanel (iblk m c 4 (base t))

/-- The block of results a point leaves. -/
def outAt (c : Dev nD) (t : Fin cfg0.N) : Vec F S1x2048x512 .bf16 :=
  oblock (X0_0 m c t) (iblk m c 1 t) (iblk m c 3 t) (vrow m c t) (crow m c t)

/-- The invariant before position `n`: after a point the two transposed buffers hold that point's row. -/
def phi (c : Dev nD) : (n : ℕ) → n ≤ cfg0.N → sProp 𝕄
  | 0, _ => Pipeline.ΦA spec0 c
  | n + 1, hn => iprop(((∃ d, owns (c : Thread nD τ) scr9 fullShare d) ∗ owns (c : Thread nD τ) scr10 fullShare (vrow m c ⟨n, hn⟩) ∗ owns (c : Thread nD τ) scr11 fullShare (crow m c ⟨n, hn⟩) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d)) ∗ (∃ r, prngReg c r))

theorem phi_zero (c : Dev nD) (n : ℕ) (h : n ≤ cfg0.N) (hz : n = 0) : phi m c n h = Pipeline.ΦA spec0 c := by
  subst hz; rfl

theorem phi_succ (c : Dev nD) (n : ℕ) (hn : n < cfg0.N) :
    phi m c (n + 1) hn = iprop(((∃ d, owns (c : Thread nD τ) scr9 fullShare d) ∗ owns (c : Thread nD τ) scr10 fullShare (vrow m c ⟨n, hn⟩) ∗ owns (c : Thread nD τ) scr11 fullShare (crow m c ⟨n, hn⟩) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d)) ∗ (∃ r, prngReg c r)) := rfl

theorem phi_pos (c : Dev nD) (n : ℕ) (h : n ≤ cfg0.N) (hz : n ≠ 0) :
    phi m c n h = iprop(((∃ d, owns (c : Thread nD τ) scr9 fullShare d) ∗ owns (c : Thread nD τ) scr10 fullShare (vrow m c ⟨n - 1, by omega⟩) ∗ owns (c : Thread nD τ) scr11 fullShare (crow m c ⟨n - 1, by omega⟩) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d)) ∗ (∃ r, prngReg c r)) := by
  cases n with
  | zero => exact absurd rfl hz
  | succ n => rfl

/-- Whatever the position, every scratch buffer is at some contents. -/
theorem phi_any (c : Dev nD) (n : ℕ) (h : n ≤ cfg0.N) :
    phi m c n h ⊢ iprop(((∃ d, owns (c : Thread nD τ) scr9 fullShare d) ∗ (∃ d, owns (c : Thread nD τ) scr10 fullShare d) ∗ (∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d)) ∗ (∃ r, prngReg c r)) := by
  by_cases hz : n = 0
  · rw [phi_zero m c n h hz, phiA_eq]
  · rw [phi_pos m c n h hz]
    iintro ⟨⟨H9, H10, H11, H12, H13, H14, H15, H16⟩, Hg⟩
    isplitr [Hg]
    · isplitl [H9]
      · iexact H9
      isplitl [H10]
      · iexists _; iexact H10
      isplitl [H11]
      · iexists _; iexact H11
      isplitl [H12]
      · iexact H12
      isplitl [H13]
      · iexact H13
      isplitl [H14]
      · iexact H14
      isplitl [H15]
      · iexact H15
      iexact H16
    iexact Hg

/-- The proof data: the arrays as the region finds them, each input left in place, the result at `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = phi m c t.val (Nat.le_of_lt t.isLt) := by
  dsimp only [dats]; exact Pipeline.Dat.Φ_castSucc (phi m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t))

set_option maxHeartbeats 1600000 in
/-- The body at any point: at the first of a row it transposes the values, at a later one it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = phi m c (t.val + 1) t.isLt from rfl, phi_succ, phi_castSucc m c t]
  have hN : t.val < 32 := lt_of_lt_of_eq t.isLt (show cfg0.N = 32 from N_0)
  by_cases h0 : t.val % 8 = 0
  · refine BI.Entails.trans (BI.sep_mono (phi_any m c t.val _) (BI.Entails.refl _)) ?_
    show (iprop(_ ∗ _) : sProp 𝕄) ⊢ _
    have eo : outAt m c t = oblock (X0_0 m c t) (iblk m c 1 t) (iblk m c 3 t) (vpanels (iblk m c 2 t)) (cpanel (iblk m c 4 t)) := by
      unfold outAt vrow crow; rw [base_first t h0]
    have ev : vrow m c ⟨t.val, t.isLt⟩ = vpanels (iblk m c 2 t) := by unfold vrow; rw [base_first _ h0]
    have ec : crow m c ⟨t.val, t.isLt⟩ = cpanel (iblk m c 4 t) := by unfold crow; rw [base_first _ h0]
    rw [eo, ev, ec]
    iintro ⟨⟨⟨H9, H10, H11, H12, H13, H14, H15, H16⟩, Hg⟩, Ho, ⟨%d0, H3⟩, ⟨%d1, H4⟩, ⟨%d2, H5⟩, ⟨%d3, H6⟩, ⟨%d4, H7⟩, ⟨%d5, H8⟩⟩
    iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((firstOf_iff t).mpr h0) (X0_0 m c t) (iblk m c 1 t) (iblk m c 2 t) (iblk m c 3 t) (iblk m c 4 t) Set.univ _)
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    iintro ⟨H3, H4, H5, H6, H7, H8, H9, H10, H11, H12, H13, H14, H15, H16⟩
    isplitl [H9 H10 H11 H12 H13 H14 H15 H16 Hg]
    · isplitr [Hg]
      · isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        iexact H16
      iexact Hg
    isplitl [Ho]
    · iexact Ho
    isplitl [H3]
    · iexact H3
    isplitl [H4]
    · iexact H4
    isplitl [H5]
    · iexact H5
    isplitl [H6]
    · iexact H6
    isplitl [H7]
    · iexact H7
    iexact H8
  · rw [phi_pos m c t.val _ (by omega)]
    have ev : vrow m c ⟨t.val - 1, by omega⟩ = vrow m c t := by unfold vrow; rw [base_later t h0]
    have ec : crow m c ⟨t.val - 1, by omega⟩ = crow m c t := by unfold crow; rw [base_later t h0]
    rw [ev, ec]
    iintro ⟨⟨⟨H9, H10, H11, H12, H13, H14, H15, H16⟩, Hg⟩, Ho, ⟨%d0, H3⟩, ⟨%d1, H4⟩, ⟨%d2, H5⟩, ⟨%d3, H6⟩, ⟨%d4, H7⟩, ⟨%d5, H8⟩⟩
    iapply (run_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun h => h0 ((firstOf_iff t).mp h)) (X0_0 m c t) (iblk m c 1 t) (iblk m c 2 t) (iblk m c 3 t) (iblk m c 4 t) (vrow m c t) (crow m c t) Set.univ _)
    isplitl [H3]
    · iexact H3
    isplitl [H4]
    · iexact H4
    isplitl [H5]
    · iexact H5
    isplitl [H6]
    · iexact H6
    isplitl [H7]
    · iexact H7
    isplitl [H8]
    · iexists _; iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    iintro ⟨H3, H4, H5, H6, H7, H8, H9, H10, H11, H12, H13, H14, H15, H16⟩
    isplitl [H9 H10 H11 H12 H13 H14 H15 H16 Hg]
    · isplitr [Hg]
      · isplitl [H9]
        · iexact H9
        isplitl [H10]
        · iexact H10
        isplitl [H11]
        · iexact H11
        isplitl [H12]
        · iexact H12
        isplitl [H13]
        · iexact H13
        isplitl [H14]
        · iexact H14
        isplitl [H15]
        · iexact H15
        iexact H16
      iexact Hg
    isplitl [Ho]
    · iexact Ho
    isplitl [H3]
    · iexact H3
    isplitl [H4]
    · iexact H4
    isplitl [H5]
    · iexact H5
    isplitl [H6]
    · iexact H6
    isplitl [H7]
    · iexact H7
    iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem hin (c : Dev nD) : Pipeline.ΦA spec0 c ⊢ (dats m 0 c).Φ 0 := by
  rw [show (dats m 0 c).Φ 0 = phi m c 0 (Nat.zero_le _) from rfl, phi_zero m c 0 _ rfl]
  try exact Idealize.SL.BI.Entails.refl _

/-- and takes it back after the last. -/
theorem hout (c : Dev nD) : (dats m 0 c).Φ (Fin.last cfg0.N) ⊢ Pipeline.ΦA spec0 c := by
  rw [show (dats m 0 c).Φ (Fin.last cfg0.N) = phi m c cfg0.N (Nat.le_refl _) from rfl, phiA_eq]
  exact phi_any m c _ _

set_option backward.isDefEq.respectTransparency.types false in
/-- Every execution ends with the arrays as the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Gqa

end
-- ==== Proof.QkFacts.lean ====
/- The facts over which the precondition of the attention's claim is stated. -/
module

public import proofs.«01_k».proof.Pre_qk_finite

@[expose] public section

noncomputable section

namespace Cert.Gqa

open Idealize.ShloMosaic Cert.Pre_qk_finite

theorem bcast_q : S_.BroadcastsInDim S2x16384x1024 (![] : Fin 0 → Fin S2x16384x1024.rank) := by decide
theorem reduces_q : S2x16384x1024.ReducesTo [0, 1, 2] S_ := by decide
theorem one_pos : 0 < S_.numel := by decide
theorem bcast_k : S_.BroadcastsInDim S2x16384x256 (![] : Fin 0 → Fin S2x16384x256.rank) := by decide
theorem reduces_k : S2x16384x256.ReducesTo [0, 1, 2] S_ := by decide
theorem bcast_kc : S_.BroadcastsInDim S2x256x256 (![] : Fin 0 → Fin S2x256x256.rank) := by decide
theorem reduces_kc : S2x256x256.ReducesTo [0, 1, 2] S_ := by decide

/-- The side conditions of the precondition hold. -/
instance preFacts : Cert.Pre_qk_finite.Facts where
  bcast_S_S2x16384x1024 := bcast_q
  reducesTo_S2x16384x1024_S_d0_1_2 := reduces_q
  h_S_ := one_pos
  bcast_S_S2x16384x256 := bcast_k
  reducesTo_S2x16384x256_S_d0_1_2 := reduces_k
  bcast_S_S2x256x256 := bcast_kc
  reducesTo_S2x256x256_S_d0_1_2 := reduces_kc

end Cert.Gqa

end
-- ==== Proof.GqaSame.lean ====
/- The attention's kernel at the machine's bits has the text of the kernel the run is proved for, so its body table is the same. -/
module

public import proofs.«01_k».proof.Defs
public import proofs.«01_k».proof.Proof.Gen.Kernel
public import proofs.«01_k».proof.Proof.Gen.KernelIdeal

@[expose] public section

set_option maxRecDepth 16384

noncomputable section

namespace Cert.Gqa

open Idealize.ShloMosaic Idealize.ShloMosaic.TcCoe

theorem body_same : @Cert.Kernel.cc0_gqa_attn Bits _ Cert.Kernel.Gen.facts
    = @Cert.KernelIdeal.cc0_gqa_attn Bits _ Cert.KernelIdeal.Gen.facts := rfl

theorem table_same : @Cert.Kernel.defs₀ Bits _ Cert.Kernel.Gen.facts = @Cert.KernelIdeal.defs₀ Bits _ Cert.KernelIdeal.Gen.facts :=
  congrArg Defs.onTc (funext fun l => match l with
    | ⟨0, _⟩ => funext fun ⟨t, s⟩ => by
        show Cert.Kernel.cc0_gqa_attn _ _ _ _ _ _ _ _ _ _ _ _ _ _ _ _ _ _ _ _ _ _ _ _ _ _ _ _ _ = _
        rw [body_same]; rfl
    | ⟨n + 1, h⟩ => absurd h (Nat.not_lt.2 (Nat.le_add_left _ _)))

theorem defs_same : @Cert.Kernel.defs Bits _ Cert.Kernel.Gen.facts = @Cert.KernelIdeal.defs Bits _ Cert.KernelIdeal.Gen.facts :=
  congrArg (Pipeline.defs Cert.KernelIdeal.pcfgs) table_same

end Cert.Gqa

end
-- ==== Proof.GqaMath.lean ====
/- The attention's payloads at one index, over the extended reals. -/
module

public import proofs.«01_k».proof.Proof.GqaTiles
public import proofs.«01_k».proof.Proof.GqaPanels
public import Idealize.ShloMosaic.Lib.Pointwise

@[expose] public section

set_option maxRecDepth 16384

noncomputable section

namespace Cert.Gqa

open Cert.KernelIdeal Cert.KernelIdeal.Gen Idealize.ShloMosaic Idealize.ShloMosaic.TcCoe

/-- The pattern the running maximum starts from is minus infinity. -/
theorem negInf : Ideal.ofBits FTy.f32 4286578688#32 = ⊥ := by
  simp [Ideal.ofBits, Ideal.ieee]

theorem pay1_apply (a : Vec Ideal S1x256x128 .bf16) (d : Fin 128) (i : Fin 256) :
    k0_pay1 a (ix3 0 d i) = a (ix3 0 i d) := by
  pointwise [k0_pay1]

theorem pay2_apply (a : Vec Ideal S1x512x128 .bf16) (q : Vec Ideal S1x128x1024 .bf16) (r : Fin 512) (l : Fin 1024) :
    k0_pay2 a q (ix2 r l) = ∑ d : Fin 128, a (ix3 0 r d) * q (ix3 0 d l) := by
  pointwise [k0_pay2]

theorem pay101_apply (a : Vec Ideal S1x256x128 .bf16) (q : Vec Ideal S1x128x1024 .bf16) (r : Fin 256) (l : Fin 1024) :
    k0_pay101 a q (ix2 r l) = ∑ d : Fin 128, a (ix3 0 r d) * q (ix3 0 d l) := by
  pointwise [k0_pay101]

theorem pay4_apply (a : Vec Ideal S1x512x128 .bf16) (d : Fin 128) (i : Fin 512) :
    k0_pay4 a (ix3 0 d i) = a (ix3 0 i d) := by
  pointwise [k0_pay4]

theorem pay5_apply (d : Fin 16) (i : Fin 512) : k0_pay5 (F := Ideal) (ix3 0 d i) = 1 := by
  pointwise [k0_pay5]

theorem pay126_apply (d : Fin 16) (i : Fin 256) : k0_pay126 (F := Ideal) (ix2 d i) = 1 := by
  pointwise [k0_pay126]

theorem pay125_apply (a : Vec Ideal S1x256x128 .bf16) (d : Fin 128) (i : Fin 256) :
    k0_pay125 (k0_pay74 a) (ix2 d i) = a (ix3 0 i d) := by
  pointwise [k0_pay125, k0_pay74]

theorem pay85_apply (l : Fin 1024) : k0_pay85 (F := Ideal) (ix2 0 l) = ⊥ := by
  pointwise [k0_pay85]
  exact negInf

theorem pay86_apply (e : Fin 144) (l : Fin 1024) : k0_pay86 (F := Ideal) (ix2 e l) = 0 := by
  pointwise [k0_pay86]

theorem pay76_apply (m : Vec Ideal S1x1024 .f32) (s : Vec Ideal S512x1024 .f32) (l : Fin 1024) :
    k0_pay76 m s (ix2 0 l) = max (m (ix2 0 l)) (Finset.univ.sup fun r : Fin 512 => s (ix2 r l)) := by
  pointwise [k0_pay76]
  rw [negInf]; rfl

theorem pay116_apply (m : Vec Ideal S1x1024 .f32) (s : Vec Ideal S256x1024 .f32) (l : Fin 1024) :
    k0_pay116 m s (ix2 0 l) = max (m (ix2 0 l)) (Finset.univ.sup fun r : Fin 256 => s (ix2 r l)) := by
  pointwise [k0_pay116]
  rw [negInf]; rfl

theorem pay77_apply (v : Vec Ideal S1x144x512 .bf16) (m : Vec Ideal S1x1024 .f32) (s t : Vec Ideal S512x1024 .f32)
    (a : Vec Ideal S144x1024 .f32) (e : Fin 144) (l : Fin 1024) :
    k0_pay77 v m s t a (ix2 e l) = Ideal.exp2 (m (ix2 0 l) - k0_pay76 m s (ix2 0 l)) * a (ix2 e l)
      + ∑ r : Fin 512, v (ix3 0 e r) * Ideal.exp2 (t (ix2 r l) - k0_pay76 m s (ix2 0 l)) := by
  pointwise [k0_pay77]
  rfl

theorem pay119_apply (v : Vec Ideal S144x256 .bf16) (m : Vec Ideal S1x1024 .f32) (s t : Vec Ideal S256x1024 .f32)
    (a : Vec Ideal S144x1024 .f32) (e : Fin 144) (l : Fin 1024) :
    k0_pay119 v (k0_pay117 m s t) (k0_pay118 m s a) (ix2 e l) = Ideal.exp2 (m (ix2 0 l) - k0_pay116 m s (ix2 0 l)) * a (ix2 e l)
      + ∑ r : Fin 256, v (ix2 e r) * Ideal.exp2 (t (ix2 r l) - k0_pay116 m s (ix2 0 l)) := by
  pointwise [k0_pay119, k0_pay117, k0_pay118]
  rfl

theorem pay121_apply (A : Vec Ideal S128x1024 .f32) (D : Vec Ideal S1x1024 .f32) (l : Fin 1024) (d : Fin 128) :
    k0_pay121 A D (ix2 l d) = Ideal.div (A (ix2 d l)) (D (ix2 0 l)) := by
  pointwise [k0_pay121]

theorem pay122_apply (A : Vec Ideal S128x1024 .f32) (D : Vec Ideal S1x1024 .f32) (i : Fin 256) (d : Fin 128) :
    k0_pay122 A D (ix3 0 i d) = Ideal.div (A (ix2 d ⟨i.val, by omega⟩)) (D (ix2 0 ⟨i.val, by omega⟩)) := by
  pointwise [k0_pay122, k0_pay121]

theorem pay123_apply (A : Vec Ideal S128x1024 .f32) (D : Vec Ideal S1x1024 .f32) (i : Fin 256) (d : Fin 128) :
    k0_pay123 A D (ix3 0 i d) = Ideal.div (A (ix2 d ⟨256 + i.val, by omega⟩)) (D (ix2 0 ⟨256 + i.val, by omega⟩)) := by
  pointwise [k0_pay123, k0_pay121]

theorem pay124_apply (A : Vec Ideal S128x1024 .f32) (D : Vec Ideal S1x1024 .f32) (i : Fin 256) (d : Fin 128) :
    k0_pay124 A D (ix3 0 i d) = Ideal.div (A (ix2 d ⟨512 + i.val, by omega⟩)) (D (ix2 0 ⟨512 + i.val, by omega⟩)) := by
  pointwise [k0_pay124, k0_pay121]

theorem pay3_apply (A : Vec Ideal S128x1024 .f32) (D : Vec Ideal S1x1024 .f32) (i : Fin 256) (d : Fin 128) :
    k0_pay3 (k0_pay121 A D) (ix3 0 i d) = Ideal.div (A (ix2 d ⟨768 + i.val, by omega⟩)) (D (ix2 0 ⟨768 + i.val, by omega⟩)) := by
  pointwise [k0_pay3, k0_pay121]

end Cert.Gqa

end
-- ==== Proof.GqaSoftmax.lean ====
/- Weighted sums under running maxima, over the extended reals: joining one more block of scores, and the quotient of two such
   sums as a softmax. The scores are finite; the weights need not be. -/
module

public import Idealize.ShloMosaic.PureOps.Ideal
public import Idealize.ShloMosaic.PureOps.Ideal.Laws

@[expose] public section

noncomputable section

namespace Cert.Gqa

open Idealize.ShloMosaic

/-- The greatest of the first `n` scores. -/
def top (s : ℕ → EReal) (n : ℕ) : EReal := (Finset.range n).sup s

/-- The first `n` weights, each times two to its score less the greatest. -/
def wsum (s w : ℕ → EReal) (n : ℕ) : EReal := ∑ j ∈ Finset.range n, w j * Ideal.exp2 (s j - top s n)

theorem top_zero (s : ℕ → EReal) : top s 0 = ⊥ := rfl

theorem wsum_zero (s w : ℕ → EReal) : wsum s w 0 = 0 := rfl

/-- The greatest of `a + b` scores, by the first `a` and the rest. -/
theorem top_add (s : ℕ → EReal) (a b : ℕ) :
    max (top s a) (Finset.univ.sup fun r : Fin b => s (a + r)) = top s (a + b) := by
  apply le_antisymm
  · refine max_le (Finset.sup_mono (Finset.range_mono (Nat.le_add_right a b))) (Finset.sup_le fun r _ => ?_)
    exact Finset.le_sup (Finset.mem_range.2 (Nat.add_lt_add_left r.isLt a))
  · refine Finset.sup_le fun j hj => ?_
    have hj' := Finset.mem_range.1 hj
    by_cases h : j < a
    · exact le_max_of_le_left (Finset.le_sup (Finset.mem_range.2 h))
    · refine le_max_of_le_right ?_
      have e : s j = (fun r : Fin b => s (a + r)) ⟨j - a, by omega⟩ := by
        show s j = s (a + (j - a))
        rw [Nat.add_sub_cancel' (Nat.le_of_not_lt h)]
      rw [e]
      exact Finset.le_sup (f := fun r : Fin b => s (a + r)) (Finset.mem_univ (⟨j - a, by omega⟩ : Fin b))

/-- The greatest score is one of them. -/
theorem exists_top (s : ℕ → EReal) {n : ℕ} (hn : 0 < n) : ∃ j, j < n ∧ top s n = s j ∧ ∀ i < n, s i ≤ s j := by
  obtain ⟨j, hj, e⟩ := Finset.exists_mem_eq_sup (Finset.range n) ⟨0, Finset.mem_range.2 hn⟩ s
  exact ⟨j, Finset.mem_range.1 hj, e, fun i hi => e ▸ Finset.le_sup (Finset.mem_range.2 hi)⟩

/-- A nonnegative finite factor goes under a sum. -/
theorem coe_mul_sum (c : ℝ) (hc : 0 ≤ c) (f : ℕ → EReal) (S : Finset ℕ) :
    (c : EReal) * ∑ j ∈ S, f j = ∑ j ∈ S, (c : EReal) * f j := by
  induction S using Finset.cons_induction with
  | empty => simp
  | cons a S ha ih =>
    rw [Finset.sum_cons, Finset.sum_cons,
      EReal.left_distrib_of_nonneg_of_ne_top (EReal.coe_nonneg.2 hc) (EReal.coe_ne_top c), ih]

theorem exp2_sub (a b : ℝ) : Ideal.exp2 ((a : EReal) - (b : EReal)) = ((2 : ℝ) ^ (a - b) : ℝ) := by
  rw [← EReal.coe_sub]; rfl

theorem exp_sub (a b : ℝ) : Ideal.exp ((a : EReal) - (b : EReal)) = (Real.exp (a - b) : ℝ) := by
  rw [← EReal.coe_sub]; rfl

/-- Joining `b` more scores: the sum so far is rescaled to the new maximum. -/
theorem wsum_add (σ : ℕ → ℝ) (w : ℕ → EReal) (a b : ℕ) (hb : 0 < b) :
    Ideal.exp2 (top (fun j => (σ j : EReal)) a - top (fun j => (σ j : EReal)) (a + b)) * wsum (fun j => (σ j : EReal)) w a
      + ∑ r : Fin b, w (a + r) * Ideal.exp2 ((σ (a + r) : EReal) - top (fun j => (σ j : EReal)) (a + b))
      = wsum (fun j => (σ j : EReal)) w (a + b) := by
  have hr : ∑ r : Fin b, w (a + r) * Ideal.exp2 ((σ (a + r) : EReal) - top (fun j => (σ j : EReal)) (a + b))
      = ∑ r ∈ Finset.range b, w (a + r) * Ideal.exp2 ((σ (a + r) : EReal) - top (fun j => (σ j : EReal)) (a + b)) :=
    (Finset.sum_range (fun r => w (a + r) * Ideal.exp2 ((σ (a + r) : EReal) - top (fun j => (σ j : EReal)) (a + b)))).symm
  rw [hr]
  unfold wsum
  rw [Finset.sum_range_add]
  congr 1
  rcases Nat.eq_zero_or_pos a with h | h
  · subst h; simp
  · obtain ⟨i, hi, ei, -⟩ := exists_top (fun j => (σ j : EReal)) h
    obtain ⟨k, hk, ek, -⟩ := exists_top (fun j => (σ j : EReal)) (Nat.add_pos_left h b)
    rw [ei, ek, exp2_sub, coe_mul_sum _ (Real.rpow_nonneg (by norm_num) _)]
    refine Finset.sum_congr rfl fun j _ => ?_
    rw [exp2_sub, exp2_sub, mul_left_comm, ← EReal.coe_mul, ← Real.rpow_add (by norm_num)]
    congr 3
    ring

/-- Scores measured in powers of two are greatest where the scores themselves are. -/
theorem top_scaled (τ : ℕ → ℝ) {n : ℕ} (hn : 0 < n) :
    ∃ μ : ℝ, top (fun j => (τ j : EReal)) n = μ ∧ top (fun j => ((τ j / Real.log 2 : ℝ) : EReal)) n = ((μ / Real.log 2 : ℝ) : EReal) := by
  have l2 : 0 < Real.log 2 := Real.log_pos (by norm_num)
  obtain ⟨j, hj, e, le⟩ := exists_top (fun j => (τ j : EReal)) hn
  refine ⟨τ j, e, le_antisymm (Finset.sup_le fun i hi => ?_) ?_⟩
  · have := EReal.coe_le_coe_iff.1 (le i (Finset.mem_range.1 hi))
    exact EReal.coe_le_coe_iff.2 (div_le_div_of_nonneg_right this l2.le)
  · exact Finset.le_sup (f := fun j => ((τ j / Real.log 2 : ℝ) : EReal)) (Finset.mem_range.2 hj)

/-- The quotient of the weighted sum and of the sum of the powers alone is the softmax's weighted sum. -/
theorem wsum_div (τ : ℕ → ℝ) (w : ℕ → EReal) {n : ℕ} (hn : 0 < n) :
    Ideal.div (wsum (fun j => ((τ j / Real.log 2 : ℝ) : EReal)) w n) (wsum (fun j => ((τ j / Real.log 2 : ℝ) : EReal)) (fun _ => 1) n)
      = ∑ j ∈ Finset.range n, w j * Ideal.div (Ideal.exp ((τ j : EReal) - top (fun j => (τ j : EReal)) n))
          (∑ i ∈ Finset.range n, Ideal.exp ((τ i : EReal) - top (fun j => (τ j : EReal)) n)) := by
  have l2 : 0 < Real.log 2 := Real.log_pos (by norm_num)
  obtain ⟨μ, e1, e2⟩ := top_scaled τ hn
  have hp : ∀ j, Ideal.exp2 (((τ j / Real.log 2 : ℝ) : EReal) - ((μ / Real.log 2 : ℝ) : EReal)) = (Real.exp (τ j - μ) : ℝ) := by
    intro j
    rw [exp2_sub, Real.rpow_def_of_pos (by norm_num)]
    congr 2
    field_simp
  have hsum : ∀ S : Finset ℕ, ∑ i ∈ S, ((Real.exp (τ i - μ) : ℝ) : EReal) = ((∑ i ∈ S, Real.exp (τ i - μ) : ℝ) : EReal) := by
    intro S
    induction S using Finset.cons_induction with
    | empty => simp
    | cons a S ha ih => rw [Finset.sum_cons, Finset.sum_cons, ih, EReal.coe_add]
  have hL : 0 < ∑ i ∈ Finset.range n, Real.exp (τ i - μ) :=
    Finset.sum_pos (fun i _ => Real.exp_pos _) ⟨0, Finset.mem_range.2 hn⟩
  unfold wsum
  simp only [e1, e2, hp, exp_sub, one_mul, hsum]
  rw [Ideal.div_coe hL.ne', mul_comm, coe_mul_sum _ (by positivity)]
  refine Finset.sum_congr rfl fun j _ => ?_
  rw [Ideal.div_coe hL.ne', mul_left_comm, mul_comm ((1 / _ : ℝ) : EReal)]

end Cert.Gqa

end
-- ==== Proof.GqaSums.lean ====
/- The attention's block of results at one index, over the extended reals: a quotient of two weighted sums over the 16384 latent
   keys and the 256 context keys. -/
module

public import proofs.«01_k».proof.Proof.GqaMath
public import proofs.«01_k».proof.Proof.GqaSoftmax
public import proofs.«01_k».proof.Proof.GqaOuter

@[expose] public section

set_option maxRecDepth 16384

noncomputable section

namespace Cert.Gqa

open Cert.KernelIdeal Cert.KernelIdeal.Gen Idealize.ShloMosaic Idealize.ShloMosaic.TcCoe

/-- Row `j` of the latent rows followed by the context's rows, at column `d`. -/
def rowAt (x : Vec Ideal S1x16384x128 .bf16) (x6 : Vec Ideal S1x256x128 .bf16) (j : ℕ) (d : Fin 128) : EReal :=
  if h : j < 16384 then x (ix3 0 ⟨j, h⟩ d) else x6 (ix3 0 ⟨(j - 16384) % 256, Nat.mod_lt _ (by decide)⟩ d)

/-- The score of key `j` for column `l` of a query tile. -/
def colScore (x : Vec Ideal S1x16384x128 .bf16) (x6 : Vec Ideal S1x256x128 .bf16) (q : Vec Ideal S1x128x1024 .bf16)
    (l : Fin 1024) (j : ℕ) : EReal := ∑ d : Fin 128, rowAt x x6 j d * q (ix3 0 d l)

/-- Row `e` of the transposed values at key `j`. -/
def weightAt (v : Vec Ideal S32x144x512 .bf16) (x11 : Vec Ideal S144x256 .bf16) (e : Fin 144) (j : ℕ) : EReal :=
  if h : j < 16384 then v (ix3 ⟨j / 512, by omega⟩ e ⟨j % 512, Nat.mod_lt _ (by decide)⟩)
    else x11 (ix2 e ⟨(j - 16384) % 256, Nat.mod_lt _ (by decide)⟩)

theorem scores_apply (x : Vec Ideal S1x16384x128 .bf16) (x6 : Vec Ideal S1x256x128 .bf16) (q : Vec Ideal S1x128x1024 .bf16)
    (n : ℕ) (hn : n < 32) (r : Fin 512) (l : Fin 1024) : scores x q n (ix2 r l) = colScore x x6 q l (512 * n + r.val) := by
  unfold scores colScore
  rw [pay2_apply]
  refine Finset.sum_congr rfl fun d _ => congrArg (· * q (ix3 0 d l)) ?_
  unfold rowAt
  rw [dif_pos (by omega)]
  show x (ix3 0 ⟨(512 * n + r.val) % 16384, _⟩ d) = _
  exact congrArg (fun z => x (ix3 0 z d)) (Fin.ext (Nat.mod_eq_of_lt (by omega)))

theorem ctx_apply (x : Vec Ideal S1x16384x128 .bf16) (x6 : Vec Ideal S1x256x128 .bf16) (q : Vec Ideal S1x128x1024 .bf16)
    (r : Fin 256) (l : Fin 1024) : k0_pay101 x6 q (ix2 r l) = colScore x x6 q l (16384 + r.val) := by
  unfold colScore
  rw [pay101_apply]
  refine Finset.sum_congr rfl fun d _ => congrArg (· * q (ix3 0 d l)) ?_
  unfold rowAt
  rw [dif_neg (by omega)]
  exact congrArg (fun z => x6 (ix3 0 z d)) (Fin.ext (by show r.val = (16384 + r.val - 16384) % 256; omega))

theorem vchunk_apply (v : Vec Ideal S32x144x512 .bf16) (x11 : Vec Ideal S144x256 .bf16) (n : ℕ) (hn : n < 32) (e : Fin 144)
    (r : Fin 512) : vchunk v n (ix3 0 e r) = weightAt v x11 e (512 * n + r.val) := by
  unfold weightAt
  rw [dif_pos (by omega)]
  show v (ix3 ⟨n % 32, _⟩ e r) = _
  have h1 : (⟨n % 32, Nat.mod_lt _ (by decide)⟩ : Fin 32) = ⟨(512 * n + r.val) / 512, by omega⟩ := Fin.ext (by show n % 32 = (512 * n + r.val) / 512; omega)
  have h2 : r = ⟨(512 * n + r.val) % 512, Nat.mod_lt _ (by decide)⟩ := Fin.ext (by show r.val = (512 * n + r.val) % 512; omega)
  exact congrArg₂ (fun a b => v (ix3 a e b)) h1 h2

theorem cpanel_weight (v : Vec Ideal S32x144x512 .bf16) (x11 : Vec Ideal S144x256 .bf16) (e : Fin 144)
    (r : Fin 256) : x11 (ix2 e r) = weightAt v x11 e (16384 + r.val) := by
  unfold weightAt
  rw [dif_neg (by omega)]
  exact congrArg (fun z => x11 (ix2 e z)) (Fin.ext (by show r.val = (16384 + r.val - 16384) % 256; omega))

section
variable (x : Vec Ideal S1x16384x128 .bf16) (x6 : Vec Ideal S1x256x128 .bf16) (q : Vec Ideal S1x128x1024 .bf16)
  (v : Vec Ideal S32x144x512 .bf16) (x11 : Vec Ideal S144x256 .bf16) (l : Fin 1024) (σ : ℕ → ℝ)
  (hσ : ∀ j, colScore x x6 q l j = σ j)
include hσ

/-- After `n` chunks a column holds the greatest of the first `512 n` scores and the weighted sums up to them. -/
theorem soft_apply (n : ℕ) (hn : n ≤ 32) :
    (soft x v q n).1 (ix2 0 l) = top (fun j => (σ j : EReal)) (512 * n)
    ∧ ∀ e, (soft x v q n).2 (ix2 e l) = wsum (fun j => (σ j : EReal)) (weightAt v x11 e) (512 * n) := by
  induction n with
  | zero => exact ⟨pay85_apply l, fun e => pay86_apply e l⟩
  | succ n ih =>
    obtain ⟨h1, h2⟩ := ih (by omega)
    have hs : ∀ r : Fin 512, scores x q n (ix2 r l) = (σ (512 * n + r.val) : EReal) := fun r =>
      (scores_apply x x6 q n (by omega) r l).trans (hσ _)
    have hm : k0_pay76 (soft x v q n).1 (scores x q n) (ix2 0 l) = top (fun j => (σ j : EReal)) (512 * n + 512) := by
      rw [pay76_apply, h1]
      simp only [hs]
      exact top_add (fun j => (σ j : EReal)) (512 * n) 512
    refine ⟨hm, fun e => ?_⟩
    show k0_pay77 _ _ _ _ _ (ix2 e l) = _
    rw [pay77_apply, hm, h1, h2]
    simp only [hs, vchunk_apply v x11 n (by omega)]
    exact wsum_add σ (weightAt v x11 e) (512 * n) 512 (by decide)

/-- With the context keys in, a column holds the weighted sums over all 16640 keys. -/
theorem accEnd_apply (e : Fin 144) : accEnd x v x6 x11 q (ix2 e l) = wsum (fun j => (σ j : EReal)) (weightAt v x11 e) 16640 := by
  obtain ⟨h1, h2⟩ := soft_apply x x6 q v x11 l σ hσ 32 le_rfl
  have hs : ∀ r : Fin 256, k0_pay101 x6 q (ix2 r l) = (σ (16384 + r.val) : EReal) := fun r =>
    (ctx_apply x x6 q r l).trans (hσ _)
  have hm : k0_pay116 (soft x v q 32).1 (k0_pay101 x6 q) (ix2 0 l) = top (fun j => (σ j : EReal)) (16384 + 256) := by
    rw [pay116_apply, h1]
    simp only [hs]
    exact top_add (fun j => (σ j : EReal)) 16384 256
  unfold accEnd
  rw [pay119_apply, hm, h1, h2]
  simp only [hs, cpanel_weight v x11]
  exact wsum_add σ (weightAt v x11 e) 16384 256 (by decide)

end

/-- The panels' weights: rows below 128 are the values' columns. -/
theorem weight_value (x5 : Vec Ideal S1x16384x128 .bf16) (x7 : Vec Ideal S1x256x128 .bf16) (d : Fin 128) (j : ℕ) :
    weightAt (vpanels x5) (cpanel x7) ⟨d.val, by omega⟩ j = rowAt x5 x7 j d := by
  have hd : (⟨d.val % 128, Nat.mod_lt _ (by decide)⟩ : Fin 128) = d := Fin.ext (Nat.mod_eq_of_lt d.isLt)
  unfold weightAt rowAt
  by_cases h : j < 16384
  · rw [dif_pos h, dif_pos h]
    show (if d.val < 128 then k0_pay4 (kchunk x5 (j / 512)) (ix3 0 ⟨d.val % 128, _⟩ ⟨j % 512, _⟩) else _) = _
    rw [if_pos d.isLt, hd, pay4_apply]
    exact congrArg (fun z => x5 (ix3 0 z d)) (Fin.ext (by show (512 * (j / 512) + j % 512) % 16384 = j; omega))
  · rw [dif_neg h, dif_neg h]
    show (if d.val < 128 then k0_pay125 (k0_pay74 x7) (ix2 ⟨d.val % 128, _⟩ ⟨(j - 16384) % 256, _⟩) else _) = _
    rw [if_pos d.isLt, hd, pay125_apply]

/-- The panels' weights: row 128 is ones. -/
theorem weight_one (x5 : Vec Ideal S1x16384x128 .bf16) (x7 : Vec Ideal S1x256x128 .bf16) (j : ℕ) :
    weightAt (vpanels x5) (cpanel x7) ⟨128, by decide⟩ j = 1 := by
  unfold weightAt
  by_cases h : j < 16384
  · rw [dif_pos h]
    exact (if_neg (show ¬(128 : ℕ) < 128 by decide)).trans (pay5_apply ⟨(128 - 128) % 16, by decide⟩ _)
  · rw [dif_neg h]
    exact (if_neg (show ¬(128 : ℕ) < 128 by decide)).trans (pay126_apply ⟨(128 - 128) % 16, by decide⟩ _)

/-- A query tile's column. -/
theorem qtile_apply (x3 : Vec Ideal S1x2048x512 .bf16) (k r : ℕ) (hk : k < 8) (hr : r < 4) (i : Fin 256) (d : Fin 128) :
    qtile x3 k (ix3 0 d ⟨256 * r + i.val, by omega⟩) = x3 (ix3 0 ⟨256 * k + i.val, by omega⟩ ⟨128 * r + d.val, by omega⟩) := by
  show k0_pay1 (qrows x3 k ((256 * r + i.val) / 256)) (ix3 0 d ⟨(256 * r + i.val) % 256, _⟩) = _
  rw [pay1_apply]
  show x3 (ix3 0 ⟨(256 * k + (256 * r + i.val) % 256) % 2048, _⟩ ⟨(128 * ((256 * r + i.val) / 256) + d.val) % 512, _⟩) = _
  exact congrArg₂ (fun a b => x3 (ix3 0 a b)) (Fin.ext (by show (256 * k + (256 * r + i.val) % 256) % 2048 = 256 * k + i.val; omega))
    (Fin.ext (by show (128 * ((256 * r + i.val) / 256) + d.val) % 512 = 128 * r + d.val; omega))

/-- A tile of results at row `i` of head `r`. -/
theorem otile_apply (A : Vec Ideal S128x1024 .f32) (D : Vec Ideal S1x1024 .f32) (r : ℕ) (hr : r < 4) (i : Fin 256) (d : Fin 128) :
    otile A D (ix3 0 i ⟨128 * r + d.val, by omega⟩)
      = Ideal.div (A (ix2 d ⟨256 * r + i.val, by omega⟩)) (D (ix2 0 ⟨256 * r + i.val, by omega⟩)) := by
  have hd : (⟨(128 * r + d.val) % 128, Nat.mod_lt _ (by decide)⟩ : Fin 128) = d := Fin.ext (by show (128 * r + d.val) % 128 = d.val; omega)
  show (if (128 * r + d.val) / 128 = 0 then k0_pay122 A D (ix3 0 i ⟨(128 * r + d.val) % 128, _⟩)
    else if (128 * r + d.val) / 128 = 1 then k0_pay123 A D (ix3 0 i ⟨(128 * r + d.val) % 128, _⟩)
    else if (128 * r + d.val) / 128 = 2 then k0_pay124 A D (ix3 0 i ⟨(128 * r + d.val) % 128, _⟩)
    else k0_pay3 (k0_pay121 A D) (ix3 0 i ⟨(128 * r + d.val) % 128, _⟩)) = _
  rw [hd]
  have c : ∀ a b : Fin 1024, a.val = b.val → Ideal.div (A (ix2 d a)) (D (ix2 0 a)) = Ideal.div (A (ix2 d b)) (D (ix2 0 b)) :=
    fun a b h => by rw [Fin.ext h]
  have h : r = 0 ∨ r = 1 ∨ r = 2 ∨ r = 3 := by omega
  rcases h with h | h | h | h
  · rw [if_pos (by omega), pay122_apply]; exact c _ _ (by show i.val = 256 * r + i.val; omega)
  · rw [if_neg (by omega), if_pos (by omega), pay123_apply]; exact c _ _ (by show 256 + i.val = 256 * r + i.val; omega)
  · rw [if_neg (by omega), if_neg (by omega), if_pos (by omega), pay124_apply]; exact c _ _ (by show 512 + i.val = 256 * r + i.val; omega)
  · rw [if_neg (by omega), if_neg (by omega), if_neg (by omega), pay3_apply]; exact c _ _ (by show 768 + i.val = 256 * r + i.val; omega)

/-- The score of key `j` for row `i` of head `r`. -/
def rowScore (x3 : Vec Ideal S1x2048x512 .bf16) (x : Vec Ideal S1x16384x128 .bf16) (x6 : Vec Ideal S1x256x128 .bf16)
    (i : Fin 2048) (r : Fin 4) (j : ℕ) : EReal := ∑ d : Fin 128, rowAt x x6 j d * x3 (ix3 0 i ⟨128 * r.val + d.val, by omega⟩)

/-- The block of results at row `i`, head `r`, column `d`. -/
theorem oblock_apply (x3 : Vec Ideal S1x2048x512 .bf16) (x x5 : Vec Ideal S1x16384x128 .bf16) (x6 x7 : Vec Ideal S1x256x128 .bf16)
    (i : Fin 2048) (r : Fin 4) (d : Fin 128) (σ : ℕ → ℝ) (hσ : ∀ j, rowScore x3 x x6 i r j = σ j) :
    oblock x3 x x6 (vpanels x5) (cpanel x7) (ix3 0 i ⟨128 * r.val + d.val, by omega⟩)
      = Ideal.div (wsum (fun j => (σ j : EReal)) (fun j => rowAt x5 x7 j d) 16640) (wsum (fun j => (σ j : EReal)) (fun _ => 1) 16640) := by
  have hi : i.val = 256 * (i.val / 256) + i.val % 256 := by omega
  have hq : ∀ j, colScore x x6 (qtile x3 (i.val / 256)) ⟨256 * r.val + (⟨i.val % 256, Nat.mod_lt _ (by decide)⟩ : Fin 256).val, by
      show 256 * r.val + i.val % 256 < 1024; omega⟩ j = σ j := by
    intro j
    rw [← hσ j]
    unfold colScore rowScore
    refine Finset.sum_congr rfl fun e _ => ?_
    rw [qtile_apply x3 (i.val / 256) r.val (by omega) r.isLt]
    exact congrArg (fun z => rowAt x x6 j e * x3 (ix3 0 z ⟨128 * r.val + e.val, by omega⟩)) (Fin.ext hi.symm)
  show otile (accRows (accEnd x (vpanels x5) x6 (cpanel x7) (qtile x3 (i.val / 256)))) (accOnes (accEnd x (vpanels x5) x6 (cpanel x7) (qtile x3 (i.val / 256))))
    (ix3 0 ⟨i.val % 256, _⟩ ⟨128 * r.val + d.val, _⟩) = _
  rw [otile_apply _ _ r.val r.isLt]
  have ha := accEnd_apply x x6 (qtile x3 (i.val / 256)) (vpanels x5) (cpanel x7) _ σ hq
  have h1 := ha ⟨d.val, by omega⟩
  have h2 := ha ⟨128, by decide⟩
  have e1 : weightAt (vpanels x5) (cpanel x7) ⟨d.val, by omega⟩ = fun j => rowAt x5 x7 j d := funext fun j => weight_value x5 x7 d j
  have e2 : weightAt (vpanels x5) (cpanel x7) ⟨128, by decide⟩ = fun _ => 1 := funext fun j => weight_one x5 x7 j
  rw [e1] at h1
  rw [e2] at h2
  refine congrArg₂ Ideal.div (Eq.trans ?_ h1) h2
  exact congrArg (fun z => accEnd x (vpanels x5) x6 (cpanel x7) (qtile x3 (i.val / 256)) (ix2 z _)) (Fin.ext (by show d.val % 144 = d.val; omega))

end Cert.Gqa

end
-- ==== Proof.GqaBlocks.lean ====
/- The attention kernel's input blocks at an index, as elements of the arguments. Point `t` of the grid works on batch element
   `t / 16`, head group `t / 8 % 2` and query block `t % 8`. -/
module

public import proofs.«01_k».proof.Proof.GqaFrame
public import Idealize.ShloMosaic.Lib.Pointwise
public import Idealize.ShloMosaic.Lib.Pipeline.ValueKit

@[expose] public section

set_option maxRecDepth 16384

noncomputable section

namespace Cert.Gqa

open Cert.KernelIdeal Cert.KernelIdeal.Gen Idealize.ShloMosaic Idealize.ShloMosaic.TcCoe Idealize.SL.Sem

theorem places : ∀ t : Fin cfg0.N, win0_0.index t = ![t.val / 16, t.val % 8, t.val / 8 % 2]
    ∧ win0_1.index t = ![t.val / 16, 0, 8 + t.val / 8 % 2] ∧ win0_2.index t = ![t.val / 16, 0, t.val / 8 % 2]
    ∧ win0_3.index t = ![t.val / 16, 0, 8 + t.val / 8 % 2] ∧ win0_4.index t = ![t.val / 16, 0, t.val / 8 % 2]
    ∧ win0_5.index t = ![t.val / 16, t.val % 8, t.val / 8 % 2] :=
  (by decide +kernel : ∀ t : Fin grid0.N, _)

theorem point_lt (t : Fin cfg0.N) : t.val < 32 := lt_of_lt_of_eq t.isLt (show cfg0.N = 32 from N_0)

variable (m : (ℓ : Loc nD τ sig) → Buf (Elt Ideal) ℓ) (c : Dev nD)

/-- The queries. -/
abbrev qs : FVec Ideal S2x16384x1024 .f32 := m ((c : Thread nD τ).loc main_arg0)
/-- The keys. -/
abbrev ks : FVec Ideal S2x16384x256 .f32 := m ((c : Thread nD τ).loc main_arg1)
/-- The values. -/
abbrev vs : FVec Ideal S2x16384x256 .f32 := m ((c : Thread nD τ).loc main_arg2)
/-- The context's queries, which the attention does not read. -/
abbrev qcs : FVec Ideal S2x256x1024 .f32 := m ((c : Thread nD τ).loc main_arg3)
/-- The context's keys. -/
abbrev kcs : FVec Ideal S2x256x256 .f32 := m ((c : Thread nD τ).loc main_arg4)
/-- The context's values. -/
abbrev vcs : FVec Ideal S2x256x256 .f32 := m ((c : Thread nD τ).loc main_arg5)

/-- What the queries are multiplied by on the host: one over the root of 128 and the logarithm of two. -/
def scale : EReal := Ideal.div (Ideal.ofBits .f32 0x3F800000#32)
  (Ideal.sqrt (Ideal.ofBits .f32 0x43000000#32) * Ideal.log (Ideal.ofBits .f32 0x40000000#32))

/-- The host's array of scaled queries and keys. -/
def latent (q : FVec Ideal S2x16384x1024 .f32) (k : FVec Ideal S2x16384x256 .f32) : FVec Ideal S2x16384x1280 .bf16 :=
  truncf .bf16 (concatenate S2x16384x1280 2 [⟨S2x16384x1024, mulf q (broadcastInDim S2x16384x1024 ![] bcast_S_S2x16384x1024
      (Host.divf (constant S_ .f32 0x3F800000#32) (mulf (Host.sqrt (constant S_ .f32 0x43000000#32)) (Host.log (constant S_ .f32 0x40000000#32)))))⟩,
    ⟨S2x16384x256, k⟩] concatenates_S2x16384x1024_S2x16384x256_S2x16384x1280_d2) bitsLt_bf16_f32

/-- The host's array of the context's scaled queries and keys. -/
def context (q : FVec Ideal S2x256x1024 .f32) (k : FVec Ideal S2x256x256 .f32) : FVec Ideal S2x256x1280 .bf16 :=
  truncf .bf16 (concatenate S2x256x1280 2 [⟨S2x256x1024, mulf q (broadcastInDim S2x256x1024 ![] bcast_S_S2x256x1024
      (Host.divf (constant S_ .f32 0x3F800000#32) (mulf (Host.sqrt (constant S_ .f32 0x43000000#32)) (Host.log (constant S_ .f32 0x40000000#32)))))⟩,
    ⟨S2x256x256, k⟩] concatenates_S2x256x1024_S2x256x256_S2x256x1280_d2) bitsLt_bf16_f32

theorem latent_query (q : FVec Ideal S2x16384x1024 .f32) (k : FVec Ideal S2x16384x256 .f32) (b : Fin 2) (i : Fin 16384) (e : Fin 1024) :
    latent q k (ix3 b i ⟨e.val, by omega⟩) = q (ix3 b i e) * scale := by
  pointwise [latent, scale]

theorem latent_key (q : FVec Ideal S2x16384x1024 .f32) (k : FVec Ideal S2x16384x256 .f32) (b : Fin 2) (i : Fin 16384) (e : Fin 256) :
    latent q k (ix3 b i ⟨1024 + e.val, by omega⟩) = k (ix3 b i e) := by
  pointwise [latent]

theorem context_key (q : FVec Ideal S2x256x1024 .f32) (k : FVec Ideal S2x256x256 .f32) (b : Fin 2) (i : Fin 256) (e : Fin 256) :
    context q k (ix3 b i ⟨1024 + e.val, by omega⟩) = k (ix3 b i e) := by
  pointwise [context]

theorem V_latent : V m c main_v7 = latent (qs m c) (ks m c) := by
  unfold_abbrev_sides
  after_results <;> rfl

theorem V_context : V m c main_v11 = context (qcs m c) (kcs m c) := by
  unfold_abbrev_sides
  after_results <;> rfl

theorem V_values : V m c main_v12 = vs m c := by
  unfold_abbrev_sides
  after_results <;> rfl

theorem V_cvalues : V m c main_v13 = vcs m c := by
  unfold_abbrev_sides
  after_results <;> rfl

/-- A query block. -/
theorem q_at (t : Fin cfg0.N) (i : Fin 2048) (e : Fin 512) :
    X0_0 m c t (ix3 0 i e) = qs m c
      (ix3 ⟨t.val / 16, by have := point_lt t; omega⟩ ⟨t.val % 8 * 2048 + i.val, by omega⟩ ⟨t.val / 8 % 2 * 512 + e.val, by omega⟩) * scale := by
  have := point_lt t
  obtain ⟨p, -⟩ := places t
  refine Eq.trans ?_ (latent_query _ (ks m c) _ _ _)
  unfold X0_0 Pipeline.Window.fill
  rw [dif_pos (moved0_0 t _), ← V_latent m c]
  blk_ext! [iblk, p]

/-- A block of keys. -/
theorem k_at (t : Fin cfg0.N) (j : Fin 16384) (d : Fin 128) :
    iblk m c 1 t (ix3 0 j d) = ks m c
      (ix3 ⟨t.val / 16, by have := point_lt t; omega⟩ j ⟨t.val / 8 % 2 * 128 + d.val, by omega⟩) := by
  have := point_lt t
  obtain ⟨-, p, -⟩ := places t
  refine Eq.trans ?_ (latent_key (qs m c) _ _ _ _)
  rw [← V_latent m c]
  blk_ext! [iblk, p]

/-- A block of values. -/
theorem v_at (t : Fin cfg0.N) (j : Fin 16384) (d : Fin 128) :
    iblk m c 2 t (ix3 0 j d) = vs m c
      (ix3 ⟨t.val / 16, by have := point_lt t; omega⟩ j ⟨t.val / 8 % 2 * 128 + d.val, by omega⟩) := by
  have := point_lt t
  obtain ⟨-, -, p, -⟩ := places t
  refine Eq.trans ?_ (congrFun (V_values m c) _)
  blk_ext! [iblk, p]

/-- A block of the context's keys. -/
theorem kc_at (t : Fin cfg0.N) (j : Fin 256) (d : Fin 128) :
    iblk m c 3 t (ix3 0 j d) = kcs m c
      (ix3 ⟨t.val / 16, by have := point_lt t; omega⟩ j ⟨t.val / 8 % 2 * 128 + d.val, by omega⟩) := by
  have := point_lt t
  obtain ⟨-, -, -, p, -⟩ := places t
  refine Eq.trans ?_ (context_key (qcs m c) _ _ _ _)
  rw [← V_context m c]
  blk_ext! [iblk, p]

/-- A block of the context's values. -/
theorem vc_at (t : Fin cfg0.N) (j : Fin 256) (d : Fin 128) :
    iblk m c 4 t (ix3 0 j d) = vcs m c
      (ix3 ⟨t.val / 16, by have := point_lt t; omega⟩ j ⟨t.val / 8 % 2 * 128 + d.val, by omega⟩) := by
  have := point_lt t
  obtain ⟨-, -, -, -, p, -⟩ := places t
  refine Eq.trans ?_ (congrFun (V_cvalues m c) _)
  blk_ext! [iblk, p]

end Cert.Gqa

end
-- ==== Proof.GqaSpec.lean ====
/- What the attention computes at one element, over the extended reals, as a function of its argument arrays; and the kernel's
   scores, which carry the scale in the queries and count in powers of two, beside the reference's. -/
module

public import proofs.«01_k».proof.Proof.GqaSums
public import proofs.«01_k».proof.Proof.GqaBlocks

@[expose] public section

set_option maxRecDepth 16384

noncomputable section

namespace Cert.Gqa

open Cert.KernelIdeal Cert.KernelIdeal.Gen Idealize.ShloMosaic Idealize.ShloMosaic.TcCoe

/-- Row `j` of the latent rows followed by the context's, of batch element `b`, at column `d` of head group `g`. -/
def keyRow (k : FVec Ideal S2x16384x256 .f32) (kc : FVec Ideal S2x256x256 .f32) (b g : Fin 2) (j : ℕ) (d : Fin 128) : EReal :=
  if h : j < 16384 then k (ix3 b ⟨j, h⟩ ⟨g.val * 128 + d.val, by omega⟩)
    else kc (ix3 b ⟨(j - 16384) % 256, Nat.mod_lt _ (by decide)⟩ ⟨g.val * 128 + d.val, by omega⟩)

/-- The query row `i` of head `r` of group `g`, at column `d`. -/
def queryAt (q : FVec Ideal S2x16384x1024 .f32) (b : Fin 2) (i : Fin 16384) (g : Fin 2) (r : Fin 4) (d : Fin 128) : EReal :=
  q (ix3 b i ⟨g.val * 512 + (128 * r.val + d.val), by omega⟩)

/-- The scaled score of key `j`. -/
def logit (q : FVec Ideal S2x16384x1024 .f32) (k : FVec Ideal S2x16384x256 .f32) (kc : FVec Ideal S2x256x256 .f32)
    (b : Fin 2) (i : Fin 16384) (g : Fin 2) (r : Fin 4) (j : ℕ) : EReal :=
  Ideal.div (∑ d : Fin 128, keyRow k kc b g j d * queryAt q b i g r d) (Ideal.sqrt (Ideal.ofBits .f32 0x43000000#32))

/-- The values' columns under the softmax of the scores. -/
def attended (q : FVec Ideal S2x16384x1024 .f32) (k v : FVec Ideal S2x16384x256 .f32) (kc vc : FVec Ideal S2x256x256 .f32)
    (b : Fin 2) (i : Fin 16384) (g : Fin 2) (r : Fin 4) (d : Fin 128) : EReal :=
  ∑ j ∈ Finset.range 16640, keyRow v vc b g j d
    * Ideal.div (Ideal.exp (logit q k kc b i g r j - top (logit q k kc b i g r) 16640))
        (∑ j ∈ Finset.range 16640, Ideal.exp (logit q k kc b i g r j - top (logit q k kc b i g r) 16640))

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

theorem root_128 : Ideal.sqrt (Ideal.ofBits .f32 0x43000000#32) = ((Real.sqrt 128 : ℝ) : EReal) := by
  rw [ofBits_128]
  show (if (128 : ℝ) < 0 then (⊥ : EReal) else _) = _
  rw [if_neg (by norm_num)]

theorem root_pos : 0 < Real.sqrt 128 := Real.sqrt_pos.2 (by norm_num)
theorem log2_pos : 0 < Real.log 2 := Real.log_pos (by norm_num)

theorem scale_eq : scale = ((1 / (Real.sqrt 128 * Real.log 2) : ℝ) : EReal) := by
  unfold scale
  have h2 : Ideal.log (Ideal.ofBits .f32 0x40000000#32) = ((Real.log 2 : ℝ) : EReal) := by
    rw [ofBits_2]
    show (if (2 : ℝ) ≤ 0 then (⊥ : EReal) else _) = _
    rw [if_neg (by norm_num)]
  rw [root_128, h2, ← EReal.coe_mul, Ideal.div_coe (mul_pos root_pos log2_pos).ne', ofBits_1, ← EReal.coe_mul, one_mul]

/-- A finite sum of finite numbers. -/
theorem coe_sum {ι : Type} (S : Finset ι) (f : ι → ℝ) : ∑ i ∈ S, ((f i : ℝ) : EReal) = ((∑ i ∈ S, f i : ℝ) : EReal) := by
  induction S using Finset.cons_induction with
  | empty => simp
  | cons a S ha ih => rw [Finset.sum_cons, Finset.sum_cons, ih, EReal.coe_add]

theorem keyRow_real (k : FVec Ideal S2x16384x256 .f32) (kc : FVec Ideal S2x256x256 .f32) (hk : ∀ z, ∃ x : ℝ, k z = (x : EReal))
    (hkc : ∀ z, ∃ x : ℝ, kc z = (x : EReal)) (b g : Fin 2) (j : ℕ) (d : Fin 128) : ∃ x : ℝ, keyRow k kc b g j d = (x : EReal) := by
  unfold keyRow
  by_cases h : j < 16384
  · rw [dif_pos h]; exact hk _
  · rw [dif_neg h]; exact hkc _

/-- For finite queries and keys the scores are finite, and the kernel's are theirs over the logarithm of two. -/
theorem logit_real (q : FVec Ideal S2x16384x1024 .f32) (k : FVec Ideal S2x16384x256 .f32) (kc : FVec Ideal S2x256x256 .f32)
    (hq : ∀ z, ∃ x : ℝ, q z = (x : EReal)) (hk : ∀ z, ∃ x : ℝ, k z = (x : EReal)) (hkc : ∀ z, ∃ x : ℝ, kc z = (x : EReal))
    (b : Fin 2) (i : Fin 16384) (g : Fin 2) (r : Fin 4) :
    ∃ τ : ℕ → ℝ, ∀ j, logit q k kc b i g r j = (τ j : EReal)
      ∧ ∑ d : Fin 128, keyRow k kc b g j d * (queryAt q b i g r d * scale) = ((τ j / Real.log 2 : ℝ) : EReal) := by
  choose κ hκ using fun j d => keyRow_real k kc hk hkc b g j d
  choose χ hχ using fun d => hq (ix3 b i ⟨g.val * 512 + (128 * r.val + (d : Fin 128).val), by omega⟩)
  have hχ' : ∀ d, queryAt q b i g r d = (χ d : EReal) := hχ
  refine ⟨fun j => (∑ d, κ j d * χ d) / Real.sqrt 128, fun j => ⟨?_, ?_⟩⟩
  · unfold logit
    rw [root_128, Ideal.div_coe root_pos.ne']
    simp only [hκ, hχ', ← EReal.coe_mul, coe_sum]
    rw [mul_one_div]
  · simp only [hκ, hχ', scale_eq, ← EReal.coe_mul, coe_sum]
    congr 1
    rw [div_div, Finset.sum_div]
    refine Finset.sum_congr rfl fun d _ => ?_
    ring

variable (m : (ℓ : Loc Cert.KernelIdeal.nD Cert.KernelIdeal.τ Cert.KernelIdeal.sig) → Buf (Elt Ideal) ℓ) (c : Dev Cert.KernelIdeal.nD)

theorem rowAt_keys (t : Fin cfg0.N) (j : ℕ) (d : Fin 128) : rowAt (iblk m c 1 t) (iblk m c 3 t) j d
    = keyRow (ks m c) (kcs m c) ⟨t.val / 16, by have := point_lt t; omega⟩ ⟨t.val / 8 % 2, by omega⟩ j d := by
  unfold rowAt keyRow
  by_cases h : j < 16384
  · rw [dif_pos h, dif_pos h]; exact k_at m c t ⟨j, h⟩ d
  · rw [dif_neg h, dif_neg h]; exact kc_at m c t _ d

theorem rowAt_values (t : Fin cfg0.N) (j : ℕ) (d : Fin 128) : rowAt (iblk m c 2 t) (iblk m c 4 t) j d
    = keyRow (vs m c) (vcs m c) ⟨t.val / 16, by have := point_lt t; omega⟩ ⟨t.val / 8 % 2, by omega⟩ j d := by
  unfold rowAt keyRow
  by_cases h : j < 16384
  · rw [dif_pos h, dif_pos h]; exact v_at m c t ⟨j, h⟩ d
  · rw [dif_neg h, dif_neg h]; exact vc_at m c t _ d

/-- The block of results a point leaves, at row `i`, head `r`, column `d`. -/
theorem out_at (hq : ∀ z, ∃ x : ℝ, qs m c z = (x : EReal)) (hk : ∀ z, ∃ x : ℝ, ks m c z = (x : EReal))
    (hkc : ∀ z, ∃ x : ℝ, kcs m c z = (x : EReal)) (t : Fin cfg0.N) (i : Fin 2048) (r : Fin 4) (d : Fin 128) :
    outAt m c t (ix3 0 i ⟨128 * r.val + d.val, by omega⟩)
      = attended (qs m c) (ks m c) (vs m c) (kcs m c) (vcs m c) ⟨t.val / 16, by have := point_lt t; omega⟩
          ⟨t.val % 8 * 2048 + i.val, by omega⟩ ⟨t.val / 8 % 2, by omega⟩ r d := by
  have ht := point_lt t
  obtain ⟨τ, hτ⟩ := logit_real (qs m c) (ks m c) (kcs m c) hq hk hkc ⟨t.val / 16, by omega⟩ ⟨t.val % 8 * 2048 + i.val, by omega⟩
    ⟨t.val / 8 % 2, by omega⟩ r
  have hs : ∀ j, rowScore (X0_0 m c t) (iblk m c 1 t) (iblk m c 3 t) i r j = ((τ j / Real.log 2 : ℝ) : EReal) := by
    intro j
    rw [← (hτ j).2]
    unfold rowScore
    refine Finset.sum_congr rfl fun e _ => ?_
    rw [rowAt_keys, q_at]
    rfl
  unfold outAt vrow crow
  rw [oblock_apply _ _ _ _ _ i r d (fun j => τ j / Real.log 2) hs, wsum_div τ _ (by decide)]
  have hv : ∀ j, rowAt (iblk m c 2 (base t)) (iblk m c 4 (base t)) j d
      = keyRow (vs m c) (vcs m c) ⟨t.val / 16, by omega⟩ ⟨t.val / 8 % 2, by omega⟩ j d := by
    intro j
    rw [rowAt_values]
    exact congrArg₂ (fun a b => keyRow (vs m c) (vcs m c) a b j d) (Fin.ext (by show t.val / 8 * 8 / 16 = t.val / 16; omega))
      (Fin.ext (by show t.val / 8 * 8 / 8 % 2 = t.val / 8 % 2; omega))
  have hl : logit (qs m c) (ks m c) (kcs m c) ⟨t.val / 16, by omega⟩ ⟨t.val % 8 * 2048 + i.val, by omega⟩
    ⟨t.val / 8 % 2, by omega⟩ r = fun j => (τ j : EReal) := funext fun j => (hτ j).1
  unfold attended
  simp only [hv, hl]

end Cert.Gqa

end
-- ==== Proof.GqaValue.lean ====
/- The result array of the kernel's call after the run: at every element, the values under the softmax of the scores. -/
module

public import proofs.«01_k».proof.Proof.GqaSpec
public import proofs.«01_k».proof.Proof.GqaFrame

@[expose] public section

set_option maxRecDepth 16384

noncomputable section

namespace Cert.Gqa

open Cert.KernelIdeal Cert.KernelIdeal.Gen Idealize.ShloMosaic Idealize.ShloMosaic.TcCoe Idealize.SL.Sem

/-- The attention's whole result: batch element, row, and the column of head `r` of group `g`. -/
def whole (q : FVec Ideal S2x16384x1024 .f32) (k v : FVec Ideal S2x16384x256 .f32) (kc vc : FVec Ideal S2x256x256 .f32)
    (b : Fin 2) (i : Fin 16384) (e : Fin 1024) : EReal :=
  attended q k v kc vc b i ⟨e.val / 512, by have := e.isLt; omega⟩ ⟨e.val / 128 % 4, Nat.mod_lt _ (by decide)⟩ ⟨e.val % 128, Nat.mod_lt _ (by decide)⟩

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The result as an array of the memory. -/
def G5 : FVec Ideal S2x16384x1024 .bf16 := fun z => whole (qs m c) (ks m c) (vs m c) (kcs m c) (vcs m c) (z 0) (z 1) (z 2)

theorem arr_5 (hq : ∀ z, ∃ x : ℝ, qs m c z = (x : EReal)) (hk : ∀ z, ∃ x : ℝ, ks m c z = (x : EReal))
    (hkc : ∀ z, ∃ x : ℝ, kcs m c z = (x : EReal)) : (dats m 0 c).arrAt 5 cfg0.N = G5 m c := by
  refine (dats m 0 c).arrAt_eq_of_covers 5 _ (by decide +kernel) fun t hf y => ?_
  have ht := point_lt t
  obtain ⟨-, -, -, -, -, p⟩ := places t
  blk_simp [p]
  rw [after_5]
  obtain ⟨i, e, rfl⟩ : ∃ (i : Fin 2048) (e : Fin 512), y = ix3 0 i e := ⟨y 1, y 2, by
    refine (eq_ix3 y).trans ?_
    congr 1
    exact Subsingleton.elim _ _⟩
  have hi := i.isLt
  have he := e.isLt
  have place : (win0_5.blk t).view.emb (ix3 0 i e) = ix3 ⟨t.val / 16, by omega⟩ ⟨t.val % 8 * 2048 + i.val, by omega⟩
      ⟨t.val / 8 % 2 * 512 + e.val, by omega⟩ := by
    blk_ext! [p]
  refine Eq.trans ?_ (congrArg (G5 m c) place.symm)
  have split : e = ⟨128 * (e.val / 128) + e.val % 128, by omega⟩ := Fin.ext (Nat.div_add_mod e.val 128).symm
  refine (congrArg (fun e => outAt m c t (ix3 0 i e)) split).trans ?_
  refine (out_at m c hq hk hkc t i ⟨e.val / 128, by omega⟩ ⟨e.val % 128, by omega⟩).trans ?_
  show _ = whole (qs m c) (ks m c) (vs m c) (kcs m c) (vcs m c) ⟨t.val / 16, by omega⟩ ⟨t.val % 8 * 2048 + i.val, by omega⟩
    ⟨t.val / 8 % 2 * 512 + e.val, by omega⟩
  unfold whole
  congr 1
  · exact Fin.ext (by show t.val / 8 % 2 = (t.val / 8 % 2 * 512 + e.val) / 512; omega)
  · exact Fin.ext (by show e.val / 128 = (t.val / 8 % 2 * 512 + e.val) / 128 % 4; omega)
  · exact Fin.ext (by show e.val % 128 = (t.val / 8 % 2 * 512 + e.val) % 128; omega)

/-- Every execution from finite queries and keys ends with the attention in the result array and the arguments unchanged. -/
theorem run_value (hq : ∀ c z, ∃ x : ℝ, qs m c z = (x : EReal)) (hk : ∀ c z, ∃ x : ℝ, ks m c z = (x : EReal))
    (hkc : ∀ c z, ∃ x : ℝ, kcs m c z = (x : EReal)) :
    θ_run defs (onTc (τ := τ) (main (F := Ideal))) ⟨m, fun _ => 0, ρ⟩ (fun r => ∀ c : Dev nD,
      r.2.mem ((c.tc : Thread nD τ).loc main_v14) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.1 c).1 5).trans (arr_5 m c (hq c) (hk c) (hkc c)), h.2.1 c⟩) (θ_run_and (run_main m ρ) (frame m ρ))

end Cert.Gqa

end
-- ==== Proof.GqaFinite.lean ====
/- What the precondition says of the argument arrays: queries and keys are finite. -/
module

public import proofs.«01_k».proof.Proof.QkFacts
public import proofs.«01_k».proof.Proof.GqaSpec
public import Idealize.ShloMosaic.Lib.ReduceAll
public import Idealize.ShloMosaic.Lib.Pointwise

@[expose] public section

set_option maxRecDepth 16384

noncomputable section

namespace Cert.Gqa

open Idealize.ShloMosaic Idealize.ShloMosaic.TcCoe Cert.Pre_qk_finite

theorem ofBits_low : Ideal.ofBits .f32 0xFF800000#32 = (⊥ : EReal) := by simp [Ideal.ofBits, Ideal.ieee]
theorem ofBits_high : Ideal.ofBits .f32 0x7F800000#32 = (⊤ : EReal) := by simp [Ideal.ofBits, Ideal.ieee]

/-- A number strictly between the infinities is a real. -/
theorem real_of_between (x : EReal) (h1 : Ideal.cmp .ogt x (⊥ : EReal) = 1#1) (h2 : Ideal.cmp .olt x (⊤ : EReal) = 1#1) :
    ∃ y : ℝ, x = (y : EReal) := by
  induction x using EReal.rec with
  | bot => simp [Ideal.cmp] at h1
  | top => simp [Ideal.cmp] at h2
  | coe y => exact ⟨y, rfl⟩

theorem finite_of_pre (a0 : FVec Ideal S2x16384x1024 .f32) (a1 a2 : FVec Ideal S2x16384x256 .f32) (a3 : FVec Ideal S2x256x1024 .f32)
    (a4 a5 : FVec Ideal S2x256x256 .f32) (h : Cert.Pre_qk_finite.fn (F := Ideal) a0 a1 a2 a3 a4 a5 = fun _ => 1#1) :
    (∀ z, ∃ x : ℝ, a0 z = (x : EReal)) ∧ (∀ z, ∃ x : ℝ, a1 z = (x : EReal)) ∧ (∀ z, ∃ x : ℝ, a4 z = (x : EReal)) := by
  have h0 := congrFun h (fun a => a.elim0)
  unfold Cert.Pre_qk_finite.fn Cert.Pre_qk_finite.fn_part1 at h0
  dsimp only at h0
  obtain ⟨h01, h4⟩ := IntOp.andi_eq_one.1 h0
  obtain ⟨h00, h1⟩ := IntOp.andi_eq_one.1 h01
  haveI : Subsingleton S_.Idx := ⟨fun a b => funext fun i => i.elim0⟩
  have e0 := fun z => IntOp.andi_eq_one.1 (Host.reduce_andi_all _ _ _ _ _ h00 z)
  have e1 := fun z => IntOp.andi_eq_one.1 (Host.reduce_andi_all _ _ _ _ _ h1 z)
  have e4 := fun z => IntOp.andi_eq_one.1 (Host.reduce_andi_all _ _ _ _ _ h4 z)
  refine ⟨fun z => real_of_between _ ?_ ?_, fun z => real_of_between _ ?_ ?_, fun z => real_of_between _ ?_ ?_⟩
  · exact ofBits_low ▸ (e0 z).1
  · exact ofBits_high ▸ (e0 z).2
  · exact ofBits_low ▸ (e1 z).1
  · exact ofBits_high ▸ (e1 z).2
  · exact ofBits_low ▸ (e4 z).1
  · exact ofBits_high ▸ (e4 z).2

end Cert.Gqa

end
-- ==== Proof.GqaRef.lean ====
/- What the attention reference's result holds at one element. Its composed term is read in stages: the scores, their
   exponentials below the greatest, and the weighted values. -/
module

public import proofs.«01_k».proof.Proof.GqaValue
public import proofs.«01_k».proof.Proof.GqaFinite
public import proofs.«01_k».proof.Proof.Gen.ReferenceIdeal.Run
public import Idealize.ShloMosaic.Lib.Pointwise

@[expose] public section

set_option maxRecDepth 16384

noncomputable section

namespace Cert.Gqa.Ref

open Cert.ReferenceIdeal Cert.ReferenceIdeal.Gen Idealize.ShloMosaic Idealize.ShloMosaic.TcCoe Idealize.SL.Sem

variable (q : FVec Ideal S2x16384x1024 .f32) (k v : FVec Ideal S2x16384x256 .f32) (kc vc : FVec Ideal S2x256x256 .f32)

/-- The latent rows and the context's, cut into head groups. -/
def joined : FVec Ideal S2x16640x2x128 .f32 :=
  shapeCast _ (concatenate S2x16640x256 1 [⟨S2x16384x256, k⟩, ⟨S2x256x256, kc⟩] concatenates_S2x16384x256_S2x256x256_S2x16640x256_d1) shapeCasts_S2x16640x256_S2x16640x2x128

/-- The scaled scores. -/
def scores : FVec Ideal S2x2x4x16384x16640 .f32 :=
  Host.divf (transpose S2x2x4x16384x16640 [0, 1, 4, 3, 2] (Host.dotGeneral dot_S2x16640x2x128_S2x16384x2x4x128_S2x2x16640x16384x4_3_4_1_13_02_02 none (joined k kc) (shapeCast _ q shapeCasts_S2x16384x1024_S2x16384x2x4x128)) transposes_S2x2x16640x16384x4_S2x2x4x16384x16640_0_1_4_3_2) (broadcastInDim S2x2x4x16384x16640 ![] bcast_S_S2x2x4x16384x16640 (Host.sqrt (constant S_ .f32 0x43000000#32)))

/-- The exponentials of scores less the greatest of their row. -/
def exps (s : FVec Ideal S2x2x4x16384x16640 .f32) : FVec Ideal S2x2x4x16384x16640 .f32 :=
  Host.exp (subf s (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (maximumf (broadcastInDim S2x2x4x16384 ![] bcast_S_S2x2x4x16384 (constant S_ .f32 0xFF800000#32)) (Host.reduce FloatOps.maximumf s (constant S_ .f32 0xFF800000#32) reducesTo_S2x2x4x16384x16640_S2x2x4x16384_d4 h_S_)))))

/-- Each over the sum of its row. -/
def shares (e : FVec Ideal S2x2x4x16384x16640 .f32) : FVec Ideal S2x2x4x16384x16640 .f32 :=
  Host.divf e (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (Host.reduceAdd e (constant S_ .f32 0x00000000#32) reducesTo_S2x2x4x16384x16640_S2x2x4x16384_d4 h_S_)))

/-- The values under the shares, laid out as the queries are. -/
def mixed (p : FVec Ideal S2x2x4x16384x16640 .f32) : FVec Ideal S2x16384x1024 .f32 :=
  shapeCast _ (transpose S2x16384x2x4x128 [0, 4, 1, 3, 2] (Host.dotGeneral dot_S2x16640x2x128_S2x2x4x16384x16640_S2x2x128x4x16384_1_4_3_23_02_01 none (joined v vc) p) transposes_S2x2x128x4x16384_S2x16384x2x4x128_0_4_1_3_2) shapeCasts_S2x16384x2x4x128_S2x16384x1024

set_option maxHeartbeats 1000000 in
theorem res_eq (m : (ℓ : Loc nD τ sig) → Buf (Elt Ideal) ℓ) (c : Dev nD) :
    Value.res_main_v24 m c = truncf .bf16 (mixed (m ((c.tc : Thread nD τ).loc main_arg2)) (m ((c.tc : Thread nD τ).loc main_arg5))
      (shares (exps (scores (m ((c.tc : Thread nD τ).loc main_arg0)) (m ((c.tc : Thread nD τ).loc main_arg1)) (m ((c.tc : Thread nD τ).loc main_arg4)))))) bitsLt_bf16_f32 := rfl

theorem joined_at (b : Fin 2) (j : Fin 16640) (g : Fin 2) (d : Fin 128) : joined k kc (ix4 b j g d) = keyRow k kc b g j.val d := by
  have hj := j.isLt
  unfold keyRow
  pointwise [joined]
  by_cases h : j.val < 16384
  · rw [dif_pos h, dif_pos h]
  · rw [dif_neg h, dif_neg h]
    have e : (j.val - 16384) % 256 = j.val - 16384 := Nat.mod_eq_of_lt (by omega)
    have f : (⟨j.val - 16384, by omega⟩ : Fin 256) = ⟨(j.val - 16384) % 256, Nat.mod_lt _ (by decide)⟩ := Fin.ext e.symm
    exact congrArg (fun z => kc (ix3 b z ⟨g.val * 128 + d.val, by omega⟩)) f

theorem scores_at (b g : Fin 2) (r : Fin 4) (i : Fin 16384) (j : Fin 16640) :
    scores q k kc (ix5 b g r i j) = logit q k kc b i g r j.val := by
  pointwise [scores, logit]
  refine congrArg (fun x => Ideal.div x _) (Finset.sum_congr rfl fun d _ => ?_)
  rw [joined_at]
  unfold queryAt
  have e : g.val * 512 + r.val * 128 + d.val = g.val * 512 + (128 * r.val + d.val) := by omega
  congr 2
  congr 1
  exact Fin.ext e

theorem peak_at (s : FVec Ideal S2x2x4x16384x16640 .f32) (b g : Fin 2) (r : Fin 4) (i : Fin 16384) :
    Host.reduce FloatOps.maximumf s (constant S_ .f32 0xFF800000#32) reducesTo_S2x2x4x16384x16640_S2x2x4x16384_d4 h_S_ (ix4 b g r i)
      = (Finset.univ : Finset (Fin 16640)).fold max (Ideal.ofBits .f32 0xFF800000#32) fun j => s (ix5 b g r i j) := by
  pointwise

/-- A fold by the greater from the least number is the greatest. -/
theorem fold_top (σ : ℕ → EReal) (n : ℕ) (f : Fin n → EReal) (hf : ∀ j : Fin n, f j = σ j.val) :
    max (⊥ : EReal) ((Finset.univ : Finset (Fin n)).fold max (⊥ : EReal) f) = top σ n := by
  rw [max_eq_right bot_le]
  refine le_antisymm (Finset.fold_max_le _ |>.2 ⟨bot_le, fun j _ => ?_⟩) (Finset.sup_le fun j hj => ?_)
  · exact hf j ▸ Finset.le_sup (Finset.mem_range.2 j.isLt)
  · exact Finset.le_fold_max _ |>.2 (Or.inr ⟨⟨j, Finset.mem_range.1 hj⟩, Finset.mem_univ _, (hf ⟨j, Finset.mem_range.1 hj⟩).ge⟩)

/-- An exponential, over a given array of the rows' greatest. -/
theorem exps_from (s : FVec Ideal S2x2x4x16384x16640 .f32) (u : FVec Ideal S2x2x4x16384 .f32) (b g : Fin 2) (r : Fin 4) (i : Fin 16384) (j : Fin 16640) :
    Host.exp (subf s (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (maximumf (broadcastInDim S2x2x4x16384 ![] bcast_S_S2x2x4x16384 (constant S_ .f32 0xFF800000#32)) u)))) (ix5 b g r i j)
      = Ideal.exp (s (ix5 b g r i j) - max (Ideal.ofBits .f32 0xFF800000#32) (u (ix4 b g r i))) := by
  pointwise

theorem exps_at (s : FVec Ideal S2x2x4x16384x16640 .f32) (b g : Fin 2) (r : Fin 4) (i : Fin 16384) (j : Fin 16640) (σ : ℕ → EReal)
    (hσ : ∀ j : Fin 16640, s (ix5 b g r i j) = σ j.val) : exps s (ix5 b g r i j) = Ideal.exp (σ j.val - top σ 16640) := by
  refine (exps_from s _ b g r i j).trans ?_
  rw [peak_at, ofBits_low, fold_top σ 16640 _ hσ, hσ]

theorem shares_at (e : FVec Ideal S2x2x4x16384x16640 .f32) (b g : Fin 2) (r : Fin 4) (i : Fin 16384) (j : Fin 16640) :
    shares e (ix5 b g r i j) = Ideal.div (e (ix5 b g r i j)) (∑ j : Fin 16640, e (ix5 b g r i j)) := by
  pointwise [shares]

theorem mixed_at (p : FVec Ideal S2x2x4x16384x16640 .f32) (b : Fin 2) (i : Fin 16384) (e : Fin 1024) :
    mixed v vc p (ix3 b i e) = ∑ j : Fin 16640, keyRow v vc b ⟨e.val / 512, by omega⟩ j.val ⟨e.val % 128, by omega⟩
      * p (ix5 b ⟨e.val / 512, by omega⟩ ⟨e.val / 128 % 4, by omega⟩ i j) := by
  pointwise [mixed]
  simp only [joined_at]

/-- The reference's result at one element. -/
theorem array_at (m : (ℓ : Loc nD τ sig) → Buf (Elt Ideal) ℓ) (c : Dev nD) (b : Fin 2) (i : Fin 16384) (e : Fin 1024) :
    Value.res_main_v24 m c (ix3 b i e) = whole (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) b i e := by
  rw [res_eq]
  generalize m ((c.tc : Thread nD τ).loc main_arg0) = q
  generalize m ((c.tc : Thread nD τ).loc main_arg1) = k
  generalize m ((c.tc : Thread nD τ).loc main_arg2) = v
  generalize m ((c.tc : Thread nD τ).loc main_arg4) = kc
  generalize m ((c.tc : Thread nD τ).loc main_arg5) = vc
  refine (mixed_at v vc _ b i e).trans ?_
  unfold whole attended
  rw [Finset.sum_range]
  have hx : ∀ g r j, exps (scores q k kc) (ix5 b g r i j) = Ideal.exp (logit q k kc b i g r j.val - top (logit q k kc b i g r) 16640) :=
    fun g r j => exps_at _ b g r i j _ (scores_at q k kc b g r i)
  refine Finset.sum_congr rfl fun j _ => ?_
  rw [shares_at, Finset.sum_range]
  simp only [hx]

end Cert.Gqa.Ref

end
-- ==== Proof.GqaClaims.lean ====
/- The attention's frames, for the kernel at both instances and for the reference. -/
module

public import proofs.«01_k».proof.Defs
public import proofs.«01_k».proof.Proof.GqaFrame
public import proofs.«01_k».proof.Proof.QkFacts
public import proofs.«01_k».proof.Proof.GqaSame
public import proofs.«01_k».proof.Proof.GqaRef
public import proofs.«01_k».proof.Proof.Gen.ReferenceIdeal.Run
public import Idealize.ShloMosaic.Adequacy
public import Idealize.ShloMosaic.Init

@[expose] public section

noncomputable section

namespace Cert.Gqa

open Idealize.ShloMosaic Idealize.ShloMosaic.TcCoe Idealize.SL.Sem

/-- The kernel at the machine's bits has the text of the one run here, so its run is that run at `Bits`. -/
theorem frame_kernel : Cert.quiescent_Kernel := by
  intro m ρ _
  have h := frame (F := Bits) m ρ
  rw [defs_same]
  exact h

theorem frame_ideal : Cert.quiescent_KernelIdeal := fun m ρ _ => frame (F := Ideal) m ρ

theorem frame_ideal_pre : Cert.quiescent_KernelIdeal_pre_qk_finite := fun m ρ _ => frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_qk_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, for finite queries and keys. -/
theorem value : Cert.algebraic_KernelIdeal_ReferenceIdeal_pre_qk_finite := by
  intro m ρ m' ρ' hpre hagree
  have hfin := fun c => finite_of_pre _ _ _ _ _ _ (hpre c)
  refine ⟨fun c => G5 m c, run_value m ρ (fun c => (hfin c).1) (fun c => (hfin c).2.1) (fun c => (hfin c).2.2), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5⟩ := hagree c
  funext z
  obtain ⟨b, i, e, rfl⟩ : ∃ (b : Fin 2) (i : Fin 16384) (e : Fin 1024), z = ix3 b i e := ⟨z 0, z 1, z 2, eq_ix3 z⟩
  refine (Ref.array_at m' c b i e).trans ?_
  rw [e0, e1, e2, e4, e5]
  rfl

end Cert.Gqa

end
-- ==== Proof.FfnCases.lean ====
/-
  What one run of the feed-forward kernel's body leaves, case by case, as the payloads of the blocks it read.
  Case A is a row block's first hidden tile (the normalised rows are stored and the running sum is cleared first),
  case B a middle tile, case C the last tile (the running sum is replaced by the normalised residual at the end).
-/
module

public import proofs.«01_k».proof.Proof.Gen.Kernel2Ideal.Frame
public import Idealize.ShloMosaic.Lib.Pipeline.Value

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Tactic

variable {F : FTy → Type} [FloatOps F]

theorem off2 : (![0, 0] : Fin 2 → Nat) = fun _ => 0 := funext fun a => by fin_cases a <;> rfl

theorem off4 : (![0, 0, 0, 0] : Fin 4 → Nat) = fun _ => 0 := funext fun a => by fin_cases a <;> rfl

/-- One hidden tile's contribution to the down projection: its two halves of 256 columns, added. -/
def tile (h : Vec F S512x2048 .bf16) (g u : Vec F S2048x512 .bf16) (d : Vec F S512x2048 .bf16) : FVec F S512x2048 .f32 :=
  k0_pay5 h (View.ld g (Rect.unit (s := S2048x512) ![0, 0] S2048x256.size inb_S2048x512_S2048x256_0_0))
    (View.ld u (Rect.unit (s := S2048x512) ![0, 0] S2048x256.size inb_S2048x512_S2048x256_0_0))
    (View.ld d (Rect.unit (s := S512x2048) ![0, 0] S256x2048.size inb_S512x2048_S256x2048_0_0))
    (View.ld g (Rect.unit (s := S2048x512) ![0, 256] S2048x256.size inb_S2048x512_S2048x256_0_256))
    (View.ld u (Rect.unit (s := S2048x512) ![0, 256] S2048x256.size inb_S2048x512_S2048x256_0_256))
    (View.ld d (Rect.unit (s := S512x2048) ![256, 0] S256x2048.size inb_S512x2048_S256x2048_256_0))

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S1x1x1x2048 .f32) (h4 : a4.IsWhole)
  (a5 : Memref sig .tc .vmem S1x1x1x2048 .f32) (h5 : a5.IsWhole)
  (a6 : Memref sig .tc .vmem S1x1x1x2048 .f32) (h6 : a6.IsWhole)
  (a7 : Memref sig .tc .vmem S2048x512 .bf16) (h7 : a7.IsWhole)
  (a8 : Memref sig .tc .vmem S2048x512 .bf16) (h8 : a8.IsWhole)
  (a9 : Memref sig .tc .vmem S512x2048 .bf16) (h9 : a9.IsWhole)
  (a10 : Memref sig .tc .vmem S1x2048 .f32) (h10 : a10.IsWhole)
  (a11 : Memref sig .tc .vmem S512x2048 .f32) (h11 : a11.IsWhole)
  (a12 : Memref sig .tc .vmem S512x2048 .bf16) (h12 : a12.IsWhole)
  (x0 : Vec F S512x2048 .f32)
  (x1 : Vec F S1x2048 .f32)
  (x2 : Vec F S1x1x1x2048 .f32)
  (x3 : Vec F S1x1x1x2048 .f32)
  (x4 : Vec F S1x1x1x2048 .f32)
  (x5 : Vec F S2048x512 .bf16)
  (x6 : Vec F S2048x512 .bf16)
  (x7 : Vec F S512x2048 .bf16)
  (x8 : Vec F S1x2048 .f32)
  (xo : Vec F S512x2048 .f32) (xs : Vec F S512x2048 .bf16)

/-- Case A keeps the normalised, modulated rows. -/
theorem kept_A (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 x7 x8 = k0_pay3 x0 x1 x3 x2 := by
  unfold sout0_A_0; rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7 x8)]; unfold kernelRun0_A; dsimp only
  sl_unfold_words
  rw [View.canon_unit_zero off2]
  simp only [View.readAt_eq_ld, h2.read_unread, h3.read_unread, h4.read_unread, h5.read_unread, View.ld_unit_zero (S := S512x2048) off2,
    View.ld_unit_zero (S := S1x2048) off2, View.ld_unit_zero (S := S1x1x1x2048) off4]

/-- Case A's running sum is the tile's contribution on top of zero. -/
theorem sum_A (hc0 : cond0_0 i) (hc1 : ¬cond0_1 i) :
    out0_A_9 c i a2 h2 a3 h3 a4 h4 a5 h5 a6 h6 a7 h7 a8 h8 a9 h9 a10 h10 a11 h11 a12 h12 hc0 hc1 x0 x1 x2 x3 x4 x5 x6 x7 x8
      = k0_pay1 (tile (k0_pay3 x0 x1 x3 x2) x5 x6 x7) (k0_pay6 (k0_pay4 (F := F))) := by
  unfold out0_A_9; rw [View.read_writes_eq_canon _ _ _ (cover0_A_9 c i a2 h2 a3 h3 a4 h4 a5 h5 a6 h6 a7 h7 a8 h8 a9 h9 a10 h10 a11 h11 a12 h12 hc0 hc1 x0 x1 x2 x3 x4 x5 x6 x7 x8)]; unfold kernelRun0_A; dsimp only
  sl_unfold_words
  rw [View.canon_cons_unit_zero (S := S512x2048) off2]
  simp only [View.readCov_unit_zero (S := S512x2048) _ off2, View.readAt_eq_ld, h2.read_unread, h3.read_unread, h4.read_unread, h5.read_unread, h7.read_unread, h8.read_unread, h9.read_unread, View.ld_unit_zero (S := S512x2048) off2,
    View.ld_unit_zero (S := S1x2048) off2, View.ld_unit_zero (S := S1x1x1x2048) off4]
  rfl

/-- Case B adds its tile to the running sum. -/
theorem sum_B (hc0 : ¬cond0_0 i) (hc1 : ¬cond0_1 i) :
    out0_B_9 c i a2 h2 a3 h3 a4 h4 a5 h5 a6 h6 a7 h7 a8 h8 a9 h9 a10 h10 a11 h11 a12 h12 hc0 hc1 x0 x1 x2 x3 x4 x5 x6 x7 x8 xo xs = k0_pay1 (tile xs x5 x6 x7) (k0_pay6 xo) := by
  unfold out0_B_9; rw [View.read_writes_eq_canon _ _ _ (cover0_B_9 c i a2 h2 a3 h3 a4 h4 a5 h5 a6 h6 a7 h7 a8 h8 a9 h9 a10 h10 a11 h11 a12 h12 hc0 hc1 x0 x1 x2 x3 x4 x5 x6 x7 x8 xo xs)]; unfold kernelRun0_B; dsimp only
  sl_unfold_words
  rw [View.canon_unit_zero off2]
  simp only [View.readAt_eq_ld, h7.read_unread, h8.read_unread, h9.read_unread, h11.read_unread, h12.read_unread, View.ld_unit_zero (S := S512x2048) off2]
  rfl

/-- Case C adds its tile and writes the normalised residual over the sum. -/
theorem sum_C (hc0 : ¬cond0_0 i) (hc1 : cond0_1 i) :
    out0_C_9 c i a2 h2 a3 h3 a4 h4 a5 h5 a6 h6 a7 h7 a8 h8 a9 h9 a10 h10 a11 h11 a12 h12 hc0 hc1 x0 x1 x2 x3 x4 x5 x6 x7 x8 xo xs = k0_pay2 x0 x4 (k0_pay1 (tile xs x5 x6 x7) (k0_pay6 xo)) x8 := by
  unfold out0_C_9; rw [View.read_writes_eq_canon _ _ _ (cover0_C_9 c i a2 h2 a3 h3 a4 h4 a5 h5 a6 h6 a7 h7 a8 h8 a9 h9 a10 h10 a11 h11 a12 h12 hc0 hc1 x0 x1 x2 x3 x4 x5 x6 x7 x8 xo xs)]; unfold kernelRun0_C; dsimp only
  sl_unfold_words
  rw [View.canon_cons_unit_zero (S := S512x2048) off2]
  simp only [View.readCov_unit_zero (S := S512x2048) _ off2, View.readAt_eq_ld, h2.read_unread, h6.read_unread, h7.read_unread, h8.read_unread, h9.read_unread, h10.read_unread, h11.read_unread, h12.read_unread, View.ld_unit_zero (S := S512x2048) off2,
    View.ld_unit_zero (S := S1x2048) off2, View.ld_unit_zero (S := S1x1x1x2048) off4]
  rfl

end Cert.Ffn

end
-- ==== Proof.FfnMath.lean ====
/-
  The feed-forward block's arithmetic at one index, over the extended reals: the modulated root-mean-square norm of a row,
  one hidden unit, and the normalised gated residual; and the kernel's payloads read as these functions.
-/
module

public import proofs.«01_k».proof.Proof.FfnCases
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.SL.Sem

/-- The inverse root of a row's mean square: `s` is the sum of squares, the divisor 2048 and the added 1e-6 as printed. -/
def invRms (s : EReal) : EReal :=
  Ideal.rsqrt (Ideal.div s (Ideal.ofBits FTy.f32 1157627904#32) + Ideal.ofBits FTy.f32 897988541#32)

/-- A row, normalised, weighted, scaled by one plus the modulation's scale and shifted. -/
def modulated (x w sc sh : Fin 2048 → EReal) (k : Fin 2048) : EReal :=
  x k * invRms (∑ i, x i * x i) * w k * (1 + sc k) + sh k

/-- One hidden unit: the gate's value times its logistic, times the up projection's value. -/
def hidden (h g u : Fin 2048 → EReal) : EReal :=
  ((∑ i, h i * g i) * Ideal.logistic (∑ i, h i * g i)) * ∑ i, h i * u i

/-- The gated residual, normalised and weighted. -/
def closed (x gt y fw : Fin 2048 → EReal) (k : Fin 2048) : EReal :=
  (x k + gt k * y k) * invRms (∑ i, (x i + gt i * y i) * (x i + gt i * y i)) * fw k

theorem rows_apply (x : Vec Ideal S512x2048 .f32) (w : Vec Ideal S1x2048 .f32) (sc sh : Vec Ideal S1x1x1x2048 .f32)
    (r : Fin 512) (k : Fin 2048) :
    k0_pay3 x w sc sh (ix2 r k) = modulated (fun i => x (ix2 r i)) (fun i => w (ix2 0 i)) (fun i => sc (ix4 0 0 0 i))
      (fun i => sh (ix4 0 0 0 i)) k := by
  pointwise [k0_pay3, modulated, invRms]

theorem closed_apply (x : Vec Ideal S512x2048 .f32) (gt : Vec Ideal S1x1x1x2048 .f32) (y : Vec Ideal S512x2048 .f32)
    (fw : Vec Ideal S1x2048 .f32) (r : Fin 512) (k : Fin 2048) :
    k0_pay2 x gt y fw (ix2 r k) = closed (fun i => x (ix2 r i)) (fun i => gt (ix4 0 0 0 i)) (fun i => y (ix2 r i))
      (fun i => fw (ix2 0 i)) k := by
  pointwise [k0_pay2, closed, invRms]

/-- A tile's contribution is the sum over its 512 hidden units: the two halves are the two halves of that sum. -/
theorem tile_apply (h : Vec Ideal S512x2048 .bf16) (g u : Vec Ideal S2048x512 .bf16) (d : Vec Ideal S512x2048 .bf16)
    (r : Fin 512) (k : Fin 2048) :
    tile h g u d (ix2 r k) = ∑ q : Fin 512, hidden (fun i => h (ix2 r i)) (fun i => g (ix2 i q)) (fun i => u (ix2 i q)) * d (ix2 q k) := by
  rw [Fin.sum_univ_two_halves 256 256 rfl]
  pointwise [tile, k0_pay5, hidden]

theorem add_apply (a b : Vec Ideal S512x2048 .f32) (i : S512x2048.Idx) : k0_pay1 a (k0_pay6 b) i = b i + a i := by
  pointwise [k0_pay1, k0_pay6]

theorem zero_apply (i : S512x2048.Idx) : k0_pay4 (F := Ideal) i = 0 := by
  pointwise [k0_pay4]

end Cert.Ffn

end
-- ==== Proof.FfnBlocks.lean ====
/-
  The feed-forward kernel's input blocks at an index, as elements of the arguments. Point `t` of the grid works on row
  block `t / 11` and hidden tile `t % 11`; a row block lies inside one batch element.
-/
module

public import proofs.«01_k».proof.Proof.FfnMath
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![t.val / 11, 0] ∧ win0_1.index t = ![0, 0]
    ∧ win0_2.index t = ![t.val / 352, 3, 0, 0] ∧ win0_3.index t = ![t.val / 352, 4, 0, 0] ∧ win0_4.index t = ![t.val / 352, 5, 0, 0]
    ∧ win0_5.index t = ![0, t.val % 11] ∧ win0_6.index t = ![0, t.val % 11] ∧ win0_7.index t = ![t.val % 11, 0]
    ∧ win0_8.index t = ![0, 0] :=
  (by decide +kernel : ∀ t : Fin grid0.N, _)

theorem point_lt (t : Fin cfg0.N) : t.val < 704 := lt_of_lt_of_eq t.isLt (show cfg0.N = 704 from N_0)

theorem x_at (t : Fin cfg0.N) (r : Fin 512) (k : Fin 2048) :
    iblk m c 0 t (ix2 r k) = m ((c : Thread nD τ).loc main_arg0)
      (ix3 ⟨t.val / 352, by have := point_lt t; omega⟩ ⟨(512 * (t.val / 11) + r.val) % 16384, Nat.mod_lt _ (by decide)⟩ k) := by
  have := point_lt t
  obtain ⟨e, -⟩ := places t
  blk_ext! [iblk, V, e]

theorem nw_at (t : Fin cfg0.N) (k : Fin 2048) :
    iblk m c 1 t (ix2 0 k) = m ((c : Thread nD τ).loc main_arg1) (ix1 k) := by
  obtain ⟨-, e, -⟩ := places t
  blk_ext! [iblk, V, e]

theorem sh_at (t : Fin cfg0.N) (k : Fin 2048) :
    iblk m c 2 t (ix4 0 0 0 k) = m ((c : Thread nD τ).loc main_arg2)
      (ix2 ⟨t.val / 352, by have := point_lt t; omega⟩ ⟨6144 + k.val, by have := k.isLt; omega⟩) := by
  have := point_lt t
  obtain ⟨-, -, e, -⟩ := places t
  blk_ext! [iblk, V, e]

theorem sc_at (t : Fin cfg0.N) (k : Fin 2048) :
    iblk m c 3 t (ix4 0 0 0 k) = m ((c : Thread nD τ).loc main_arg2)
      (ix2 ⟨t.val / 352, by have := point_lt t; omega⟩ ⟨8192 + k.val, by have := k.isLt; omega⟩) := by
  have := point_lt t
  obtain ⟨-, -, -, e, -⟩ := places t
  blk_ext! [iblk, V, e]

theorem gt_at (t : Fin cfg0.N) (k : Fin 2048) :
    iblk m c 4 t (ix4 0 0 0 k) = m ((c : Thread nD τ).loc main_arg2)
      (ix2 ⟨t.val / 352, by have := point_lt t; omega⟩ ⟨10240 + k.val, by have := k.isLt; omega⟩) := by
  have := point_lt t
  obtain ⟨-, -, -, -, e, -⟩ := places t
  blk_ext! [iblk, V, e]

theorem gate_at (t : Fin cfg0.N) (i : Fin 2048) (q : Fin 512) :
    iblk m c 5 t (ix2 i q) = m ((c : Thread nD τ).loc main_arg3)
      (ix2 i ⟨t.val % 11 * 512 + q.val, by have := q.isLt; omega⟩) := by
  obtain ⟨-, -, -, -, -, e, -⟩ := places t
  blk_ext! [iblk, V, e]

theorem up_at (t : Fin cfg0.N) (i : Fin 2048) (q : Fin 512) :
    iblk m c 6 t (ix2 i q) = m ((c : Thread nD τ).loc main_arg4)
      (ix2 i ⟨t.val % 11 * 512 + q.val, by have := q.isLt; omega⟩) := by
  obtain ⟨-, -, -, -, -, -, e, -⟩ := places t
  blk_ext! [iblk, V, e]

theorem down_at (t : Fin cfg0.N) (q : Fin 512) (k : Fin 2048) :
    iblk m c 7 t (ix2 q k) = m ((c : Thread nD τ).loc main_arg5)
      (ix2 ⟨t.val % 11 * 512 + q.val, by have := q.isLt; omega⟩ k) := by
  obtain ⟨-, -, -, -, -, -, -, e, -⟩ := places t
  blk_ext! [iblk, V, e]

theorem fw_at (t : Fin cfg0.N) (k : Fin 2048) :
    iblk m c 8 t (ix2 0 k) = m ((c : Thread nD τ).loc main_arg6) (ix1 k) := by
  obtain ⟨-, -, -, -, -, -, -, -, e⟩ := places t
  blk_ext! [iblk, V, e]

end Cert.Ffn

end
-- ==== Proof.FfnValue.lean ====
/-
  What the feed-forward kernel's result array holds, at one element, in terms of the arguments. The rows normalised at a row
  block's first point stay through its eleven points; the running sum after tile `j` is the sum of the tiles up to `j`; the
  last point adds its own tile and closes the block. Eleven tiles of 512 hidden units are the 5632 units in order.
-/
module

public import proofs.«01_k».proof.Proof.FfnBlocks
public import proofs.«01_k».proof.Proof.Gen.Kernel2Ideal.Value

@[expose] public section

set_option maxRecDepth 16384

noncomputable section

namespace Cert.Ffn

open Cert.Kernel2Ideal Cert.Kernel2Ideal.Gen Idealize.ShloMosaic Idealize.ShloMosaic.TcCoe Idealize.SL.Sem

/-! ## The whole function of the seven arrays -/

section Plain
variable (x : (⟨3, ![2, 16384, 2048]⟩ : Shape).Idx → EReal) (nw : (⟨1, ![2048]⟩ : Shape).Idx → EReal)
  (md : (⟨2, ![2, 12288]⟩ : Shape).Idx → EReal) (wg wu : (⟨2, ![2048, 5632]⟩ : Shape).Idx → EReal)
  (wd : (⟨2, ![5632, 2048]⟩ : Shape).Idx → EReal) (fw : (⟨1, ![2048]⟩ : Shape).Idx → EReal) (b : Fin 2) (s : Fin 16384)

/-- Row `(b, s)` normalised and modulated. -/
def row (k : Fin 2048) : EReal :=
  modulated (fun i => x (ix3 b s i)) (fun i => nw (ix1 i)) (fun i => md (ix2 b ⟨8192 + i.val, by have := i.isLt; omega⟩))
    (fun i => md (ix2 b ⟨6144 + i.val, by have := i.isLt; omega⟩)) k

/-- Hidden unit `q` of row `(b, s)`, weighted into output column `k`. -/
def term (k : Fin 2048) (q : Fin 5632) : EReal :=
  hidden (row x nw md b s) (fun i => wg (ix2 i q)) (fun i => wu (ix2 i q)) * wd (ix2 q k)

/-- Tile `n` of the hidden units (nothing past the eleventh). -/
def part (k : Fin 2048) (n : Nat) : EReal :=
  if hn : n < 11 then ∑ q : Fin 512, term x nw md wg wu wd b s k ⟨n * 512 + q.val, by have := q.isLt; omega⟩ else 0

/-- The result at `(b, s, k)`. -/
def result (k : Fin 2048) : EReal :=
  closed (fun i => x (ix3 b s i)) (fun i => md (ix2 b ⟨10240 + i.val, by have := i.isLt; omega⟩))
    (fun i => ∑ q : Fin 5632, term x nw md wg wu wd b s i q) (fun i => fw (ix1 i)) k

/-- Eleven tiles are all the hidden units. -/
theorem parts_sum (k : Fin 2048) :
    ∑ n ∈ Finset.range 11, part x nw md wg wu wd b s k n = ∑ q : Fin 5632, term x nw md wg wu wd b s k q := by
  rw [Fin.sum_univ_tiles 11 512 rfl, Finset.sum_range]
  refine Finset.sum_congr rfl fun n _ => ?_
  unfold part; rw [dif_pos n.isLt]
end Plain

/-! ## The kernel's fold -/

variable (m : (ℓ : Loc nD τ sig) → Buf (Elt Ideal) ℓ) (c : Dev nD)

/-- The batch element of point `t`'s row block. -/
abbrev bat (t : Fin cfg0.N) : Fin 2 := ⟨t.val / 352, by have := point_lt t; omega⟩
/-- Row `r` of point `t`'s row block, within its batch element. -/
abbrev pos (t : Fin cfg0.N) (r : Fin 512) : Fin 16384 := ⟨(512 * (t.val / 11) + r.val) % 16384, Nat.mod_lt _ (by decide)⟩

/-- The kept rows, at point `t`. -/
abbrev rowOf (t : Fin cfg0.N) (r : Fin 512) : Fin 2048 → EReal :=
  row (m ((c : Thread nD τ).loc main_arg0)) (m ((c : Thread nD τ).loc main_arg1)) (m ((c : Thread nD τ).loc main_arg2)) (bat t) (pos t r)
/-- Tile `n`'s contribution, at point `t`'s rows. -/
abbrev partOf (t : Fin cfg0.N) (r : Fin 512) (k : Fin 2048) (n : Nat) : EReal :=
  part (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (bat t) (pos t r) k n

theorem rows_at (t : Fin cfg0.N) (r : Fin 512) (k : Fin 2048) :
    k0_pay3 (iblk m c 0 t) (iblk m c 1 t) (iblk m c 3 t) (iblk m c 2 t) (ix2 r k) = rowOf m c t r k := by
  refine (rows_apply _ _ _ _ r k).trans ?_
  unfold rowOf row
  congr 1
  · funext i; exact x_at m c t r i
  · funext i; exact nw_at m c t i
  · funext i; exact sc_at m c t i
  · funext i; exact sh_at m c t i

theorem tile_at (t : Fin cfg0.N) (h : Vec Ideal S512x2048 .bf16) (hh : ∀ r k, h (ix2 r k) = rowOf m c t r k) (r : Fin 512) (k : Fin 2048) :
    tile h (iblk m c 5 t) (iblk m c 6 t) (iblk m c 7 t) (ix2 r k) = partOf m c t r k (t.val % 11) := by
  refine (tile_apply h _ _ _ r k).trans ?_
  unfold partOf part
  rw [dif_pos (Nat.mod_lt _ (by decide))]
  refine Finset.sum_congr rfl fun q _ => ?_
  unfold term
  refine congrArg₂ (fun a b : EReal => a * b) ?_ (down_at m c t q k)
  congr 1
  · funext i; exact hh r i
  · funext i; exact gate_at m c t i q
  · funext i; exact up_at m c t i q

/-- What the carried pair holds after a point that is not the last of its row block. -/
theorem carried (n : ℕ) : ∀ hn : n < cfg0.N, (∀ r k, (outsAt0 m c n hn).2 (ix2 r k) = rowOf m c ⟨n, hn⟩ r k)
    ∧ (n % 11 ≠ 10 → ∀ r k, (outsAt0 m c n hn).1 (ix2 r k) = ∑ i ∈ Finset.range (n % 11 + 1), partOf m c ⟨n, hn⟩ r k i) := by
  induction n with
  | zero =>
    intro hn
    rw [outsAt0_A m c ⟨0, hn⟩ (Nat.zero_mod 11) (by dsimp only; omega)]
    refine ⟨fun r k => ?_, fun _ r k => ?_⟩
    · dsimp only; rw [kept_A]; exact rows_at m c ⟨0, hn⟩ r k
    · dsimp only; rw [sum_A]
      refine (add_apply _ _ _).trans ?_
      rw [zero_apply, zero_add, tile_at m c ⟨0, hn⟩ _ (rows_at m c ⟨0, hn⟩)]
      simp
  | succ n ih =>
    intro hn
    have hlt : n + 1 < 704 := point_lt ⟨n + 1, hn⟩
    by_cases h0 : (n + 1) % 11 = 0
    · rw [outsAt0_A m c ⟨n + 1, hn⟩ h0 (by dsimp only; omega)]
      refine ⟨fun r k => ?_, fun _ r k => ?_⟩
      · dsimp only; rw [kept_A]; exact rows_at m c ⟨n + 1, hn⟩ r k
      · dsimp only; rw [sum_A]
        refine (add_apply _ _ _).trans ?_
        rw [zero_apply, zero_add, tile_at m c ⟨n + 1, hn⟩ _ (rows_at m c ⟨n + 1, hn⟩), h0]
        simp
    · obtain ⟨ihs, iho⟩ := ih (Nat.lt_of_succ_lt hn)
      have eb : bat ⟨n, Nat.lt_of_succ_lt hn⟩ = bat ⟨n + 1, hn⟩ := Fin.ext (by show n / 352 = (n + 1) / 352; omega)
      have ep : ∀ r, pos ⟨n, Nat.lt_of_succ_lt hn⟩ r = pos ⟨n + 1, hn⟩ r := fun r =>
        Fin.ext (by show (512 * (n / 11) + r.val) % 16384 = (512 * ((n + 1) / 11) + r.val) % 16384; rw [show n / 11 = (n + 1) / 11 by omega])
      have hs : ∀ r k, (outsAt0 m c n (Nat.lt_of_succ_lt hn)).2 (ix2 r k) = rowOf m c ⟨n + 1, hn⟩ r k := fun r k => by
        rw [ihs]; unfold rowOf; rw [eb, ep]
      by_cases h1 : (n + 1) % 11 = 10
      · rw [outsAt0_C m c ⟨n + 1, hn⟩ h0 h1]
        exact ⟨hs, fun h => absurd h1 h⟩
      · rw [outsAt0_B m c ⟨n + 1, hn⟩ h0 h1]
        refine ⟨hs, fun _ r k => ?_⟩
        dsimp only; rw [sum_B]
        refine (add_apply _ _ _).trans ?_
        refine (congrArg (_ + ·) (tile_at m c ⟨n + 1, hn⟩ _ hs r k)).trans ?_
        refine (congrArg (· + _) ((iho (by omega) r k))).trans ?_
        dsimp only
        rw [show (n + 1) % 11 = n % 11 + 1 by omega, Finset.sum_range_succ _ (n % 11 + 1)]
        unfold partOf; rw [eb, ep]

/-- What the last point of a row block writes back. -/
theorem closing (t : Fin cfg0.N) (ht : t.val % 11 = 10) (r : Fin 512) (k : Fin 2048) :
    (outsAt0 m c t.val t.isLt).1 (ix2 r k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (bat t) (pos t r) k := by
  obtain ⟨n, hn⟩ := t
  obtain ⟨n, rfl⟩ : ∃ k, n = k + 1 := ⟨n - 1, by dsimp only at ht; omega⟩
  have hlt : n + 1 < 704 := point_lt ⟨n + 1, hn⟩
  dsimp only at ht
  obtain ⟨ihs, iho⟩ := carried m c n (Nat.lt_of_succ_lt hn)
  have eb : bat ⟨n, Nat.lt_of_succ_lt hn⟩ = bat ⟨n + 1, hn⟩ := Fin.ext (by show n / 352 = (n + 1) / 352; omega)
  have ep : ∀ r, pos ⟨n, Nat.lt_of_succ_lt hn⟩ r = pos ⟨n + 1, hn⟩ r := fun r =>
    Fin.ext (by show (512 * (n / 11) + r.val) % 16384 = (512 * ((n + 1) / 11) + r.val) % 16384; rw [show n / 11 = (n + 1) / 11 by omega])
  have hs : ∀ r k, (outsAt0 m c n (Nat.lt_of_succ_lt hn)).2 (ix2 r k) = rowOf m c ⟨n + 1, hn⟩ r k := fun r k => by
    rw [ihs]; unfold rowOf; rw [eb, ep]
  rw [outsAt0_C m c ⟨n + 1, hn⟩ (by dsimp only; omega) ht]
  dsimp only; rw [sum_C]
  refine (closed_apply _ _ _ _ r k).trans ?_
  unfold result
  congr 1
  · funext i; exact x_at m c ⟨n + 1, hn⟩ r i
  · funext i; exact gt_at m c ⟨n + 1, hn⟩ i
  · funext i
    refine (add_apply _ _ _).trans ?_
    refine (congrArg (_ + ·) (tile_at m c ⟨n + 1, hn⟩ _ hs r i)).trans ?_
    rw [← parts_sum, Finset.sum_range_succ _ 10]
    refine (congrArg (· + _) ((iho (by omega) r i))).trans ?_
    dsimp only
    rw [ht, show n % 11 + 1 = 10 by omega]
    unfold partOf; rw [eb, ep]
  · funext i; exact fw_at m c ⟨n + 1, hn⟩ i

/-- The result array at row `R`, column `k`. -/
theorem array_at (R : Fin 32768) (k : Fin 2048) :
    Value.G9 m c (ix2 R k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
      ⟨R.val / 16384, by have := R.isLt; omega⟩ ⟨R.val % 16384, Nat.mod_lt _ (by decide)⟩ k := by
  have hR := R.isLt
  have hk := k.isLt
  have hp : Value.pt9Of (ix2 R k) = 11 * (R.val / 512) + 10 := by
    show 11 * (1 * (R.val / 512 - 0) + 1 * (k.val / 2048 - 0)) + 10 = _
    omega
  have hlt : 11 * (R.val / 512) + 10 < cfg0.N := lt_of_lt_of_eq (by omega) (show 704 = cfg0.N from N_0.symm)
  have hl : Value.loc9Of (ix2 R k) = ix2 ⟨R.val % 512, Nat.mod_lt _ (by decide)⟩ k := by
    funext a; apply Fin.ext
    match a with
    | ⟨0, _⟩ => rfl
    | ⟨1, _⟩ => show k.val % 2048 = k.val; omega
  unfold Value.G9
  rw [dif_pos (by rw [hp]; exact hlt), hl, Value.fold0_congr m c _ _ _ (by omega) hp, ← Value.outsAt0_sweep m c _ hlt]
  refine (closing m c ⟨11 * (R.val / 512) + 10, hlt⟩ (by dsimp only; omega) _ k).trans ?_
  congr 1
  · exact Fin.ext (by show (11 * (R.val / 512) + 10) / 352 = R.val / 16384; omega)
  · exact Fin.ext (by show (512 * ((11 * (R.val / 512) + 10) / 11) + R.val % 512) % 16384 = R.val % 16384; omega)

end Cert.Ffn

end
-- ==== Proof.FfnRef.lean ====
/-
  What the feed-forward reference's result holds at one element. Its composed term is read in three stages: the normalised and
  modulated rows, the gated hidden units, and the residual row under the final norm.
-/
module

public import proofs.«01_k».proof.Proof.FfnValue
public import proofs.«01_k».proof.Proof.Gen.Reference2Ideal.Run
public import Idealize.ShloMosaic.Lib.Pointwise

@[expose] public section

set_option maxRecDepth 16384

noncomputable section

namespace Cert.Ffn.Ref

open Cert.Reference2Ideal Cert.Reference2Ideal.Gen Idealize.ShloMosaic Idealize.ShloMosaic.TcCoe Idealize.SL.Sem

variable (x : FVec Ideal S2x16384x2048 .f32) (nw fw : FVec Ideal S2048 .f32) (md : FVec Ideal S2x12288 .f32)
  (wg wu : FVec Ideal S2048x5632 .f32) (wd : FVec Ideal S5632x2048 .f32)

/-- Root-mean-square norm of each row, under a weight. -/
def normed : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 nw))

/-- The rows the projections read. -/
def rows : FVec Ideal S2x16384x2048 .f32 :=
  addf (mulf (normed x nw) (broadcastInDim S2x16384x2048 ![0, 1, 2] bcast_S2x1x2048_S2x16384x2048_0_1_2 (addf (broadcastInDim S2x1x2048 ![] bcast_S_S2x1x2048 (constant S_ .f32 0x3F800000#32)) (extractStridedSlice S2x1x2048 ![0, 0, 8192] (broadcastInDim S2x1x12288 ![0, 2] bcast_S2x12288_S2x1x12288_0_2 md) slices_S2x1x12288_S2x1x2048_0_0_8192)))) (broadcastInDim S2x16384x2048 ![0, 1, 2] bcast_S2x1x2048_S2x16384x2048_0_1_2 (extractStridedSlice S2x1x2048 ![0, 0, 6144] (broadcastInDim S2x1x12288 ![0, 2] bcast_S2x12288_S2x1x12288_0_2 md) slices_S2x1x12288_S2x1x2048_0_0_6144))

/-- The gated hidden units of given rows. -/
def units (h : FVec Ideal S2x16384x2048 .f32) : FVec Ideal S2x16384x5632 .f32 :=
  mulf (mulf (Host.dotGeneral dot_S2x16384x2048_S2048x5632_S2x16384x5632_2_0_01_1_n_n none h wg) (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf (Host.dotGeneral dot_S2x16384x2048_S2048x5632_S2x16384x5632_2_0_01_1_n_n none h wg)))))) (Host.dotGeneral dot_S2x16384x2048_S2048x5632_S2x16384x5632_2_0_01_1_n_n none h wu)

/-- The residual rows, before the final norm. -/
def summed (u : FVec Ideal S2x16384x5632 .f32) : FVec Ideal S2x16384x2048 .f32 :=
  addf x (mulf (broadcastInDim S2x16384x2048 ![0, 1, 2] bcast_S2x1x2048_S2x16384x2048_0_1_2 (extractStridedSlice S2x1x2048 ![0, 0, 10240] (broadcastInDim S2x1x12288 ![0, 2] bcast_S2x12288_S2x1x12288_0_2 md) slices_S2x1x12288_S2x1x2048_0_0_10240)) (Host.dotGeneral dot_S2x16384x5632_S5632x2048_S2x16384x2048_2_0_01_1_n_n none u wd))

theorem res_eq (m : (ℓ : Loc nD τ sig) → Buf (Elt Ideal) ℓ) (c : Dev nD) :
    Value.res_main_v47 m c = shapeCast S32768x2048 (normed (summed (m ((c : Thread nD τ).loc main_arg0)) (m ((c : Thread nD τ).loc main_arg2)) (m ((c : Thread nD τ).loc main_arg5))
      (units (m ((c : Thread nD τ).loc main_arg3)) (m ((c : Thread nD τ).loc main_arg4)) (rows (m ((c : Thread nD τ).loc main_arg0)) (m ((c : Thread nD τ).loc main_arg1)) (m ((c : Thread nD τ).loc main_arg2)))))
      (m ((c : Thread nD τ).loc main_arg6))) shapeCasts_S2x16384x2048_S32768x2048 := rfl

theorem normed_at (b : Fin 2) (s : Fin 16384) (k : Fin 2048) :
    normed x nw (ix3 b s k) = x (ix3 b s k) * invRms (∑ i : Fin 2048, x (ix3 b s i) * x (ix3 b s i)) * nw (ix1 k) := by
  pointwise [normed, invRms]

theorem rows_at (b : Fin 2) (s : Fin 16384) (k : Fin 2048) : rows x nw md (ix3 b s k) = row x nw md b s k := by
  pointwise [rows, row, modulated]
  rw [normed_at]

theorem units_at (h : FVec Ideal S2x16384x2048 .f32) (b : Fin 2) (s : Fin 16384) (q : Fin 5632) :
    units wg wu h (ix3 b s q) = hidden (fun i => h (ix3 b s i)) (fun i => wg (ix2 i q)) (fun i => wu (ix2 i q)) := by
  pointwise [units, hidden, Ideal.logistic]

theorem summed_at (u : FVec Ideal S2x16384x5632 .f32) (b : Fin 2) (s : Fin 16384) (k : Fin 2048) :
    summed x md wd u (ix3 b s k) = x (ix3 b s k) + md (ix2 b ⟨10240 + k.val, by have := k.isLt; omega⟩) * ∑ q : Fin 5632, u (ix3 b s q) * wd (ix2 q k) := by
  pointwise [summed]

/-- The reference's result at row `R`, column `k`. -/
theorem array_at (m : (ℓ : Loc nD τ sig) → Buf (Elt Ideal) ℓ) (c : Dev nD) (R : Fin 32768) (k : Fin 2048) :
    Value.res_main_v47 m c (ix2 R k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
      ⟨R.val / 16384, by have := R.isLt; omega⟩ ⟨R.val % 16384, Nat.mod_lt _ (by decide)⟩ k := by
  rw [res_eq]
  generalize m ((c : Thread nD τ).loc main_arg0) = x
  generalize m ((c : Thread nD τ).loc main_arg1) = nw
  generalize m ((c : Thread nD τ).loc main_arg2) = md
  generalize m ((c : Thread nD τ).loc main_arg3) = wg
  generalize m ((c : Thread nD τ).loc main_arg4) = wu
  generalize m ((c : Thread nD τ).loc main_arg5) = wd
  generalize m ((c : Thread nD τ).loc main_arg6) = fw
  have split : ∀ v : FVec Ideal S2x16384x2048 .f32, shapeCast S32768x2048 v shapeCasts_S2x16384x2048_S32768x2048 (ix2 R k)
      = v (ix3 ⟨R.val / 16384, by have := R.isLt; omega⟩ ⟨R.val % 16384, Nat.mod_lt _ (by decide)⟩ k) := fun v => by
    pointwise
  refine (split _).trans ?_
  rw [normed_at]
  unfold result closed term
  simp only [summed_at, units_at, rows_at]

end Cert.Ffn.Ref

end
-- ==== Proof.FfnClaims.lean ====
/-
  The feed-forward claims: the frames of the kernel at both instances and of the reference, and that the kernel and the
  reference compute the same result over exact arithmetic.
-/
module

public import proofs.«01_k».proof.Defs
public import proofs.«01_k».proof.Proof.FfnRef
public import proofs.«01_k».proof.Proof.Gen.Kernel2.Frame
public import Idealize.ShloMosaic.Adequacy
public import Idealize.ShloMosaic.Init

@[expose] public section

noncomputable section

namespace Cert.Ffn

open Idealize.ShloMosaic Idealize.ShloMosaic.TcCoe Idealize.SL.Sem

theorem frame_kernel : Cert.quiescent_Kernel2 := fun m ρ _ => Cert.Kernel2.Gen.frame (F := Bits) m ρ

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference agree at every element of the result: both are `result` of the seven arguments. -/
theorem value : Cert.algebraic_Kernel2Ideal_Reference2Ideal := by
  intro m ρ m' ρ' _ hagree
  refine ⟨fun c => Cert.Kernel2Ideal.Value.G9 m c, Cert.Kernel2Ideal.Value.run (F := Ideal) m ρ, ?_⟩
  refine (θ_run Cert.Reference2Ideal.defs _ _).mono (fun r h c => ⟨(h c).1.trans ?_, (h c).2⟩)
    (Cert.Reference2Ideal.Value.run (F := Ideal) m' ρ')
  obtain ⟨e0, e1, e2, e3, e4, e5, e6⟩ := hagree c
  funext i
  obtain ⟨R, k, rfl⟩ : ∃ (R : Fin 32768) (k : Fin 2048), i = ix2 R k := ⟨i 0, i 1, eq_ix2 i⟩
  refine (Ref.array_at m' c R k).trans ((array_at m c R k).trans ?_).symm
  rw [e0, e1, e2, e3, e4, e5, e6]

end Cert.Ffn

end
-- ==== Proof.DifOffsets.lean ====
/- Where the differential attention's outer loop finds and leaves the transposed query tiles: the two slots of the query scratch
   buffer alternate, trip `k` reading slot `k % 2` and filling the other one. -/
module

public import proofs.«01_k».proof.Proof.Gen.Kernel3Ideal.Loops

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem off2_eq : ∀ k : Fin k0_t1_loop.trips, k0_off2 k = ![k.val % 2, 0, 0] := by decide +kernel
instance closedOff2 (k : Fin k0_t1_loop.trips) : ClosedOff (k0_off2 k) := ⟨![k.val % 2, 0, 0], off2_eq k⟩

theorem off5_eq : ∀ k : Fin k0_t1_loop.trips, k0_off5 k = ![k.val % 2, 0, 0] := by decide +kernel
instance closedOff5 (k : Fin k0_t1_loop.trips) : ClosedOff (k0_off5 k) := ⟨![k.val % 2, 0, 0], off5_eq k⟩

theorem off7_eq : ∀ k : Fin k0_t1_loop.trips, k0_off7 k = ![(k.val + 1) % 2, 0, 0] := by decide +kernel
instance closedOff7 (k : Fin k0_t1_loop.trips) : ClosedOff (k0_off7 k) := ⟨![(k.val + 1) % 2, 0, 0], off7_eq k⟩

theorem off8_eq : ∀ k : Fin k0_t1_loop.trips, k0_off8 k = ![(k.val + 1) % 2, 0, 512] := by decide +kernel
instance closedOff8 (k : Fin k0_t1_loop.trips) : ClosedOff (k0_off8 k) := ⟨![(k.val + 1) % 2, 0, 512], off8_eq k⟩

theorem off9_eq : ∀ k : Fin k0_t1_loop.trips, k0_off9 k = ![(k.val + 1) % 2, 0, 0] := by decide +kernel
instance closedOff9 (k : Fin k0_t1_loop.trips) : ClosedOff (k0_off9 k) := ⟨![(k.val + 1) % 2, 0, 0], off9_eq k⟩

end Cert.Dif

end
-- ==== Proof.DifTrip.lean ====
/- One trip of the differential attention's outer loop: one tile of 512 query rows, two maps at once, against every key. -/
module

public import proofs.«01_k».proof.Proof.DifOffsets

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip holds: the blocks and the transposed values it reads, and the buffers it writes. -/
abbrev Trip (c : Dev nD) (arg3 : Memref sig .tc .vmem S1x4096x128 .bf16) (arg4 : Memref sig .tc .vmem S1x16384x128 .bf16) (arg6 : Memref sig .tc .vmem S1x256x128 .bf16) (arg8 : Memref sig .tc .vmem S1x128 .f32) (arg9 : Memref sig .tc .vmem S1x128 .f32) (arg12 : Memref sig .tc .vmem S32x144x512 .bf16) (arg13 : Memref sig .tc .vmem S144x256 .bf16) (arg10 : Memref sig .tc .vmem S1x4096x128 .bf16) (arg11 : Memref sig .tc .vmem S2x128x1024 .bf16) (arg14 : Memref sig .tc .vmem S512x1024 .f32) (arg15 : Memref sig .tc .vmem S512x1024 .f32) (arg16 : Memref sig .tc .vmem S256x1024 .f32) (arg17 : Memref sig .tc .vmem S1x1024 .f32) (arg18 : Memref sig .tc .vmem S144x1024 .f32) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) : sProp 𝕄 :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg13.view.loc (c : Thread nD τ) ↦[arg13.view.set]{fullShare} X13) ∗ (arg10.view.loc (c : Thread nD τ) ↦[arg10.view.set]{fullShare} f10) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

set_option maxHeartbeats 1600000 in
/-- One trip, run once at any trip number: what it writes is found by the run, as a function of what the buffers held. -/
@[irreducible] def trip (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (k : Fin k0_t1_loop.trips) :
    Σ' (C10 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg10.view.ty), Σ' (C11 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg11.view.ty), Σ' (C14 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg14.view.ty), Σ' (C15 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg15.view.ty), Σ' (C16 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg16.view.ty), Σ' (C17 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg17.view.ty), { C18 : BufTy.Contents (Elt F) arg10.view.ty → BufTy.Contents (Elt F) arg11.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg18.view.ty // ∀ (E : Set ℕ) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
      Trip c arg3 arg4 arg6 arg8 arg9 arg12 arg13 arg10 arg11 arg14 arg15 arg16 arg17 arg18 X3 X4 X6 X8 X9 X12 X13 f10 f11 f14 f15 f16 f17 f18
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k PUnit.unit)
        (fun _ => Trip c arg3 arg4 arg6 arg8 arg9 arg12 arg13 arg10 arg11 arg14 arg15 arg16 arg17 arg18 X3 X4 X6 X8 X9 X12 X13 (C10 f10 f11 f14 f15 f16 f17 f18) (C11 f10 f11 f14 f15 f16 f17 f18) (C14 f10 f11 f14 f15 f16 f17 f18) (C15 f10 f11 f14 f15 f16 f17 f18) (C16 f10 f11 f14 f15 f16 f17 f18) (C17 f10 f11 f14 f15 f16 f17 f18) (C18 f10 f11 f14 f15 f16 f17 f18)) } := by
  have hk : k.val < 8 := Nat.lt_of_lt_of_le k.isLt k0_t1_abs.2.1
  refine ⟨?_, ?_, ?_, ?_, ?_, ?_, ?_, fun E f10 f11 f14 f15 f16 f17 f18 => ?run⟩
  case run =>
    unfold k0_t1_body
    iintro ⟨HR3, HR4, HR6, HR8, HR9, HR12, HR13, HW10, HW11, HW14, HW15, HW16, HW17, HW18⟩
    sl_exec
    sl_step
    sl_close

end Cert.Dif

end
-- ==== Proof.DifState.lean ====
/- The differential attention's running state, at any floats: the maximum and the weighted sums after the first chunks of keys,
   as a recursion on the number of chunks. -/
module

public import proofs.«01_k».proof.Proof.DifTrip
public import Idealize.ShloMosaic.Lib.VecWindow
public import Idealize.ShloMosaic.Lib.Pipeline.ValueKit

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Chunk `n` of the keys: 512 rows. -/
def kchunk (x : Vec F S1x16384x128 .bf16) (n : ℕ) : Vec F S1x512x128 .bf16 :=
  fun j => x (ix3 (j 0) ⟨(512 * n + (j 1).val) % 16384, Nat.mod_lt _ (by decide)⟩ (j 2))

/-- Chunk `n` of the transposed values with their rows of ones. -/
def vchunk (x : Vec F S32x144x512 .bf16) (n : ℕ) : Vec F S1x144x512 .bf16 :=
  fun j => x (ix3 ⟨n % 32, Nat.mod_lt _ (by decide)⟩ (j 1) (j 2))

/-- Slot `b` of the transposed query tiles. -/
def qslot (x : Vec F S2x128x1024 .bf16) (b : ℕ) : Vec F S1x128x1024 .bf16 :=
  fun j => x (ix3 ⟨b % 2, Nat.mod_lt _ (by decide)⟩ (j 1) (j 2))

/-- The scores of chunk `n` of the keys against one query tile. -/
def scores (x : Vec F S1x16384x128 .bf16) (q : Vec F S1x128x1024 .bf16) (n : ℕ) : Vec F S512x1024 .f32 :=
  k0_pay74 (kchunk x n) q

/-- The running maximum and the running sums after `n` chunks. -/
def soft (x : Vec F S1x16384x128 .bf16) (v : Vec F S32x144x512 .bf16) (q : Vec F S1x128x1024 .bf16) :
    ℕ → Vec F S1x1024 .f32 × Vec F S144x1024 .f32
  | 0 => (k0_pay84, k0_pay85)
  | n + 1 => (k0_pay75 (soft x v q n).1 (scores x q n),
      k0_pay76 (vchunk v n) (soft x v q n).1 (scores x q n) (scores x q n) (soft x v q n).2)

theorem soft_succ (x : Vec F S1x16384x128 .bf16) (v : Vec F S32x144x512 .bf16) (q : Vec F S1x128x1024 .bf16) (n : ℕ) :
    soft x v q (n + 1) = (k0_pay75 (soft x v q n).1 (scores x q n),
      k0_pay76 (vchunk v n) (soft x v q n).1 (scores x q n) (scores x q n) (soft x v q n).2) := rfl

/-! ## The payloads that are spelt more than once -/

theorem pay79_eq (a : Vec F S1x512x128 .bf16) (b : Vec F S1x128x1024 .bf16) : k0_pay79 a b = k0_pay74 a b := rfl
theorem pay88_eq (a : Vec F S1x512x128 .bf16) (b : Vec F S1x128x1024 .bf16) : k0_pay88 a b = k0_pay74 a b := rfl
theorem pay92_eq (a : Vec F S1x512x128 .bf16) (b : Vec F S1x128x1024 .bf16) : k0_pay93 (k0_pay92 a b) = k0_pay74 a b := rfl
theorem pay99_eq (a : Vec F S1x512x128 .bf16) (b : Vec F S1x128x1024 .bf16) :
    k0_pay99 (k0_pay97 a) (k0_pay98 b) (constant S512x1024 .f32 0x00000000#32) = k0_pay74 a b := rfl
theorem pay108_eq (a : Vec F S1x512x128 .bf16) (b : Vec F S1x128x1024 .bf16) : k0_pay108 a b = k0_pay74 a b := rfl

theorem pay77_eq (a : Vec F S144x1024 .f32) : k0_pay77 a = a := shapeCast_self _ _
theorem pay78_eq (a : Vec F S1x1024 .f32) : k0_pay78 a = a := shapeCast_self _ _
theorem pay87_eq (m : Vec F S1x1024 .f32) (s : Vec F S512x1024 .f32) : k0_pay87 (k0_pay81 m s) = k0_pay75 m s := shapeCast_self _ _
theorem pay91_eq (m : Vec F S1x1024 .f32) (s : Vec F S512x1024 .f32) : k0_pay91 m s = k0_pay75 m s := shapeCast_self _ _
theorem pay96_eq (m : Vec F S1x1024 .f32) (s : Vec F S512x1024 .f32) : k0_pay96 m s = k0_pay75 m s := shapeCast_self _ _
theorem pay104_eq (m : Vec F S1x1024 .f32) (s : Vec F S512x1024 .f32) : k0_pay104 (k0_pay101 m s) = k0_pay75 m s := shapeCast_self _ _
theorem pay111_eq (m : Vec F S1x1024 .f32) (s : Vec F S512x1024 .f32) : k0_pay111 m s = k0_pay75 m s := shapeCast_self _ _
theorem pay114_eq (m : Vec F S1x1024 .f32) (s : Vec F S256x1024 .f32) : k0_pay114 m s = k0_pay112 m s := shapeCast_self _ _

theorem pay86_eq (v : Vec F S1x144x512 .bf16) (m : Vec F S1x1024 .f32) (s s' : Vec F S512x1024 .f32) (a : Vec F S144x1024 .f32) :
    k0_pay86 (k0_pay80 v) (k0_pay82 m s) (k0_pay83 m s s') a = k0_pay76 v m s s' a := shapeCast_self _ _
theorem pay90_eq (v : Vec F S1x144x512 .bf16) (m : Vec F S1x1024 .f32) (s s' : Vec F S512x1024 .f32) (a : Vec F S144x1024 .f32) :
    k0_pay90 v m s s' a = k0_pay76 v m s s' a := shapeCast_self _ _
theorem pay95_eq (v : Vec F S1x144x512 .bf16) (m : Vec F S1x1024 .f32) (s s' : Vec F S512x1024 .f32) (a : Vec F S144x1024 .f32) :
    k0_pay95 v m s s' a = k0_pay76 v m s s' a := shapeCast_self _ _
theorem pay103_eq (v : Vec F S1x144x512 .bf16) (m : Vec F S1x1024 .f32) (s s' : Vec F S512x1024 .f32) (a : Vec F S144x1024 .f32) :
    k0_pay103 (k0_pay102 v m s s' a) = k0_pay76 v m s s' a := shapeCast_self _ _
theorem pay1_eq (a : Vec F S1x512x128 .bf16) (b : Vec F S1x128x1024 .bf16) :
    k0_pay1 (k0_pay123 a) (k0_pay124 b) = k0_pay74 a b := rfl
theorem pay110_eq (v : Vec F S1x144x512 .bf16) (m : Vec F S1x1024 .f32) (s s' : Vec F S512x1024 .f32) (a : Vec F S144x1024 .f32) :
    k0_pay110 v m s s' a = k0_pay76 v m s s' a := shapeCast_self _ _

/-! ## What the loads read -/

/-- A load of 512 rows of the keys is a chunk. -/
theorem kread {arg4 : Memref sig .tc .vmem S1x16384x128 .bf16} (X : BufTy.Contents (Elt F) arg4.view.ty) (n : ℕ) (hn : n < 32)
    {off : Fin 3 → ℕ} (inb) (h : off = ![0, 512 * n, 0]) :
    View.readAt (Elt F) arg4.view (Rect.unit (s := S1x16384x128) off S1x512x128.size inb).toLoadRect X
      = kchunk (arg4.view.read (Elt F) X) n := by
  subst h
  funext j
  refine congrArg (arg4.view.read (Elt F) X) (funext fun a => Fin.ext ?_)
  have h1 : (j 1).val < 512 := (j 1).isLt
  match a with
  | ⟨0, _⟩ => show 0 + 1 * (j 0).val = (j 0).val; omega
  | ⟨1, _⟩ => show 512 * n + 1 * (j 1).val = (512 * n + (j 1).val) % 16384; omega
  | ⟨2, _⟩ => show 0 + 1 * (j 2).val = (j 2).val; omega

/-- A load of one panel of the transposed values is a chunk. -/
theorem vread {arg12 : Memref sig .tc .vmem S32x144x512 .bf16} (X : BufTy.Contents (Elt F) arg12.view.ty) (n : ℕ) (hn : n < 32)
    {off : Fin 3 → ℕ} (inb) (h : off = ![n, 0, 0]) :
    View.readAt (Elt F) arg12.view (Rect.unit (s := S32x144x512) off S1x144x512.size inb).toLoadRect X
      = vchunk (arg12.view.read (Elt F) X) n := by
  subst h
  funext j
  refine congrArg (arg12.view.read (Elt F) X) (funext fun a => Fin.ext ?_)
  have h0 : (j 0).val < 1 := (j 0).isLt
  match a with
  | ⟨0, _⟩ => show n + 1 * (j 0).val = n % 32; omega
  | ⟨1, _⟩ => show 0 + 1 * (j 1).val = (j 1).val; omega
  | ⟨2, _⟩ => show 0 + 1 * (j 2).val = (j 2).val; omega

/-- A load of one slot of the query tiles. -/
theorem qread {arg11 : Memref sig .tc .vmem S2x128x1024 .bf16} (X : BufTy.Contents (Elt F) arg11.view.ty) (b : ℕ)
    {off : Fin 3 → ℕ} (inb) (h : off = ![b % 2, 0, 0]) :
    View.readAt (Elt F) arg11.view (Rect.unit (s := S2x128x1024) off S1x128x1024.size inb).toLoadRect X
      = qslot (arg11.view.read (Elt F) X) b := by
  subst h
  funext j
  refine congrArg (arg11.view.read (Elt F) X) (funext fun a => Fin.ext ?_)
  have h0 : (j 0).val < 1 := (j 0).isLt
  match a with
  | ⟨0, _⟩ => show b % 2 + 1 * (j 0).val = b % 2; omega
  | ⟨1, _⟩ => show 0 + 1 * (j 1).val = (j 1).val; omega
  | ⟨2, _⟩ => show 0 + 1 * (j 2).val = (j 2).val; omega

/-! ## A buffer stored whole and read back whole -/

theorem cov_s (w : View sig .tc .vmem S512x1024 .f32) (z : Vec F S512x1024 .f32) (L : List (View.Piece (Elt F) S512x1024 .f32)) (inb inb') :
    w.readCov ((⟨Rect.unit (s := S512x1024) ![0, 0] ![512, 1024] inb, z⟩ : View.Piece (Elt F) S512x1024 .f32) :: L)
      (Rect.unit (s := S512x1024) ![0, 0] ![512, 1024] inb').toLoadRect = z := View.readCov_full w inb' inb z L

theorem cov_t (w : View sig .tc .vmem S256x1024 .f32) (z : Vec F S256x1024 .f32) (L : List (View.Piece (Elt F) S256x1024 .f32)) (inb inb') :
    w.readCov ((⟨Rect.unit (s := S256x1024) ![0, 0] ![256, 1024] inb, z⟩ : View.Piece (Elt F) S256x1024 .f32) :: L)
      (Rect.unit (s := S256x1024) ![0, 0] ![256, 1024] inb').toLoadRect = z := View.readCov_full w inb' inb z L

theorem cov_m (w : View sig .tc .vmem S1x1024 .f32) (z : Vec F S1x1024 .f32) (L : List (View.Piece (Elt F) S1x1024 .f32)) (inb inb') :
    w.readCov ((⟨Rect.unit (s := S1x1024) ![0, 0] ![1, 1024] inb, z⟩ : View.Piece (Elt F) S1x1024 .f32) :: L)
      (Rect.unit (s := S1x1024) ![0, 0] ![1, 1024] inb').toLoadRect = z := View.readCov_full w inb' inb z L

theorem cov_a (w : View sig .tc .vmem S144x1024 .f32) (z : Vec F S144x1024 .f32) (L : List (View.Piece (Elt F) S144x1024 .f32)) (inb inb') :
    w.readCov ((⟨Rect.unit (s := S144x1024) ![0, 0] ![144, 1024] inb, z⟩ : View.Piece (Elt F) S144x1024 .f32) :: L)
      (Rect.unit (s := S144x1024) ![0, 0] ![144, 1024] inb').toLoadRect = z := View.readCov_full w inb' inb z L

end Cert.Dif

end
-- ==== Proof.DifInner.lean ====
/- The differential attention's inner loop: each of its fourteen trips advances the running state by two chunks of keys. -/
module

public import proofs.«01_k».proof.Proof.DifState

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem off1_a : ∀ k : Fin k0_t2_loop.trips, k0_off1 k 1#32 = ![0, 512 * (2 * k.val + 1), 0] := by decide +kernel
theorem off1_b : ∀ k : Fin k0_t2_loop.trips, k0_off1 k 2#32 = ![0, 512 * (2 * k.val + 2), 0] := by decide +kernel

/-- One inner trip: from the state after `2k` chunks to the state after `2k + 2`, the next scores ready. -/
theorem inner_step (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (k1 : Fin k0_t1_loop.trips) (v47 : BitVec 32) (X4 : BufTy.Contents (Elt F) arg4.view.ty) (X11 : BufTy.Contents (Elt F) arg11.view.ty) (X12 : BufTy.Contents (Elt F) arg12.view.ty) (k : Fin k0_t2_loop.trips) (f14 : BufTy.Contents (Elt F) arg14.view.ty) (f15 : BufTy.Contents (Elt F) arg15.view.ty) (f17 : BufTy.Contents (Elt F) arg17.view.ty) (f18 : BufTy.Contents (Elt F) arg18.view.ty)
    (x : Vec F S1x16384x128 .bf16) (v : Vec F S32x144x512 .bf16) (q : Vec F S1x128x1024 .bf16)
    (hx : arg4.view.read (Elt F) X4 = x) (hv : arg12.view.read (Elt F) X12 = v)
    (hq : qslot (arg11.view.read (Elt F) X11) k1.val = q)
    (h12 : arg14.view.read (Elt F) f14 = scores x q (2 * k.val))
    (h15 : arg17.view.read (Elt F) f17 = (soft x v q (2 * k.val)).1)
    (h16 : arg18.view.read (Elt F) f18 = (soft x v q (2 * k.val)).2) :
    arg14.view.read (Elt F) (arg14.view.writes (Elt F) f14 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 k f14 f15 f17 f18).1) = scores x q (2 * k.val + 2)
    ∧ arg17.view.read (Elt F) (arg17.view.writes (Elt F) f17 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 k f14 f15 f17 f18).2.2.1) = (soft x v q (2 * k.val + 2)).1
    ∧ arg18.view.read (Elt F) (arg18.view.writes (Elt F) f18 (tripL_k0_t2 Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 k f14 f15 f17 f18).2.2.2) = (soft x v q (2 * k.val + 2)).2 := by
  have hk : k.val < 14 := Nat.lt_of_lt_of_le k.isLt k0_t2_abs.2.1
  have e1 := fun inb => kread X4 (2 * k.val + 1) (by omega) (off := k0_off1 k 1#32) inb (off1_a k)
  have e2 := fun inb => kread X4 (2 * k.val + 2) (by omega) (off := k0_off1 k 2#32) inb (off1_b k)
  have e3 := fun inb => vread X12 (2 * k.val) (by omega) (off := k0_off3 k) inb (k0_off3_eq k)
  have e4 := fun inb => vread X12 (2 * k.val + 1) (by omega) (off := k0_off4 k) inb (k0_off4_eq k)
  have e9 := fun inb => qread X11 k1.val (off := k0_off2 k1) inb (off2_eq k1)
  have r12 := fun inb => View.readAt_full arg14.view f14 (off := ![0, 0]) inb
  have r15 := fun inb => View.readAt_full arg17.view f17 (off := ![0, 0]) inb
  have r16 := fun inb => View.readAt_full arg18.view f18 (off := ![0, 0]) inb
  rw [hx] at e1 e2
  rw [hv] at e3 e4
  rw [hq] at e9
  rw [h12] at r12
  rw [h15] at r15
  rw [h16] at r16
  unfold tripL_k0_t2 trip_k0_t2
  dsimp only
  sl_unfold_run_names
  rw [soft_succ x v q (2 * k.val + 1), soft_succ x v q (2 * k.val)]
  refine ⟨?_, ?_, ?_⟩
  · rw [View.read_writes_full, pay79_eq, e2, e9]; rfl
  · rw [View.read_writes_full, pay87_eq]
    simp only [cov_s, cov_m, cov_a, e1, e9, r12, r15, pay78_eq]; rfl
  · rw [View.read_writes_full, pay86_eq]
    simp only [cov_s, cov_m, cov_a, e1, e3, e4, e9, r12, r15, r16, pay78_eq, pay77_eq]; rfl

/-- The inner loop, by induction on its trips. -/
theorem inner_loop (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (k1 : Fin k0_t1_loop.trips) (v47 : BitVec 32) (X4 : BufTy.Contents (Elt F) arg4.view.ty) (X11 : BufTy.Contents (Elt F) arg11.view.ty) (X12 : BufTy.Contents (Elt F) arg12.view.ty) (f14 : BufTy.Contents (Elt F) arg14.view.ty) (f15 : BufTy.Contents (Elt F) arg15.view.ty) (f17 : BufTy.Contents (Elt F) arg17.view.ty) (f18 : BufTy.Contents (Elt F) arg18.view.ty)
    (x : Vec F S1x16384x128 .bf16) (v : Vec F S32x144x512 .bf16) (q : Vec F S1x128x1024 .bf16)
    (hx : arg4.view.read (Elt F) X4 = x) (hv : arg12.view.read (Elt F) X12 = v)
    (hq : qslot (arg11.view.read (Elt F) X11) k1.val = q)
    (h12 : arg14.view.read (Elt F) f14 = scores x q 0)
    (h15 : arg17.view.read (Elt F) f17 = k0_pay84)
    (h16 : arg18.view.read (Elt F) f18 = k0_pay85) (n : ℕ) (hn : n ≤ k0_t2_loop.trips) :
    arg14.view.read (Elt F) (arg14.view.writes (Elt F) f14 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 f14 f15 f17 f18 n).1) = scores x q (2 * n)
    ∧ arg17.view.read (Elt F) (arg17.view.writes (Elt F) f17 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 f14 f15 f17 f18 n).2.2.1) = (soft x v q (2 * n)).1
    ∧ arg18.view.read (Elt F) (arg18.view.writes (Elt F) f18 (pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 f14 f15 f17 f18 n).2.2.2) = (soft x v q (2 * n)).2 := by
  induction n with
  | zero => exact ⟨h12, h15, h16⟩
  | succ n ih =>
    obtain ⟨i12, i15, i16⟩ := ih (by omega)
    rw [pb_k0_t2_succ Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 0#32 1#32 k1 v47 X4 X11 X12 f14 f15 f17 f18 ⟨n, hn⟩]
    dsimp only
    rw [View.writes_append, View.writes_append, View.writes_append]
    exact inner_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k1 v47 X4 X11 X12 ⟨n, hn⟩ _ _ _ _ x v q hx hv hq i12 i15 i16

end Cert.Dif

end
-- ==== Proof.DifTiles.lean ====
/- The differential attention's tiles, at any floats: a tile of 512 query rows laid out once for each of the two maps as 1024 columns, and the tile of results of the two maps' difference. -/
module

public import proofs.«01_k».proof.Proof.DifInner

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Query rows `512 j ..`. -/
def qrows (x : Vec F S1x4096x128 .bf16) (j : ℕ) : Vec F S1x512x128 .bf16 :=
  fun z => x (ix3 (z 0) ⟨(512 * j + (z 1).val) % 4096, Nat.mod_lt _ (by decide)⟩ (z 2))

/-- Two panels of 512 columns side by side. -/
def panels (p0 p1 : Vec F S1x128x512 .bf16) : Vec F S1x128x1024 .bf16 :=
  fun y => if (y 2).val / 512 = 0 then p0 (ix3 (y 0) (y 1) ⟨(y 2).val % 512, Nat.mod_lt _ (by decide)⟩)
    else p1 (ix3 (y 0) (y 1) ⟨(y 2).val % 512, Nat.mod_lt _ (by decide)⟩)

/-- The transposed query tile: column `512 r + i` is row `512 j + i` with the lanes of map `r` kept and the others zero. -/
def qtile (x : Vec F S1x4096x128 .bf16) (j : ℕ) : Vec F S1x128x1024 .bf16 :=
  panels (k0_pay121 (qrows x j)) (k0_pay122 (qrows x j))

/-- The tile of results of the sums `A`, the denominators `D`, the weight `l` of the second map and the norm's weights `w`. -/
def otile (A : Vec F S128x1024 .f32) (D : Vec F S1x1024 .f32) (l w : Vec F S1x128 .f32) : Vec F S1x512x128 .bf16 :=
  k0_pay2 (k0_pay116 A D) (k0_pay117 A D l) w

/-- The first 128 rows of the running sums. -/
def accRows (a : Vec F S144x1024 .f32) : Vec F S128x1024 .f32 :=
  fun y => a (ix2 ⟨(y 0).val % 144, Nat.mod_lt _ (by decide)⟩ (y 1))

/-- Row 128 of the running sums, which counts with the row of ones. -/
def accOnes (a : Vec F S144x1024 .f32) : Vec F S1x1024 .f32 :=
  fun y => a (ix2 ⟨128, by decide⟩ (y 1))

/-- The sums once the context keys are in. -/
def accEnd (x : Vec F S1x16384x128 .bf16) (v : Vec F S32x144x512 .bf16) (x6 : Vec F S1x256x128 .bf16)
    (x11 : Vec F S144x256 .bf16) (q : Vec F S1x128x1024 .bf16) : Vec F S144x1024 .f32 :=
  k0_pay113 x11 (soft x v q 32).1 (k0_pay100 x6 q) (k0_pay100 x6 q) (soft x v q 32).2

/-- The tile of results of one query tile. -/
def oval (x : Vec F S1x16384x128 .bf16) (v : Vec F S32x144x512 .bf16) (x6 : Vec F S1x256x128 .bf16) (x8 x9 : Vec F S1x128 .f32)
    (x11 : Vec F S144x256 .bf16) (q : Vec F S1x128x1024 .bf16) : Vec F S1x512x128 .bf16 :=
  otile (accRows (accEnd x v x6 x11 q)) (accOnes (accEnd x v x6 x11 q)) x8 x9

theorem pay106_eq (a : Vec F S1x512x128 .bf16) : k0_pay106 a = k0_pay121 a := rfl
theorem pay107_eq (a : Vec F S1x512x128 .bf16) : k0_pay107 a = k0_pay122 a := rfl

/-- A load of 512 query rows. -/
theorem qrows_read {arg3 : Memref sig .tc .vmem S1x4096x128 .bf16} (X : BufTy.Contents (Elt F) arg3.view.ty) (j : ℕ)
    (hj : j < 8) {off : Fin 3 → ℕ} (inb) (h : off = ![0, 512 * j, 0]) :
    View.readAt (Elt F) arg3.view (Rect.unit (s := S1x4096x128) off S1x512x128.size inb).toLoadRect X
      = qrows (arg3.view.read (Elt F) X) j := by
  subst h
  funext z
  refine congrArg (arg3.view.read (Elt F) X) (funext fun a => Fin.ext ?_)
  have h1 : (z 1).val < 512 := (z 1).isLt
  match a with
  | ⟨0, _⟩ => show 0 + 1 * (z 0).val = (z 0).val; omega
  | ⟨1, _⟩ => show 512 * j + 1 * (z 1).val = (512 * j + (z 1).val) % 4096; omega
  | ⟨2, _⟩ => show 0 + 1 * (z 2).val = (z 2).val; omega

/-- Two panels stored into one slot are read back as the slot. -/
theorem qslot_writes (w : View sig .tc .vmem S2x128x1024 .bf16) (f : w.ty.Contents (Elt F)) (b : ℕ)
    (p0 p1 : Vec F S1x128x512 .bf16) {o0 o1 : Fin 3 → ℕ} (n0 n1)
    (h0 : o0 = ![b % 2, 0, 0]) (h1 : o1 = ![b % 2, 0, 512]) :
    qslot (w.read (Elt F) (w.writes (Elt F) f
      [(⟨Rect.unit (s := S2x128x1024) o1 S1x128x512.size n1, p1⟩ : View.Piece (Elt F) S2x128x1024 .bf16),
       (⟨Rect.unit (s := S2x128x1024) o0 S1x128x512.size n0, p0⟩ : View.Piece (Elt F) S2x128x1024 .bf16)])) b
      = panels p0 p1 := by
  funext y
  have hy0 : (y 0).val < 1 := (y 0).isLt
  have hy1 : (y 1).val < 128 := (y 1).isLt
  have hy2 : (y 2).val < 1024 := (y 2).isLt
  have hin : ∀ o : ℕ, o ≤ (y 2).val → (y 2).val < o + 512 → o % 512 = 0 → ∀ a : Fin 3,
      ((ix3 (⟨b % 2, Nat.mod_lt _ (by decide)⟩ : Fin 2) (y 1) (y 2) : S2x128x1024.Idx) a).val
        = (![b % 2, 0, o] : Fin 3 → ℕ) a
          + ((ix3 (y 0) (y 1) ⟨(y 2).val % 512, Nat.mod_lt _ (by decide)⟩ : S1x128x512.Idx) a).val := by
    intro o ho ho' hm a
    match a with
    | ⟨0, _⟩ => show b % 2 = b % 2 + (y 0).val; omega
    | ⟨1, _⟩ => show (y 1).val = 0 + (y 1).val; omega
    | ⟨2, _⟩ => show (y 2).val = o + (y 2).val % 512; omega
  unfold qslot panels
  dsimp only
  by_cases c1 : 512 ≤ (y 2).val
  · rw [View.read_writes_cons_unit_of_mem w f n1 p1 _ _ _ h1 (hin 512 c1 (by omega) rfl), if_neg (by omega)]
  · rw [View.read_writes_cons_unit_of_not_mem w f n1 p1 _ _ h1 2 (Or.inl (show (y 2).val < 512 by omega))]
    rw [View.read_writes_cons_unit_of_mem w f n0 p0 _ _ _ h0 (hin 0 (by omega) (by omega) rfl), if_pos (by omega)]

/-- The store of a trip puts the tile of results over its 512 rows. -/
theorem otile_writes (w : View sig .tc .vmem S1x4096x128 .bf16) (f : w.ty.Contents (Elt F)) (k : ℕ)
    (t : Vec F S1x512x128 .bf16) {o0 : Fin 3 → ℕ} (n0) (h0 : o0 = ![0, 512 * k, 0]) :
    w.read (Elt F) (w.writes (Elt F) f
      [(⟨Rect.unit (s := S1x4096x128) o0 S1x512x128.size n0, t⟩ : View.Piece (Elt F) S1x4096x128 .bf16)])
      = fun y => if (y 1).val / 512 = k then t (ix3 (y 0) ⟨(y 1).val % 512, Nat.mod_lt _ (by decide)⟩ (y 2))
          else w.read (Elt F) f y := by
  funext y
  have hy0 : (y 0).val < 1 := (y 0).isLt
  have hy1 : (y 1).val < 4096 := (y 1).isLt
  by_cases hk : (y 1).val / 512 = k
  · have hin : ∀ a : Fin 3, (y a).val = (![0, 512 * k, 0] : Fin 3 → ℕ) a
          + ((ix3 (y 0) ⟨(y 1).val % 512, Nat.mod_lt _ (by decide)⟩ (y 2) : S1x512x128.Idx) a).val := by
      intro a
      match a with
      | ⟨0, _⟩ => show (y 0).val = 0 + (y 0).val; omega
      | ⟨1, _⟩ => show (y 1).val = 512 * k + (y 1).val % 512; omega
      | ⟨2, _⟩ => show (y 2).val = 0 + (y 2).val; omega
    rw [if_pos hk, View.read_writes_cons_unit_of_mem w f n0 _ _ _ _ h0 hin]
  · rw [if_neg hk, View.read_writes_cons_unit_of_not_mem w f n0 _ _ _ h0 1
      (show (y 1).val < 512 * k ∨ 512 * k + 512 ≤ (y 1).val by omega)]
    rfl

/-- A load of the first 128 rows of the sums after a whole store. -/
theorem cov_rows (w : View sig .tc .vmem S144x1024 .f32) (z : Vec F S144x1024 .f32) (L : List (View.Piece (Elt F) S144x1024 .f32)) (inb inb') :
    w.readCov ((⟨Rect.unit (s := S144x1024) ![0, 0] S144x1024.size inb, z⟩ : View.Piece (Elt F) S144x1024 .f32) :: L)
      (Rect.unit (s := S144x1024) ![0, 0] S128x1024.size inb').toLoadRect = accRows z := by
  show View.readAt (Elt F) w _ _ = _
  funext y
  have h0 : (y 0).val < 128 := (y 0).isLt
  refine (congrFun (View.read_writes_full w w.junk inb z L) _).trans (congrArg z (funext fun a => Fin.ext ?_))
  match a with
  | ⟨0, _⟩ => show 0 + 1 * (y 0).val = (y 0).val % 144; omega
  | ⟨1, _⟩ => show 0 + 1 * (y 1).val = (y 1).val; omega

/-- A load of row 128 of the sums after a whole store. -/
theorem cov_ones (w : View sig .tc .vmem S144x1024 .f32) (z : Vec F S144x1024 .f32) (L : List (View.Piece (Elt F) S144x1024 .f32)) (inb inb') :
    w.readCov ((⟨Rect.unit (s := S144x1024) ![0, 0] S144x1024.size inb, z⟩ : View.Piece (Elt F) S144x1024 .f32) :: L)
      (Rect.unit (s := S144x1024) ![128, 0] S1x1024.size inb').toLoadRect = accOnes z := by
  show View.readAt (Elt F) w _ _ = _
  funext y
  have h0 : (y 0).val < 1 := (y 0).isLt
  refine (congrFun (View.read_writes_full w w.junk inb z L) _).trans (congrArg z (funext fun a => Fin.ext ?_))
  match a with
  | ⟨0, _⟩ => show 128 + 1 * (y 0).val = 128; omega
  | ⟨1, _⟩ => show 0 + 1 * (y 1).val = (y 1).val; omega

end Cert.Dif

end
-- ==== Proof.DifOuter.lean ====
/- What one trip of the differential attention's outer loop leaves: its tile of results, the next query tile and its first scores. -/
module

public import proofs.«01_k».proof.Proof.DifTiles

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load of the whole context keys. -/
theorem ctx_read {arg6 : Memref sig .tc .vmem S1x256x128 .bf16} (X : BufTy.Contents (Elt F) arg6.view.ty) (inb) :
    View.readAt (Elt F) arg6.view (Rect.unit (s := S1x256x128) ![0, 0, 0] S1x256x128.size inb).toLoadRect X
      = arg6.view.read (Elt F) X := View.readAt_full arg6.view X inb

/-- The sums a trip divides: the state after 32 chunks and the context keys. -/
theorem outer_acc (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (k : Fin k0_t1_loop.trips) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (x3 : Vec F S1x4096x128 .bf16) (x : Vec F S1x16384x128 .bf16) (x6 : Vec F S1x256x128 .bf16) (v : Vec F S32x144x512 .bf16)
    (x11 : Vec F S144x256 .bf16) (q : Vec F S1x128x1024 .bf16)
    (hx3 : arg3.view.read (Elt F) X3 = x3) (hx : arg4.view.read (Elt F) X4 = x) (hx6 : arg6.view.read (Elt F) X6 = x6)
    (hv : arg12.view.read (Elt F) X12 = v) (hx11 : arg13.view.read (Elt F) X13 = x11)
    (hq : qslot (arg11.view.read (Elt F) f11) k.val = q) (h12 : arg14.view.read (Elt F) f14 = scores x q 0) :
    trip.sl.v265 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X6 X12 X13 k f11 f14 f15 = accRows (accEnd x v x6 x11 q) ∧ trip.sl.v266 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X6 X12 X13 k f11 f14 f15 = accOnes (accEnd x v x6 x11 q) := by
  have hk : k.val < 8 := Nat.lt_of_lt_of_le k.isLt k0_t1_abs.2.1
  have e29 := fun inb => kread X4 29 (by omega) (off := ![0, 14848, 0]) inb rfl
  have e30 := fun inb => kread X4 30 (by omega) (off := ![0, 15360, 0]) inb rfl
  have e31 := fun inb => kread X4 31 (by omega) (off := ![0, 15872, 0]) inb rfl
  have g28 := fun inb => vread X12 28 (by omega) (off := ![28, 0, 0]) inb rfl
  have g29 := fun inb => vread X12 29 (by omega) (off := ![29, 0, 0]) inb rfl
  have g30 := fun inb => vread X12 30 (by omega) (off := ![30, 0, 0]) inb rfl
  have g31 := fun inb => vread X12 31 (by omega) (off := ![31, 0, 0]) inb rfl
  have e9 := fun inb => qread f11 k.val (off := k0_off5 k) inb (off5_eq k)
  have e6 := fun inb => ctx_read X6 inb
  have e11 := fun inb => View.readAt_full arg13.view X13 (off := ![0, 0]) inb
  rw [hx] at e29 e30 e31
  rw [hv] at g28 g29 g30 g31
  rw [hq] at e9
  rw [hx6] at e6
  rw [hx11] at e11
  have hl := inner_loop c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k (trip.sl.v47 k) X4 f11 X12 f14 f15
    (arg17.view.writes (Elt F) arg17.view.junk trip.sl.HW17_1) (arg18.view.writes (Elt F) arg18.view.junk trip.sl.HW18_1)
    x v q hx hv hq h12 (View.read_writes_full arg17.view _ _ _ _) (View.read_writes_full arg18.view _ _ _ _) k0_t2_loop.trips (le_refl _)
  obtain ⟨l12, l15, l16⟩ := hl
  have ht : 2 * k0_t2_loop.trips = 28 := by decide +kernel
  rw [ht] at l12 l15 l16
  have a87 : trip.sl.v71 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = scores x q 28 := by
    unfold trip.sl.v71
    exact (View.readAt_full arg14.view _ _).trans l12
  have a86 : trip.sl.v70 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 28).1 := by
    unfold trip.sl.v70
    refine Eq.trans ?_ l15
    show View.readAt (Elt F) arg17.view _ _ = _
    rw [View.writes_append]
    exact View.readAt_full arg17.view _ _
  have a98 : trip.sl.v82 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 28).2 := by
    unfold trip.sl.v82
    refine Eq.trans ?_ l16
    show View.readAt (Elt F) arg18.view _ _ = _
    rw [View.writes_append]
    exact View.readAt_full arg18.view _ _
  have a122 : trip.sl.v106 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 29).1 := by
    unfold trip.sl.v106 trip.sl.HW17_1_1
    rw [View.readCov_full, pay91_eq, a86, a87]; rfl
  have a134 : trip.sl.v118 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 29).2 := by
    unfold trip.sl.v118 trip.sl.HW18_1_1
    rw [View.readCov_full, pay90_eq, a86, a87, a98, g28]; rfl
  have a123 : trip.sl.v107 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = scores x q 29 := by
    unfold trip.sl.v107 trip.sl.HW15_1
    rw [View.readCov_full, pay88_eq, e29, e9]; rfl
  have a167 : trip.sl.v151 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 30).1 := by
    unfold trip.sl.v151 trip.sl.HW17_2
    rw [View.readCov_full, pay96_eq, a122, a123]; rfl
  have a179 : trip.sl.v163 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 30).2 := by
    unfold trip.sl.v163 trip.sl.HW18_2
    rw [View.readCov_full, pay95_eq, a122, a123, a134, g29]; rfl
  have a168 : trip.sl.v152 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = scores x q 30 := by
    unfold trip.sl.v152 trip.sl.HW14_1 trip.sl.r
    rw [View.readCov_full, pay92_eq, e30, e9]; rfl
  have a255 : trip.sl.v218 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 31).1 := by
    unfold trip.sl.v218 trip.sl.HW17_3 trip.sl.r_3
    rw [View.readCov_full, pay104_eq, a167, a168]; rfl
  have a267 : trip.sl.v230 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 31).2 := by
    unfold trip.sl.v230 trip.sl.HW18_3 trip.sl.r_4
    rw [View.readCov_full, pay103_eq, a167, a168, a179, g30]; rfl
  have a256 : trip.sl.v219 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = scores x q 31 := by
    unfold trip.sl.v219 trip.sl.HW15_2 trip.sl.r_1 trip.sl.r_2 trip.sl.cst_85
    rw [View.readCov_full, pay99_eq, e31, e9]; rfl
  have a242 : trip.sl.v242 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 32).1 := by
    unfold trip.sl.v242 trip.sl.HW17_4 trip.sl.r_5
    rw [View.readCov_full, pay111_eq, a255, a256]; rfl
  have a254 : trip.sl.v254 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X4 X12 k f11 f14 f15 = (soft x v q 32).2 := by
    unfold trip.sl.v254 trip.sl.HW18_4
    rw [View.readCov_full, pay110_eq, a255, a256, a267, g31]; rfl
  have a243 : trip.sl.v243 arg6 arg11 arg16 X6 k f11 = k0_pay100 x6 q := by
    unfold trip.sl.v243 trip.sl.HW16_1
    rw [View.readCov_full, e6, e9]
  refine ⟨?_, ?_⟩
  · unfold trip.sl.v265 trip.sl.HW18_5
    rw [cov_rows, a242, a243, a254, e11]; rfl
  · unfold trip.sl.v266 trip.sl.HW18_5
    rw [cov_ones, a242, a243, a254, e11]; rfl

/-- What one trip leaves. -/
theorem outer_step (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (k : Fin k0_t1_loop.trips) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty)
    (x3 : Vec F S1x4096x128 .bf16) (x : Vec F S1x16384x128 .bf16) (x6 : Vec F S1x256x128 .bf16) (x8 x9 : Vec F S1x128 .f32) (v : Vec F S32x144x512 .bf16)
    (x11 : Vec F S144x256 .bf16) (q : Vec F S1x128x1024 .bf16)
    (hx3 : arg3.view.read (Elt F) X3 = x3) (hx : arg4.view.read (Elt F) X4 = x) (hx6 : arg6.view.read (Elt F) X6 = x6)
    (hx8 : arg8.view.read (Elt F) X8 = x8) (hx9 : arg9.view.read (Elt F) X9 = x9)
    (hv : arg12.view.read (Elt F) X12 = v) (hx11 : arg13.view.read (Elt F) X13 = x11)
    (hq : qslot (arg11.view.read (Elt F) f11) k.val = q) (h12 : arg14.view.read (Elt F) f14 = scores x q 0) :
    arg10.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).1 f10 f11 f14 f15 f16 f17 f18)
        = (fun y => if (y 1).val / 512 = k.val then oval x v x6 x8 x9 x11 q (ix3 (y 0) ⟨(y 1).val % 512, Nat.mod_lt _ (by decide)⟩ (y 2))
            else arg10.view.read (Elt F) f10 y)
    ∧ qslot (arg11.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.1 f10 f11 f14 f15 f16 f17 f18)) (k.val + 1) = qtile x3 (min (k.val + 1) 7)
    ∧ arg14.view.read (Elt F) ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.1 f10 f11 f14 f15 f16 f17 f18) = scores x (qtile x3 (min (k.val + 1) 7)) 0 := by
  have hk : k.val < 8 := Nat.lt_of_lt_of_le k.isLt k0_t1_abs.2.1
  obtain ⟨b302, b303⟩ := outer_acc c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k f10 f11 f14 f15 f16 f17 f18 x3 x x6 v x11 q hx3 hx hx6 hv hx11 hq h12
  have t0 := fun inb => qrows_read X3 (min (k.val + 1) 7) (by omega) (off := k0_off6 k) inb (k0_off6_eq k)
  have e8 := fun inb => View.readAt_full arg8.view X8 (off := ![0, 0]) inb
  have e9 := fun inb => View.readAt_full arg9.view X9 (off := ![0, 0]) inb
  have e0 := fun inb => kread X4 0 (by omega) (off := ![0, 0, 0]) inb rfl
  rw [hx3] at t0
  rw [hx8] at e8
  rw [hx9] at e9
  rw [hx] at e0
  have hs : ∀ g : BufTy.Contents (Elt F) arg11.view.ty,
      qslot (arg11.view.read (Elt F) (arg11.view.writes (Elt F) g (trip.sl.HW11_2 arg3 X3 k))) (k.val + 1) = qtile x3 (min (k.val + 1) 7) := by
    intro g
    unfold trip.sl.HW11_2
    rw [qslot_writes arg11.view g (k.val + 1) _ _ _ _ (off7_eq k) (off8_eq k), pay106_eq, pay107_eq, t0]
    rfl
  have a210 : trip.sl.v210 arg3 arg11 X3 k = qtile x3 (min (k.val + 1) 7) := by
    unfold trip.sl.v210
    show View.readAt (Elt F) arg11.view _ _ = _
    rw [qread _ (k.val + 1) _ (off9_eq k)]
    exact hs _
  unfold trip
  dsimp only
  refine ⟨?_, ?_, ?_⟩
  · unfold trip.sl.r_6 trip.sl.r_7
    rw [b302, b303, e8, e9, otile_writes arg10.view f10 k.val _ _ (k0_off10_eq k)]
    rfl
  · exact hs f11
  · rw [View.read_writes_full, pay108_eq, a210, e0]; rfl

end Cert.Dif

end
-- ==== Proof.DifLoop.lean ====
/- The differential attention's outer loop: the buffers' contents trip by trip, and what they hold after some trips. -/
module

public import proofs.«01_k».proof.Proof.DifOuter

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What trip `k` makes of the contents of the written buffers. -/
def next (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (k : ℕ) (s : BufTy.Contents (Elt F) arg10.view.ty × BufTy.Contents (Elt F) arg11.view.ty × BufTy.Contents (Elt F) arg14.view.ty × BufTy.Contents (Elt F) arg15.view.ty × BufTy.Contents (Elt F) arg16.view.ty × BufTy.Contents (Elt F) arg17.view.ty × BufTy.Contents (Elt F) arg18.view.ty) :
    BufTy.Contents (Elt F) arg10.view.ty × BufTy.Contents (Elt F) arg11.view.ty × BufTy.Contents (Elt F) arg14.view.ty × BufTy.Contents (Elt F) arg15.view.ty × BufTy.Contents (Elt F) arg16.view.ty × BufTy.Contents (Elt F) arg17.view.ty × BufTy.Contents (Elt F) arg18.view.ty :=
  if h : k < k0_t1_loop.trips then
    ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.2.2.2.2.1 (s.1) (s.2.1) (s.2.2.1) (s.2.2.2.1) (s.2.2.2.2.1) (s.2.2.2.2.2.1) (s.2.2.2.2.2.2), (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, h⟩).2.2.2.2.2.2.1 (s.1) (s.2.1) (s.2.2.1) (s.2.2.2.1) (s.2.2.2.2.1) (s.2.2.2.2.2.1) (s.2.2.2.2.2.2))
  else s

/-- The contents of the written buffers after `k` trips, from those at entry. -/
def contents (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) :
    ℕ → BufTy.Contents (Elt F) arg10.view.ty × BufTy.Contents (Elt F) arg11.view.ty × BufTy.Contents (Elt F) arg14.view.ty × BufTy.Contents (Elt F) arg15.view.ty × BufTy.Contents (Elt F) arg16.view.ty × BufTy.Contents (Elt F) arg17.view.ty × BufTy.Contents (Elt F) arg18.view.ty
  | 0 => (G10, G11, G14, G15, G16, G17, G18)
  | k + 1 => next c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k)

/-- One trip more. -/
theorem contents_succ (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : Fin k0_t1_loop.trips) :
    contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 (k.val + 1)
      = (fun s : BufTy.Contents (Elt F) arg10.view.ty × BufTy.Contents (Elt F) arg11.view.ty × BufTy.Contents (Elt F) arg14.view.ty × BufTy.Contents (Elt F) arg15.view.ty × BufTy.Contents (Elt F) arg16.view.ty × BufTy.Contents (Elt F) arg17.view.ty × BufTy.Contents (Elt F) arg18.view.ty => ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.2.2.2.1 s.1 s.2.1 s.2.2.1 s.2.2.2.1 s.2.2.2.2.1 s.2.2.2.2.2.1 s.2.2.2.2.2.2, (trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.2.2.2.2.1 s.1 s.2.1 s.2.2.1 s.2.2.2.1 s.2.2.2.2.1 s.2.2.2.2.2.1 s.2.2.2.2.2.2)) (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k.val) := by
  show next c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k.val (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k.val) = _
  generalize contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k.val = s
  exact dif_pos k.isLt

/-- The buffers before trip `k`. -/
abbrev loopHeld (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) (_ : PUnit) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg13.view.loc (c : Thread nD τ) ↦[arg13.view.set]{fullShare} X13) ∗ (∃ f, (arg10.view.loc (c : Thread nD τ) ↦[arg10.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).1⌝) ∗ (∃ f, (arg11.view.loc (c : Thread nD τ) ↦[arg11.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.1⌝) ∗ (∃ f, (arg14.view.loc (c : Thread nD τ) ↦[arg14.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.1⌝) ∗ (∃ f, (arg15.view.loc (c : Thread nD τ) ↦[arg15.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.1⌝) ∗ (∃ f, (arg16.view.loc (c : Thread nD τ) ↦[arg16.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.1⌝) ∗ (∃ f, (arg17.view.loc (c : Thread nD τ) ↦[arg17.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.2.1⌝) ∗ (∃ f, (arg18.view.loc (c : Thread nD τ) ↦[arg18.view.set]{fullShare} f) ∗ ⌜f = (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.2.2⌝))

set_option maxHeartbeats 1600000 in
set_option warn.classDefReducibility false in
/-- The outer loop by its contents: one trip takes those before `k` to those before `k + 1`. -/
@[sl_loop] def outerLoop (c : Dev nD) (E : Set ℕ) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 where
  inv := loopHeld c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18
  step k acc := by
    iintro ⟨HR3, HR4, HR6, HR8, HR9, HR12, HR13, ⟨%f10, HW10, %h8⟩, ⟨%f11, HW11, %h9⟩, ⟨%f14, HW14, %h12⟩, ⟨%f15, HW15, %h13⟩, ⟨%f16, HW16, %h14⟩, ⟨%f17, HW17, %h15⟩, ⟨%f18, HW18, %h16⟩⟩
    iapply (wp_wand_r Idealize.ShloMosaic.frame (wpE (defs₀ (F := F)) Variants.none (c : Thread nD τ) none) E)
    isplitl [HR3 HR4 HR6 HR8 HR9 HR12 HR13 HW10 HW11 HW14 HW15 HW16 HW17 HW18]
    · iapply ((trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 k).2.2.2.2.2.2.2 E f10 f11 f14 f15 f16 f17 f18)
      isplitl [HR3]; · iexact HR3
      isplitl [HR4]; · iexact HR4
      isplitl [HR6]; · iexact HR6
      isplitl [HR8]; · iexact HR8
      isplitl [HR9]; · iexact HR9
      isplitl [HR12]; · iexact HR12
      isplitl [HR13]; · iexact HR13
      isplitl [HW10]; · iexact HW10
      isplitl [HW11]; · iexact HW11
      isplitl [HW14]; · iexact HW14
      isplitl [HW15]; · iexact HW15
      isplitl [HW16]; · iexact HW16
      isplitl [HW17]; · iexact HW17
      iexact HW18
    · iintro %_ ⟨HR3, HR4, HR6, HR8, HR9, HR12, HR13, HW10, HW11, HW14, HW15, HW16, HW17, HW18⟩
      isplitl [HR3]; · iexact HR3
      isplitl [HR4]; · iexact HR4
      isplitl [HR6]; · iexact HR6
      isplitl [HR8]; · iexact HR8
      isplitl [HR9]; · iexact HR9
      isplitl [HR12]; · iexact HR12
      isplitl [HR13]; · iexact HR13
      rw [contents_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k]
      isplitl [HW10]
      · iexists _; isplitl [HW10]; · iexact HW10
        ipureintro; rw [h8, h9, h12, h13, h14, h15, h16]
      isplitl [HW11]
      · iexists _; isplitl [HW11]; · iexact HW11
        ipureintro; rw [h8, h9, h12, h13, h14, h15, h16]
      isplitl [HW14]
      · iexists _; isplitl [HW14]; · iexact HW14
        ipureintro; rw [h8, h9, h12, h13, h14, h15, h16]
      isplitl [HW15]
      · iexists _; isplitl [HW15]; · iexact HW15
        ipureintro; rw [h8, h9, h12, h13, h14, h15, h16]
      isplitl [HW16]
      · iexists _; isplitl [HW16]; · iexact HW16
        ipureintro; rw [h8, h9, h12, h13, h14, h15, h16]
      isplitl [HW17]
      · iexists _; isplitl [HW17]; · iexact HW17
        ipureintro; rw [h8, h9, h12, h13, h14, h15, h16]
      iexists _; isplitl [HW18]; · iexact HW18
      ipureintro; rw [h8, h9, h12, h13, h14, h15, h16]

/-- The result block: row tile by row tile, the tile of results of its query tile. -/
def oblock (x3 : Vec F S1x4096x128 .bf16) (x : Vec F S1x16384x128 .bf16) (x6 : Vec F S1x256x128 .bf16) (x8 x9 : Vec F S1x128 .f32) (v : Vec F S32x144x512 .bf16)
    (x11 : Vec F S144x256 .bf16) : Vec F S1x4096x128 .bf16 :=
  fun y => oval x v x6 x8 x9 x11 (qtile x3 ((y 1).val / 512)) (ix3 (y 0) ⟨(y 1).val % 512, Nat.mod_lt _ (by decide)⟩ (y 2))

/-- After `k` trips: the first `k` row tiles are results, the next query tile lies in its slot, and its first scores are ready. -/
theorem contents_read (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty)
    (x3 : Vec F S1x4096x128 .bf16) (x : Vec F S1x16384x128 .bf16) (x6 : Vec F S1x256x128 .bf16) (x8 x9 : Vec F S1x128 .f32) (v : Vec F S32x144x512 .bf16)
    (x11 : Vec F S144x256 .bf16)
    (hx3 : arg3.view.read (Elt F) X3 = x3) (hx : arg4.view.read (Elt F) X4 = x) (hx6 : arg6.view.read (Elt F) X6 = x6)
    (hx8 : arg8.view.read (Elt F) X8 = x8) (hx9 : arg9.view.read (Elt F) X9 = x9)
    (hv : arg12.view.read (Elt F) X12 = v) (hx11 : arg13.view.read (Elt F) X13 = x11)
    (hq : qslot (arg11.view.read (Elt F) G11) 0 = qtile x3 0) (h12 : arg14.view.read (Elt F) G14 = scores x (qtile x3 0) 0) (k : ℕ) (hk : k ≤ k0_t1_loop.trips) :
    (∀ y : S1x4096x128.Idx, (y 1).val < 512 * k → arg10.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).1 y = oblock x3 x x6 x8 x9 v x11 y)
    ∧ qslot (arg11.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.1) k = qtile x3 (min k 7)
    ∧ arg14.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.1 = scores x (qtile x3 (min k 7)) 0 := by
  induction k with
  | zero => exact ⟨fun y hy => absurd hy (by omega), hq, h12⟩
  | succ k ih =>
    obtain ⟨i8, i9, i12⟩ := ih (by omega)
    have h8 : k < 8 := Nat.lt_of_lt_of_le hk k0_t1_abs.2.1
    obtain ⟨o8, o9, o12⟩ := outer_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 ⟨k, hk⟩ ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.2.1) ((contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k).2.2.2.2.2.2) x3 x x6 x8 x9 v x11 (qtile x3 (min k 7)) hx3 hx hx6 hx8 hx9 hv hx11 i9 i12
    rw [contents_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 ⟨k, hk⟩]
    refine ⟨fun y hy => ?_, o9, o12⟩
    dsimp only
    rw [o8]
    dsimp only
    by_cases e : (y 1).val / 512 = k
    · rw [if_pos e]
      unfold oblock
      rw [e, show min k 7 = k by omega]
    · rw [if_neg e]
      exact i8 y (by omega)

/-- After the loop the whole block is results. -/
theorem contents_end (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (X3 : BufTy.Contents (Elt F) arg3.view.ty) (X4 : BufTy.Contents (Elt F) arg4.view.ty) (X6 : BufTy.Contents (Elt F) arg6.view.ty) (X8 : BufTy.Contents (Elt F) arg8.view.ty) (X9 : BufTy.Contents (Elt F) arg9.view.ty) (X12 : BufTy.Contents (Elt F) arg12.view.ty) (X13 : BufTy.Contents (Elt F) arg13.view.ty) (G10 : BufTy.Contents (Elt F) arg10.view.ty) (G11 : BufTy.Contents (Elt F) arg11.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty)
    (x3 : Vec F S1x4096x128 .bf16) (x : Vec F S1x16384x128 .bf16) (x6 : Vec F S1x256x128 .bf16) (x8 x9 : Vec F S1x128 .f32) (v : Vec F S32x144x512 .bf16)
    (x11 : Vec F S144x256 .bf16)
    (hx3 : arg3.view.read (Elt F) X3 = x3) (hx : arg4.view.read (Elt F) X4 = x) (hx6 : arg6.view.read (Elt F) X6 = x6)
    (hx8 : arg8.view.read (Elt F) X8 = x8) (hx9 : arg9.view.read (Elt F) X9 = x9)
    (hv : arg12.view.read (Elt F) X12 = v) (hx11 : arg13.view.read (Elt F) X13 = x11)
    (hq : qslot (arg11.view.read (Elt F) G11) 0 = qtile x3 0) (h12 : arg14.view.read (Elt F) G14 = scores x (qtile x3 0) 0) :
    arg10.view.read (Elt F) (contents c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 k0_t1_loop.trips).1 = oblock x3 x x6 x8 x9 v x11 := by
  have ht : k0_t1_loop.trips = 8 := by decide +kernel
  funext y
  have hy : (y 1).val < 4096 := (y 1).isLt
  exact (contents_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X6 X8 X9 X12 X13 G10 G11 G14 G15 G16 G17 G18 x3 x x6 x8 x9 v x11 hx3 hx hx6 hx8 hx9 hv hx11 hq h12 _ (le_refl _)).1 y (by rw [ht]; omega)

end Cert.Dif

end
-- ==== Proof.DifPanels.lean ====
/- The differential attention's values transposed once per row of points: the panels with their rows of ones, and the stores that make them. -/
module

public import proofs.«01_k».proof.Proof.DifLoop

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The transposed values with sixteen rows of ones under each panel. -/
def vpanels (x5 : Vec F S1x16384x128 .bf16) : Vec F S32x144x512 .bf16 :=
  fun y => if (y 1).val < 128 then k0_pay3 (kchunk x5 (y 0).val) (ix3 0 ⟨(y 1).val % 128, Nat.mod_lt _ (by decide)⟩ (y 2))
    else k0_pay4 (F := F) (ix3 0 ⟨((y 1).val - 128) % 16, Nat.mod_lt _ (by decide)⟩ (y 2))

/-- The transposed context values over sixteen rows of ones. -/
def cpanel (x7 : Vec F S1x256x128 .bf16) : Vec F S144x256 .bf16 :=
  fun y => if (y 0).val < 128 then k0_pay118 (k0_pay73 x7) (ix2 ⟨(y 0).val % 128, Nat.mod_lt _ (by decide)⟩ (y 1))
    else k0_pay119 (F := F) (ix2 ⟨((y 0).val - 128) % 16, Nat.mod_lt _ (by decide)⟩ (y 1))

/-- One more panel and its ones extend the panels already right. -/
theorem panel_step (w : View sig .tc .vmem S32x144x512 .bf16) (f : w.ty.Contents (Elt F)) (x5 : Vec F S1x16384x128 .bf16) (n : ℕ)
    (L : List (View.Piece (Elt F) S32x144x512 .bf16)) (p : Vec F S1x128x512 .bf16) (q : Vec F S1x16x512 .bf16) (i1 i2)
    (hp : p = k0_pay3 (kchunk x5 n)) (hq : q = k0_pay4)
    (h : ∀ y : S32x144x512.Idx, (y 0).val < n → w.read (Elt F) (w.writes (Elt F) f L) y = vpanels x5 y) :
    ∀ y : S32x144x512.Idx, (y 0).val < n + 1 → w.read (Elt F) (w.writes (Elt F) f
      ((⟨Rect.unit (s := S32x144x512) ![n, 128, 0] S1x16x512.size i2, q⟩ : View.Piece (Elt F) S32x144x512 .bf16) ::
       (⟨Rect.unit (s := S32x144x512) ![n, 0, 0] S1x128x512.size i1, p⟩ : View.Piece (Elt F) S32x144x512 .bf16) :: L)) y = vpanels x5 y := by
  intro y hy
  subst hp hq
  have h1 : (y 1).val < 144 := (y 1).isLt
  by_cases hn : (y 0).val < n
  · rw [View.read_writes_cons_unit_of_not_mem w f i2 _ _ y rfl 0 (Or.inl hn),
      View.read_writes_cons_unit_of_not_mem w f i1 _ _ y rfl 0 (Or.inl hn)]
    exact h y hn
  · have e : (y 0).val = n := by omega
    unfold vpanels
    by_cases hc : (y 1).val < 128
    · rw [View.read_writes_cons_unit_of_not_mem w f i2 _ _ y rfl 1 (Or.inl hc),
        View.read_writes_cons_unit_of_mem w f i1 _ _ y (ix3 0 ⟨(y 1).val % 128, Nat.mod_lt _ (by decide)⟩ (y 2) : S1x128x512.Idx) rfl
          (fun a => by
            match a with
            | ⟨0, _⟩ => show (y 0).val = n + 0; omega
            | ⟨1, _⟩ => show (y 1).val = 0 + (y 1).val % 128; omega
            | ⟨2, _⟩ => show (y 2).val = 0 + (y 2).val; omega), if_pos hc, e]
    · rw [View.read_writes_cons_unit_of_mem w f i2 _ _ y (ix3 0 ⟨((y 1).val - 128) % 16, Nat.mod_lt _ (by decide)⟩ (y 2) : S1x16x512.Idx) rfl
          (fun a => by
            match a with
            | ⟨0, _⟩ => show (y 0).val = n + 0; omega
            | ⟨1, _⟩ => show (y 1).val = 128 + ((y 1).val - 128) % 16; omega
            | ⟨2, _⟩ => show (y 2).val = 0 + (y 2).val; omega), if_neg hc]

/-- The two stores of the context values. -/
theorem cpanel_writes (w : View sig .tc .vmem S144x256 .bf16) (f : w.ty.Contents (Elt F)) (x7 : Vec F S1x256x128 .bf16)
    (p : Vec F S128x256 .bf16) (i1 i2) (hp : p = k0_pay118 (k0_pay73 x7)) :
    w.read (Elt F) (w.writes (Elt F) f
      [(⟨Rect.unit (s := S144x256) ![128, 0] S16x256.size i2, k0_pay119 (F := F)⟩ : View.Piece (Elt F) S144x256 .bf16),
       (⟨Rect.unit (s := S144x256) ![0, 0] S128x256.size i1, p⟩ : View.Piece (Elt F) S144x256 .bf16)]) = cpanel x7 := by
  funext y
  subst hp
  have h0 : (y 0).val < 144 := (y 0).isLt
  unfold cpanel
  by_cases hc : (y 0).val < 128
  · rw [View.read_writes_cons_unit_of_not_mem w f i2 _ _ y rfl 0 (Or.inl hc),
      View.read_writes_cons_unit_of_mem w f i1 _ _ y (ix2 ⟨(y 0).val % 128, Nat.mod_lt _ (by decide)⟩ (y 1) : S128x256.Idx) rfl
        (fun a => by
          match a with
          | ⟨0, _⟩ => show (y 0).val = 0 + (y 0).val % 128; omega
          | ⟨1, _⟩ => show (y 1).val = 0 + (y 1).val; omega), if_pos hc]
  · rw [View.read_writes_cons_unit_of_mem w f i2 _ _ y (ix2 ⟨((y 0).val - 128) % 16, Nat.mod_lt _ (by decide)⟩ (y 1) : S16x256.Idx) rfl
        (fun a => by
          match a with
          | ⟨0, _⟩ => show (y 0).val = 128 + ((y 0).val - 128) % 16; omega
          | ⟨1, _⟩ => show (y 1).val = 0 + (y 1).val; omega), if_neg hc]

/-- The condition of the body's conditional: the first point of a row of eight. -/
abbrev firstOf (i : grid0.Coords) : Prop :=
  Scalar.cmpi .ne (Scalar.extui (Scalar.cmpi .eq (BitVec.ofNat 32 (i 2).val) 0#32)) 0#32 = 1#1

end Cert.Dif

end
-- ==== Proof.DifRun.lean ====
/- The differential attention's body at a point where the transposed values are already there. -/
module

public import proofs.«01_k».proof.Proof.DifPanels

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body at a later point of a row: the result block from the values transposed before. -/
theorem run_later (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (hc : ¬firstOf i)
    (x3 : Vec F S1x4096x128 .bf16) (x4 : Vec F S1x16384x128 .bf16) (x5 : Vec F S1x16384x128 .bf16) (x6 : Vec F S1x256x128 .bf16) (x7 : Vec F S1x256x128 .bf16) (x8 : Vec F S1x128 .f32) (x9 : Vec F S1x128 .f32) (v : Vec F S32x144x512 .bf16) (w : Vec F S144x256 .bf16) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare v ∗ owns (c : Thread nD τ) arg13 fullShare w ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (oblock x3 x4 x6 x8 x9 v w) ∗ (∃ d, owns (c : Thread nD τ) arg11 fullShare d) ∗ owns (c : Thread nD τ) arg12 fullShare v ∗ owns (c : Thread nD τ) arg13 fullShare w ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_diff_attn_eq_skeleton]; unfold cc0_diff_attn_skel
  simp only [k0_part23_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %_, H10⟩, ⟨%d11, %f11, %_, H11⟩, ⟨%f12, %hf12, H12⟩, ⟨%f13, %hf13, H13⟩, ⟨%d14, %f14, %_, H14⟩, ⟨%d15, %f15, %_, H15⟩, ⟨%d16, %f16, %_, H16⟩, ⟨%d17, %f17, %_, H17⟩, ⟨%d18, %f18, %_, H18⟩, Hk⟩
  sl_exec (disch := first | sl_exact hc)
  have hG11 : ∃ G, G = arg11.view.writes (Elt F) f11 (run_later.sl.H11_2 c arg3 f3) := ⟨_, rfl⟩
  have hG14 : ∃ G, G = arg14.view.writes (Elt F) arg14.view.junk (run_later.sl.H14_1 c arg3 arg4 arg11 f3 f4) := ⟨_, rfl⟩
  obtain ⟨G11, hG11⟩ := hG11
  obtain ⟨G14, hG14⟩ := hG14
  rw [← hG11, ← hG14]
  sl_exec
  have t0 := fun inb => qrows_read f3 0 (by omega) (off := ![0, 0, 0]) inb rfl
  have e0 := fun inb => kread f4 0 (by omega) (off := ![0, 0, 0]) inb rfl
  rw [hf3] at t0
  rw [hf4] at e0
  have hs : ∀ g : BufTy.Contents (Elt F) arg11.view.ty,
      qslot (arg11.view.read (Elt F) (arg11.view.writes (Elt F) g (run_later.sl.H11_2 c arg3 f3))) 0 = qtile x3 0 := by
    intro g
    unfold run_later.sl.H11_2
    rw [qslot_writes arg11.view g 0 _ _ _ _ rfl rfl, t0]
    rfl
  have hq : qslot (arg11.view.read (Elt F) G11) 0 = qtile x3 0 := by
    rw [hG11]; exact hs _
  have h12 : arg14.view.read (Elt F) G14 = scores x4 (qtile x3 0) 0 := by
    rw [hG14]
    unfold run_later.sl.H14_1
    have a31 : run_later.sl.v31 c arg3 arg11 f3 = qtile x3 0 := by
      unfold run_later.sl.v31
      show View.readAt (Elt F) arg11.view _ _ = _
      rw [qread _ 0 _ rfl]
      exact hs _
    unfold run_later.sl.r run_later.sl.r_1
    rw [pay1_eq, e0, a31]
    exact View.read_writes_full arg14.view _ _ _ _
  have hres := contents_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f6 f8 f9 f12 f13 f10 G11 G14 f15 f16 f17 f18 x3 x4 x6 x8 x9 _ _ hf3 hf4 hf6 hf8 hf9 hf12 hf13 hq h12
  sl_step
  iapply Hk
  isplitl [H3]
  · iexists _
    isplitr
    · ipureintro; exact hf3
    · iexact H3
  isplitl [H4]
  · iexists _
    isplitr
    · ipureintro; exact hf4
    · iexact H4
  isplitl [H5]
  · iexists _
    isplitr
    · ipureintro; exact hf5
    · iexact H5
  isplitl [H6]
  · iexists _
    isplitr
    · ipureintro; exact hf6
    · iexact H6
  isplitl [H7]
  · iexists _
    isplitr
    · ipureintro; exact hf7
    · iexact H7
  isplitl [H8]
  · iexists _
    isplitr
    · ipureintro; exact hf8
    · iexact H8
  isplitl [H9]
  · iexists _
    isplitr
    · ipureintro; exact hf9
    · iexact H9
  isplitl [H10]
  · iexists _
    isplitr
    · ipureintro; exact hres
    · iexact H10
  isplitl [H11]
  · iexists _; iexists _
    isplitr
    swap
    · iexact H11
    · ipureintro; rfl
  isplitl [H12]
  · iexists _
    isplitr
    · ipureintro; exact hf12
    · iexact H12
  isplitl [H13]
  · iexists _
    isplitr
    · ipureintro; exact hf13
    · iexact H13
  isplitl [H14]
  · iexists _; iexists _
    isplitr
    swap
    · iexact H14
    · ipureintro; rfl
  isplitl [H15]
  · iexists _; iexists _
    isplitr
    swap
    · iexact H15
    · ipureintro; rfl
  isplitl [H16]
  · iexists _; iexists _
    isplitr
    swap
    · iexact H16
    · ipureintro; rfl
  isplitl [H17]
  · iexists _; iexists _
    isplitr
    swap
    · iexact H17
    · ipureintro; rfl
  · iexists _; iexists _
    isplitr
    swap
    · iexact H18
    · ipureintro; rfl

end Cert.Dif

end
-- ==== Proof.DifFirst.lean ====
/- The differential attention's body at the first point of a row, where the values are transposed. -/
module

public import proofs.«01_k».proof.Proof.DifRun

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1600000 in
/-- The body at the first point of a row: the transposed values and the result block. -/
theorem run_first (c : Dev nD) (i : grid0.Coords) (arg3 : Memref sig .tc .vmem S1x4096x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x128x1024 .bf16) (harg11 : arg11.IsWhole) (arg12 : Memref sig .tc .vmem S32x144x512 .bf16) (harg12 : arg12.IsWhole) (arg13 : Memref sig .tc .vmem S144x256 .bf16) (harg13 : arg13.IsWhole) (arg14 : Memref sig .tc .vmem S512x1024 .f32) (harg14 : arg14.IsWhole) (arg15 : Memref sig .tc .vmem S512x1024 .f32) (harg15 : arg15.IsWhole) (arg16 : Memref sig .tc .vmem S256x1024 .f32) (harg16 : arg16.IsWhole) (arg17 : Memref sig .tc .vmem S1x1024 .f32) (harg17 : arg17.IsWhole) (arg18 : Memref sig .tc .vmem S144x1024 .f32) (harg18 : arg18.IsWhole) (hc : firstOf i)
    (x3 : Vec F S1x4096x128 .bf16) (x4 : Vec F S1x16384x128 .bf16) (x5 : Vec F S1x16384x128 .bf16) (x6 : Vec F S1x256x128 .bf16) (x7 : Vec F S1x256x128 .bf16) (x8 : Vec F S1x128 .f32) (x9 : Vec F S1x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (oblock x3 x4 x6 x8 x9 (vpanels x5) (cpanel x7)) ∗ (∃ d, owns (c : Thread nD τ) arg11 fullShare d) ∗ owns (c : Thread nD τ) arg12 fullShare (vpanels x5) ∗ owns (c : Thread nD τ) arg13 fullShare (cpanel x7) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_diff_attn_eq_skeleton]; unfold cc0_diff_attn_skel
  simp only [k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %_, H10⟩, ⟨%d11, %f11, %_, H11⟩, ⟨%d12, %f12, %_, H12⟩, ⟨%d13, %f13, %_, H13⟩, ⟨%d14, %f14, %_, H14⟩, ⟨%d15, %f15, %_, H15⟩, ⟨%d16, %f16, %_, H16⟩, ⟨%d17, %f17, %_, H17⟩, ⟨%d18, %f18, %_, H18⟩, Hk⟩
  sl_exec (disch := first | sl_exact hc)
  have hG11 : ∃ G, G = arg11.view.writes (Elt F) f11 (run_first.sl.H11_2 c arg3 f3) := ⟨_, rfl⟩
  have hG12 : ∃ G, G = arg12.view.writes (Elt F) arg12.view.junk (run_first.sl.H12_64 c arg5 f5) := ⟨_, rfl⟩
  have hG13 : ∃ G, G = arg13.view.writes (Elt F) arg13.view.junk (run_first.sl.H13_2 c arg7 f7) := ⟨_, rfl⟩
  have hG14 : ∃ G, G = arg14.view.writes (Elt F) arg14.view.junk (run_first.sl.H14_1 c arg3 arg4 arg11 f3 f4) := ⟨_, rfl⟩
  obtain ⟨G11, hG11⟩ := hG11
  obtain ⟨G12, hG12⟩ := hG12
  obtain ⟨G13, hG13⟩ := hG13
  obtain ⟨G14, hG14⟩ := hG14
  rw [← hG11, ← hG12, ← hG13, ← hG14]
  sl_exec
  have e5 : ∀ (n : ℕ) (hn : n < 32) {off : Fin 3 → ℕ} (inb) (h : off = ![0, 512 * n, 0]),
      View.readAt (Elt F) arg5.view (Rect.unit (s := S1x16384x128) off S1x512x128.size inb).toLoadRect f5 = kchunk x5 n :=
    fun n hn off inb h => (kread f5 n hn inb h).trans (by rw [hf5])
  have h10 : arg12.view.read (Elt F) G12 = vpanels x5 := by
    rw [hG12]
    unfold run_first.sl.H12_64
    funext y
    exact (panel_step _ _ x5 31 _ _ _ _ _ (congrArg k0_pay3 (e5 31 (by omega) _ rfl)) rfl (panel_step _ _ x5 30 _ _ _ _ _ (congrArg k0_pay3 (e5 30 (by omega) _ rfl)) rfl (panel_step _ _ x5 29 _ _ _ _ _ (congrArg k0_pay3 (e5 29 (by omega) _ rfl)) rfl (panel_step _ _ x5 28 _ _ _ _ _ (congrArg k0_pay3 (e5 28 (by omega) _ rfl)) rfl
        (panel_step _ _ x5 27 _ _ _ _ _ (congrArg k0_pay3 (e5 27 (by omega) _ rfl)) rfl (panel_step _ _ x5 26 _ _ _ _ _ (congrArg k0_pay3 (e5 26 (by omega) _ rfl)) rfl (panel_step _ _ x5 25 _ _ _ _ _ (congrArg k0_pay3 (e5 25 (by omega) _ rfl)) rfl (panel_step _ _ x5 24 _ _ _ _ _ (congrArg k0_pay3 (e5 24 (by omega) _ rfl)) rfl
        (panel_step _ _ x5 23 _ _ _ _ _ (congrArg k0_pay3 (e5 23 (by omega) _ rfl)) rfl (panel_step _ _ x5 22 _ _ _ _ _ (congrArg k0_pay3 (e5 22 (by omega) _ rfl)) rfl (panel_step _ _ x5 21 _ _ _ _ _ (congrArg k0_pay3 (e5 21 (by omega) _ rfl)) rfl (panel_step _ _ x5 20 _ _ _ _ _ (congrArg k0_pay3 (e5 20 (by omega) _ rfl)) rfl
        (panel_step _ _ x5 19 _ _ _ _ _ (congrArg k0_pay3 (e5 19 (by omega) _ rfl)) rfl (panel_step _ _ x5 18 _ _ _ _ _ (congrArg k0_pay3 (e5 18 (by omega) _ rfl)) rfl (panel_step _ _ x5 17 _ _ _ _ _ (congrArg k0_pay3 (e5 17 (by omega) _ rfl)) rfl (panel_step _ _ x5 16 _ _ _ _ _ (congrArg k0_pay3 (e5 16 (by omega) _ rfl)) rfl
        (panel_step _ _ x5 15 _ _ _ _ _ (congrArg k0_pay3 (e5 15 (by omega) _ rfl)) rfl (panel_step _ _ x5 14 _ _ _ _ _ (congrArg k0_pay3 (e5 14 (by omega) _ rfl)) rfl (panel_step _ _ x5 13 _ _ _ _ _ (congrArg k0_pay3 (e5 13 (by omega) _ rfl)) rfl (panel_step _ _ x5 12 _ _ _ _ _ (congrArg k0_pay3 (e5 12 (by omega) _ rfl)) rfl
        (panel_step _ _ x5 11 _ _ _ _ _ (congrArg k0_pay3 (e5 11 (by omega) _ rfl)) rfl (panel_step _ _ x5 10 _ _ _ _ _ (congrArg k0_pay3 (e5 10 (by omega) _ rfl)) rfl (panel_step _ _ x5 9 _ _ _ _ _ (congrArg k0_pay3 (e5 9 (by omega) _ rfl)) rfl (panel_step _ _ x5 8 _ _ _ _ _ (congrArg k0_pay3 (e5 8 (by omega) _ rfl)) rfl
        (panel_step _ _ x5 7 _ _ _ _ _ (congrArg k0_pay3 (e5 7 (by omega) _ rfl)) rfl (panel_step _ _ x5 6 _ _ _ _ _ (congrArg k0_pay3 (e5 6 (by omega) _ rfl)) rfl (panel_step _ _ x5 5 _ _ _ _ _ (congrArg k0_pay3 (e5 5 (by omega) _ rfl)) rfl (panel_step _ _ x5 4 _ _ _ _ _ (congrArg k0_pay3 (e5 4 (by omega) _ rfl)) rfl
        (panel_step _ _ x5 3 _ _ _ _ _ (congrArg k0_pay3 (e5 3 (by omega) _ rfl)) rfl (panel_step _ _ x5 2 _ _ _ _ _ (congrArg k0_pay3 (e5 2 (by omega) _ rfl)) rfl (panel_step _ _ x5 1 _ _ _ _ _ (congrArg k0_pay3 (e5 1 (by omega) _ rfl)) rfl (panel_step _ _ x5 0 _ _ _ _ _ (congrArg k0_pay3 (e5 0 (by omega) _ rfl)) rfl
        (fun y hy => absurd hy (Nat.not_lt_zero _)))))))))))))))))))))))))))))))))) y (y 0).isLt
  have h11 : arg13.view.read (Elt F) G13 = cpanel x7 := by
    rw [hG13]
    unfold run_first.sl.H13_2
    exact cpanel_writes _ _ x7 _ _ _ (congrArg (fun z => k0_pay118 (k0_pay73 z)) ((View.readAt_full arg7.view f7 _).trans hf7))
  have t0 := fun inb => qrows_read f3 0 (by omega) (off := ![0, 0, 0]) inb rfl
  have e0 := fun inb => kread f4 0 (by omega) (off := ![0, 0, 0]) inb rfl
  rw [hf3] at t0
  rw [hf4] at e0
  have hs : ∀ g : BufTy.Contents (Elt F) arg11.view.ty,
      qslot (arg11.view.read (Elt F) (arg11.view.writes (Elt F) g (run_first.sl.H11_2 c arg3 f3))) 0 = qtile x3 0 := by
    intro g
    unfold run_first.sl.H11_2
    rw [qslot_writes arg11.view g 0 _ _ _ _ rfl rfl, t0]
    rfl
  have hq : qslot (arg11.view.read (Elt F) G11) 0 = qtile x3 0 := by
    rw [hG11]; exact hs _
  have h12 : arg14.view.read (Elt F) G14 = scores x4 (qtile x3 0) 0 := by
    rw [hG14]
    unfold run_first.sl.H14_1
    have a31 : run_first.sl.v31 c arg3 arg11 f3 = qtile x3 0 := by
      unfold run_first.sl.v31
      show View.readAt (Elt F) arg11.view _ _ = _
      rw [qread _ 0 _ rfl]
      exact hs _
    unfold run_first.sl.r_7 run_first.sl.r_8
    rw [pay1_eq, e0, a31]
    exact View.read_writes_full arg14.view _ _ _ _
  have hres := contents_end c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f6 f8 f9 G12 G13 f10 G11 G14 f15 f16 f17 f18 x3 x4 x6 x8 x9 _ _ hf3 hf4 hf6 hf8 hf9 h10 h11 hq h12
  sl_step
  iapply Hk
  isplitl [H3]
  · iexists _
    isplitr
    · ipureintro; exact hf3
    · iexact H3
  isplitl [H4]
  · iexists _
    isplitr
    · ipureintro; exact hf4
    · iexact H4
  isplitl [H5]
  · iexists _
    isplitr
    · ipureintro; exact hf5
    · iexact H5
  isplitl [H6]
  · iexists _
    isplitr
    · ipureintro; exact hf6
    · iexact H6
  isplitl [H7]
  · iexists _
    isplitr
    · ipureintro; exact hf7
    · iexact H7
  isplitl [H8]
  · iexists _
    isplitr
    · ipureintro; exact hf8
    · iexact H8
  isplitl [H9]
  · iexists _
    isplitr
    · ipureintro; exact hf9
    · iexact H9
  isplitl [H10]
  · iexists _
    isplitr
    · ipureintro; exact hres
    · iexact H10
  isplitl [H11]
  · iexists _; iexists _
    isplitr
    swap
    · iexact H11
    · ipureintro; rfl
  isplitl [H12]
  · iexists _
    isplitr
    · ipureintro; exact h10
    · iexact H12
  isplitl [H13]
  · iexists _
    isplitr
    · ipureintro; exact h11
    · iexact H13
  isplitl [H14]
  · iexists _; iexists _
    isplitr
    swap
    · iexact H14
    · ipureintro; rfl
  isplitl [H15]
  · iexists _; iexists _
    isplitr
    swap
    · iexact H15
    · ipureintro; rfl
  isplitl [H16]
  · iexists _; iexists _
    isplitr
    swap
    · iexact H16
    · ipureintro; rfl
  isplitl [H17]
  · iexists _; iexists _
    isplitr
    swap
    · iexact H17
    · ipureintro; rfl
  · iexists _; iexists _
    isplitr
    swap
    · iexact H18
    · ipureintro; rfl

end Cert.Dif

end
-- ==== Proof.DifFrame.lean ====
/- The differential attention kernel's run: the contents of the windows and of the carried scratch point by point, and the frame. -/
module

public import proofs.«01_k».proof.Proof.DifFirst
public import proofs.«01_k».proof.Proof.Gen.Kernel3Ideal.Frame
public import Idealize.ShloMosaic.Lib.Claim

@[expose] public section

set_option maxRecDepth 16384

noncomputable section

namespace Cert.Dif

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition holds at the first point of each row of four. -/
theorem firstOf_iff : ∀ t : Fin cfg0.N, firstOf (grid0.coords t) ↔ t.val % 4 = 0 :=
  (fun t => by
    have ht : t.val < 64 := Nat.lt_of_lt_of_eq t.isLt N_0
    have e2 : (grid0.coords t 2).val = t.val / 1 % 4 := Pipeline.Grid.coords_val t 2 (by decide) rfl
    simp only [firstOf, e2]
    word_cmp
   : ∀ t : Fin grid0.N, firstOf (grid0.coords t) ↔ t.val % 4 = 0)

/-- The whole scratch buffer 0. -/
abbrev scr11 : Memref sig .tc .vmem S2x128x1024 .bf16 := Memref.whole cc0_scratch0
/-- The whole scratch buffer 1. -/
abbrev scr12 : Memref sig .tc .vmem S32x144x512 .bf16 := Memref.whole cc0_scratch1
/-- The whole scratch buffer 2. -/
abbrev scr13 : Memref sig .tc .vmem S144x256 .bf16 := Memref.whole cc0_scratch2
/-- The whole scratch buffer 3. -/
abbrev scr14 : Memref sig .tc .vmem S512x1024 .f32 := Memref.whole cc0_scratch3
/-- The whole scratch buffer 4. -/
abbrev scr15 : Memref sig .tc .vmem S512x1024 .f32 := Memref.whole cc0_scratch4
/-- The whole scratch buffer 5. -/
abbrev scr16 : Memref sig .tc .vmem S256x1024 .f32 := Memref.whole cc0_scratch5
/-- The whole scratch buffer 6. -/
abbrev scr17 : Memref sig .tc .vmem S1x1024 .f32 := Memref.whole cc0_scratch6
/-- The whole scratch buffer 7. -/
abbrev scr18 : Memref sig .tc .vmem S144x1024 .f32 := Memref.whole cc0_scratch7
/-- The staging buffer of window 0 at a point. -/
abbrev stg0 (t : Fin cfg0.N) : Memref sig .tc .vmem S1x4096x128 .bf16 := win0_0.stage (cfg0.slots t 0)
/-- The staging buffer of window 1 at a point. -/
abbrev stg1 (t : Fin cfg0.N) : Memref sig .tc .vmem S1x16384x128 .bf16 := win0_1.stage (cfg0.slots t 1)
/-- The staging buffer of window 2 at a point. -/
abbrev stg2 (t : Fin cfg0.N) : Memref sig .tc .vmem S1x16384x128 .bf16 := win0_2.stage (cfg0.slots t 2)
/-- The staging buffer of window 3 at a point. -/
abbrev stg3 (t : Fin cfg0.N) : Memref sig .tc .vmem S1x256x128 .bf16 := win0_3.stage (cfg0.slots t 3)
/-- The staging buffer of window 4 at a point. -/
abbrev stg4 (t : Fin cfg0.N) : Memref sig .tc .vmem S1x256x128 .bf16 := win0_4.stage (cfg0.slots t 4)
/-- The staging buffer of window 5 at a point. -/
abbrev stg5 (t : Fin cfg0.N) : Memref sig .tc .vmem S1x128 .f32 := win0_5.stage (cfg0.slots t 5)
/-- The staging buffer of window 6 at a point. -/
abbrev stg6 (t : Fin cfg0.N) : Memref sig .tc .vmem S1x128 .f32 := win0_6.stage (cfg0.slots t 6)
/-- The staging buffer of window 7 at a point. -/
abbrev stg7 (t : Fin cfg0.N) : Memref sig .tc .vmem S1x4096x128 .bf16 := win0_7.stage (cfg0.slots t 7)

/-- The invariant before the first point: every scratch buffer at some contents. -/
theorem phiA_eq (c : Dev nD) :
    (Pipeline.ΦA spec0 c : sProp 𝕄) = iprop(((∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d) ∗ (∃ d, owns (c : Thread nD τ) scr18 fullShare d)) ∗ (∃ r, prngReg c r)) := by
  unfold Pipeline.ΦA; rw [scopedRest0_eq]; simp only [scr11, scr12, scr13, scr14, scr15, scr16, scr17, scr18, owns_whole]; try rfl

/-- The first point of the row of four a point lies in. -/
def base (t : Fin cfg0.N) : Fin cfg0.N := ⟨t.val / 4 * 4, lt_of_le_of_lt (Nat.div_mul_le_self _ _) t.isLt⟩

theorem base_first (t : Fin cfg0.N) (h : t.val % 4 = 0) : base t = t := Fin.ext (by show t.val / 4 * 4 = t.val; omega)

theorem base_later (t : Fin cfg0.N) (h : ¬t.val % 4 = 0) (h' : t.val - 1 < cfg0.N) : base ⟨t.val - 1, h'⟩ = base t :=
  Fin.ext (by show (t.val - 1) / 4 * 4 = t.val / 4 * 4; omega)

/-- The transposed values of a point's row. -/
def vrow (c : Dev nD) (t : Fin cfg0.N) : Vec F S32x144x512 .bf16 := vpanels (iblk m c 2 (base t))

/-- The transposed context values of a point's row. -/
def crow (c : Dev nD) (t : Fin cfg0.N) : Vec F S144x256 .bf16 := cpanel (iblk m c 4 (base t))

/-- The block of results a point leaves. -/
def outAt (c : Dev nD) (t : Fin cfg0.N) : Vec F S1x4096x128 .bf16 :=
  oblock (iblk m c 0 t) (iblk m c 1 t) (iblk m c 3 t) (iblk m c 5 t) (iblk m c 6 t) (vrow m c t) (crow m c t)

/-- The invariant before position `n`: after a point the two transposed buffers hold that point's row. -/
def phi (c : Dev nD) : (n : ℕ) → n ≤ cfg0.N → sProp 𝕄
  | 0, _ => Pipeline.ΦA spec0 c
  | n + 1, hn => iprop(((∃ d, owns (c : Thread nD τ) scr11 fullShare d) ∗ owns (c : Thread nD τ) scr12 fullShare (vrow m c ⟨n, hn⟩) ∗ owns (c : Thread nD τ) scr13 fullShare (crow m c ⟨n, hn⟩) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d) ∗ (∃ d, owns (c : Thread nD τ) scr18 fullShare d)) ∗ (∃ r, prngReg c r))

theorem phi_zero (c : Dev nD) (n : ℕ) (h : n ≤ cfg0.N) (hz : n = 0) : phi m c n h = Pipeline.ΦA spec0 c := by
  subst hz; rfl

theorem phi_succ (c : Dev nD) (n : ℕ) (hn : n < cfg0.N) :
    phi m c (n + 1) hn = iprop(((∃ d, owns (c : Thread nD τ) scr11 fullShare d) ∗ owns (c : Thread nD τ) scr12 fullShare (vrow m c ⟨n, hn⟩) ∗ owns (c : Thread nD τ) scr13 fullShare (crow m c ⟨n, hn⟩) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d) ∗ (∃ d, owns (c : Thread nD τ) scr18 fullShare d)) ∗ (∃ r, prngReg c r)) := rfl

theorem phi_pos (c : Dev nD) (n : ℕ) (h : n ≤ cfg0.N) (hz : n ≠ 0) :
    phi m c n h = iprop(((∃ d, owns (c : Thread nD τ) scr11 fullShare d) ∗ owns (c : Thread nD τ) scr12 fullShare (vrow m c ⟨n - 1, by omega⟩) ∗ owns (c : Thread nD τ) scr13 fullShare (crow m c ⟨n - 1, by omega⟩) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d) ∗ (∃ d, owns (c : Thread nD τ) scr18 fullShare d)) ∗ (∃ r, prngReg c r)) := by
  cases n with
  | zero => exact absurd rfl hz
  | succ n => rfl

/-- Whatever the position, every scratch buffer is at some contents. -/
theorem phi_any (c : Dev nD) (n : ℕ) (h : n ≤ cfg0.N) :
    phi m c n h ⊢ iprop(((∃ d, owns (c : Thread nD τ) scr11 fullShare d) ∗ (∃ d, owns (c : Thread nD τ) scr12 fullShare d) ∗ (∃ d, owns (c : Thread nD τ) scr13 fullShare d) ∗ (∃ d, owns (c : Thread nD τ) scr14 fullShare d) ∗ (∃ d, owns (c : Thread nD τ) scr15 fullShare d) ∗ (∃ d, owns (c : Thread nD τ) scr16 fullShare d) ∗ (∃ d, owns (c : Thread nD τ) scr17 fullShare d) ∗ (∃ d, owns (c : Thread nD τ) scr18 fullShare d)) ∗ (∃ r, prngReg c r)) := by
  by_cases hz : n = 0
  · rw [phi_zero m c n h hz, phiA_eq]
  · rw [phi_pos m c n h hz]
    iintro ⟨⟨H11, H12, H13, H14, H15, H16, H17, H18⟩, Hg⟩
    isplitr [Hg]
    · isplitl [H11]
      · iexact H11
      isplitl [H12]
      · iexists _; iexact H12
      isplitl [H13]
      · iexists _; iexact H13
      isplitl [H14]
      · iexact H14
      isplitl [H15]
      · iexact H15
      isplitl [H16]
      · iexact H16
      isplitl [H17]
      · iexact H17
      iexact H18
    iexact Hg

/-- The proof data: the arrays as the region finds them, each input left in place, the result at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = phi m c t.val (Nat.le_of_lt t.isLt) := by
  dsimp only [dats]; exact Pipeline.Dat.Φ_castSucc (phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t) ∗ owns (c : Thread nD τ) (stg1 t) fullShare ((dats m 0 c).after 1 t) ∗ owns (c : Thread nD τ) (stg2 t) fullShare ((dats m 0 c).after 2 t) ∗ owns (c : Thread nD τ) (stg3 t) fullShare ((dats m 0 c).after 3 t) ∗ owns (c : Thread nD τ) (stg4 t) fullShare ((dats m 0 c).after 4 t) ∗ owns (c : Thread nD τ) (stg5 t) fullShare ((dats m 0 c).after 5 t) ∗ owns (c : Thread nD τ) (stg6 t) fullShare ((dats m 0 c).after 6 t) ∗ owns (c : Thread nD τ) (stg7 t) fullShare ((dats m 0 c).after 7 t))

set_option maxHeartbeats 1600000 in
/-- The body at any point: at the first of a row it transposes the values, at a later one it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = phi m c (t.val + 1) t.isLt from rfl, phi_succ, phi_castSucc m c t]
  have hN : t.val < 64 := lt_of_lt_of_eq t.isLt (show cfg0.N = 64 from N_0)
  by_cases h0 : t.val % 4 = 0
  · refine BI.Entails.trans (BI.sep_mono (phi_any m c t.val _) (BI.Entails.refl _)) ?_
    show (iprop(_ ∗ _) : sProp 𝕄) ⊢ _
    have eo : outAt m c t = oblock (iblk m c 0 t) (iblk m c 1 t) (iblk m c 3 t) (iblk m c 5 t) (iblk m c 6 t) (vpanels (iblk m c 2 t)) (cpanel (iblk m c 4 t)) := by
      unfold outAt vrow crow; rw [base_first t h0]
    have ev : vrow m c ⟨t.val, t.isLt⟩ = vpanels (iblk m c 2 t) := by unfold vrow; rw [base_first _ h0]
    have ec : crow m c ⟨t.val, t.isLt⟩ = cpanel (iblk m c 4 t) := by unfold crow; rw [base_first _ h0]
    rw [eo, ev, ec]
    iintro ⟨⟨⟨H11, H12, H13, H14, H15, H16, H17, H18⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩⟩
    iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((firstOf_iff t).mpr h0) (iblk m c 0 t) (iblk m c 1 t) (iblk m c 2 t) (iblk m c 3 t) (iblk m c 4 t) (iblk m c 5 t) (iblk m c 6 t) Set.univ _)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexists _; iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    iintro ⟨H3, H4, H5, H6, H7, H8, H9, H10, H11, H12, H13, H14, H15, H16, H17, H18⟩
    isplitl [H11 H12 H13 H14 H15 H16 H17 H18 Hg]
    · isplitr [Hg]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        iexact H18
      iexact Hg
    isplitl [Ho]
    · iexact Ho
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  · rw [phi_pos m c t.val _ (by omega)]
    have ev : vrow m c ⟨t.val - 1, by omega⟩ = vrow m c t := by unfold vrow; rw [base_later t h0]
    have ec : crow m c ⟨t.val - 1, by omega⟩ = crow m c t := by unfold crow; rw [base_later t h0]
    rw [ev, ec]
    iintro ⟨⟨⟨H11, H12, H13, H14, H15, H16, H17, H18⟩, Hg⟩, Ho, ⟨%d0, H3⟩, ⟨%d1, H4⟩, ⟨%d2, H5⟩, ⟨%d3, H6⟩, ⟨%d4, H7⟩, ⟨%d5, H8⟩, ⟨%d6, H9⟩, ⟨%d7, H10⟩⟩
    iapply (run_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun h => h0 ((firstOf_iff t).mp h)) (iblk m c 0 t) (iblk m c 1 t) (iblk m c 2 t) (iblk m c 3 t) (iblk m c 4 t) (iblk m c 5 t) (iblk m c 6 t) (vrow m c t) (crow m c t) Set.univ _)
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexists _; iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    iintro ⟨H3, H4, H5, H6, H7, H8, H9, H10, H11, H12, H13, H14, H15, H16, H17, H18⟩
    isplitl [H11 H12 H13 H14 H15 H16 H17 H18 Hg]
    · isplitr [Hg]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        iexact H18
      iexact Hg
    isplitl [Ho]
    · iexact Ho
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem hin (c : Dev nD) : Pipeline.ΦA spec0 c ⊢ (dats m 0 c).Φ 0 := by
  rw [show (dats m 0 c).Φ 0 = phi m c 0 (Nat.zero_le _) from rfl, phi_zero m c 0 _ rfl]
  try exact Idealize.SL.BI.Entails.refl _

/-- and takes it back after the last. -/
theorem hout (c : Dev nD) : (dats m 0 c).Φ (Fin.last cfg0.N) ⊢ Pipeline.ΦA spec0 c := by
  rw [show (dats m 0 c).Φ (Fin.last cfg0.N) = phi m c cfg0.N (Nat.le_refl _) from rfl, phiA_eq]
  exact phi_any m c _ _

set_option backward.isDefEq.respectTransparency.types false in
/-- Every execution ends with the arrays as the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Dif

end
-- ==== Proof.QkvFacts.lean ====
/- The facts over which the precondition of the differential attention's claim is stated. -/
module

public import proofs.«01_k».proof.Pre_qkv_finite

@[expose] public section

noncomputable section

namespace Cert.Dif

open Idealize.ShloMosaic Cert.Pre_qkv_finite

theorem bcast_q : S_.BroadcastsInDim S2x16384x1024 (![] : Fin 0 → Fin S2x16384x1024.rank) := by decide
theorem reduces_q : S2x16384x1024.ReducesTo [0, 1, 2] S_ := by decide
theorem one_pos : 0 < S_.numel := by decide
theorem bcast_kc : S_.BroadcastsInDim S2x256x1024 (![] : Fin 0 → Fin S2x256x1024.rank) := by decide
theorem reduces_kc : S2x256x1024.ReducesTo [0, 1, 2] S_ := by decide
theorem reduces_one : S_.ReducesTo [] S_ := by decide

/-- The side conditions of the precondition hold. -/
instance preFacts : Cert.Pre_qkv_finite.Facts where
  bcast_S_S2x16384x1024 := bcast_q
  reducesTo_S2x16384x1024_S_d0_1_2 := reduces_q
  h_S_ := one_pos
  bcast_S_S2x256x1024 := bcast_kc
  reducesTo_S2x256x1024_S_d0_1_2 := reduces_kc
  reducesTo_S_S_d := reduces_one

end Cert.Dif

end
-- ==== Proof.DifSame.lean ====
/- The differential attention's kernel at the machine's bits has the text of the kernel the run is proved for, so its body table is the same. -/
module

public import proofs.«01_k».proof.Defs
public import proofs.«01_k».proof.Proof.Gen.Kernel3
public import proofs.«01_k».proof.Proof.Gen.Kernel3Ideal

@[expose] public section

set_option maxRecDepth 16384

noncomputable section

namespace Cert.Dif

open Idealize.ShloMosaic Idealize.ShloMosaic.TcCoe

theorem body_same : @Cert.Kernel3.cc0_diff_attn Bits _ Cert.Kernel3.Gen.facts
    = @Cert.Kernel3Ideal.cc0_diff_attn Bits _ Cert.Kernel3Ideal.Gen.facts := rfl

theorem table_same : @Cert.Kernel3.defs₀ Bits _ Cert.Kernel3.Gen.facts = @Cert.Kernel3Ideal.defs₀ Bits _ Cert.Kernel3Ideal.Gen.facts :=
  congrArg Defs.onTc (funext fun l => match l with
    | ⟨0, _⟩ => funext fun ⟨t, s⟩ => by
        show Cert.Kernel3.cc0_diff_attn _ _ _ _ _ _ _ _ _ _ _ _ _ _ _ _ _ _ _ _ _ _ _ _ _ _ _ _ _ _ _ _ _ = _
        rw [body_same]; rfl
    | ⟨n + 1, h⟩ => absurd h (Nat.not_lt.2 (Nat.le_add_left _ _)))

theorem defs_same : @Cert.Kernel3.defs Bits _ Cert.Kernel3.Gen.facts = @Cert.Kernel3Ideal.defs Bits _ Cert.Kernel3Ideal.Gen.facts :=
  congrArg (Pipeline.defs Cert.Kernel3Ideal.pcfgs) table_same

end Cert.Dif

end
-- ==== Proof.DifMath.lean ====
/- The differential attention's payloads at one index, over the extended reals. -/
module

public import proofs.«01_k».proof.Proof.DifTiles
public import proofs.«01_k».proof.Proof.DifPanels
public import Idealize.ShloMosaic.Lib.Pointwise

@[expose] public section

set_option maxRecDepth 16384

noncomputable section

namespace Cert.Dif

open Cert.Kernel3Ideal Cert.Kernel3Ideal.Gen Idealize.ShloMosaic Idealize.ShloMosaic.TcCoe

/-- The pattern the running maximum starts from is minus infinity. -/
theorem negInf : Ideal.ofBits FTy.f32 4286578688#32 = ⊥ := by
  simp [Ideal.ofBits, Ideal.ieee]

theorem pay74_apply (a : Vec Ideal S1x512x128 .bf16) (q : Vec Ideal S1x128x1024 .bf16) (r : Fin 512) (l : Fin 1024) :
    k0_pay74 a q (ix2 r l) = ∑ d : Fin 128, a (ix3 0 r d) * q (ix3 0 d l) := by
  pointwise [k0_pay74]

theorem pay100_apply (a : Vec Ideal S1x256x128 .bf16) (q : Vec Ideal S1x128x1024 .bf16) (r : Fin 256) (l : Fin 1024) :
    k0_pay100 a q (ix2 r l) = ∑ d : Fin 128, a (ix3 0 r d) * q (ix3 0 d l) := by
  pointwise [k0_pay100]

theorem pay3_apply (a : Vec Ideal S1x512x128 .bf16) (d : Fin 128) (i : Fin 512) :
    k0_pay3 a (ix3 0 d i) = a (ix3 0 i d) := by
  pointwise [k0_pay3]

theorem pay4_apply (d : Fin 16) (i : Fin 512) : k0_pay4 (F := Ideal) (ix3 0 d i) = 1 := by
  pointwise [k0_pay4]

theorem pay119_apply (d : Fin 16) (i : Fin 256) : k0_pay119 (F := Ideal) (ix2 d i) = 1 := by
  pointwise [k0_pay119]

theorem pay118_apply (a : Vec Ideal S1x256x128 .bf16) (d : Fin 128) (i : Fin 256) :
    k0_pay118 (k0_pay73 a) (ix2 d i) = a (ix3 0 i d) := by
  pointwise [k0_pay118, k0_pay73]

theorem pay84_apply (l : Fin 1024) : k0_pay84 (F := Ideal) (ix2 0 l) = ⊥ := by
  pointwise [k0_pay84]
  exact negInf

theorem pay85_apply (e : Fin 144) (l : Fin 1024) : k0_pay85 (F := Ideal) (ix2 e l) = 0 := by
  pointwise [k0_pay85]

theorem pay75_apply (m : Vec Ideal S1x1024 .f32) (s : Vec Ideal S512x1024 .f32) (l : Fin 1024) :
    k0_pay75 m s (ix2 0 l) = max (m (ix2 0 l)) (Finset.univ.sup fun r : Fin 512 => s (ix2 r l)) := by
  pointwise [k0_pay75]
  rw [negInf]; rfl

theorem pay112_apply (m : Vec Ideal S1x1024 .f32) (s : Vec Ideal S256x1024 .f32) (l : Fin 1024) :
    k0_pay112 m s (ix2 0 l) = max (m (ix2 0 l)) (Finset.univ.sup fun r : Fin 256 => s (ix2 r l)) := by
  pointwise [k0_pay112]
  rw [negInf]; rfl

theorem pay76_apply (v : Vec Ideal S1x144x512 .bf16) (m : Vec Ideal S1x1024 .f32) (s t : Vec Ideal S512x1024 .f32)
    (a : Vec Ideal S144x1024 .f32) (e : Fin 144) (l : Fin 1024) :
    k0_pay76 v m s t a (ix2 e l) = Ideal.exp2 (m (ix2 0 l) - k0_pay75 m s (ix2 0 l)) * a (ix2 e l)
      + ∑ r : Fin 512, v (ix3 0 e r) * Ideal.exp2 (t (ix2 r l) - k0_pay75 m s (ix2 0 l)) := by
  pointwise [k0_pay76]
  rfl

theorem pay113_apply (v : Vec Ideal S144x256 .bf16) (m : Vec Ideal S1x1024 .f32) (s t : Vec Ideal S256x1024 .f32)
    (a : Vec Ideal S144x1024 .f32) (e : Fin 144) (l : Fin 1024) :
    k0_pay113 v m s t a (ix2 e l) = Ideal.exp2 (m (ix2 0 l) - k0_pay112 m s (ix2 0 l)) * a (ix2 e l)
      + ∑ r : Fin 256, v (ix2 e r) * Ideal.exp2 (t (ix2 r l) - k0_pay112 m s (ix2 0 l)) := by
  pointwise [k0_pay113]
  rfl

/-- A lane counter against 64. -/
theorem lane_lt : ∀ d : Fin 128, (IntOp.cmpi .slt (BitVec.ofNat 32 d.val) 64#32 = 1#1) ↔ d.val < 64 := by decide +kernel
theorem lane_ge : ∀ d : Fin 128, (IntOp.cmpi .sge (BitVec.ofNat 32 d.val) 64#32 = 1#1) ↔ ¬d.val < 64 := by decide +kernel

theorem pay121_apply (a : Vec Ideal S1x512x128 .bf16) (d : Fin 128) (i : Fin 512) :
    k0_pay121 a (ix3 0 d i) = if d.val < 64 then a (ix3 0 i d) else 0 := by
  pointwise [k0_pay121, k0_pay120]
  exact if_congr (lane_lt d) rfl rfl

theorem pay122_apply (a : Vec Ideal S1x512x128 .bf16) (d : Fin 128) (i : Fin 512) :
    k0_pay122 a (ix3 0 d i) = if d.val < 64 then 0 else a (ix3 0 i d) := by
  pointwise [k0_pay122, k0_pay120]
  exact (if_congr (lane_ge d) rfl rfl).trans (ite_not _ _ _)

theorem pay116_apply (A : Vec Ideal S128x1024 .f32) (D : Vec Ideal S1x1024 .f32) (i : Fin 512) (d : Fin 128) :
    k0_pay116 A D (ix2 i d) = Ideal.div (A (ix2 d ⟨i.val, by omega⟩)) (D (ix2 0 ⟨i.val, by omega⟩)) := by
  pointwise [k0_pay116, k0_pay115]

theorem pay117_apply (A : Vec Ideal S128x1024 .f32) (D : Vec Ideal S1x1024 .f32) (l : Vec Ideal S1x128 .f32) (i : Fin 512) (d : Fin 128) :
    k0_pay117 A D l (ix2 i d) = l (ix2 0 d) * Ideal.div (A (ix2 d ⟨512 + i.val, by omega⟩)) (D (ix2 0 ⟨512 + i.val, by omega⟩)) := by
  pointwise [k0_pay117, k0_pay115]

/-- A row under the root-mean-square norm, its weight and the factor after it; 128 lanes, the added 1e-6 and the factor as printed. -/
def tail (y w : Fin 128 → EReal) (d : Fin 128) : EReal :=
  y d * Ideal.rsqrt (Ideal.div (∑ e, y e * y e) (Ideal.ofBits FTy.f32 0x43000000#32) + Ideal.ofBits FTy.f32 0x358637BD#32) * w d
    * Ideal.ofBits FTy.f32 0x3F4CCCCD#32

theorem pay2_apply (a b : Vec Ideal S512x128 .f32) (w : Vec Ideal S1x128 .f32) (i : Fin 512) (d : Fin 128) :
    k0_pay2 a b w (ix3 0 i d) = tail (fun e => a (ix2 i e) - b (ix2 i e)) (fun e => w (ix2 0 e)) d := by
  pointwise [k0_pay2, tail]

end Cert.Dif

end
-- ==== Proof.DifSums.lean ====
/- The differential attention's block of results at one index, over the extended reals: for each of the two maps a quotient of two
   weighted sums over the 16384 latent keys and the 256 context keys, the second under its weight taken from the first, under the norm. -/
module

public import proofs.«01_k».proof.Proof.DifMath
public import proofs.«01_k».proof.Proof.GqaSoftmax
public import proofs.«01_k».proof.Proof.DifOuter

@[expose] public section

set_option maxRecDepth 16384

noncomputable section

namespace Cert.Dif

open Cert.Gqa (top wsum top_add wsum_add)
open Cert.Kernel3Ideal Cert.Kernel3Ideal.Gen Idealize.ShloMosaic Idealize.ShloMosaic.TcCoe

/-- Row `j` of the latent rows followed by the context's rows, at column `d`. -/
def rowAt (x : Vec Ideal S1x16384x128 .bf16) (x6 : Vec Ideal S1x256x128 .bf16) (j : ℕ) (d : Fin 128) : EReal :=
  if h : j < 16384 then x (ix3 0 ⟨j, h⟩ d) else x6 (ix3 0 ⟨(j - 16384) % 256, Nat.mod_lt _ (by decide)⟩ d)

/-- The score of key `j` for column `l` of a query tile. -/
def colScore (x : Vec Ideal S1x16384x128 .bf16) (x6 : Vec Ideal S1x256x128 .bf16) (q : Vec Ideal S1x128x1024 .bf16)
    (l : Fin 1024) (j : ℕ) : EReal := ∑ d : Fin 128, rowAt x x6 j d * q (ix3 0 d l)

/-- Row `e` of the transposed values at key `j`. -/
def weightAt (v : Vec Ideal S32x144x512 .bf16) (x11 : Vec Ideal S144x256 .bf16) (e : Fin 144) (j : ℕ) : EReal :=
  if h : j < 16384 then v (ix3 ⟨j / 512, by omega⟩ e ⟨j % 512, Nat.mod_lt _ (by decide)⟩)
    else x11 (ix2 e ⟨(j - 16384) % 256, Nat.mod_lt _ (by decide)⟩)

theorem scores_apply (x : Vec Ideal S1x16384x128 .bf16) (x6 : Vec Ideal S1x256x128 .bf16) (q : Vec Ideal S1x128x1024 .bf16)
    (n : ℕ) (hn : n < 32) (r : Fin 512) (l : Fin 1024) : scores x q n (ix2 r l) = colScore x x6 q l (512 * n + r.val) := by
  unfold scores colScore
  rw [pay74_apply]
  refine Finset.sum_congr rfl fun d _ => congrArg (· * q (ix3 0 d l)) ?_
  unfold rowAt
  rw [dif_pos (by omega)]
  show x (ix3 0 ⟨(512 * n + r.val) % 16384, _⟩ d) = _
  exact congrArg (fun z => x (ix3 0 z d)) (Fin.ext (Nat.mod_eq_of_lt (by omega)))

theorem ctx_apply (x : Vec Ideal S1x16384x128 .bf16) (x6 : Vec Ideal S1x256x128 .bf16) (q : Vec Ideal S1x128x1024 .bf16)
    (r : Fin 256) (l : Fin 1024) : k0_pay100 x6 q (ix2 r l) = colScore x x6 q l (16384 + r.val) := by
  unfold colScore
  rw [pay100_apply]
  refine Finset.sum_congr rfl fun d _ => congrArg (· * q (ix3 0 d l)) ?_
  unfold rowAt
  rw [dif_neg (by omega)]
  exact congrArg (fun z => x6 (ix3 0 z d)) (Fin.ext (by show r.val = (16384 + r.val - 16384) % 256; omega))

theorem vchunk_apply (v : Vec Ideal S32x144x512 .bf16) (x11 : Vec Ideal S144x256 .bf16) (n : ℕ) (hn : n < 32) (e : Fin 144)
    (r : Fin 512) : vchunk v n (ix3 0 e r) = weightAt v x11 e (512 * n + r.val) := by
  unfold weightAt
  rw [dif_pos (by omega)]
  show v (ix3 ⟨n % 32, _⟩ e r) = _
  have h1 : (⟨n % 32, Nat.mod_lt _ (by decide)⟩ : Fin 32) = ⟨(512 * n + r.val) / 512, by omega⟩ := Fin.ext (by show n % 32 = (512 * n + r.val) / 512; omega)
  have h2 : r = ⟨(512 * n + r.val) % 512, Nat.mod_lt _ (by decide)⟩ := Fin.ext (by show r.val = (512 * n + r.val) % 512; omega)
  exact congrArg₂ (fun a b => v (ix3 a e b)) h1 h2

theorem cpanel_weight (v : Vec Ideal S32x144x512 .bf16) (x11 : Vec Ideal S144x256 .bf16) (e : Fin 144)
    (r : Fin 256) : x11 (ix2 e r) = weightAt v x11 e (16384 + r.val) := by
  unfold weightAt
  rw [dif_neg (by omega)]
  exact congrArg (fun z => x11 (ix2 e z)) (Fin.ext (by show r.val = (16384 + r.val - 16384) % 256; omega))

section
variable (x : Vec Ideal S1x16384x128 .bf16) (x6 : Vec Ideal S1x256x128 .bf16) (q : Vec Ideal S1x128x1024 .bf16)
  (v : Vec Ideal S32x144x512 .bf16) (x11 : Vec Ideal S144x256 .bf16) (l : Fin 1024) (σ : ℕ → ℝ)
  (hσ : ∀ j, colScore x x6 q l j = σ j)
include hσ

/-- After `n` chunks a column holds the greatest of the first `512 n` scores and the weighted sums up to them. -/
theorem soft_apply (n : ℕ) (hn : n ≤ 32) :
    (soft x v q n).1 (ix2 0 l) = top (fun j => (σ j : EReal)) (512 * n)
    ∧ ∀ e, (soft x v q n).2 (ix2 e l) = wsum (fun j => (σ j : EReal)) (weightAt v x11 e) (512 * n) := by
  induction n with
  | zero => exact ⟨pay84_apply l, fun e => pay85_apply e l⟩
  | succ n ih =>
    obtain ⟨h1, h2⟩ := ih (by omega)
    have hs : ∀ r : Fin 512, scores x q n (ix2 r l) = (σ (512 * n + r.val) : EReal) := fun r =>
      (scores_apply x x6 q n (by omega) r l).trans (hσ _)
    have hm : k0_pay75 (soft x v q n).1 (scores x q n) (ix2 0 l) = top (fun j => (σ j : EReal)) (512 * n + 512) := by
      rw [pay75_apply, h1]
      simp only [hs]
      exact top_add (fun j => (σ j : EReal)) (512 * n) 512
    refine ⟨hm, fun e => ?_⟩
    show k0_pay76 _ _ _ _ _ (ix2 e l) = _
    rw [pay76_apply, hm, h1, h2]
    simp only [hs, vchunk_apply v x11 n (by omega)]
    exact wsum_add σ (weightAt v x11 e) (512 * n) 512 (by decide)

/-- With the context keys in, a column holds the weighted sums over all 16640 keys. -/
theorem accEnd_apply (e : Fin 144) : accEnd x v x6 x11 q (ix2 e l) = wsum (fun j => (σ j : EReal)) (weightAt v x11 e) 16640 := by
  obtain ⟨h1, h2⟩ := soft_apply x x6 q v x11 l σ hσ 32 le_rfl
  have hs : ∀ r : Fin 256, k0_pay100 x6 q (ix2 r l) = (σ (16384 + r.val) : EReal) := fun r =>
    (ctx_apply x x6 q r l).trans (hσ _)
  have hm : k0_pay112 (soft x v q 32).1 (k0_pay100 x6 q) (ix2 0 l) = top (fun j => (σ j : EReal)) (16384 + 256) := by
    rw [pay112_apply, h1]
    simp only [hs]
    exact top_add (fun j => (σ j : EReal)) 16384 256
  unfold accEnd
  rw [pay113_apply, hm, h1, h2]
  simp only [hs, cpanel_weight v x11]
  exact wsum_add σ (weightAt v x11 e) 16384 256 (by decide)

end

/-- The panels' weights: rows below 128 are the values' columns. -/
theorem weight_value (x5 : Vec Ideal S1x16384x128 .bf16) (x7 : Vec Ideal S1x256x128 .bf16) (d : Fin 128) (j : ℕ) :
    weightAt (vpanels x5) (cpanel x7) ⟨d.val, by omega⟩ j = rowAt x5 x7 j d := by
  have hd : (⟨d.val % 128, Nat.mod_lt _ (by decide)⟩ : Fin 128) = d := Fin.ext (Nat.mod_eq_of_lt d.isLt)
  unfold weightAt rowAt
  by_cases h : j < 16384
  · rw [dif_pos h, dif_pos h]
    show (if d.val < 128 then k0_pay3 (kchunk x5 (j / 512)) (ix3 0 ⟨d.val % 128, _⟩ ⟨j % 512, _⟩) else _) = _
    rw [if_pos d.isLt, hd, pay3_apply]
    exact congrArg (fun z => x5 (ix3 0 z d)) (Fin.ext (by show (512 * (j / 512) + j % 512) % 16384 = j; omega))
  · rw [dif_neg h, dif_neg h]
    show (if d.val < 128 then k0_pay118 (k0_pay73 x7) (ix2 ⟨d.val % 128, _⟩ ⟨(j - 16384) % 256, _⟩) else _) = _
    rw [if_pos d.isLt, hd, pay118_apply]

/-- The panels' weights: row 128 is ones. -/
theorem weight_one (x5 : Vec Ideal S1x16384x128 .bf16) (x7 : Vec Ideal S1x256x128 .bf16) (j : ℕ) :
    weightAt (vpanels x5) (cpanel x7) ⟨128, by decide⟩ j = 1 := by
  unfold weightAt
  by_cases h : j < 16384
  · rw [dif_pos h]
    exact (if_neg (show ¬(128 : ℕ) < 128 by decide)).trans (pay4_apply ⟨(128 - 128) % 16, by decide⟩ _)
  · rw [dif_neg h]
    exact (if_neg (show ¬(128 : ℕ) < 128 by decide)).trans (pay119_apply ⟨(128 - 128) % 16, by decide⟩ _)

/-- Lane `e` of map `r` among the 128 lanes of a head. -/
def lane (r : Fin 2) (e : Fin 64) : Fin 128 := ⟨64 * r.val + e.val, by omega⟩

/-- A sum over 128 lanes that is zero past the first 64, -/
theorem sum_low (f g : Fin 128 → EReal) : ∑ d : Fin 128, f d * (if d.val < 64 then g d else 0) = ∑ e : Fin 64, f (lane 0 e) * g (lane 0 e) := by
  refine (Fin.sum_univ_add (a := 64) (b := 64) (fun d : Fin (64 + 64) => f d * (if d.val < 64 then g d else 0))).trans ?_
  have h1 : ∑ e : Fin 64, f (Fin.natAdd 64 e) * (if (Fin.natAdd 64 e : Fin (64 + 64)).val < 64 then g (Fin.natAdd 64 e) else 0) = 0 :=
    Finset.sum_eq_zero fun e _ => by rw [if_neg (by simp), mul_zero]
  rw [h1, add_zero]
  refine Finset.sum_congr rfl fun e _ => ?_
  have he : (Fin.castAdd 64 e : Fin 128) = lane 0 e := Fin.ext (by show e.val = 64 * 0 + e.val; omega)
  rw [if_pos (by simp), he]

/-- and one that is zero before them. -/
theorem sum_high (f g : Fin 128 → EReal) : ∑ d : Fin 128, f d * (if d.val < 64 then 0 else g d) = ∑ e : Fin 64, f (lane 1 e) * g (lane 1 e) := by
  refine (Fin.sum_univ_add (a := 64) (b := 64) (fun d : Fin (64 + 64) => f d * (if d.val < 64 then 0 else g d))).trans ?_
  have h1 : ∑ e : Fin 64, f (Fin.castAdd 64 e) * (if (Fin.castAdd 64 e : Fin (64 + 64)).val < 64 then 0 else g (Fin.castAdd 64 e)) = 0 :=
    Finset.sum_eq_zero fun e _ => by rw [if_pos (by simp), mul_zero]
  rw [h1, zero_add]
  refine Finset.sum_congr rfl fun e _ => ?_
  have he : (Fin.natAdd 64 e : Fin 128) = lane 1 e := Fin.ext (by show 64 + e.val = 64 * 1 + e.val; omega)
  rw [if_neg (by simp), he]

/-- The score of key `j` in map `r` for row `i`. -/
def rowScore (x3 : Vec Ideal S1x4096x128 .bf16) (x : Vec Ideal S1x16384x128 .bf16) (x6 : Vec Ideal S1x256x128 .bf16)
    (i : Fin 4096) (r : Fin 2) (j : ℕ) : EReal := ∑ e : Fin 64, rowAt x x6 j (lane r e) * x3 (ix3 0 i (lane r e))

theorem qrows_apply (x3 : Vec Ideal S1x4096x128 .bf16) (i : Fin 4096) (d : Fin 128) :
    qrows x3 (i.val / 512) (ix3 0 ⟨i.val % 512, Nat.mod_lt _ (by decide)⟩ d) = x3 (ix3 0 i d) := by
  show x3 (ix3 0 ⟨(512 * (i.val / 512) + i.val % 512) % 4096, _⟩ d) = _
  exact congrArg (fun a => x3 (ix3 0 a d)) (Fin.ext (by show (512 * (i.val / 512) + i.val % 512) % 4096 = i.val; omega))

/-- A column of the first map scores with the first 64 lanes, -/
theorem col_first (x3 : Vec Ideal S1x4096x128 .bf16) (x : Vec Ideal S1x16384x128 .bf16) (x6 : Vec Ideal S1x256x128 .bf16)
    (i : Fin 4096) (j : ℕ) : colScore x x6 (qtile x3 (i.val / 512)) ⟨i.val % 512, by omega⟩ j = rowScore x3 x x6 i 0 j := by
  unfold colScore rowScore
  refine Eq.trans ?_ (sum_low (fun d => rowAt x x6 j d) (fun d => x3 (ix3 0 i d)))
  refine Finset.sum_congr rfl fun d _ => congrArg (rowAt x x6 j d * ·) ?_
  show (if i.val % 512 / 512 = 0 then k0_pay121 (qrows x3 (i.val / 512)) (ix3 0 d ⟨i.val % 512 % 512, _⟩) else _) = _
  have hm : (⟨i.val % 512 % 512, Nat.mod_lt _ (by decide)⟩ : Fin 512) = ⟨i.val % 512, Nat.mod_lt _ (by decide)⟩ := Fin.ext (Nat.mod_mod _ _)
  rw [if_pos (by omega), hm, pay121_apply, qrows_apply]

/-- and one of the second with the last 64. -/
theorem col_second (x3 : Vec Ideal S1x4096x128 .bf16) (x : Vec Ideal S1x16384x128 .bf16) (x6 : Vec Ideal S1x256x128 .bf16)
    (i : Fin 4096) (j : ℕ) : colScore x x6 (qtile x3 (i.val / 512)) ⟨512 + i.val % 512, by omega⟩ j = rowScore x3 x x6 i 1 j := by
  unfold colScore rowScore
  refine Eq.trans ?_ (sum_high (fun d => rowAt x x6 j d) (fun d => x3 (ix3 0 i d)))
  refine Finset.sum_congr rfl fun d _ => congrArg (rowAt x x6 j d * ·) ?_
  show (if (512 + i.val % 512) / 512 = 0 then _ else k0_pay122 (qrows x3 (i.val / 512)) (ix3 0 d ⟨(512 + i.val % 512) % 512, _⟩)) = _
  have hm : (⟨(512 + i.val % 512) % 512, Nat.mod_lt _ (by decide)⟩ : Fin 512) = ⟨i.val % 512, Nat.mod_lt _ (by decide)⟩ :=
    Fin.ext (by show (512 + i.val % 512) % 512 = i.val % 512; omega)
  rw [if_neg (by omega), hm, pay122_apply, qrows_apply]

/-- One map's quotient in a column whose scores are known. -/
theorem quot_apply (x : Vec Ideal S1x16384x128 .bf16) (x5 : Vec Ideal S1x16384x128 .bf16) (x6 x7 : Vec Ideal S1x256x128 .bf16)
    (q : Vec Ideal S1x128x1024 .bf16) (l : Fin 1024) (d : Fin 128) (σ : ℕ → ℝ) (hσ : ∀ j, colScore x x6 q l j = σ j) :
    Ideal.div (accRows (accEnd x (vpanels x5) x6 (cpanel x7) q) (ix2 d l)) (accOnes (accEnd x (vpanels x5) x6 (cpanel x7) q) (ix2 0 l))
      = Ideal.div (wsum (fun j => (σ j : EReal)) (fun j => rowAt x5 x7 j d) 16640) (wsum (fun j => (σ j : EReal)) (fun _ => 1) 16640) := by
  have ha := accEnd_apply x x6 q (vpanels x5) (cpanel x7) l σ hσ
  have h1 := ha ⟨d.val, by omega⟩
  have h2 := ha ⟨128, by decide⟩
  have e1 : weightAt (vpanels x5) (cpanel x7) ⟨d.val, by omega⟩ = fun j => rowAt x5 x7 j d := funext fun j => weight_value x5 x7 d j
  have e2 : weightAt (vpanels x5) (cpanel x7) ⟨128, by decide⟩ = fun _ => 1 := funext fun j => weight_one x5 x7 j
  rw [e1] at h1
  rw [e2] at h2
  refine congrArg₂ Ideal.div (Eq.trans ?_ h1) h2
  exact congrArg (fun z => accEnd x (vpanels x5) x6 (cpanel x7) q (ix2 z l)) (Fin.ext (by show d.val % 144 = d.val; omega))

/-- The block of results at row `i`, column `d`. -/
theorem oblock_apply (x3 : Vec Ideal S1x4096x128 .bf16) (x x5 : Vec Ideal S1x16384x128 .bf16) (x6 x7 : Vec Ideal S1x256x128 .bf16)
    (x8 x9 : Vec Ideal S1x128 .f32) (i : Fin 4096) (d : Fin 128) (σ : Fin 2 → ℕ → ℝ) (hσ : ∀ r j, rowScore x3 x x6 i r j = σ r j) :
    oblock x3 x x6 x8 x9 (vpanels x5) (cpanel x7) (ix3 0 i d)
      = tail (fun e => Ideal.div (wsum (fun j => (σ 0 j : EReal)) (fun j => rowAt x5 x7 j e) 16640) (wsum (fun j => (σ 0 j : EReal)) (fun _ => 1) 16640)
          - x8 (ix2 0 e) * Ideal.div (wsum (fun j => (σ 1 j : EReal)) (fun j => rowAt x5 x7 j e) 16640) (wsum (fun j => (σ 1 j : EReal)) (fun _ => 1) 16640))
        (fun e => x9 (ix2 0 e)) d := by
  show k0_pay2 (k0_pay116 (accRows (accEnd x (vpanels x5) x6 (cpanel x7) (qtile x3 (i.val / 512)))) (accOnes (accEnd x (vpanels x5) x6 (cpanel x7) (qtile x3 (i.val / 512)))))
    (k0_pay117 (accRows (accEnd x (vpanels x5) x6 (cpanel x7) (qtile x3 (i.val / 512)))) (accOnes (accEnd x (vpanels x5) x6 (cpanel x7) (qtile x3 (i.val / 512)))) x8) x9
    (ix3 0 ⟨i.val % 512, _⟩ d) = _
  rw [pay2_apply]
  refine congrArg (fun y => tail y (fun e => x9 (ix2 0 e)) d) (funext fun e => ?_)
  rw [pay116_apply, pay117_apply]
  rw [quot_apply x x5 x6 x7 (qtile x3 (i.val / 512)) ⟨i.val % 512, by omega⟩ e (σ 0) (fun j => (col_first x3 x x6 i j).trans (hσ 0 j)),
    quot_apply x x5 x6 x7 (qtile x3 (i.val / 512)) ⟨512 + i.val % 512, by omega⟩ e (σ 1) (fun j => (col_second x3 x x6 i j).trans (hσ 1 j))]

end Cert.Dif

end
-- ==== Proof.DifBlocks.lean ====
/- The differential attention kernel's input blocks at an index, as elements of the arguments. Point `t` of the grid works on batch
   element `t / 32`, head `t / 4 % 8` and query block `t % 4`. -/
module

public import proofs.«01_k».proof.Proof.DifFrame
public import Idealize.ShloMosaic.Lib.Pointwise
public import Idealize.ShloMosaic.Lib.Pipeline.ValueKit

@[expose] public section

set_option maxRecDepth 16384

noncomputable section

namespace Cert.Dif

open Cert.Kernel3Ideal Cert.Kernel3Ideal.Gen Idealize.ShloMosaic Idealize.ShloMosaic.TcCoe Idealize.SL.Sem

theorem places : ∀ t : Fin cfg0.N, win0_0.index t = ![t.val / 32, t.val % 4, t.val / 4 % 8]
    ∧ win0_1.index t = ![t.val / 32, 0, 8 + t.val / 4 % 8] ∧ win0_2.index t = ![t.val / 32, 0, t.val / 4 % 8]
    ∧ win0_3.index t = ![t.val / 32, 0, 8 + t.val / 4 % 8] ∧ win0_4.index t = ![t.val / 32, 0, t.val / 4 % 8]
    ∧ win0_5.index t = ![0, 0] ∧ win0_6.index t = ![0, 0] ∧ win0_7.index t = ![t.val / 32, t.val % 4, t.val / 4 % 8] :=
  (by decide +kernel : ∀ t : Fin grid0.N, _)

theorem point_lt (t : Fin cfg0.N) : t.val < 64 := lt_of_lt_of_eq t.isLt (show cfg0.N = 64 from N_0)

variable (m : (ℓ : Loc nD τ sig) → Buf (Elt Ideal) ℓ) (c : Dev nD)

/-- The queries. -/
abbrev qs : FVec Ideal S2x16384x1024 .f32 := m ((c : Thread nD τ).loc main_arg0)
/-- The keys. -/
abbrev ks : FVec Ideal S2x16384x1024 .f32 := m ((c : Thread nD τ).loc main_arg1)
/-- The values. -/
abbrev vs : FVec Ideal S2x16384x1024 .f32 := m ((c : Thread nD τ).loc main_arg2)
/-- The context's queries, which the attention does not read. -/
abbrev qcs : FVec Ideal S2x256x1024 .f32 := m ((c : Thread nD τ).loc main_arg3)
/-- The context's keys. -/
abbrev kcs : FVec Ideal S2x256x1024 .f32 := m ((c : Thread nD τ).loc main_arg4)
/-- The context's values. -/
abbrev vcs : FVec Ideal S2x256x1024 .f32 := m ((c : Thread nD τ).loc main_arg5)
/-- The second map's weight. -/
abbrev lam : FVec Ideal S_ .f32 := m ((c : Thread nD τ).loc main_arg6)
/-- The norm's weights. -/
abbrev ws : FVec Ideal S128 .f32 := m ((c : Thread nD τ).loc main_arg7)

/-- What the queries are multiplied by on the host: an eighth over the logarithm of two. -/
def scale : EReal := Ideal.div (Ideal.ofBits .f32 0x3E000000#32) (Ideal.log (Ideal.ofBits .f32 0x40000000#32))

/-- The host's array of scaled queries and keys. -/
def latent (q k : FVec Ideal S2x16384x1024 .f32) : FVec Ideal S2x16384x2048 .bf16 :=
  truncf .bf16 (concatenate S2x16384x2048 2 [⟨S2x16384x1024, mulf q (broadcastInDim S2x16384x1024 ![] bcast_S_S2x16384x1024
      (Host.divf (constant S_ .f32 0x3E000000#32) (Host.log (constant S_ .f32 0x40000000#32))))⟩,
    ⟨S2x16384x1024, k⟩] concatenates_S2x16384x1024_S2x16384x1024_S2x16384x2048_d2) bitsLt_bf16_f32

/-- The host's array of the context's scaled queries and keys. -/
def context (q k : FVec Ideal S2x256x1024 .f32) : FVec Ideal S2x256x2048 .bf16 :=
  truncf .bf16 (concatenate S2x256x2048 2 [⟨S2x256x1024, mulf q (broadcastInDim S2x256x1024 ![] bcast_S_S2x256x1024
      (Host.divf (constant S_ .f32 0x3E000000#32) (Host.log (constant S_ .f32 0x40000000#32))))⟩,
    ⟨S2x256x1024, k⟩] concatenates_S2x256x1024_S2x256x1024_S2x256x2048_d2) bitsLt_bf16_f32

theorem latent_query (q k : FVec Ideal S2x16384x1024 .f32) (b : Fin 2) (i : Fin 16384) (e : Fin 1024) :
    latent q k (ix3 b i ⟨e.val, by omega⟩) = q (ix3 b i e) * scale := by
  pointwise [latent, scale]

theorem latent_key (q k : FVec Ideal S2x16384x1024 .f32) (b : Fin 2) (i : Fin 16384) (e : Fin 1024) :
    latent q k (ix3 b i ⟨1024 + e.val, by omega⟩) = k (ix3 b i e) := by
  pointwise [latent]

theorem context_key (q k : FVec Ideal S2x256x1024 .f32) (b : Fin 2) (i : Fin 256) (e : Fin 1024) :
    context q k (ix3 b i ⟨1024 + e.val, by omega⟩) = k (ix3 b i e) := by
  pointwise [context]

theorem V_latent : V m c main_v5 = latent (qs m c) (ks m c) := by
  unfold_abbrev_sides
  after_results <;> rfl

theorem V_context : V m c main_v9 = context (qcs m c) (kcs m c) := by
  unfold_abbrev_sides
  after_results <;> rfl

theorem V_values : V m c main_v11 = vs m c := by
  unfold_abbrev_sides
  after_results <;> rfl

theorem V_cvalues : V m c main_v12 = vcs m c := by
  unfold_abbrev_sides
  after_results <;> rfl

theorem V_lam : V m c main_v10 = (broadcastInDim S1x128 ![] bcast_S_S1x128 (lam m c) : FVec Ideal S1x128 .f32) := by
  unfold_abbrev_sides
  after_results <;> rfl

theorem V_weights : V m c main_v13 = (shapeCast S1x128 (ws m c) shapeCasts_S128_S1x128 : FVec Ideal S1x128 .f32) := by
  unfold_abbrev_sides
  after_results <;> rfl

theorem lam_row (l : FVec Ideal S_ .f32) (e : Fin 128) :
    (broadcastInDim S1x128 ![] bcast_S_S1x128 l : FVec Ideal S1x128 .f32) (ix2 0 e) = l ix0 := by
  pointwise

theorem weight_row (w : FVec Ideal S128 .f32) (e : Fin 128) :
    (shapeCast S1x128 w shapeCasts_S128_S1x128 : FVec Ideal S1x128 .f32) (ix2 0 e) = w (ix1 e) := by
  pointwise

/-- A query block. -/
theorem q_at (t : Fin cfg0.N) (i : Fin 4096) (e : Fin 128) :
    iblk m c 0 t (ix3 0 i e) = qs m c
      (ix3 ⟨t.val / 32, by have := point_lt t; omega⟩ ⟨t.val % 4 * 4096 + i.val, by omega⟩ ⟨t.val / 4 % 8 * 128 + e.val, by omega⟩) * scale := by
  have := point_lt t
  obtain ⟨p, -⟩ := places t
  refine Eq.trans ?_ (latent_query _ (ks m c) _ _ _)
  rw [← V_latent m c]
  blk_ext! [iblk, p]

/-- A block of keys. -/
theorem k_at (t : Fin cfg0.N) (j : Fin 16384) (d : Fin 128) :
    iblk m c 1 t (ix3 0 j d) = ks m c
      (ix3 ⟨t.val / 32, by have := point_lt t; omega⟩ j ⟨t.val / 4 % 8 * 128 + d.val, by omega⟩) := by
  have := point_lt t
  obtain ⟨-, p, -⟩ := places t
  refine Eq.trans ?_ (latent_key (qs m c) _ _ _ _)
  rw [← V_latent m c]
  blk_ext! [iblk, p]

/-- A block of values. -/
theorem v_at (t : Fin cfg0.N) (j : Fin 16384) (d : Fin 128) :
    iblk m c 2 t (ix3 0 j d) = vs m c
      (ix3 ⟨t.val / 32, by have := point_lt t; omega⟩ j ⟨t.val / 4 % 8 * 128 + d.val, by omega⟩) := by
  have := point_lt t
  obtain ⟨-, -, p, -⟩ := places t
  refine Eq.trans ?_ (congrFun (V_values m c) _)
  blk_ext! [iblk, p]

/-- A block of the context's keys. -/
theorem kc_at (t : Fin cfg0.N) (j : Fin 256) (d : Fin 128) :
    iblk m c 3 t (ix3 0 j d) = kcs m c
      (ix3 ⟨t.val / 32, by have := point_lt t; omega⟩ j ⟨t.val / 4 % 8 * 128 + d.val, by omega⟩) := by
  have := point_lt t
  obtain ⟨-, -, -, p, -⟩ := places t
  refine Eq.trans ?_ (context_key (qcs m c) _ _ _ _)
  rw [← V_context m c]
  blk_ext! [iblk, p]

/-- A block of the context's values. -/
theorem vc_at (t : Fin cfg0.N) (j : Fin 256) (d : Fin 128) :
    iblk m c 4 t (ix3 0 j d) = vcs m c
      (ix3 ⟨t.val / 32, by have := point_lt t; omega⟩ j ⟨t.val / 4 % 8 * 128 + d.val, by omega⟩) := by
  have := point_lt t
  obtain ⟨-, -, -, -, p, -⟩ := places t
  refine Eq.trans ?_ (congrFun (V_cvalues m c) _)
  blk_ext! [iblk, p]

/-- The second map's weight, along the lanes. -/
theorem lam_at (t : Fin cfg0.N) (e : Fin 128) : iblk m c 5 t (ix2 0 e) = lam m c ix0 := by
  obtain ⟨-, -, -, -, -, p, -⟩ := places t
  refine Eq.trans ?_ (lam_row _ e)
  rw [← V_lam m c]
  blk_ext! [iblk, p]

/-- The norm's weights. -/
theorem w_at (t : Fin cfg0.N) (e : Fin 128) : iblk m c 6 t (ix2 0 e) = ws m c (ix1 e) := by
  obtain ⟨-, -, -, -, -, -, p, -⟩ := places t
  refine Eq.trans ?_ (weight_row _ e)
  rw [← V_weights m c]
  blk_ext! [iblk, p]

end Cert.Dif

end
-- ==== Proof.DifSpec.lean ====
/- What the differential attention computes at one element, over the extended reals, as a function of its argument arrays; and the
   kernel's form of it, which weighs the values with each map before it takes the difference, beside the plain one. -/
module

public import proofs.«01_k».proof.Proof.DifSums
public import proofs.«01_k».proof.Proof.DifBlocks
public import proofs.«01_k».proof.Proof.GqaSpec

@[expose] public section

set_option maxRecDepth 16384

noncomputable section

namespace Cert.Dif

open Cert.Gqa (top wsum wsum_div top_scaled exp_sub coe_sum ofBits_2 log2_pos)
open Cert.Kernel3Ideal Cert.Kernel3Ideal.Gen Idealize.ShloMosaic Idealize.ShloMosaic.TcCoe

/-- Row `j` of the latent rows followed by the context's, of batch element `b`, at lane `d` of head `h`. -/
def keyRow (k : FVec Ideal S2x16384x1024 .f32) (kc : FVec Ideal S2x256x1024 .f32) (b : Fin 2) (h : Fin 8) (j : ℕ) (d : Fin 128) : EReal :=
  if hj : j < 16384 then k (ix3 b ⟨j, hj⟩ ⟨h.val * 128 + d.val, by omega⟩)
    else kc (ix3 b ⟨(j - 16384) % 256, Nat.mod_lt _ (by decide)⟩ ⟨h.val * 128 + d.val, by omega⟩)

/-- The query row `i` of head `h`, at lane `d`. -/
def queryAt (q : FVec Ideal S2x16384x1024 .f32) (b : Fin 2) (i : Fin 16384) (h : Fin 8) (d : Fin 128) : EReal :=
  q (ix3 b i ⟨h.val * 128 + d.val, by omega⟩)

/-- The scaled score of key `j` in map `r`. -/
def logit (q k : FVec Ideal S2x16384x1024 .f32) (kc : FVec Ideal S2x256x1024 .f32)
    (b : Fin 2) (i : Fin 16384) (h : Fin 8) (r : Fin 2) (j : ℕ) : EReal :=
  (∑ e : Fin 64, queryAt q b i h (lane r e) * keyRow k kc b h j (lane r e)) * Ideal.ofBits .f32 0x3E000000#32

/-- The share of score `j` under the softmax of the first 16640. -/
def share (s : ℕ → EReal) (j : ℕ) : EReal :=
  Ideal.div (Ideal.exp (s j - top s 16640)) (∑ i ∈ Finset.range 16640, Ideal.exp (s i - top s 16640))

/-- The values' columns under the difference of the two maps. -/
def differed (q k v : FVec Ideal S2x16384x1024 .f32) (kc vc : FVec Ideal S2x256x1024 .f32) (l : FVec Ideal S_ .f32)
    (b : Fin 2) (i : Fin 16384) (h : Fin 8) (d : Fin 128) : EReal :=
  ∑ j ∈ Finset.range 16640, keyRow v vc b h j d * (share (logit q k kc b i h 0) j - l ix0 * share (logit q k kc b i h 1) j)

theorem ofBits_eighth : Ideal.ofBits .f32 0x3E000000#32 = ((1 / 8 : ℝ) : EReal) := by
  simp [Ideal.ofBits, Ideal.ieee, -EReal.coe_mul]; norm_num

theorem scale_eq : scale = ((1 / 8 / Real.log 2 : ℝ) : EReal) := by
  unfold scale
  have h2 : Ideal.log (Ideal.ofBits .f32 0x40000000#32) = ((Real.log 2 : ℝ) : EReal) := by
    rw [ofBits_2]
    show (if (2 : ℝ) ≤ 0 then (⊥ : EReal) else _) = _
    rw [if_neg (by norm_num)]
  rw [h2, Ideal.div_coe log2_pos.ne', ofBits_eighth, ← EReal.coe_mul, mul_one_div]

theorem keyRow_real (k : FVec Ideal S2x16384x1024 .f32) (kc : FVec Ideal S2x256x1024 .f32) (hk : ∀ z, ∃ x : ℝ, k z = (x : EReal))
    (hkc : ∀ z, ∃ x : ℝ, kc z = (x : EReal)) (b : Fin 2) (h : Fin 8) (j : ℕ) (d : Fin 128) : ∃ x : ℝ, keyRow k kc b h j d = (x : EReal) := by
  unfold keyRow
  by_cases hj : j < 16384
  · rw [dif_pos hj]; exact hk _
  · rw [dif_neg hj]; exact hkc _

/-- For finite queries and keys the scores are finite, and the kernel's are theirs over the logarithm of two. -/
theorem logit_real (q k : FVec Ideal S2x16384x1024 .f32) (kc : FVec Ideal S2x256x1024 .f32)
    (hq : ∀ z, ∃ x : ℝ, q z = (x : EReal)) (hk : ∀ z, ∃ x : ℝ, k z = (x : EReal)) (hkc : ∀ z, ∃ x : ℝ, kc z = (x : EReal))
    (b : Fin 2) (i : Fin 16384) (h : Fin 8) :
    ∃ τ : Fin 2 → ℕ → ℝ, ∀ r j, logit q k kc b i h r j = (τ r j : EReal)
      ∧ ∑ e : Fin 64, keyRow k kc b h j (lane r e) * (queryAt q b i h (lane r e) * scale) = ((τ r j / Real.log 2 : ℝ) : EReal) := by
  choose κ hκ using fun j d => keyRow_real k kc hk hkc b h j d
  choose χ hχ using fun d => hq (ix3 b i ⟨h.val * 128 + (d : Fin 128).val, by omega⟩)
  have hχ' : ∀ d, queryAt q b i h d = (χ d : EReal) := hχ
  refine ⟨fun r j => (∑ e, χ (lane r e) * κ j (lane r e)) * (1 / 8), fun r j => ⟨?_, ?_⟩⟩
  · unfold logit
    simp only [hκ, hχ', ofBits_eighth, ← EReal.coe_mul, coe_sum]
  · simp only [hκ, hχ', scale_eq, ← EReal.coe_mul, coe_sum]
    congr 1
    rw [Finset.sum_mul, Finset.sum_div]
    refine Finset.sum_congr rfl fun d _ => ?_
    ring

/-- The shares of finite scores are finite. -/
theorem share_real (τ : ℕ → ℝ) (j : ℕ) : ∃ p : ℝ, share (fun j => (τ j : EReal)) j = (p : EReal) := by
  obtain ⟨μ, e1, -⟩ := top_scaled τ (show 0 < 16640 by decide)
  have hL : 0 < ∑ i ∈ Finset.range 16640, Real.exp (τ i - μ) :=
    Finset.sum_pos (fun i _ => Real.exp_pos _) ⟨0, Finset.mem_range.2 (by decide)⟩
  refine ⟨Real.exp (τ j - μ) * (1 / ∑ i ∈ Finset.range 16640, Real.exp (τ i - μ)), ?_⟩
  unfold share
  simp only [e1, exp_sub, coe_sum]
  rw [Ideal.div_coe hL.ne', EReal.coe_mul]

/-- The difference of two weighted sums is the sum weighted by the difference, where all is finite. -/
theorem sum_diff (v p0 p1 : ℕ → ℝ) (l : ℝ) (S : Finset ℕ) :
    (∑ j ∈ S, (v j : EReal) * (p0 j : EReal)) - (l : EReal) * ∑ j ∈ S, (v j : EReal) * (p1 j : EReal)
      = ∑ j ∈ S, (v j : EReal) * ((p0 j : EReal) - (l : EReal) * (p1 j : EReal)) := by
  simp only [← EReal.coe_mul, ← EReal.coe_sub, coe_sum]
  congr 1
  rw [Finset.mul_sum, ← Finset.sum_sub_distrib]
  exact Finset.sum_congr rfl fun j _ => by ring

variable (m : (ℓ : Loc Cert.Kernel3Ideal.nD Cert.Kernel3Ideal.τ Cert.Kernel3Ideal.sig) → Buf (Elt Ideal) ℓ) (c : Dev Cert.Kernel3Ideal.nD)

theorem rowAt_keys (t : Fin cfg0.N) (j : ℕ) (d : Fin 128) : rowAt (iblk m c 1 t) (iblk m c 3 t) j d
    = keyRow (ks m c) (kcs m c) ⟨t.val / 32, by have := point_lt t; omega⟩ ⟨t.val / 4 % 8, by omega⟩ j d := by
  unfold rowAt keyRow
  by_cases h : j < 16384
  · rw [dif_pos h, dif_pos h]; exact k_at m c t ⟨j, h⟩ d
  · rw [dif_neg h, dif_neg h]; exact kc_at m c t _ d

theorem rowAt_values (t : Fin cfg0.N) (j : ℕ) (d : Fin 128) : rowAt (iblk m c 2 t) (iblk m c 4 t) j d
    = keyRow (vs m c) (vcs m c) ⟨t.val / 32, by have := point_lt t; omega⟩ ⟨t.val / 4 % 8, by omega⟩ j d := by
  unfold rowAt keyRow
  by_cases h : j < 16384
  · rw [dif_pos h, dif_pos h]; exact v_at m c t ⟨j, h⟩ d
  · rw [dif_neg h, dif_neg h]; exact vc_at m c t _ d

/-- What is supposed of the arguments: every element the result is built from is finite. -/
structure Finite : Prop where
  hq : ∀ z, ∃ x : ℝ, qs m c z = (x : EReal)
  hk : ∀ z, ∃ x : ℝ, ks m c z = (x : EReal)
  hv : ∀ z, ∃ x : ℝ, vs m c z = (x : EReal)
  hkc : ∀ z, ∃ x : ℝ, kcs m c z = (x : EReal)
  hvc : ∀ z, ∃ x : ℝ, vcs m c z = (x : EReal)
  hl : ∃ x : ℝ, lam m c ix0 = (x : EReal)

/-- The block of results a point leaves, at row `i`, lane `d`. -/
theorem out_at (H : Finite m c) (t : Fin cfg0.N) (i : Fin 4096) (d : Fin 128) :
    outAt m c t (ix3 0 i d)
      = tail (differed (qs m c) (ks m c) (vs m c) (kcs m c) (vcs m c) (lam m c) ⟨t.val / 32, by have := point_lt t; omega⟩
          ⟨t.val % 4 * 4096 + i.val, by omega⟩ ⟨t.val / 4 % 8, by omega⟩) (fun e => ws m c (ix1 e)) d := by
  have ht := point_lt t
  obtain ⟨τ, hτ⟩ := logit_real (qs m c) (ks m c) (kcs m c) H.hq H.hk H.hkc ⟨t.val / 32, by omega⟩ ⟨t.val % 4 * 4096 + i.val, by omega⟩
    ⟨t.val / 4 % 8, by omega⟩
  have hs : ∀ r j, rowScore (iblk m c 0 t) (iblk m c 1 t) (iblk m c 3 t) i r j = ((τ r j / Real.log 2 : ℝ) : EReal) := by
    intro r j
    rw [← (hτ r j).2]
    unfold rowScore
    refine Finset.sum_congr rfl fun e _ => ?_
    rw [rowAt_keys, q_at]
    rfl
  unfold outAt vrow crow
  rw [oblock_apply _ _ _ _ _ _ _ i d (fun r j => τ r j / Real.log 2) hs]
  have hv : ∀ j e, rowAt (iblk m c 2 (base t)) (iblk m c 4 (base t)) j e
      = keyRow (vs m c) (vcs m c) ⟨t.val / 32, by omega⟩ ⟨t.val / 4 % 8, by omega⟩ j e := by
    intro j e
    rw [rowAt_values]
    exact congrArg₂ (fun a b => keyRow (vs m c) (vcs m c) a b j e) (Fin.ext (by show t.val / 4 * 4 / 32 = t.val / 32; omega))
      (Fin.ext (by show t.val / 4 * 4 / 4 % 8 = t.val / 4 % 8; omega))
  have hl : ∀ r, logit (qs m c) (ks m c) (kcs m c) ⟨t.val / 32, by omega⟩ ⟨t.val % 4 * 4096 + i.val, by omega⟩
    ⟨t.val / 4 % 8, by omega⟩ r = fun j => (τ r j : EReal) := fun r => funext fun j => (hτ r j).1
  refine congrArg₂ (fun y w => tail y w d) (funext fun e => ?_) (funext fun e => w_at m c t e)
  rw [lam_at]
  simp only [hv]
  rw [wsum_div (τ 0) _ (by decide), wsum_div (τ 1) _ (by decide)]
  obtain ⟨ℓ, hℓ⟩ := H.hl
  choose v hvr using fun j => keyRow_real (vs m c) (vcs m c) H.hv H.hvc ⟨t.val / 32, by omega⟩ ⟨t.val / 4 % 8, by omega⟩ j e
  choose p0 hp0 using share_real (τ 0)
  choose p1 hp1 using share_real (τ 1)
  have f0 : ∀ j, Ideal.div (Ideal.exp ((τ 0 j : EReal) - top (fun j => (τ 0 j : EReal)) 16640))
      (∑ i ∈ Finset.range 16640, Ideal.exp ((τ 0 i : EReal) - top (fun j => (τ 0 j : EReal)) 16640)) = (p0 j : EReal) := hp0
  have f1 : ∀ j, Ideal.div (Ideal.exp ((τ 1 j : EReal) - top (fun j => (τ 1 j : EReal)) 16640))
      (∑ i ∈ Finset.range 16640, Ideal.exp ((τ 1 i : EReal) - top (fun j => (τ 1 j : EReal)) 16640)) = (p1 j : EReal) := hp1
  unfold differed
  simp only [f0, f1, hl, hp0, hp1, hvr, hℓ]
  exact sum_diff v p0 p1 ℓ _

end Cert.Dif

end
-- ==== Proof.DifValue.lean ====
/- The result array of the kernel's call after the run: at every element, the values under the difference of the two maps, normed. -/
module

public import proofs.«01_k».proof.Proof.DifSpec

@[expose] public section

set_option maxRecDepth 16384

noncomputable section

namespace Cert.Dif

open Cert.Kernel3Ideal Cert.Kernel3Ideal.Gen Idealize.ShloMosaic Idealize.ShloMosaic.TcCoe Idealize.SL.Sem

/-- The differential attention's whole result: batch element, row, and the column of a lane of a head. -/
def whole (q k v : FVec Ideal S2x16384x1024 .f32) (kc vc : FVec Ideal S2x256x1024 .f32) (l : FVec Ideal S_ .f32) (w : FVec Ideal S128 .f32)
    (b : Fin 2) (i : Fin 16384) (e : Fin 1024) : EReal :=
  tail (differed q k v kc vc l b i ⟨e.val / 128, by have := e.isLt; omega⟩) (fun d => w (ix1 d)) ⟨e.val % 128, Nat.mod_lt _ (by decide)⟩

variable (m : (ℓ : Loc Cert.Kernel3Ideal.nD Cert.Kernel3Ideal.τ Cert.Kernel3Ideal.sig) → Buf (Elt Ideal) ℓ)
  (ρ : Dev Cert.Kernel3Ideal.nD → PrngReg) (c : Dev Cert.Kernel3Ideal.nD)

/-- The result as an array of the memory. -/
def G7 : FVec Ideal S2x16384x1024 .bf16 :=
  fun z => whole (qs m c) (ks m c) (vs m c) (kcs m c) (vcs m c) (lam m c) (ws m c) (z 0) (z 1) (z 2)

theorem arr_7 (H : Finite m c) : (dats m 0 c).arrAt 7 cfg0.N = G7 m c := by
  refine (dats m 0 c).arrAt_eq_of_covers 7 _ (by decide +kernel) fun t hf y => ?_
  have ht := point_lt t
  obtain ⟨-, -, -, -, -, -, -, p⟩ := places t
  blk_simp [p]
  rw [after_7]
  obtain ⟨i, e, rfl⟩ : ∃ (i : Fin 4096) (e : Fin 128), y = ix3 0 i e := ⟨y 1, y 2, by
    refine (eq_ix3 y).trans ?_
    congr 1
    exact Subsingleton.elim _ _⟩
  have hi := i.isLt
  have he := e.isLt
  have place : (win0_7.blk t).view.emb (ix3 0 i e) = ix3 ⟨t.val / 32, by omega⟩ ⟨t.val % 4 * 4096 + i.val, by omega⟩
      ⟨t.val / 4 % 8 * 128 + e.val, by omega⟩ := by
    blk_ext! [p]
  refine Eq.trans ?_ (congrArg (G7 m c) place.symm)
  refine (out_at m c H t i e).trans ?_
  show _ = whole (qs m c) (ks m c) (vs m c) (kcs m c) (vcs m c) (lam m c) (ws m c) ⟨t.val / 32, by omega⟩ ⟨t.val % 4 * 4096 + i.val, by omega⟩
    ⟨t.val / 4 % 8 * 128 + e.val, by omega⟩
  unfold whole
  refine congrArg₂ (fun h d => tail (differed (qs m c) (ks m c) (vs m c) (kcs m c) (vcs m c) (lam m c) ⟨t.val / 32, by omega⟩
    ⟨t.val % 4 * 4096 + i.val, by omega⟩ h) (fun d => ws m c (ix1 d)) d) (Fin.ext ?_) (Fin.ext ?_)
  · show t.val / 4 % 8 = (t.val / 4 % 8 * 128 + e.val) / 128
    omega
  · show e.val = (t.val / 4 % 8 * 128 + e.val) % 128
    omega

/-- Every execution from finite arguments ends with the differential attention in the result array and the arguments unchanged. -/
theorem run_value (H : ∀ c, Finite m c) :
    θ_run defs (onTc (τ := τ) (main (F := Ideal))) ⟨m, fun _ => 0, ρ⟩ (fun r => ∀ c : Dev nD,
      r.2.mem ((c.tc : Thread nD τ).loc main_v14) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h.1 c).1 7).trans (arr_7 m c (H c)), h.2.1 c⟩) (θ_run_and (run_main m ρ) (frame m ρ))

end Cert.Dif

end
-- ==== Proof.DifFinite.lean ====
/- What the precondition says of the argument arrays: queries, keys, values and the second map's weight are finite. -/
module

public import proofs.«01_k».proof.Proof.QkvFacts
public import proofs.«01_k».proof.Proof.GqaFinite
public import proofs.«01_k».proof.Proof.DifSpec
public import Idealize.ShloMosaic.Lib.ReduceAll
public import Idealize.ShloMosaic.Lib.Pointwise

@[expose] public section

set_option maxRecDepth 16384

noncomputable section

namespace Cert.Dif

open Cert.Gqa (ofBits_low ofBits_high real_of_between)
open Idealize.ShloMosaic Idealize.ShloMosaic.TcCoe Cert.Pre_qkv_finite

theorem finite_of_pre (a0 a1 a2 : FVec Ideal S2x16384x1024 .f32) (a3 a4 a5 : FVec Ideal S2x256x1024 .f32) (a6 : FVec Ideal S_ .f32)
    (a7 : FVec Ideal S128 .f32) (h : Cert.Pre_qkv_finite.fn (F := Ideal) a0 a1 a2 a3 a4 a5 a6 a7 = fun _ => 1#1) :
    (∀ z, ∃ x : ℝ, a0 z = (x : EReal)) ∧ (∀ z, ∃ x : ℝ, a1 z = (x : EReal)) ∧ (∀ z, ∃ x : ℝ, a2 z = (x : EReal))
      ∧ (∀ z, ∃ x : ℝ, a4 z = (x : EReal)) ∧ (∀ z, ∃ x : ℝ, a5 z = (x : EReal)) ∧ (∀ z, ∃ x : ℝ, a6 z = (x : EReal)) := by
  have h0 := congrFun h (fun a => a.elim0)
  unfold Cert.Pre_qkv_finite.fn Cert.Pre_qkv_finite.fn_part1 Cert.Pre_qkv_finite.fn_part2 at h0
  dsimp only at h0
  obtain ⟨g5, h6⟩ := IntOp.andi_eq_one.1 h0
  obtain ⟨g4, h5⟩ := IntOp.andi_eq_one.1 g5
  obtain ⟨g2, h4⟩ := IntOp.andi_eq_one.1 g4
  obtain ⟨g1, h2⟩ := IntOp.andi_eq_one.1 g2
  obtain ⟨h00, h1⟩ := IntOp.andi_eq_one.1 g1
  haveI : Subsingleton S_.Idx := ⟨fun a b => funext fun i => i.elim0⟩
  have e0 := fun z => IntOp.andi_eq_one.1 (Host.reduce_andi_all _ _ _ _ _ h00 z)
  have e1 := fun z => IntOp.andi_eq_one.1 (Host.reduce_andi_all _ _ _ _ _ h1 z)
  have e2 := fun z => IntOp.andi_eq_one.1 (Host.reduce_andi_all _ _ _ _ _ h2 z)
  have e4 := fun z => IntOp.andi_eq_one.1 (Host.reduce_andi_all _ _ _ _ _ h4 z)
  have e5 := fun z => IntOp.andi_eq_one.1 (Host.reduce_andi_all _ _ _ _ _ h5 z)
  have e6 := fun z => IntOp.andi_eq_one.1 (Host.reduce_andi_all _ _ _ _ _ h6 z)
  exact ⟨fun z => real_of_between _ (ofBits_low ▸ (e0 z).1) (ofBits_high ▸ (e0 z).2),
    fun z => real_of_between _ (ofBits_low ▸ (e1 z).1) (ofBits_high ▸ (e1 z).2),
    fun z => real_of_between _ (ofBits_low ▸ (e2 z).1) (ofBits_high ▸ (e2 z).2),
    fun z => real_of_between _ (ofBits_low ▸ (e4 z).1) (ofBits_high ▸ (e4 z).2),
    fun z => real_of_between _ (ofBits_low ▸ (e5 z).1) (ofBits_high ▸ (e5 z).2),
    fun z => real_of_between _ (ofBits_low ▸ (e6 z).1) (ofBits_high ▸ (e6 z).2)⟩

end Cert.Dif

end
-- ==== Proof.DifRef.lean ====
/- What the differential attention reference's result holds at one element. Its composed term is read in stages: the scores, their
   exponentials below the greatest, the difference of the maps, the weighted values, and the norm. -/
module

public import proofs.«01_k».proof.Proof.DifValue
public import proofs.«01_k».proof.Proof.DifFinite
public import proofs.«01_k».proof.Proof.GqaRef
public import proofs.«01_k».proof.Proof.Gen.Reference3Ideal.Run
public import Idealize.ShloMosaic.Lib.Pointwise

@[expose] public section

set_option maxRecDepth 16384

noncomputable section

namespace Cert.Dif.Ref

open Cert.Gqa (top ofBits_low)
open Cert.Gqa.Ref (fold_top)
open Cert.Reference3Ideal Cert.Reference3Ideal.Gen Idealize.ShloMosaic Idealize.ShloMosaic.TcCoe Idealize.SL.Sem

variable (q k v : FVec Ideal S2x16384x1024 .f32) (kc vc : FVec Ideal S2x256x1024 .f32) (l : FVec Ideal S_ .f32) (w : FVec Ideal S128 .f32)

/-- The latent rows and the context's. -/
def joined : FVec Ideal S2x16640x1024 .f32 :=
  concatenate S2x16640x1024 1 [⟨S2x16384x1024, k⟩, ⟨S2x256x1024, kc⟩] concatenates_S2x16384x1024_S2x256x1024_S2x16640x1024_d1

/-- The scaled scores of both maps. -/
def scores : FVec Ideal S2x8x2x16384x16640 .f32 :=
  mulf (Host.dotGeneral dot_S2x16384x8x2x64_S2x16640x8x2x64_S2x8x2x16384x16640_4_4_1_1_023_023 none (shapeCast _ q shapeCasts_S2x16384x1024_S2x16384x8x2x64) (shapeCast _ (joined k kc) shapeCasts_S2x16640x1024_S2x16640x8x2x64))
    (broadcastInDim S2x8x2x16384x16640 ![] bcast_S_S2x8x2x16384x16640 (constant S_ .f32 0x3E000000#32))

/-- The exponentials of scores less the greatest of their row. -/
def exps (s : FVec Ideal S2x8x2x16384x16640 .f32) : FVec Ideal S2x8x2x16384x16640 .f32 :=
  Host.exp (subf s (broadcastInDim S2x8x2x16384x16640 ![0, 1, 2, 3, 4] bcast_S2x8x2x16384x1_S2x8x2x16384x16640_0_1_2_3_4 (broadcastInDim S2x8x2x16384x1 ![0, 1, 2, 3] bcast_S2x8x2x16384_S2x8x2x16384x1_0_1_2_3 (maximumf (broadcastInDim S2x8x2x16384 ![] bcast_S_S2x8x2x16384 (constant S_ .f32 0xFF800000#32)) (Host.reduce FloatOps.maximumf s (constant S_ .f32 0xFF800000#32) reducesTo_S2x8x2x16384x16640_S2x8x2x16384_d4 h_S_)))))

/-- Each over the sum of its row. -/
def shares (e : FVec Ideal S2x8x2x16384x16640 .f32) : FVec Ideal S2x8x2x16384x16640 .f32 :=
  Host.divf e (broadcastInDim S2x8x2x16384x16640 ![0, 1, 2, 3, 4] bcast_S2x8x2x16384x1_S2x8x2x16384x16640_0_1_2_3_4 (broadcastInDim S2x8x2x16384x1 ![0, 1, 2, 3] bcast_S2x8x2x16384_S2x8x2x16384x1_0_1_2_3 (Host.reduceAdd e (constant S_ .f32 0x00000000#32) reducesTo_S2x8x2x16384x16640_S2x8x2x16384_d4 h_S_)))

/-- The first map less the second under its weight. -/
def parted (p : FVec Ideal S2x8x2x16384x16640 .f32) : FVec Ideal S2x8x16384x16640 .f32 :=
  subf (shapeCast _ (extractStridedSlice S2x8x1x16384x16640 ![0, 0, 0, 0, 0] p slices_S2x8x2x16384x16640_S2x8x1x16384x16640_0_0_0_0_0) shapeCasts_S2x8x1x16384x16640_S2x8x16384x16640)
    (mulf (broadcastInDim S2x8x16384x16640 ![] bcast_S_S2x8x16384x16640 l) (shapeCast _ (extractStridedSlice S2x8x1x16384x16640 ![0, 0, 1, 0, 0] p slices_S2x8x2x16384x16640_S2x8x1x16384x16640_0_0_1_0_0) shapeCasts_S2x8x1x16384x16640_S2x8x16384x16640))

/-- The values under the difference. -/
def mixed (p : FVec Ideal S2x8x16384x16640 .f32) : FVec Ideal S2x16384x8x128 .f32 :=
  transpose S2x16384x8x128 [0, 3, 1, 2] (Host.dotGeneral dot_S2x16640x8x128_S2x8x16384x16640_S2x8x128x16384_1_3_3_2_02_01 none (shapeCast _ (joined v vc) shapeCasts_S2x16640x1024_S2x16640x8x128) p) transposes_S2x8x128x16384_S2x16384x8x128_0_3_1_2

/-- Each head's rows under the norm, laid out as the queries are. -/
def normed (y : FVec Ideal S2x16384x8x128 .f32) : FVec Ideal S2x16384x1024 .f32 :=
  shapeCast _ (mulf (mulf (mulf y (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf y y) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32))))))
      (broadcastInDim S2x16384x8x128 ![0, 1, 2, 3] bcast_S1x1x1x128_S2x16384x8x128_0_1_2_3 (broadcastInDim S1x1x1x128 ![3] bcast_S128_S1x1x1x128_3 w)))
    (broadcastInDim S2x16384x8x128 ![] bcast_S_S2x16384x8x128 (constant S_ .f32 0x3F4CCCCD#32))) shapeCasts_S2x16384x8x128_S2x16384x1024

set_option maxHeartbeats 1000000 in
theorem res_eq (m : (ℓ : Loc nD τ sig) → Buf (Elt Ideal) ℓ) (c : Dev nD) :
    Value.res_main_v44 m c = truncf .bf16 (normed (m ((c.tc : Thread nD τ).loc main_arg7)) (mixed (m ((c.tc : Thread nD τ).loc main_arg2)) (m ((c.tc : Thread nD τ).loc main_arg5))
      (parted (m ((c.tc : Thread nD τ).loc main_arg6)) (shares (exps (scores (m ((c.tc : Thread nD τ).loc main_arg0)) (m ((c.tc : Thread nD τ).loc main_arg1)) (m ((c.tc : Thread nD τ).loc main_arg4)))))))) bitsLt_bf16_f32 := rfl

theorem joined_at (b : Fin 2) (j : Fin 16640) (h : Fin 8) (d : Fin 128) :
    joined k kc (ix3 b j ⟨h.val * 128 + d.val, by omega⟩) = keyRow k kc b h j.val d := by
  have hj := j.isLt
  unfold keyRow
  pointwise [joined]
  by_cases h' : j.val < 16384
  · rw [dif_pos h', dif_pos h']
  · rw [dif_neg h', dif_neg h']
    have e : (j.val - 16384) % 256 = j.val - 16384 := Nat.mod_eq_of_lt (by omega)
    have f : (⟨j.val - 16384, by omega⟩ : Fin 256) = ⟨(j.val - 16384) % 256, Nat.mod_lt _ (by decide)⟩ := Fin.ext e.symm
    exact congrArg (fun z => kc (ix3 b z ⟨h.val * 128 + d.val, by omega⟩)) f

theorem product_at (a : FVec Ideal S2x16640x1024 .f32) (b : Fin 2) (h : Fin 8) (r : Fin 2) (i : Fin 16384) (j : Fin 16640) :
    mulf (Host.dotGeneral dot_S2x16384x8x2x64_S2x16640x8x2x64_S2x8x2x16384x16640_4_4_1_1_023_023 none (shapeCast _ q shapeCasts_S2x16384x1024_S2x16384x8x2x64) (shapeCast _ a shapeCasts_S2x16640x1024_S2x16640x8x2x64))
      (broadcastInDim S2x8x2x16384x16640 ![] bcast_S_S2x8x2x16384x16640 (constant S_ .f32 0x3E000000#32)) (ix5 b h r i j)
      = (∑ e : Fin 64, q (ix3 b i ⟨h.val * 128 + (lane r e).val, by omega⟩) * a (ix3 b j ⟨h.val * 128 + (lane r e).val, by omega⟩)) * Ideal.ofBits .f32 0x3E000000#32 := by
  have e1 : ∀ e : Fin 64, h.val * 128 + r.val * 64 + e.val = h.val * 128 + (lane r e).val := fun e => by
    show h.val * 128 + r.val * 64 + e.val = h.val * 128 + (64 * r.val + e.val)
    omega
  pointwise
  refine congrArg (· * _) (Finset.sum_congr rfl fun e _ => ?_)
  simp only [e1]

theorem scores_at (b : Fin 2) (h : Fin 8) (r : Fin 2) (i : Fin 16384) (j : Fin 16640) :
    scores q k kc (ix5 b h r i j) = logit q k kc b i h r j.val := by
  refine (product_at q (joined k kc) b h r i j).trans ?_
  unfold logit queryAt
  simp only [joined_at]

theorem peak_at (s : FVec Ideal S2x8x2x16384x16640 .f32) (b : Fin 2) (h : Fin 8) (r : Fin 2) (i : Fin 16384) :
    Host.reduce FloatOps.maximumf s (constant S_ .f32 0xFF800000#32) reducesTo_S2x8x2x16384x16640_S2x8x2x16384_d4 h_S_ (ix4 b h r i)
      = (Finset.univ : Finset (Fin 16640)).fold max (Ideal.ofBits .f32 0xFF800000#32) fun j => s (ix5 b h r i j) := by
  pointwise

/-- An exponential, over a given array of the rows' greatest. -/
theorem exps_from (s : FVec Ideal S2x8x2x16384x16640 .f32) (u : FVec Ideal S2x8x2x16384 .f32) (b : Fin 2) (h : Fin 8) (r : Fin 2) (i : Fin 16384) (j : Fin 16640) :
    Host.exp (subf s (broadcastInDim S2x8x2x16384x16640 ![0, 1, 2, 3, 4] bcast_S2x8x2x16384x1_S2x8x2x16384x16640_0_1_2_3_4 (broadcastInDim S2x8x2x16384x1 ![0, 1, 2, 3] bcast_S2x8x2x16384_S2x8x2x16384x1_0_1_2_3 (maximumf (broadcastInDim S2x8x2x16384 ![] bcast_S_S2x8x2x16384 (constant S_ .f32 0xFF800000#32)) u)))) (ix5 b h r i j)
      = Ideal.exp (s (ix5 b h r i j) - max (Ideal.ofBits .f32 0xFF800000#32) (u (ix4 b h r i))) := by
  pointwise

theorem exps_at (s : FVec Ideal S2x8x2x16384x16640 .f32) (b : Fin 2) (h : Fin 8) (r : Fin 2) (i : Fin 16384) (j : Fin 16640) (σ : ℕ → EReal)
    (hσ : ∀ j : Fin 16640, s (ix5 b h r i j) = σ j.val) : exps s (ix5 b h r i j) = Ideal.exp (σ j.val - top σ 16640) := by
  refine (exps_from s _ b h r i j).trans ?_
  rw [peak_at, ofBits_low, fold_top σ 16640 _ hσ, hσ]

theorem shares_at (e : FVec Ideal S2x8x2x16384x16640 .f32) (b : Fin 2) (h : Fin 8) (r : Fin 2) (i : Fin 16384) (j : Fin 16640) :
    shares e (ix5 b h r i j) = Ideal.div (e (ix5 b h r i j)) (∑ j : Fin 16640, e (ix5 b h r i j)) := by
  pointwise [shares]

theorem parted_at (p : FVec Ideal S2x8x2x16384x16640 .f32) (b : Fin 2) (h : Fin 8) (i : Fin 16384) (j : Fin 16640) :
    parted l p (ix4 b h i j) = p (ix5 b h 0 i j) - l ix0 * p (ix5 b h 1 i j) := by
  pointwise [parted]

theorem mixed_from (a : FVec Ideal S2x16640x1024 .f32) (p : FVec Ideal S2x8x16384x16640 .f32) (b : Fin 2) (i : Fin 16384) (h : Fin 8) (d : Fin 128) :
    transpose S2x16384x8x128 [0, 3, 1, 2] (Host.dotGeneral dot_S2x16640x8x128_S2x8x16384x16640_S2x8x128x16384_1_3_3_2_02_01 none (shapeCast _ a shapeCasts_S2x16640x1024_S2x16640x8x128) p) transposes_S2x8x128x16384_S2x16384x8x128_0_3_1_2 (ix4 b i h d)
      = ∑ j : Fin 16640, a (ix3 b j ⟨h.val * 128 + d.val, by omega⟩) * p (ix4 b h i j) := by
  pointwise

theorem mixed_at (p : FVec Ideal S2x8x16384x16640 .f32) (b : Fin 2) (i : Fin 16384) (h : Fin 8) (d : Fin 128) :
    mixed v vc p (ix4 b i h d) = ∑ j : Fin 16640, keyRow v vc b h j.val d * p (ix4 b h i j) := by
  refine (mixed_from (joined v vc) p b i h d).trans ?_
  simp only [joined_at]

theorem normed_at (y : FVec Ideal S2x16384x8x128 .f32) (b : Fin 2) (i : Fin 16384) (e : Fin 1024) :
    normed w y (ix3 b i e) = tail (fun d => y (ix4 b i ⟨e.val / 128, by omega⟩ d)) (fun d => w (ix1 d)) ⟨e.val % 128, by omega⟩ := by
  pointwise [normed, tail]

/-- The reference's result at one element. -/
theorem array_at (m : (ℓ : Loc nD τ sig) → Buf (Elt Ideal) ℓ) (c : Dev nD) (b : Fin 2) (i : Fin 16384) (e : Fin 1024) :
    Value.res_main_v44 m c (ix3 b i e) = whole (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7)) b i e := by
  rw [res_eq]
  generalize m ((c.tc : Thread nD τ).loc main_arg0) = q
  generalize m ((c.tc : Thread nD τ).loc main_arg1) = k
  generalize m ((c.tc : Thread nD τ).loc main_arg2) = v
  generalize m ((c.tc : Thread nD τ).loc main_arg4) = kc
  generalize m ((c.tc : Thread nD τ).loc main_arg5) = vc
  generalize m ((c.tc : Thread nD τ).loc main_arg6) = l
  generalize m ((c.tc : Thread nD τ).loc main_arg7) = w
  refine (normed_at w _ b i e).trans ?_
  unfold whole
  refine congrArg (fun y => tail y (fun d => w (ix1 d)) _) (funext fun d => ?_)
  refine (mixed_at v vc _ b i _ d).trans ?_
  unfold differed share
  rw [Finset.sum_range]
  have hx : ∀ h r j, exps (scores q k kc) (ix5 b h r i j) = Ideal.exp (logit q k kc b i h r j.val - top (logit q k kc b i h r) 16640) :=
    fun h r j => exps_at _ b h r i j _ (scores_at q k kc b h r i)
  refine Finset.sum_congr rfl fun j _ => ?_
  rw [parted_at, shares_at, shares_at, Finset.sum_range, Finset.sum_range]
  simp only [hx]

end Cert.Dif.Ref

end
-- ==== Proof.DifClaims.lean ====
/- The differential attention's frames, for the kernel at both instances and for the reference, and its value claim. -/
module

public import proofs.«01_k».proof.Defs
public import proofs.«01_k».proof.Proof.DifFrame
public import proofs.«01_k».proof.Proof.QkvFacts
public import proofs.«01_k».proof.Proof.DifSame
public import proofs.«01_k».proof.Proof.DifRef
public import proofs.«01_k».proof.Proof.Gen.Reference3Ideal.Run
public import Idealize.ShloMosaic.Adequacy
public import Idealize.ShloMosaic.Init

@[expose] public section

noncomputable section

namespace Cert.Dif

open Idealize.ShloMosaic Idealize.ShloMosaic.TcCoe Idealize.SL.Sem

/-- The kernel at the machine's bits has the text of the one run here, so its run is that run at `Bits`. -/
theorem frame_kernel : Cert.quiescent_Kernel3 := by
  intro m ρ _
  have h := frame (F := Bits) m ρ
  rw [defs_same]
  exact h

theorem frame_ideal : Cert.quiescent_Kernel3Ideal := fun m ρ _ => frame (F := Ideal) m ρ

theorem frame_ideal_pre : Cert.quiescent_Kernel3Ideal_pre_qkv_finite := fun m ρ _ => frame (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference_pre : Cert.quiescent_Reference3Ideal_pre_qkv_finite := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result is the reference's, for finite arguments. -/
theorem value : Cert.algebraic_Kernel3Ideal_Reference3Ideal_pre_qkv_finite := by
  intro m ρ m' ρ' hpre hagree
  have hfin : ∀ c, Finite m c := fun c => by
    obtain ⟨h0, h1, h2, h4, h5, h6⟩ := finite_of_pre _ _ _ _ _ _ _ _ (hpre c)
    exact ⟨h0, h1, h2, h4, h5, h6 ix0⟩
  refine ⟨fun c => G7 m c, run_value m ρ hfin, ?_⟩
  refine (θ_run Cert.Reference3Ideal.defs _ _).mono (fun r h c => ⟨(h c).1.trans ?_, (h c).2⟩)
    (Cert.Reference3Ideal.Value.run (F := Ideal) m' ρ')
  obtain ⟨e0, e1, e2, e3, e4, e5, e6, e7⟩ := hagree c
  funext z
  obtain ⟨b, i, e, rfl⟩ : ∃ (b : Fin 2) (i : Fin 16384) (e : Fin 1024), z = ix3 b i e := ⟨z 0, z 1, z 2, eq_ix3 z⟩
  refine (Ref.array_at m' c b i e).trans ?_
  rw [e0, e1, e2, e4, e5, e6, e7]
  rfl

end Cert.Dif

end
-- ==== Proof.FirCases.lean ====
/-
  What one run of the first layer's feed-forward kernel's body leaves, case by case, as the payloads of the blocks it read.
  Case A is a row block's first hidden tile (the normalised rows are stored and the running sum is cleared first),
  case B a middle tile, case C the last tile (the running sum is replaced by the gated residual at the end).
-/
module

public import proofs.«01_k».proof.Proof.FfnValue
public import proofs.«01_k».proof.Proof.Gen.Kernel4Ideal.Frame
public import Idealize.ShloMosaic.Lib.Pipeline.Value

@[expose] public section

set_option maxRecDepth 16384

noncomputable section

namespace Cert.Fir

open Cert.Ffn (off2 off4)
open Cert.Kernel4Ideal Cert.Kernel4Ideal.Gen Idealize.ShloMosaic Idealize.ShloMosaic.TcCoe Idealize.SL.Sem
open Idealize.ShloMosaic.Tactic

variable {F : FTy → Type} [FloatOps F]

/-- One hidden tile's contribution to the down projection: its two halves of 256 columns, added. -/
def tile (h : Vec F S512x2048 .bf16) (g u : Vec F S2048x512 .bf16) (d : Vec F S512x2048 .bf16) : FVec F S512x2048 .f32 :=
  k0_pay5 h (View.ld g (Rect.unit (s := S2048x512) ![0, 0] S2048x256.size inb_S2048x512_S2048x256_0_0))
    (View.ld u (Rect.unit (s := S2048x512) ![0, 0] S2048x256.size inb_S2048x512_S2048x256_0_0))
    (View.ld d (Rect.unit (s := S512x2048) ![0, 0] S256x2048.size inb_S512x2048_S256x2048_0_0))
    (View.ld g (Rect.unit (s := S2048x512) ![0, 256] S2048x256.size inb_S2048x512_S2048x256_0_256))
    (View.ld u (Rect.unit (s := S2048x512) ![0, 256] S2048x256.size inb_S2048x512_S2048x256_0_256))
    (View.ld d (Rect.unit (s := S512x2048) ![256, 0] S256x2048.size inb_S512x2048_S256x2048_256_0))

variable (c : Dev nD) (i : grid0.Coords)
  (a2 : Memref sig .tc .vmem S512x2048 .f32) (h2 : a2.IsWhole)
  (a3 : Memref sig .tc .vmem S1x2048 .f32) (h3 : a3.IsWhole)
  (a4 : Memref sig .tc .vmem S1x1x1x2048 .f32) (h4 : a4.IsWhole)
  (a5 : Memref sig .tc .vmem S1x1x1x2048 .f32) (h5 : a5.IsWhole)
  (a6 : Memref sig .tc .vmem S1x1x1x2048 .f32) (h6 : a6.IsWhole)
  (a7 : Memref sig .tc .vmem S2048x512 .bf16) (h7 : a7.IsWhole)
  (a8 : Memref sig .tc .vmem S2048x512 .bf16) (h8 : a8.IsWhole)
  (a9 : Memref sig .tc .vmem S512x2048 .bf16) (h9 : a9.IsWhole)
  (a10 : Memref sig .tc .vmem S1x2048 .f32) (h10 : a10.IsWhole)
  (a11 : Memref sig .tc .vmem S512x2048 .f32) (h11 : a11.IsWhole)
  (a12 : Memref sig .tc .vmem S512x2048 .bf16) (h12 : a12.IsWhole)
  (x0 : Vec F S512x2048 .f32)
  (x1 : Vec F S1x2048 .f32)
  (x2 : Vec F S1x1x1x2048 .f32)
  (x3 : Vec F S1x1x1x2048 .f32)
  (x4 : Vec F S1x1x1x2048 .f32)
  (x5 : Vec F S2048x512 .bf16)
  (x6 : Vec F S2048x512 .bf16)
  (x7 : Vec F S512x2048 .bf16)
  (x8 : Vec F S1x2048 .f32)
  (xo : Vec F S512x2048 .f32) (xs : Vec F S512x2048 .bf16)

/-- Case A keeps the normalised, modulated rows. -/
theorem kept_A (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 x7 x8 = k0_pay3 x0 x1 x3 x2 := by
  unfold sout0_A_0; rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7 x8)]; unfold kernelRun0_A; dsimp only
  sl_unfold_words
  rw [View.canon_unit_zero off2]
  simp only [View.readAt_eq_ld, h2.read_unread, h3.read_unread, h4.read_unread, h5.read_unread, View.ld_unit_zero (S := S512x2048) off2,
    View.ld_unit_zero (S := S1x2048) off2, View.ld_unit_zero (S := S1x1x1x2048) off4]

/-- Case A's running sum is the tile's contribution on top of zero. -/
theorem sum_A (hc0 : cond0_0 i) (hc1 : ¬cond0_1 i) :
    out0_A_9 c i a2 h2 a3 h3 a4 h4 a5 h5 a6 h6 a7 h7 a8 h8 a9 h9 a10 h10 a11 h11 a12 h12 hc0 hc1 x0 x1 x2 x3 x4 x5 x6 x7 x8
      = k0_pay1 (tile (k0_pay3 x0 x1 x3 x2) x5 x6 x7) (k0_pay6 (k0_pay4 (F := F))) := by
  unfold out0_A_9; rw [View.read_writes_eq_canon _ _ _ (cover0_A_9 c i a2 h2 a3 h3 a4 h4 a5 h5 a6 h6 a7 h7 a8 h8 a9 h9 a10 h10 a11 h11 a12 h12 hc0 hc1 x0 x1 x2 x3 x4 x5 x6 x7 x8)]; unfold kernelRun0_A; dsimp only
  sl_unfold_words
  rw [View.canon_cons_unit_zero (S := S512x2048) off2]
  simp only [View.readCov_unit_zero (S := S512x2048) _ off2, View.readAt_eq_ld, h2.read_unread, h3.read_unread, h4.read_unread, h5.read_unread, h7.read_unread, h8.read_unread, h9.read_unread, View.ld_unit_zero (S := S512x2048) off2,
    View.ld_unit_zero (S := S1x2048) off2, View.ld_unit_zero (S := S1x1x1x2048) off4]
  rfl

/-- Case B adds its tile to the running sum. -/
theorem sum_B (hc0 : ¬cond0_0 i) (hc1 : ¬cond0_1 i) :
    out0_B_9 c i a2 h2 a3 h3 a4 h4 a5 h5 a6 h6 a7 h7 a8 h8 a9 h9 a10 h10 a11 h11 a12 h12 hc0 hc1 x0 x1 x2 x3 x4 x5 x6 x7 x8 xo xs = k0_pay1 (tile xs x5 x6 x7) (k0_pay6 xo) := by
  unfold out0_B_9; rw [View.read_writes_eq_canon _ _ _ (cover0_B_9 c i a2 h2 a3 h3 a4 h4 a5 h5 a6 h6 a7 h7 a8 h8 a9 h9 a10 h10 a11 h11 a12 h12 hc0 hc1 x0 x1 x2 x3 x4 x5 x6 x7 x8 xo xs)]; unfold kernelRun0_B; dsimp only
  sl_unfold_words
  rw [View.canon_unit_zero off2]
  simp only [View.readAt_eq_ld, h7.read_unread, h8.read_unread, h9.read_unread, h11.read_unread, h12.read_unread, View.ld_unit_zero (S := S512x2048) off2]
  rfl

/-- Case C adds its tile and writes the gated residual over the sum. -/
theorem sum_C (hc0 : ¬cond0_0 i) (hc1 : cond0_1 i) :
    out0_C_9 c i a2 h2 a3 h3 a4 h4 a5 h5 a6 h6 a7 h7 a8 h8 a9 h9 a10 h10 a11 h11 a12 h12 hc0 hc1 x0 x1 x2 x3 x4 x5 x6 x7 x8 xo xs = k0_pay2 x0 x4 (k0_pay1 (tile xs x5 x6 x7) (k0_pay6 xo)) := by
  unfold out0_C_9; rw [View.read_writes_eq_canon _ _ _ (cover0_C_9 c i a2 h2 a3 h3 a4 h4 a5 h5 a6 h6 a7 h7 a8 h8 a9 h9 a10 h10 a11 h11 a12 h12 hc0 hc1 x0 x1 x2 x3 x4 x5 x6 x7 x8 xo xs)]; unfold kernelRun0_C; dsimp only
  sl_unfold_words
  rw [View.canon_cons_unit_zero (S := S512x2048) off2]
  simp only [View.readCov_unit_zero (S := S512x2048) _ off2, View.readAt_eq_ld, h2.read_unread, h6.read_unread, h7.read_unread, h8.read_unread, h9.read_unread, h10.read_unread, h11.read_unread, h12.read_unread, View.ld_unit_zero (S := S512x2048) off2,
    View.ld_unit_zero (S := S1x2048) off2, View.ld_unit_zero (S := S1x1x1x2048) off4]
  rfl

end Cert.Fir

end
-- ==== Proof.FirMath.lean ====
/-
  The first layer's feed-forward payloads at one index: the modulated norm of a row, a tile of hidden units, the gated residual.
-/
module

public import proofs.«01_k».proof.Proof.FirCases
public import Idealize.ShloMosaic.Lib.Pointwise

@[expose] public section

set_option maxRecDepth 16384

noncomputable section

namespace Cert.Fir

open Cert.Ffn (invRms modulated hidden)
open Cert.Kernel4Ideal Cert.Kernel4Ideal.Gen Idealize.ShloMosaic Idealize.ShloMosaic.TcCoe Idealize.SL.Sem

/-- The gated residual. -/
def closed (x gt y : Fin 2048 → EReal) (k : Fin 2048) : EReal := x k + gt k * y k

theorem rows_apply (x : Vec Ideal S512x2048 .f32) (w : Vec Ideal S1x2048 .f32) (sc sh : Vec Ideal S1x1x1x2048 .f32)
    (r : Fin 512) (k : Fin 2048) :
    k0_pay3 x w sc sh (ix2 r k) = modulated (fun i => x (ix2 r i)) (fun i => w (ix2 0 i)) (fun i => sc (ix4 0 0 0 i))
      (fun i => sh (ix4 0 0 0 i)) k := by
  pointwise [k0_pay3, modulated, invRms]

theorem closed_apply (x : Vec Ideal S512x2048 .f32) (gt : Vec Ideal S1x1x1x2048 .f32) (y : Vec Ideal S512x2048 .f32)
    (r : Fin 512) (k : Fin 2048) :
    k0_pay2 x gt y (ix2 r k) = closed (fun i => x (ix2 r i)) (fun i => gt (ix4 0 0 0 i)) (fun i => y (ix2 r i)) k := by
  pointwise [k0_pay2, closed]

/-- A tile's contribution is the sum over its 512 hidden units: the two halves are the two halves of that sum. -/
theorem tile_apply (h : Vec Ideal S512x2048 .bf16) (g u : Vec Ideal S2048x512 .bf16) (d : Vec Ideal S512x2048 .bf16)
    (r : Fin 512) (k : Fin 2048) :
    tile h g u d (ix2 r k) = ∑ q : Fin 512, hidden (fun i => h (ix2 r i)) (fun i => g (ix2 i q)) (fun i => u (ix2 i q)) * d (ix2 q k) := by
  rw [Fin.sum_univ_two_halves 256 256 rfl]
  pointwise [tile, k0_pay5, Ffn.hidden]

theorem add_apply (a b : Vec Ideal S512x2048 .f32) (i : S512x2048.Idx) : k0_pay1 a (k0_pay6 b) i = b i + a i := by
  pointwise [k0_pay1, k0_pay6]

theorem zero_apply (i : S512x2048.Idx) : k0_pay4 (F := Ideal) i = 0 := by
  pointwise [k0_pay4]

end Cert.Fir

end
-- ==== Proof.FirBlocks.lean ====
/-
  The first layer's feed-forward kernel's input blocks at an index, as elements of the arguments. Point `t` of the grid works on row
  block `t / 11` and hidden tile `t % 11`; a row block lies inside one batch element.
-/
module

public import proofs.«01_k».proof.Proof.FirMath
public import Idealize.ShloMosaic.Lib.Pipeline.ValueKit

@[expose] public section

set_option maxRecDepth 16384

noncomputable section

namespace Cert.Fir

open Cert.Kernel4Ideal Cert.Kernel4Ideal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![t.val / 11, 0] ∧ win0_1.index t = ![0, 0]
    ∧ win0_2.index t = ![t.val / 352, 3, 0, 0] ∧ win0_3.index t = ![t.val / 352, 4, 0, 0] ∧ win0_4.index t = ![t.val / 352, 5, 0, 0]
    ∧ win0_5.index t = ![0, t.val % 11] ∧ win0_6.index t = ![0, t.val % 11] ∧ win0_7.index t = ![t.val % 11, 0]
    ∧ win0_8.index t = ![0, 0] :=
  (by decide +kernel : ∀ t : Fin grid0.N, _)

theorem point_lt (t : Fin cfg0.N) : t.val < 704 := lt_of_lt_of_eq t.isLt (show cfg0.N = 704 from N_0)

theorem x_at (t : Fin cfg0.N) (r : Fin 512) (k : Fin 2048) :
    iblk m c 0 t (ix2 r k) = m ((c : Thread nD τ).loc main_arg0)
      (ix3 ⟨t.val / 352, by have := point_lt t; omega⟩ ⟨(512 * (t.val / 11) + r.val) % 16384, Nat.mod_lt _ (by decide)⟩ k) := by
  have := point_lt t
  obtain ⟨e, -⟩ := places t
  blk_ext! [iblk, V, e]

theorem nw_at (t : Fin cfg0.N) (k : Fin 2048) :
    iblk m c 1 t (ix2 0 k) = m ((c : Thread nD τ).loc main_arg1) (ix1 k) := by
  obtain ⟨-, e, -⟩ := places t
  blk_ext! [iblk, V, e]

theorem sh_at (t : Fin cfg0.N) (k : Fin 2048) :
    iblk m c 2 t (ix4 0 0 0 k) = m ((c : Thread nD τ).loc main_arg2)
      (ix2 ⟨t.val / 352, by have := point_lt t; omega⟩ ⟨6144 + k.val, by have := k.isLt; omega⟩) := by
  have := point_lt t
  obtain ⟨-, -, e, -⟩ := places t
  blk_ext! [iblk, V, e]

theorem sc_at (t : Fin cfg0.N) (k : Fin 2048) :
    iblk m c 3 t (ix4 0 0 0 k) = m ((c : Thread nD τ).loc main_arg2)
      (ix2 ⟨t.val / 352, by have := point_lt t; omega⟩ ⟨8192 + k.val, by have := k.isLt; omega⟩) := by
  have := point_lt t
  obtain ⟨-, -, -, e, -⟩ := places t
  blk_ext! [iblk, V, e]

theorem gt_at (t : Fin cfg0.N) (k : Fin 2048) :
    iblk m c 4 t (ix4 0 0 0 k) = m ((c : Thread nD τ).loc main_arg2)
      (ix2 ⟨t.val / 352, by have := point_lt t; omega⟩ ⟨10240 + k.val, by have := k.isLt; omega⟩) := by
  have := point_lt t
  obtain ⟨-, -, -, -, e, -⟩ := places t
  blk_ext! [iblk, V, e]

theorem gate_at (t : Fin cfg0.N) (i : Fin 2048) (q : Fin 512) :
    iblk m c 5 t (ix2 i q) = m ((c : Thread nD τ).loc main_arg3)
      (ix2 i ⟨t.val % 11 * 512 + q.val, by have := q.isLt; omega⟩) := by
  obtain ⟨-, -, -, -, -, e, -⟩ := places t
  blk_ext! [iblk, V, e]

theorem up_at (t : Fin cfg0.N) (i : Fin 2048) (q : Fin 512) :
    iblk m c 6 t (ix2 i q) = m ((c : Thread nD τ).loc main_arg4)
      (ix2 i ⟨t.val % 11 * 512 + q.val, by have := q.isLt; omega⟩) := by
  obtain ⟨-, -, -, -, -, -, e, -⟩ := places t
  blk_ext! [iblk, V, e]

theorem down_at (t : Fin cfg0.N) (q : Fin 512) (k : Fin 2048) :
    iblk m c 7 t (ix2 q k) = m ((c : Thread nD τ).loc main_arg5)
      (ix2 ⟨t.val % 11 * 512 + q.val, by have := q.isLt; omega⟩ k) := by
  obtain ⟨-, -, -, -, -, -, -, e, -⟩ := places t
  blk_ext! [iblk, V, e]

end Cert.Fir

end
-- ==== Proof.FirValue.lean ====
/-
  What the first layer's feed-forward kernel's result array holds, at one element, in terms of the arguments. The rows normalised at a row
  block's first point stay through its eleven points; the running sum after tile `j` is the sum of the tiles up to `j`; the
  last point adds its own tile and closes the block. Eleven tiles of 512 hidden units are the 5632 units in order.
-/
module

public import proofs.«01_k».proof.Proof.FirBlocks
public import proofs.«01_k».proof.Proof.Gen.Kernel4Ideal.Value

@[expose] public section

set_option maxRecDepth 16384

noncomputable section

namespace Cert.Fir

open Cert.Ffn (row term part parts_sum)
open Cert.Kernel4Ideal Cert.Kernel4Ideal.Gen Idealize.ShloMosaic Idealize.ShloMosaic.TcCoe Idealize.SL.Sem

/-- The result at `(b, s, k)`. -/
def result (x : (⟨3, ![2, 16384, 2048]⟩ : Shape).Idx → EReal) (nw : (⟨1, ![2048]⟩ : Shape).Idx → EReal)
    (md : (⟨2, ![2, 12288]⟩ : Shape).Idx → EReal) (wg wu : (⟨2, ![2048, 5632]⟩ : Shape).Idx → EReal)
    (wd : (⟨2, ![5632, 2048]⟩ : Shape).Idx → EReal) (b : Fin 2) (s : Fin 16384) (k : Fin 2048) : EReal :=
  closed (fun i => x (ix3 b s i)) (fun i => md (ix2 b ⟨10240 + i.val, by have := i.isLt; omega⟩))
    (fun i => ∑ q : Fin 5632, term x nw md wg wu wd b s i q) k

/-! ## The kernel's fold -/

variable (m : (ℓ : Loc nD τ sig) → Buf (Elt Ideal) ℓ) (c : Dev nD)

/-- The batch element of point `t`'s row block. -/
abbrev bat (t : Fin cfg0.N) : Fin 2 := ⟨t.val / 352, by have := point_lt t; omega⟩
/-- Row `r` of point `t`'s row block, within its batch element. -/
abbrev pos (t : Fin cfg0.N) (r : Fin 512) : Fin 16384 := ⟨(512 * (t.val / 11) + r.val) % 16384, Nat.mod_lt _ (by decide)⟩

/-- The kept rows, at point `t`. -/
abbrev rowOf (t : Fin cfg0.N) (r : Fin 512) : Fin 2048 → EReal :=
  row (m ((c : Thread nD τ).loc main_arg0)) (m ((c : Thread nD τ).loc main_arg1)) (m ((c : Thread nD τ).loc main_arg2)) (bat t) (pos t r)
/-- Tile `n`'s contribution, at point `t`'s rows. -/
abbrev partOf (t : Fin cfg0.N) (r : Fin 512) (k : Fin 2048) (n : Nat) : EReal :=
  part (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (bat t) (pos t r) k n

theorem rows_at (t : Fin cfg0.N) (r : Fin 512) (k : Fin 2048) :
    k0_pay3 (iblk m c 0 t) (iblk m c 1 t) (iblk m c 3 t) (iblk m c 2 t) (ix2 r k) = rowOf m c t r k := by
  refine (rows_apply _ _ _ _ r k).trans ?_
  unfold rowOf row
  congr 1
  · funext i; exact x_at m c t r i
  · funext i; exact nw_at m c t i
  · funext i; exact sc_at m c t i
  · funext i; exact sh_at m c t i

theorem tile_at (t : Fin cfg0.N) (h : Vec Ideal S512x2048 .bf16) (hh : ∀ r k, h (ix2 r k) = rowOf m c t r k) (r : Fin 512) (k : Fin 2048) :
    tile h (iblk m c 5 t) (iblk m c 6 t) (iblk m c 7 t) (ix2 r k) = partOf m c t r k (t.val % 11) := by
  refine (tile_apply h _ _ _ r k).trans ?_
  unfold partOf part
  rw [dif_pos (Nat.mod_lt _ (by decide))]
  refine Finset.sum_congr rfl fun q _ => ?_
  unfold term
  refine congrArg₂ (fun a b : EReal => a * b) ?_ (down_at m c t q k)
  congr 1
  · funext i; exact hh r i
  · funext i; exact gate_at m c t i q
  · funext i; exact up_at m c t i q

/-- What the carried pair holds after a point that is not the last of its row block. -/
theorem carried (n : ℕ) : ∀ hn : n < cfg0.N, (∀ r k, (outsAt0 m c n hn).2 (ix2 r k) = rowOf m c ⟨n, hn⟩ r k)
    ∧ (n % 11 ≠ 10 → ∀ r k, (outsAt0 m c n hn).1 (ix2 r k) = ∑ i ∈ Finset.range (n % 11 + 1), partOf m c ⟨n, hn⟩ r k i) := by
  induction n with
  | zero =>
    intro hn
    rw [outsAt0_A m c ⟨0, hn⟩ (Nat.zero_mod 11) (by dsimp only; omega)]
    refine ⟨fun r k => ?_, fun _ r k => ?_⟩
    · dsimp only; rw [kept_A]; exact rows_at m c ⟨0, hn⟩ r k
    · dsimp only; rw [sum_A]
      refine (add_apply _ _ _).trans ?_
      rw [zero_apply, zero_add, tile_at m c ⟨0, hn⟩ _ (rows_at m c ⟨0, hn⟩)]
      simp
  | succ n ih =>
    intro hn
    have hlt : n + 1 < 704 := point_lt ⟨n + 1, hn⟩
    by_cases h0 : (n + 1) % 11 = 0
    · rw [outsAt0_A m c ⟨n + 1, hn⟩ h0 (by dsimp only; omega)]
      refine ⟨fun r k => ?_, fun _ r k => ?_⟩
      · dsimp only; rw [kept_A]; exact rows_at m c ⟨n + 1, hn⟩ r k
      · dsimp only; rw [sum_A]
        refine (add_apply _ _ _).trans ?_
        rw [zero_apply, zero_add, tile_at m c ⟨n + 1, hn⟩ _ (rows_at m c ⟨n + 1, hn⟩), h0]
        simp
    · obtain ⟨ihs, iho⟩ := ih (Nat.lt_of_succ_lt hn)
      have eb : bat ⟨n, Nat.lt_of_succ_lt hn⟩ = bat ⟨n + 1, hn⟩ := Fin.ext (by show n / 352 = (n + 1) / 352; omega)
      have ep : ∀ r, pos ⟨n, Nat.lt_of_succ_lt hn⟩ r = pos ⟨n + 1, hn⟩ r := fun r =>
        Fin.ext (by show (512 * (n / 11) + r.val) % 16384 = (512 * ((n + 1) / 11) + r.val) % 16384; rw [show n / 11 = (n + 1) / 11 by omega])
      have hs : ∀ r k, (outsAt0 m c n (Nat.lt_of_succ_lt hn)).2 (ix2 r k) = rowOf m c ⟨n + 1, hn⟩ r k := fun r k => by
        rw [ihs]; unfold rowOf; rw [eb, ep]
      by_cases h1 : (n + 1) % 11 = 10
      · rw [outsAt0_C m c ⟨n + 1, hn⟩ h0 h1]
        exact ⟨hs, fun h => absurd h1 h⟩
      · rw [outsAt0_B m c ⟨n + 1, hn⟩ h0 h1]
        refine ⟨hs, fun _ r k => ?_⟩
        dsimp only; rw [sum_B]
        refine (add_apply _ _ _).trans ?_
        refine (congrArg (_ + ·) (tile_at m c ⟨n + 1, hn⟩ _ hs r k)).trans ?_
        refine (congrArg (· + _) ((iho (by omega) r k))).trans ?_
        dsimp only
        rw [show (n + 1) % 11 = n % 11 + 1 by omega, Finset.sum_range_succ _ (n % 11 + 1)]
        unfold partOf; rw [eb, ep]

/-- What the last point of a row block writes back. -/
theorem closing (t : Fin cfg0.N) (ht : t.val % 11 = 10) (r : Fin 512) (k : Fin 2048) :
    (outsAt0 m c t.val t.isLt).1 (ix2 r k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (bat t) (pos t r) k := by
  obtain ⟨n, hn⟩ := t
  obtain ⟨n, rfl⟩ : ∃ k, n = k + 1 := ⟨n - 1, by dsimp only at ht; omega⟩
  have hlt : n + 1 < 704 := point_lt ⟨n + 1, hn⟩
  dsimp only at ht
  obtain ⟨ihs, iho⟩ := carried m c n (Nat.lt_of_succ_lt hn)
  have eb : bat ⟨n, Nat.lt_of_succ_lt hn⟩ = bat ⟨n + 1, hn⟩ := Fin.ext (by show n / 352 = (n + 1) / 352; omega)
  have ep : ∀ r, pos ⟨n, Nat.lt_of_succ_lt hn⟩ r = pos ⟨n + 1, hn⟩ r := fun r =>
    Fin.ext (by show (512 * (n / 11) + r.val) % 16384 = (512 * ((n + 1) / 11) + r.val) % 16384; rw [show n / 11 = (n + 1) / 11 by omega])
  have hs : ∀ r k, (outsAt0 m c n (Nat.lt_of_succ_lt hn)).2 (ix2 r k) = rowOf m c ⟨n + 1, hn⟩ r k := fun r k => by
    rw [ihs]; unfold rowOf; rw [eb, ep]
  rw [outsAt0_C m c ⟨n + 1, hn⟩ (by dsimp only; omega) ht]
  dsimp only; rw [sum_C]
  refine (closed_apply _ _ _ r k).trans ?_
  unfold result
  congr 1
  · funext i; exact x_at m c ⟨n + 1, hn⟩ r i
  · funext i; exact gt_at m c ⟨n + 1, hn⟩ i
  · funext i
    refine (add_apply _ _ _).trans ?_
    refine (congrArg (_ + ·) (tile_at m c ⟨n + 1, hn⟩ _ hs r i)).trans ?_
    rw [← parts_sum, Finset.sum_range_succ _ 10]
    refine (congrArg (· + _) ((iho (by omega) r i))).trans ?_
    dsimp only
    rw [ht, show n % 11 + 1 = 10 by omega]
    unfold partOf; rw [eb, ep]

/-- The result array at row `R`, column `k`. -/
theorem array_at (R : Fin 32768) (k : Fin 2048) :
    Value.G9 m c (ix2 R k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))
      ⟨R.val / 16384, by have := R.isLt; omega⟩ ⟨R.val % 16384, Nat.mod_lt _ (by decide)⟩ k := by
  have hR := R.isLt
  have hk := k.isLt
  have hp : Value.pt9Of (ix2 R k) = 11 * (R.val / 512) + 10 := by
    show 11 * (1 * (R.val / 512 - 0) + 1 * (k.val / 2048 - 0)) + 10 = _
    omega
  have hlt : 11 * (R.val / 512) + 10 < cfg0.N := lt_of_lt_of_eq (by omega) (show 704 = cfg0.N from N_0.symm)
  have hl : Value.loc9Of (ix2 R k) = ix2 ⟨R.val % 512, Nat.mod_lt _ (by decide)⟩ k := by
    funext a; apply Fin.ext
    match a with
    | ⟨0, _⟩ => rfl
    | ⟨1, _⟩ => show k.val % 2048 = k.val; omega
  unfold Value.G9
  rw [dif_pos (by rw [hp]; exact hlt), hl, Value.fold0_congr m c _ _ _ (by omega) hp, ← Value.outsAt0_sweep m c _ hlt]
  refine (closing m c ⟨11 * (R.val / 512) + 10, hlt⟩ (by dsimp only; omega) _ k).trans ?_
  congr 1
  · exact Fin.ext (by show (11 * (R.val / 512) + 10) / 352 = R.val / 16384; omega)
  · exact Fin.ext (by show (512 * ((11 * (R.val / 512) + 10) / 11) + R.val % 512) % 16384 = R.val % 16384; omega)

end Cert.Fir

end
-- ==== Proof.FirRef.lean ====
/-
  What the first layer's feed-forward reference's result holds at one element. Its composed term is read in stages: the normalised and
  modulated rows, the gated hidden units, and the residual row.
-/
module

public import proofs.«01_k».proof.Proof.FirValue
public import proofs.«01_k».proof.Proof.Gen.Reference4Ideal.Run
public import Idealize.ShloMosaic.Lib.Pointwise

@[expose] public section

set_option maxRecDepth 16384

noncomputable section

namespace Cert.Fir.Ref

open Cert.Ffn (invRms modulated hidden row term)
open Cert.Reference4Ideal Cert.Reference4Ideal.Gen Idealize.ShloMosaic Idealize.ShloMosaic.TcCoe Idealize.SL.Sem

variable (x : FVec Ideal S2x16384x2048 .f32) (nw : FVec Ideal S2048 .f32) (md : FVec Ideal S2x12288 .f32)
  (wg wu : FVec Ideal S2048x5632 .f32) (wd : FVec Ideal S5632x2048 .f32)

/-- Root-mean-square norm of each row, under a weight. -/
def normed : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 nw))

/-- The rows the projections read. -/
def rows : FVec Ideal S2x16384x2048 .f32 :=
  addf (mulf (normed x nw) (broadcastInDim S2x16384x2048 ![0, 1, 2] bcast_S2x1x2048_S2x16384x2048_0_1_2 (addf (broadcastInDim S2x1x2048 ![] bcast_S_S2x1x2048 (constant S_ .f32 0x3F800000#32)) (extractStridedSlice S2x1x2048 ![0, 0, 8192] (broadcastInDim S2x1x12288 ![0, 2] bcast_S2x12288_S2x1x12288_0_2 md) slices_S2x1x12288_S2x1x2048_0_0_8192)))) (broadcastInDim S2x16384x2048 ![0, 1, 2] bcast_S2x1x2048_S2x16384x2048_0_1_2 (extractStridedSlice S2x1x2048 ![0, 0, 6144] (broadcastInDim S2x1x12288 ![0, 2] bcast_S2x12288_S2x1x12288_0_2 md) slices_S2x1x12288_S2x1x2048_0_0_6144))

/-- The gated hidden units of given rows. -/
def units (h : FVec Ideal S2x16384x2048 .f32) : FVec Ideal S2x16384x5632 .f32 :=
  mulf (mulf (Host.dotGeneral dot_S2x16384x2048_S2048x5632_S2x16384x5632_2_0_01_1_n_n none h wg) (Host.divf (broadcastInDim S2x16384x5632 ![] bcast_S_S2x16384x5632 (constant S_ .f32 0x3F800000#32)) (addf (broadcastInDim S2x16384x5632 ![] bcast_S_S2x16384x5632 (constant S_ .f32 0x3F800000#32)) (Host.exp (Host.negf (Host.dotGeneral dot_S2x16384x2048_S2048x5632_S2x16384x5632_2_0_01_1_n_n none h wg)))))) (Host.dotGeneral dot_S2x16384x2048_S2048x5632_S2x16384x5632_2_0_01_1_n_n none h wu)

/-- The residual rows. -/
def summed (u : FVec Ideal S2x16384x5632 .f32) : FVec Ideal S2x16384x2048 .f32 :=
  addf x (mulf (broadcastInDim S2x16384x2048 ![0, 1, 2] bcast_S2x1x2048_S2x16384x2048_0_1_2 (extractStridedSlice S2x1x2048 ![0, 0, 10240] (broadcastInDim S2x1x12288 ![0, 2] bcast_S2x12288_S2x1x12288_0_2 md) slices_S2x1x12288_S2x1x2048_0_0_10240)) (Host.dotGeneral dot_S2x16384x5632_S5632x2048_S2x16384x2048_2_0_01_1_n_n none u wd))

theorem res_eq (m : (ℓ : Loc nD τ sig) → Buf (Elt Ideal) ℓ) (c : Dev nD) :
    Value.res_main_v34 m c = shapeCast S32768x2048 (summed (m ((c : Thread nD τ).loc main_arg0)) (m ((c : Thread nD τ).loc main_arg2)) (m ((c : Thread nD τ).loc main_arg5))
      (units (m ((c : Thread nD τ).loc main_arg3)) (m ((c : Thread nD τ).loc main_arg4)) (rows (m ((c : Thread nD τ).loc main_arg0)) (m ((c : Thread nD τ).loc main_arg1)) (m ((c : Thread nD τ).loc main_arg2)))))
      shapeCasts_S2x16384x2048_S32768x2048 := rfl

theorem normed_at (b : Fin 2) (s : Fin 16384) (k : Fin 2048) :
    normed x nw (ix3 b s k) = x (ix3 b s k) * invRms (∑ i : Fin 2048, x (ix3 b s i) * x (ix3 b s i)) * nw (ix1 k) := by
  pointwise [normed, invRms]

theorem rows_at (b : Fin 2) (s : Fin 16384) (k : Fin 2048) : rows x nw md (ix3 b s k) = row x nw md b s k := by
  pointwise [rows, row, modulated]
  rw [normed_at]

theorem units_at (h : FVec Ideal S2x16384x2048 .f32) (b : Fin 2) (s : Fin 16384) (q : Fin 5632) :
    units wg wu h (ix3 b s q) = hidden (fun i => h (ix3 b s i)) (fun i => wg (ix2 i q)) (fun i => wu (ix2 i q)) := by
  pointwise [units, Ffn.hidden, Ideal.logistic]

theorem summed_at (u : FVec Ideal S2x16384x5632 .f32) (b : Fin 2) (s : Fin 16384) (k : Fin 2048) :
    summed x md wd u (ix3 b s k) = x (ix3 b s k) + md (ix2 b ⟨10240 + k.val, by have := k.isLt; omega⟩) * ∑ q : Fin 5632, u (ix3 b s q) * wd (ix2 q k) := by
  pointwise [summed]

/-- The reference's result at row `R`, column `k`. -/
theorem array_at (m : (ℓ : Loc nD τ sig) → Buf (Elt Ideal) ℓ) (c : Dev nD) (R : Fin 32768) (k : Fin 2048) :
    Value.res_main_v34 m c (ix2 R k) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))
      ⟨R.val / 16384, by have := R.isLt; omega⟩ ⟨R.val % 16384, Nat.mod_lt _ (by decide)⟩ k := by
  rw [res_eq]
  generalize m ((c : Thread nD τ).loc main_arg0) = x
  generalize m ((c : Thread nD τ).loc main_arg1) = nw
  generalize m ((c : Thread nD τ).loc main_arg2) = md
  generalize m ((c : Thread nD τ).loc main_arg3) = wg
  generalize m ((c : Thread nD τ).loc main_arg4) = wu
  generalize m ((c : Thread nD τ).loc main_arg5) = wd
  have split : ∀ v : FVec Ideal S2x16384x2048 .f32, shapeCast S32768x2048 v shapeCasts_S2x16384x2048_S32768x2048 (ix2 R k)
      = v (ix3 ⟨R.val / 16384, by have := R.isLt; omega⟩ ⟨R.val % 16384, Nat.mod_lt _ (by decide)⟩ k) := fun v => by
    pointwise
  refine (split _).trans ?_
  unfold result closed term
  simp only [summed_at, units_at, rows_at]

end Cert.Fir.Ref

end
-- ==== Proof.FirClaims.lean ====
/-
  The first layer's feed-forward claims: the frames of the kernel at both instances and of the reference, and that the kernel and the
  reference compute the same result over exact arithmetic.
-/
module

public import proofs.«01_k».proof.Defs
public import proofs.«01_k».proof.Proof.FirRef
public import proofs.«01_k».proof.Proof.Gen.Kernel4.Frame
public import Idealize.ShloMosaic.Adequacy
public import Idealize.ShloMosaic.Init

@[expose] public section

noncomputable section

namespace Cert.Fir

open Idealize.ShloMosaic Idealize.ShloMosaic.TcCoe Idealize.SL.Sem

theorem frame_kernel : Cert.quiescent_Kernel4 := fun m ρ _ => Cert.Kernel4.Gen.frame (F := Bits) m ρ

theorem frame_ideal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference agree at every element of the result: both are `result` of the arguments. -/
theorem value : Cert.algebraic_Kernel4Ideal_Reference4Ideal := by
  intro m ρ m' ρ' _ hagree
  refine ⟨fun c => Cert.Kernel4Ideal.Value.G9 m c, Cert.Kernel4Ideal.Value.run (F := Ideal) m ρ, ?_⟩
  refine (θ_run Cert.Reference4Ideal.defs _ _).mono (fun r h c => ⟨(h c).1.trans ?_, (h c).2⟩)
    (Cert.Reference4Ideal.Value.run (F := Ideal) m' ρ')
  obtain ⟨e0, e1, e2, e3, e4, e5, e6⟩ := hagree c
  funext i
  obtain ⟨R, k, rfl⟩ : ∃ (R : Fin 32768) (k : Fin 2048), i = ix2 R k := ⟨i 0, i 1, eq_ix2 i⟩
  refine (Ref.array_at m' c R k).trans ((array_at m c R k).trans ?_).symm
  rw [e0, e1, e2, e3, e4, e5]

end Cert.Fir

end
-- ==== Proof.PzValue.lean ====
/-
  What the wide projection leaves in its result array, at one element, in terms of the arguments. Point `t` of the grid works on row
  block `t / 5` and column block `t % 5`, and stores its product in eight strips of 128 columns.
-/
module

public import proofs.«01_k».proof.Proof.FirValue
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Pz

open Cert.Ffn (off2 off4)
open Cert.Kernel5Ideal Cert.Kernel5Ideal.Gen Idealize.ShloMosaic Idealize.ShloMosaic.TcCoe Idealize.SL.Sem
open Idealize.ShloMosaic.Tactic

/-- The result at `(b, s, k)`. -/
def result (h : FVec Ideal ⟨3, ![2, 16384, 2048]⟩ .f32) (w : FVec Ideal ⟨2, ![2048, 6656]⟩ .f32) (b : Fin 2) (s : Fin 16384)
    (k : Fin 5120) : EReal :=
  ∑ i : Fin 2048, h (ix3 b s i) * w (ix2 i ⟨k.val, by omega⟩)

/-- A strip of a block's product is the product read at the strip's columns. -/
theorem strip_at {α : Type} (v : S1024x1024.Idx → α) (o : ℕ) (ho : o + 128 ≤ 1024) (h : S1024x1024.Slices ![0, o] S1024x128)
    (h' : ∀ a, (![0, o] : Fin 2 → ℕ) a + S1024x128.size a ≤ S1024x1024.size a) (x : S1024x128.Idx) :
    extractStridedSlice S1024x128 ![0, o] v h x = v ((Rect.unit (s := S1024x1024) ![0, o] S1024x128.size h').idx x) := by
  unfold extractStridedSlice
  refine congrArg v (funext fun a => Fin.ext ?_)
  match a with
  | ⟨0, _⟩ => show 0 + (x 0).val = 0 + 1 * (x 0).val; omega
  | ⟨1, _⟩ => show o + (x 1).val = o + 1 * (x 1).val; omega

theorem out_eq {F : FTy → Type} [FloatOps F] (c : Dev nD) (i : grid0.Coords) (a2 : Memref sig .tc .vmem S1024x2048 .bf16) (h2 : a2.IsWhole)
    (a3 : Memref sig .tc .vmem S2048x1024 .bf16) (h3 : a3.IsWhole) (a4 : Memref sig .tc .vmem S1024x1024 .f32) (h4 : a4.IsWhole)
    (x0 : Vec F S1024x2048 .bf16) (x1 : Vec F S2048x1024 .bf16) :
    out0_A_2 c i a2 h2 a3 h3 a4 h4 x0 x1 = k0_pay1 x0 x1 := by
  funext y
  unfold out0_A_2
  rw [View.read_writes_eq_canon _ _ _ (cover0_A_2 c i a2 h2 a3 h3 a4 h4 x0 x1)]
  refine View.canon_apply_of_pieces (k0_pay1 x0 x1) _ ?_ y (cover0_A_2 c i a2 h2 a3 h3 a4 h4 x0 x1 y)
  unfold kernelRun0_A
  dsimp only
  sl_unfold_words
  simp only [View.readAt_eq_ld, h2.read_unread, h3.read_unread, View.ld_unit_zero (S := S1024x2048) off2, View.ld_unit_zero (S := S2048x1024) off2]
  intro pc hpc
  simp only [List.mem_cons, List.not_mem_nil, or_false] at hpc
  rcases hpc with rfl | rfl | rfl | rfl | rfl | rfl | rfl | rfl
  · exact fun x => strip_at (k0_pay1 x0 x1) 896 (by decide) slices_S1024x1024_o0_896_S1024x128 inb_S1024x1024_S1024x128_0_896 x
  · exact fun x => strip_at (k0_pay1 x0 x1) 768 (by decide) slices_S1024x1024_o0_768_S1024x128 inb_S1024x1024_S1024x128_0_768 x
  · exact fun x => strip_at (k0_pay1 x0 x1) 640 (by decide) slices_S1024x1024_o0_640_S1024x128 inb_S1024x1024_S1024x128_0_640 x
  · exact fun x => strip_at (k0_pay1 x0 x1) 512 (by decide) slices_S1024x1024_o0_512_S1024x128 inb_S1024x1024_S1024x128_0_512 x
  · exact fun x => strip_at (k0_pay1 x0 x1) 384 (by decide) slices_S1024x1024_o0_384_S1024x128 inb_S1024x1024_S1024x128_0_384 x
  · exact fun x => strip_at (k0_pay1 x0 x1) 256 (by decide) slices_S1024x1024_o0_256_S1024x128 inb_S1024x1024_S1024x128_0_256 x
  · exact fun x => strip_at (k0_pay1 x0 x1) 128 (by decide) slices_S1024x1024_o0_128_S1024x128 inb_S1024x1024_S1024x128_0_128 x
  · exact fun x => strip_at (k0_pay1 x0 x1) 0 (by decide) slices_S1024x1024_o0_0_S1024x128 inb_S1024x1024_S1024x128_0_0 x

theorem pay_at (x : Vec Ideal S1024x2048 .bf16) (w : Vec Ideal S2048x1024 .bf16) (r q : Fin 1024) :
    k0_pay1 x w (ix2 r q) = ∑ i : Fin 2048, x (ix2 r i) * w (ix2 i q) := by
  pointwise [k0_pay1]

variable (m : (ℓ : Loc nD τ sig) → Buf (Elt Ideal) ℓ) (ρ : Dev nD → PrngReg) (c : Dev nD)

theorem places : ∀ t : Fin cfg0.N, win0_0.index t = ![t.val / 5, 0] ∧ win0_1.index t = ![0, t.val % 5]
    ∧ win0_2.index t = ![t.val / 5, t.val % 5] :=
  (by decide +kernel : ∀ t : Fin grid0.N, _)

theorem point_lt (t : Fin cfg0.N) : t.val < 160 := lt_of_lt_of_eq t.isLt (show cfg0.N = 160 from N_0)

/-- The batch element of point `t`'s row block. -/
abbrev bat (t : Fin cfg0.N) : Fin 2 := ⟨t.val / 80, by have := point_lt t; omega⟩
/-- Row `r` of point `t`'s row block, within its batch element. -/
abbrev pos (t : Fin cfg0.N) (r : Fin 1024) : Fin 16384 := ⟨(1024 * (t.val / 5) + r.val) % 16384, Nat.mod_lt _ (by decide)⟩

theorem h_at (t : Fin cfg0.N) (r : Fin 1024) (k : Fin 2048) :
    iblk m c 0 t (ix2 r k) = m ((c : Thread nD τ).loc main_arg0) (ix3 (bat t) (pos t r) k) := by
  have := point_lt t
  obtain ⟨e, -⟩ := places t
  blk_ext! [iblk, V, e]

theorem w_at (t : Fin cfg0.N) (i : Fin 2048) (q : Fin 1024) :
    X0_1 m c t (ix2 i q) = m ((c : Thread nD τ).loc main_arg1) (ix2 i ⟨t.val % 5 * 1024 + q.val, by omega⟩) := by
  have := point_lt t
  obtain ⟨-, e, -⟩ := places t
  unfold X0_1 Pipeline.Window.fill
  rw [dif_pos (moved0_1 t (ix2 i q))]
  blk_ext! [iblk, V, e]

/-- The result as an array of the memory. -/
def G2 : FVec Ideal S32768x5120 .f32 := fun z =>
  result (m ((c : Thread nD τ).loc main_arg0)) (m ((c : Thread nD τ).loc main_arg1))
    ⟨(z 0).val / 16384, by have h : (z 0).val < 32768 := (z 0).isLt; omega⟩ ⟨(z 0).val % 16384, Nat.mod_lt _ (by decide)⟩ (z 1)

theorem out_at (t : Fin cfg0.N) (r q : Fin 1024) :
    outsAt0 m c t (ix2 r q) = result (m ((c : Thread nD τ).loc main_arg0)) (m ((c : Thread nD τ).loc main_arg1)) (bat t) (pos t r)
      ⟨t.val % 5 * 1024 + q.val, by omega⟩ := by
  unfold outsAt0
  rw [out_eq]
  refine (pay_at _ _ r q).trans ?_
  unfold result
  refine Finset.sum_congr rfl fun i _ => ?_
  rw [h_at, w_at]

theorem arr_2 : (dats m 0 c).arrAt 2 cfg0.N = G2 m c := by
  refine (dats m 0 c).arrAt_eq_of_covers 2 _ (by decide +kernel) fun t hf y => ?_
  have ht := point_lt t
  obtain ⟨-, -, p⟩ := places t
  blk_simp [p]
  rw [after0_2]
  obtain ⟨r, q, rfl⟩ : ∃ (r : Fin 1024) (q : Fin 1024), y = ix2 r q := ⟨y 0, y 1, eq_ix2 y⟩
  have hr := r.isLt
  have hq := q.isLt
  have place : (win0_2.blk t).view.emb (ix2 r q) = ix2 ⟨t.val / 5 * 1024 + r.val, by omega⟩ ⟨t.val % 5 * 1024 + q.val, by omega⟩ := by
    blk_ext! [p]
  refine Eq.trans ?_ (congrArg (G2 m c) place.symm)
  refine (out_at m c t r q).trans ?_
  unfold G2
  congr 1
  · exact Fin.ext (by show t.val / 80 = (t.val / 5 * 1024 + r.val) / 16384; omega)
  · exact Fin.ext (by show (1024 * (t.val / 5) + r.val) % 16384 = (t.val / 5 * 1024 + r.val) % 16384; omega)

end Cert.Pz

end
-- ==== Proof.PzRef.lean ====
/-
  What the wide projection's reference's result holds at one element.
-/
module

public import proofs.«01_k».proof.Proof.PzValue
public import proofs.«01_k».proof.Proof.Gen.Reference5Ideal.Run
public import Idealize.ShloMosaic.Lib.Pointwise

@[expose] public section

set_option maxRecDepth 16384

noncomputable section

namespace Cert.Pz.Ref

open Cert.Reference5Ideal Cert.Reference5Ideal.Gen Idealize.ShloMosaic Idealize.ShloMosaic.TcCoe Idealize.SL.Sem

variable (h : FVec Ideal S2x16384x2048 .f32) (w : FVec Ideal S2048x6656 .f32)

/-- The reference's result. -/
def out : FVec Ideal S32768x5120 .f32 :=
  shapeCast S32768x5120 (extractStridedSlice S2x16384x5120 ![0, 0, 0] (Host.dotGeneral dot_S2x16384x2048_S2048x6656_S2x16384x6656_2_0_01_1_n_n none h w) slices_S2x16384x6656_S2x16384x5120_0_0_0) shapeCasts_S2x16384x5120_S32768x5120

/-- The reference's result at row `R`, column `k`. -/
theorem out_at (R : Fin 32768) (k : Fin 5120) :
    out h w (ix2 R k) = result h w ⟨R.val / 16384, by have := R.isLt; omega⟩ ⟨R.val % 16384, Nat.mod_lt _ (by decide)⟩ k := by
  pointwise [out, result]

end Cert.Pz.Ref

end
-- ==== Proof.PzClaims.lean ====
/-
  The wide projection's claims: the frames of the kernel at both instances and of the reference, and that the kernel and
  the reference compute the same result over exact arithmetic.
-/
module

public import proofs.«01_k».proof.Defs
public import proofs.«01_k».proof.Proof.PzRef
public import proofs.«01_k».proof.Proof.Gen.Kernel5.Frame
public import Idealize.ShloMosaic.Adequacy
public import Idealize.ShloMosaic.Init

@[expose] public section

noncomputable section

namespace Cert.Pz

open Idealize.ShloMosaic Idealize.ShloMosaic.TcCoe Idealize.SL.Sem

theorem frame_kernel : Cert.quiescent_Kernel5 := fun m ρ _ => Cert.Kernel5.Gen.frame (F := Bits) m ρ

theorem frame_ideal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference agree at every element of the result: both are `result` of the arguments. -/
theorem value : Cert.algebraic_Kernel5Ideal_Reference5Ideal := by
  intro m ρ m' ρ' _ hagree
  refine ⟨fun c => G2 m c, (θ_run Cert.Kernel5Ideal.defs _ _).mono (fun r h c => ⟨(h c).1.trans (arr_2 m c), (h c).2⟩)
    (Cert.Kernel5Ideal.Value.run_blocks (F := Ideal) m ρ), ?_⟩
  refine (θ_run Cert.Reference5Ideal.defs _ _).mono (fun r h c => ⟨(h c).1.trans ?_, (h c).2⟩)
    (Cert.Reference5Ideal.Value.run (F := Ideal) m' ρ')
  obtain ⟨e0, e1⟩ := hagree c
  funext i
  obtain ⟨R, k, rfl⟩ : ∃ (R : Fin 32768) (k : Fin 5120), i = ix2 R k := ⟨i 0, i 1, eq_ix2 i⟩
  refine (Ref.out_at _ _ R k).trans ?_
  rw [e0, e1]
  rfl

end Cert.Pz

end
-- ==== Proof.OabValue.lean ====
/-
  What the first layer's output projection leaves in its result array, at one element, in terms of the arguments. Point `t` of the
  grid works on row block `t`, whole; the gated recurrence goes through the upper half of the weights, the attention through the lower.
-/
module

public import proofs.«01_k».proof.Proof.FirValue
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Oab

open Cert.Ffn (off2 off4)
open Cert.Kernel6Ideal Cert.Kernel6Ideal.Gen Idealize.ShloMosaic Idealize.ShloMosaic.TcCoe Idealize.SL.Sem

/-- The gate: the hyperbolic-tangent form of the Gaussian error linear unit. -/
def gelu (g : EReal) : EReal :=
  g * (Ideal.ofBits .f32 0x3F000000#32 * (1 + Ideal.tanh (Ideal.ofBits .f32 0x3F4C422A#32
    * (g + Ideal.ofBits .f32 0x3D372713#32 * (g * (g * g))))))

/-- The residual at one column: the two halves of the projection, under the modulation's gate. -/
def joined (x md : EReal) (a att : Fin 1024 → EReal) (w w' : Fin 1024 → EReal) : EReal :=
  x + md * ((∑ i, a i * w i) + ∑ i, att i * w' i)

/-- The result at `(b, s, k)`. -/
def result (x : FVec Ideal ⟨3, ![2, 16384, 2048]⟩ .f32) (rf rb : FVec Ideal ⟨3, ![2, 16384, 1024]⟩ .f32)
    (gx : FVec Ideal ⟨3, ![2, 16384, 2048]⟩ .f32) (att : FVec Ideal ⟨3, ![2, 16384, 1024]⟩ .f32)
    (w : FVec Ideal ⟨2, ![2048, 2048]⟩ .f32) (md : FVec Ideal ⟨2, ![2, 12288]⟩ .f32) (b : Fin 2) (s : Fin 16384) (k : Fin 2048) : EReal :=
  joined (x (ix3 b s k)) (md (ix2 b ⟨4096 + k.val, by have := k.isLt; omega⟩))
    (fun i => (rf (ix3 b s i) + rb (ix3 b s i)) * gelu (gx (ix3 b s ⟨i.val, by omega⟩)))
    (fun i => att (ix3 b s i)) (fun i => w (ix2 ⟨i.val, by omega⟩ k)) (fun i => w (ix2 ⟨1024 + i.val, by omega⟩ k))

theorem pay_at (x : Vec Ideal S512x2048 .f32) (a b g : Vec Ideal S512x1024 .f32) (att : Vec Ideal S512x1024 .bf16)
    (w : Vec Ideal S2048x2048 .bf16) (md : Vec Ideal S1x1x1x2048 .f32) (r : Fin 512) (k : Fin 2048) :
    k0_pay1 (k0_pay2 a b g (View.ld w r0_1) att (View.ld w r0_2)) (k0_pay3 x) (k0_pay4 md) (ix2 r k)
      = joined (x (ix2 r k)) (md (ix4 0 0 0 k)) (fun i => (a (ix2 r i) + b (ix2 r i)) * gelu (g (ix2 r i))) (fun i => att (ix2 r i))
        (fun i => w (ix2 ⟨i.val, by omega⟩ k)) (fun i => w (ix2 ⟨1024 + i.val, by omega⟩ k)) := by
  pointwise [k0_pay1, k0_pay2, k0_pay3, k0_pay4, joined, gelu]

theorem out_eq {F : FTy → Type} [FloatOps F] (x0 : Vec F S512x2048 .f32) (x1 x2 x3 : Vec F S512x1024 .f32) (x4 : Vec F S512x1024 .bf16)
    (x5 : Vec F S1x128 .f32) (x6 : Vec F S2048x2048 .bf16) (x7 : Vec F S1x1x1x2048 .f32) :
    out0_8 x0 x1 x2 x3 x4 x5 x6 x7 = k0_pay1 (k0_pay2 x1 x2 x3 (View.ld x6 r0_1) x4 (View.ld x6 r0_2)) (k0_pay3 x0) (k0_pay4 x7) := by
  unfold out0_8
  rw [View.canon_unit_zero off2, View.ld_unit_zero (S := S512x1024) off2, View.ld_unit_zero (S := S512x1024) off2, View.ld_unit_zero (S := S512x1024) off2, View.ld_unit_zero (S := S512x1024) off2, View.ld_unit_zero (S := S512x2048) off2, View.ld_unit_zero (S := S1x1x1x2048) off4]

variable (m : (ℓ : Loc nD τ sig) → Buf (Elt Ideal) ℓ) (ρ : Dev nD → PrngReg) (c : Dev nD)

theorem places : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_6.index t = ![0, 0] ∧ win0_7.index t = ![t.val / 32, 2, 0, 0] ∧ win0_8.index t = ![t.val, 0] :=
  (by decide +kernel : ∀ t : Fin grid0.N, _)

theorem point_lt (t : Fin cfg0.N) : t.val < 64 := lt_of_lt_of_eq t.isLt (show cfg0.N = 64 from N_0)

/-- The batch element of point `t`'s row block. -/
abbrev bat (t : Fin cfg0.N) : Fin 2 := ⟨t.val / 32, by have := point_lt t; omega⟩
/-- Row `r` of point `t`'s row block, within its batch element. -/
abbrev pos (t : Fin cfg0.N) (r : Fin 512) : Fin 16384 := ⟨(512 * t.val + r.val) % 16384, Nat.mod_lt _ (by decide)⟩

theorem x_at (t : Fin cfg0.N) (r : Fin 512) (k : Fin 2048) :
    iblk m c 0 t (ix2 r k) = m ((c : Thread nD τ).loc main_arg0) (ix3 (bat t) (pos t r) k) := by
  have := point_lt t
  obtain ⟨e, -⟩ := places t
  blk_ext! [iblk, V, e]

theorem rf_at (t : Fin cfg0.N) (r : Fin 512) (k : Fin 1024) :
    iblk m c 1 t (ix2 r k) = m ((c : Thread nD τ).loc main_arg1) (ix3 (bat t) (pos t r) k) := by
  have := point_lt t
  obtain ⟨-, e, -⟩ := places t
  blk_ext! [iblk, V, e]

theorem rb_at (t : Fin cfg0.N) (r : Fin 512) (k : Fin 1024) :
    iblk m c 2 t (ix2 r k) = m ((c : Thread nD τ).loc main_arg2) (ix3 (bat t) (pos t r) k) := by
  have := point_lt t
  obtain ⟨-, -, e, -⟩ := places t
  blk_ext! [iblk, V, e]

theorem gx_at (t : Fin cfg0.N) (r : Fin 512) (k : Fin 1024) :
    iblk m c 3 t (ix2 r k) = m ((c : Thread nD τ).loc main_arg3) (ix3 (bat t) (pos t r) ⟨k.val, by omega⟩) := by
  have := point_lt t
  obtain ⟨-, -, -, e, -⟩ := places t
  blk_ext! [iblk, V, e]

theorem att_at (t : Fin cfg0.N) (r : Fin 512) (k : Fin 1024) :
    iblk m c 4 t (ix2 r k) = m ((c : Thread nD τ).loc main_arg4) (ix3 (bat t) (pos t r) k) := by
  have := point_lt t
  obtain ⟨-, -, -, -, e, -⟩ := places t
  blk_ext! [iblk, V, e]

theorem w_at (t : Fin cfg0.N) (i k : Fin 2048) :
    iblk m c 6 t (ix2 i k) = m ((c : Thread nD τ).loc main_arg5) (ix2 i k) := by
  obtain ⟨-, -, -, -, -, e, -⟩ := places t
  blk_ext! [iblk, V, e]

theorem md_at (t : Fin cfg0.N) (k : Fin 2048) :
    iblk m c 7 t (ix4 0 0 0 k) = m ((c : Thread nD τ).loc main_arg6) (ix2 (bat t) ⟨4096 + k.val, by have := k.isLt; omega⟩) := by
  have := point_lt t
  obtain ⟨-, -, -, -, -, -, e, -⟩ := places t
  blk_ext! [iblk, V, e]

/-- The result as an array of the memory. -/
def G8 : FVec Ideal S32768x2048 .f32 := fun z =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(z 0).val / 16384, by have h : (z 0).val < 32768 := (z 0).isLt; omega⟩
    ⟨(z 0).val % 16384, Nat.mod_lt _ (by decide)⟩ (z 1)

theorem out_at (t : Fin cfg0.N) (r : Fin 512) (k : Fin 2048) :
    out0_8 (iblk m c 0 t) (iblk m c 1 t) (iblk m c 2 t) (iblk m c 3 t) (iblk m c 4 t) (iblk m c 5 t) (iblk m c 6 t) (iblk m c 7 t) (ix2 r k)
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (bat t) (pos t r) k := by
  rw [out_eq]
  refine (pay_at _ _ _ _ _ _ _ r k).trans ?_
  unfold result
  congr 1
  · exact x_at m c t r k
  · exact md_at m c t k
  · funext i; rw [rf_at, rb_at, gx_at]
  · funext i; exact att_at m c t r i
  · funext i; exact w_at m c t _ k
  · funext i; exact w_at m c t _ k

theorem arr_8 : (dats m 0 c).arrAt 8 cfg0.N = G8 m c := by
  refine (dats m 0 c).arrAt_eq_of_covers 8 _ (by decide +kernel) fun t hf y => ?_
  have ht := point_lt t
  obtain ⟨-, -, -, -, -, -, -, p⟩ := places t
  blk_simp [p]
  rw [after0_8]
  obtain ⟨r, k, rfl⟩ : ∃ (r : Fin 512) (k : Fin 2048), y = ix2 r k := ⟨y 0, y 1, eq_ix2 y⟩
  have hr := r.isLt
  have hk := k.isLt
  have place : (win0_8.blk t).view.emb (ix2 r k) = ix2 ⟨t.val * 512 + r.val, by omega⟩ k := by
    blk_ext! [p]
  refine Eq.trans ?_ (congrArg (G8 m c) place.symm)
  refine (out_at m c t r k).trans ?_
  unfold G8
  congr 1
  · exact Fin.ext (by show t.val / 32 = (t.val * 512 + r.val) / 16384; omega)
  · exact Fin.ext (by show (512 * t.val + r.val) % 16384 = (t.val * 512 + r.val) % 16384; omega)

end Cert.Oab

end
-- ==== Proof.OabRef.lean ====
/-
  What the first layer's output projection reference's result holds at one element. Its composed term is read in stages: the gated
  recurrence, and the residual rows.
-/
module

public import proofs.«01_k».proof.Proof.OabValue
public import proofs.«01_k».proof.Proof.Gen.Reference6Ideal.Run
public import Idealize.ShloMosaic.Lib.Pointwise

@[expose] public section

set_option maxRecDepth 16384

noncomputable section

namespace Cert.Oab.Ref

open Cert.Reference6Ideal Cert.Reference6Ideal.Gen Idealize.ShloMosaic Idealize.ShloMosaic.TcCoe Idealize.SL.Sem

variable (x : FVec Ideal S2x16384x2048 .f32) (rf rb : FVec Ideal S2x16384x1024 .f32) (gx : FVec Ideal S2x16384x2048 .f32)
  (att : FVec Ideal S2x16384x1024 .f32) (w : FVec Ideal S2048x2048 .f32) (md : FVec Ideal S2x12288 .f32)

/-- The gate of the recurrence. -/
def gate (g : FVec Ideal S2x16384x1024 .f32) : FVec Ideal S2x16384x1024 .f32 :=
  mulf g (mulf (broadcastInDim S2x16384x1024 ![] bcast_S_S2x16384x1024 (constant S_ .f32 0x3F000000#32)) (addf (broadcastInDim S2x16384x1024 ![] bcast_S_S2x16384x1024 (constant S_ .f32 0x3F800000#32)) (Host.tanh (mulf (broadcastInDim S2x16384x1024 ![] bcast_S_S2x16384x1024 (constant S_ .f32 0x3F4C422A#32)) (addf g (mulf (broadcastInDim S2x16384x1024 ![] bcast_S_S2x16384x1024 (constant S_ .f32 0x3D372713#32)) (mulf (mulf g g) g)))))))

/-- The gated recurrence. -/
def gated : FVec Ideal S2x16384x1024 .f32 :=
  mulf (addf rf rb) (gate (extractStridedSlice S2x16384x1024 ![0, 0, 0] gx slices_S2x16384x2048_S2x16384x1024_0_0_0))

/-- The residual rows, given the gated recurrence. -/
def summed (a : FVec Ideal S2x16384x1024 .f32) : FVec Ideal S2x16384x2048 .f32 :=
  addf x (mulf (broadcastInDim S2x16384x2048 ![0, 1, 2] bcast_S2x1x2048_S2x16384x2048_0_1_2 (extractStridedSlice S2x1x2048 ![0, 0, 4096] (broadcastInDim S2x1x12288 ![0, 2] bcast_S2x12288_S2x1x12288_0_2 md) slices_S2x1x12288_S2x1x2048_0_0_4096)) (Host.dotGeneral dot_S2x16384x2048_S2048x2048_S2x16384x2048_2_0_01_1_n_n none (concatenate S2x16384x2048 2 [⟨S2x16384x1024, a⟩, ⟨S2x16384x1024, att⟩] concatenates_S2x16384x1024_S2x16384x1024_S2x16384x2048_d2) w))

/-- The reference's result. -/
def out : FVec Ideal S32768x2048 .f32 :=
  shapeCast S32768x2048 (summed x att w md (gated rf rb gx)) shapeCasts_S2x16384x2048_S32768x2048

theorem gate_at (g : FVec Ideal S2x16384x1024 .f32) (i : S2x16384x1024.Idx) : gate g i = gelu (g i) := by
  obtain ⟨b, s, k, rfl⟩ : ∃ (b : Fin 2) (s : Fin 16384) (k : Fin 1024), i = ix3 b s k := ⟨i 0, i 1, i 2, eq_ix3 i⟩
  unfold gelu
  rw [← mul_assoc (g (ix3 b s k)) (g (ix3 b s k))]
  pointwise [gate]

theorem gated_at (b : Fin 2) (s : Fin 16384) (k : Fin 1024) :
    gated rf rb gx (ix3 b s k) = (rf (ix3 b s k) + rb (ix3 b s k)) * gelu (gx (ix3 b s ⟨k.val, by omega⟩)) := by
  unfold gated
  refine congrArg (fun e => (rf (ix3 b s k) + rb (ix3 b s k)) * e) ((gate_at _ _).trans (congrArg gelu ?_))
  pointwise

theorem summed_at (a : FVec Ideal S2x16384x1024 .f32) (b : Fin 2) (s : Fin 16384) (k : Fin 2048) :
    summed x att w md a (ix3 b s k) = joined (x (ix3 b s k)) (md (ix2 b ⟨4096 + k.val, by have := k.isLt; omega⟩))
      (fun i => a (ix3 b s i)) (fun i => att (ix3 b s i)) (fun i => w (ix2 ⟨i.val, by omega⟩ k)) (fun i => w (ix2 ⟨1024 + i.val, by omega⟩ k)) := by
  have split : summed x att w md a (ix3 b s k) = x (ix3 b s k) + md (ix2 b ⟨4096 + k.val, by have := k.isLt; omega⟩)
      * ∑ q : Fin 2048, concatenate S2x16384x2048 2 [⟨S2x16384x1024, a⟩, ⟨S2x16384x1024, att⟩]
        concatenates_S2x16384x1024_S2x16384x1024_S2x16384x2048_d2 (ix3 b s q) * w (ix2 q k) := by
    pointwise [summed]
  rw [split, Fin.sum_univ_two_halves 1024 1024 rfl]
  unfold joined
  refine congrArg (fun e => x (ix3 b s k) + md (ix2 b ⟨4096 + k.val, by have := k.isLt; omega⟩) * e) (congrArg₂ (fun u v : EReal => u + v) ?_ ?_)
  · refine Finset.sum_congr rfl fun i _ => ?_
    pointwise
  · refine Finset.sum_congr rfl fun i _ => ?_
    pointwise

/-- The reference's result at row `R`, column `k`. -/
theorem out_at (R : Fin 32768) (k : Fin 2048) :
    out x rf rb gx att w md (ix2 R k) = result x rf rb gx att w md
      ⟨R.val / 16384, by have := R.isLt; omega⟩ ⟨R.val % 16384, Nat.mod_lt _ (by decide)⟩ k := by
  have split : ∀ v : FVec Ideal S2x16384x2048 .f32, shapeCast S32768x2048 v shapeCasts_S2x16384x2048_S32768x2048 (ix2 R k)
      = v (ix3 ⟨R.val / 16384, by have := R.isLt; omega⟩ ⟨R.val % 16384, Nat.mod_lt _ (by decide)⟩ k) := fun v => by
    pointwise
  refine (split _).trans ((summed_at _ _ _ _ _ _ _ k).trans ?_)
  unfold result
  congr 1
  funext i
  exact gated_at _ _ _ _ _ i

end Cert.Oab.Ref

end
-- ==== Proof.OabClaims.lean ====
/-
  The first layer's output projection claims: the frames of the kernel at both instances and of the reference, and that the kernel and
  the reference compute the same result over exact arithmetic.
-/
module

public import proofs.«01_k».proof.Defs
public import proofs.«01_k».proof.Proof.OabRef
public import proofs.«01_k».proof.Proof.Gen.Kernel6.Frame
public import Idealize.ShloMosaic.Adequacy
public import Idealize.ShloMosaic.Init

@[expose] public section

noncomputable section

namespace Cert.Oab

open Idealize.ShloMosaic Idealize.ShloMosaic.TcCoe Idealize.SL.Sem

theorem frame_kernel : Cert.quiescent_Kernel6 := fun m ρ _ => Cert.Kernel6.Gen.frame (F := Bits) m ρ

theorem frame_ideal : Cert.quiescent_Kernel6Ideal := fun m ρ _ => Cert.Kernel6Ideal.Gen.frame (F := Ideal) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference agree at every element of the result: both are `result` of the arguments. -/
theorem value : Cert.algebraic_Kernel6Ideal_Reference6Ideal := by
  intro m ρ m' ρ' _ hagree
  refine ⟨fun c => G8 m c, (θ_run Cert.Kernel6Ideal.defs _ _).mono (fun r h c => ⟨(h c).1.trans (arr_8 m c), (h c).2⟩)
    (Cert.Kernel6Ideal.Value.run_blocks (F := Ideal) m ρ), ?_⟩
  refine (θ_run Cert.Reference6Ideal.defs _ _).mono (fun r h c => ⟨(h c).1.trans ?_, (h c).2⟩)
    (Cert.Reference6Ideal.Value.run (F := Ideal) m' ρ')
  obtain ⟨e0, e1, e2, e3, e4, e5, e6⟩ := hagree c
  funext i
  obtain ⟨R, k, rfl⟩ : ∃ (R : Fin 32768) (k : Fin 2048), i = ix2 R k := ⟨i 0, i 1, eq_ix2 i⟩
  refine (Ref.out_at _ _ _ _ _ _ _ R k).trans ?_
  rw [e0, e1, e2, e3, e4, e5, e6]
  rfl

end Cert.Oab

end
-- ==== Proof.OcdGate.lean ====
/-
  The last layer's output projection's gated recurrence, at one element: each head of 128 lanes is normed by its own root mean square,
  weighted, and gated.
-/
module

public import proofs.«01_k».proof.Proof.OabValue
public import proofs.«01_k».proof.Proof.Gen.Kernel7Ideal.Value
public import Idealize.ShloMosaic.Lib.Pointwise

@[expose] public section

set_option maxRecDepth 16384

noncomputable section

namespace Cert.Ocd

open Cert.Ffn (off2 off4)
open Cert.Kernel7Ideal Cert.Kernel7Ideal.Gen Idealize.ShloMosaic Idealize.ShloMosaic.TcCoe Idealize.SL.Sem

/-- One lane of a head under its root-mean-square norm and weight. -/
def normed (v w : Fin 128 → EReal) (d : Fin 128) : EReal :=
  v d * Ideal.rsqrt (Ideal.div (∑ i, v i * v i) (Ideal.ofBits .f32 0x43000000#32) + Ideal.ofBits .f32 0x358637BD#32) * w d

/-- Lane `d` of head `h`. -/
abbrev lane (h : Fin 8) (d : Fin 128) : Fin 1024 := ⟨h.val * 128 + d.val, by omega⟩

/-- One lane of the normed recurrence under its gate. -/
def gated (o : Fin 1024 → EReal) (w : Fin 128 → EReal) (z : EReal) (h : Fin 8) (d : Fin 128) : EReal :=
  normed (fun e => o (lane h e)) w d * (z * Ideal.logistic z)

/-- What the kernel puts before its first product, from the two recurrences, the gate and the weights. -/
def before {F : FTy → Type} [FloatOps F] (a b z : Vec F S512x1024 .f32) (w : Vec F S1x128 .f32) : FVec F S512x1024 .bf16 :=
  k0_pay13 (k0_pay2 a b) (k0_pay3 z) (k0_pay4 a b w) (k0_pay5 a b w)
    (k0_pay8 (k0_pay6 a b) (k0_pay7 a b) (Scalar.ofBits .f32 0x43000000#32) w) (k0_pay9 (k0_pay2 a b) w) (k0_pay10 (k0_pay2 a b) w)
    (k0_pay11 (k0_pay2 a b)) (k0_pay12 (k0_pay2 a b)) (Scalar.ofBits .f32 0x43000000#32) w w w

theorem before_at (a b z : Vec Ideal S512x1024 .f32) (w : Vec Ideal S1x128 .f32) (r : Fin 512) (h : Fin 8) (d : Fin 128) :
    before a b z w (ix2 r (lane h d)) = gated (fun i => a (ix2 r i) + b (ix2 r i)) (fun i => w (ix2 0 i)) (z (ix2 r (lane h d))) h d := by
  have hd := d.isLt
  match h with
  | ⟨0, _⟩ =>
    pointwise [before, gated, normed, lane, k0_pay2, k0_pay3, k0_pay4, k0_pay5, k0_pay6, k0_pay7, k0_pay8, k0_pay9, k0_pay10, k0_pay11, k0_pay12, k0_pay13]
  | ⟨1, _⟩ =>
    pointwise [before, gated, normed, lane, k0_pay2, k0_pay3, k0_pay4, k0_pay5, k0_pay6, k0_pay7, k0_pay8, k0_pay9, k0_pay10, k0_pay11, k0_pay12, k0_pay13]
  | ⟨2, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_pos (by omega)]
    simp only [show 256 + d.val - 128 - 128 = d.val by omega]
  | ⟨3, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_neg (by omega), dif_pos (by omega)]
    simp only [show 384 + d.val - 128 - 128 - 128 = d.val by omega]
  | ⟨4, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_neg (by omega), dif_neg (by omega), dif_pos (by omega)]
    simp only [show 512 + d.val - 128 - 128 - 128 - 128 = d.val by omega]
  | ⟨5, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_neg (by omega), dif_neg (by omega), dif_neg (by omega), dif_pos (by omega)]
    simp only [show 640 + d.val - 128 - 128 - 128 - 128 - 128 = d.val by omega]
  | ⟨6, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_neg (by omega), dif_neg (by omega), dif_neg (by omega), dif_neg (by omega), dif_pos (by omega)]
    simp only [show 768 + d.val - 128 - 128 - 128 - 128 - 128 - 128 = d.val by omega]
  | ⟨7, _⟩ =>
    pointwise [before, gated, normed, lane, k0_pay2, k0_pay3, k0_pay4, k0_pay5, k0_pay6, k0_pay7, k0_pay8, k0_pay9, k0_pay10, k0_pay11, k0_pay12, k0_pay13]
    rw [dif_neg (by omega), dif_neg (by omega), dif_neg (by omega), dif_neg (by omega), dif_neg (by omega), dif_neg (by omega), dif_neg (by omega)]
    simp only [show 896 + d.val - 128 - 128 - 128 - 128 - 128 - 128 - 128 = d.val by omega]

end Cert.Ocd

end
-- ==== Proof.OcdValue.lean ====
/-
  What the last layer's output projection leaves in its result array, at one element, in terms of the arguments. Point `t` of the
  grid works on row block `t`, whole; the gated recurrence goes through the upper half of the weights, the attention through the lower.
-/
module

public import proofs.«01_k».proof.Proof.OcdGate

@[expose] public section

set_option maxRecDepth 16384

noncomputable section

namespace Cert.Ocd

open Cert.Ffn (off2 off4)
open Cert.Oab (joined)
open Cert.Kernel7Ideal Cert.Kernel7Ideal.Gen Idealize.ShloMosaic Idealize.ShloMosaic.TcCoe Idealize.SL.Sem

/-- The gated recurrence at column `i` of a row. -/
def column (o : Fin 1024 → EReal) (w : Fin 128 → EReal) (z : EReal) (i : Fin 1024) : EReal :=
  gated o w z ⟨i.val / 128, by omega⟩ ⟨i.val % 128, Nat.mod_lt _ (by decide)⟩

/-- The result at `(b, s, k)`. -/
def result (x : FVec Ideal ⟨3, ![2, 16384, 2048]⟩ .f32) (rf rb : FVec Ideal ⟨3, ![2, 16384, 1024]⟩ .f32)
    (z : FVec Ideal ⟨3, ![2, 16384, 5120]⟩ .f32) (att : FVec Ideal ⟨3, ![2, 16384, 1024]⟩ .f32) (nw : FVec Ideal ⟨1, ![128]⟩ .f32)
    (w : FVec Ideal ⟨2, ![2048, 2048]⟩ .f32) (md : FVec Ideal ⟨2, ![2, 12288]⟩ .f32) (b : Fin 2) (s : Fin 16384) (k : Fin 2048) : EReal :=
  joined (x (ix3 b s k)) (md (ix2 b ⟨4096 + k.val, by have := k.isLt; omega⟩))
    (fun i => column (fun e => rf (ix3 b s e) + rb (ix3 b s e)) (fun e => nw (ix1 e)) (z (ix3 b s ⟨4096 + i.val, by omega⟩)) i)
    (fun i => att (ix3 b s i)) (fun i => w (ix2 ⟨i.val, by omega⟩ k)) (fun i => w (ix2 ⟨1024 + i.val, by omega⟩ k))

theorem before_column (a b z : Vec Ideal S512x1024 .f32) (w : Vec Ideal S1x128 .f32) (r : Fin 512) (i : Fin 1024) :
    before a b z w (ix2 r i) = column (fun e => a (ix2 r e) + b (ix2 r e)) (fun e => w (ix2 0 e)) (z (ix2 r i)) i := by
  have e : i = lane ⟨i.val / 128, by omega⟩ ⟨i.val % 128, Nat.mod_lt _ (by decide)⟩ :=
    Fin.ext (by show i.val = i.val / 128 * 128 + i.val % 128; omega)
  have h := before_at a b z w r ⟨i.val / 128, by omega⟩ ⟨i.val % 128, Nat.mod_lt _ (by decide)⟩
  rw [← e] at h
  exact h

theorem pay_at (x : Vec Ideal S512x2048 .f32) (a : FVec Ideal S512x1024 .bf16) (att : Vec Ideal S512x1024 .bf16)
    (w : Vec Ideal S2048x2048 .bf16) (md : Vec Ideal S1x1x1x2048 .f32) (r : Fin 512) (k : Fin 2048) :
    k0_pay1 a (View.ld w r0_2) att (View.ld w r0_3) x md (ix2 r k)
      = joined (x (ix2 r k)) (md (ix4 0 0 0 k)) (fun i => a (ix2 r i)) (fun i => att (ix2 r i))
        (fun i => w (ix2 ⟨i.val, by omega⟩ k)) (fun i => w (ix2 ⟨1024 + i.val, by omega⟩ k)) := by
  pointwise [k0_pay1, Oab.joined]

theorem out_eq {F : FTy → Type} [FloatOps F] (x0 : Vec F S512x2048 .f32) (x1 x2 x3 : Vec F S512x1024 .f32) (x4 : Vec F S512x1024 .bf16)
    (x5 : Vec F S1x128 .f32) (x6 : Vec F S2048x2048 .bf16) (x7 : Vec F S1x1x1x2048 .f32) :
    out0_8 x0 x1 x2 x3 x4 x5 x6 x7 = k0_pay1 (before x1 x2 x3 x5) (View.ld x6 r0_2) x4 (View.ld x6 r0_3) x0 x7 := by
  unfold out0_8 k0_pay14
  rw [View.canon_unit_zero off2]
  simp only [View.ld_unit_zero (S := S512x1024) off2, View.ld_unit_zero (S := S512x2048) off2, View.ld_unit_zero (S := S1x1x1x2048) off4,
    View.ld_unit_zero (S := S1x128) off2]
  rfl

variable (m : (ℓ : Loc nD τ sig) → Buf (Elt Ideal) ℓ) (ρ : Dev nD → PrngReg) (c : Dev nD)

theorem places : ∀ t : Fin cfg0.N, win0_0.index t = ![t.val, 0] ∧ win0_1.index t = ![t.val, 0]
    ∧ win0_2.index t = ![t.val, 0] ∧ win0_3.index t = ![t.val, 4] ∧ win0_4.index t = ![t.val, 0]
    ∧ win0_5.index t = ![0, 0] ∧ win0_6.index t = ![0, 0] ∧ win0_7.index t = ![t.val / 32, 2, 0, 0] ∧ win0_8.index t = ![t.val, 0] :=
  (by decide +kernel : ∀ t : Fin grid0.N, _)

theorem point_lt (t : Fin cfg0.N) : t.val < 64 := lt_of_lt_of_eq t.isLt (show cfg0.N = 64 from N_0)

/-- The batch element of point `t`'s row block. -/
abbrev bat (t : Fin cfg0.N) : Fin 2 := ⟨t.val / 32, by have := point_lt t; omega⟩
/-- Row `r` of point `t`'s row block, within its batch element. -/
abbrev pos (t : Fin cfg0.N) (r : Fin 512) : Fin 16384 := ⟨(512 * t.val + r.val) % 16384, Nat.mod_lt _ (by decide)⟩

theorem x_at (t : Fin cfg0.N) (r : Fin 512) (k : Fin 2048) :
    iblk m c 0 t (ix2 r k) = m ((c : Thread nD τ).loc main_arg0) (ix3 (bat t) (pos t r) k) := by
  have := point_lt t
  obtain ⟨e, -⟩ := places t
  blk_ext! [iblk, V, e]

theorem rf_at (t : Fin cfg0.N) (r : Fin 512) (k : Fin 1024) :
    iblk m c 1 t (ix2 r k) = m ((c : Thread nD τ).loc main_arg1) (ix3 (bat t) (pos t r) k) := by
  have := point_lt t
  obtain ⟨-, e, -⟩ := places t
  blk_ext! [iblk, V, e]

theorem rb_at (t : Fin cfg0.N) (r : Fin 512) (k : Fin 1024) :
    iblk m c 2 t (ix2 r k) = m ((c : Thread nD τ).loc main_arg2) (ix3 (bat t) (pos t r) k) := by
  have := point_lt t
  obtain ⟨-, -, e, -⟩ := places t
  blk_ext! [iblk, V, e]

theorem z_at (t : Fin cfg0.N) (r : Fin 512) (k : Fin 1024) :
    iblk m c 3 t (ix2 r k) = m ((c : Thread nD τ).loc main_arg3) (ix3 (bat t) (pos t r) ⟨4096 + k.val, by omega⟩) := by
  have := point_lt t
  obtain ⟨-, -, -, e, -⟩ := places t
  blk_ext! [iblk, V, e]

theorem att_at (t : Fin cfg0.N) (r : Fin 512) (k : Fin 1024) :
    iblk m c 4 t (ix2 r k) = m ((c : Thread nD τ).loc main_arg4) (ix3 (bat t) (pos t r) k) := by
  have := point_lt t
  obtain ⟨-, -, -, -, e, -⟩ := places t
  blk_ext! [iblk, V, e]

theorem nw_at (t : Fin cfg0.N) (k : Fin 128) :
    iblk m c 5 t (ix2 0 k) = m ((c : Thread nD τ).loc main_arg5) (ix1 k) := by
  obtain ⟨-, -, -, -, -, e, -⟩ := places t
  blk_ext! [iblk, V, e]

theorem w_at (t : Fin cfg0.N) (i k : Fin 2048) :
    iblk m c 6 t (ix2 i k) = m ((c : Thread nD τ).loc main_arg6) (ix2 i k) := by
  obtain ⟨-, -, -, -, -, -, e, -⟩ := places t
  blk_ext! [iblk, V, e]

theorem md_at (t : Fin cfg0.N) (k : Fin 2048) :
    iblk m c 7 t (ix4 0 0 0 k) = m ((c : Thread nD τ).loc main_arg7) (ix2 (bat t) ⟨4096 + k.val, by have := k.isLt; omega⟩) := by
  have := point_lt t
  obtain ⟨-, -, -, -, -, -, -, e, -⟩ := places t
  blk_ext! [iblk, V, e]

/-- The result as an array of the memory. -/
def G8 : FVec Ideal S32768x2048 .f32 := fun z =>
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) ⟨(z 0).val / 16384, by have h : (z 0).val < 32768 := (z 0).isLt; omega⟩
    ⟨(z 0).val % 16384, Nat.mod_lt _ (by decide)⟩ (z 1)

theorem out_at (t : Fin cfg0.N) (r : Fin 512) (k : Fin 2048) :
    out0_8 (iblk m c 0 t) (iblk m c 1 t) (iblk m c 2 t) (iblk m c 3 t) (iblk m c 4 t) (iblk m c 5 t) (iblk m c 6 t) (iblk m c 7 t) (ix2 r k)
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (bat t) (pos t r) k := by
  rw [out_eq]
  refine (pay_at _ _ _ _ _ r k).trans ?_
  unfold result
  congr 1
  · exact x_at m c t r k
  · exact md_at m c t k
  · funext i
    refine (before_column _ _ _ _ r i).trans ?_
    congr 1
    · funext e; rw [rf_at, rb_at]
    · funext e; exact nw_at m c t e
    · exact z_at m c t r i
  · funext i; exact att_at m c t r i
  · funext i; exact w_at m c t _ k
  · funext i; exact w_at m c t _ k

theorem arr_8 : (dats m 0 c).arrAt 8 cfg0.N = G8 m c := by
  refine (dats m 0 c).arrAt_eq_of_covers 8 _ (by decide +kernel) fun t hf y => ?_
  have ht := point_lt t
  obtain ⟨-, -, -, -, -, -, -, -, p⟩ := places t
  blk_simp [p]
  rw [after0_8]
  obtain ⟨r, k, rfl⟩ : ∃ (r : Fin 512) (k : Fin 2048), y = ix2 r k := ⟨y 0, y 1, eq_ix2 y⟩
  have hr := r.isLt
  have hk := k.isLt
  have place : (win0_8.blk t).view.emb (ix2 r k) = ix2 ⟨t.val * 512 + r.val, by omega⟩ k := by
    blk_ext! [p]
  refine Eq.trans ?_ (congrArg (G8 m c) place.symm)
  refine (out_at m c t r k).trans ?_
  unfold G8
  congr 1
  · exact Fin.ext (by show t.val / 32 = (t.val * 512 + r.val) / 16384; omega)
  · exact Fin.ext (by show (512 * t.val + r.val) % 16384 = (t.val * 512 + r.val) % 16384; omega)

end Cert.Ocd

end
-- ==== Proof.OcdRef.lean ====
/-
  What the last layer's output projection reference's result holds at one element. Its composed term is read in stages: the normed heads,
  their gate, and the residual rows.
-/
module

public import proofs.«01_k».proof.Proof.OcdValue
public import proofs.«01_k».proof.Proof.Gen.Reference7Ideal.Run
public import Idealize.ShloMosaic.Lib.Pointwise

@[expose] public section

set_option maxRecDepth 16384

noncomputable section

namespace Cert.Ocd.Ref

open Cert.Oab (joined)
open Cert.Reference7Ideal Cert.Reference7Ideal.Gen Idealize.ShloMosaic Idealize.ShloMosaic.TcCoe Idealize.SL.Sem

variable (x : FVec Ideal S2x16384x2048 .f32) (rf rb : FVec Ideal S2x16384x1024 .f32) (z : FVec Ideal S2x16384x5120 .f32)
  (att : FVec Ideal S2x16384x1024 .f32) (nw : FVec Ideal S128 .f32) (w : FVec Ideal S2048x2048 .f32) (md : FVec Ideal S2x12288 .f32)

/-- The heads, each under its norm and the weight. -/
def heads (o : FVec Ideal S2x16384x8x128 .f32) : FVec Ideal S2x16384x8x128 .f32 :=
  mulf (mulf o (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf o o) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 nw))

/-- The gate. -/
def gate : FVec Ideal S2x16384x1024 .f32 :=
  mulf (extractStridedSlice S2x16384x1024 ![0, 0, 4096] z slices_S2x16384x5120_S2x16384x1024_0_0_4096) (Host.divf (broadcastInDim S2x16384x1024 ![] bcast_S_S2x16384x1024 (constant S_ .f32 0x3F800000#32)) (addf (broadcastInDim S2x16384x1024 ![] bcast_S_S2x16384x1024 (constant S_ .f32 0x3F800000#32)) (Host.exp (Host.negf (extractStridedSlice S2x16384x1024 ![0, 0, 4096] z slices_S2x16384x5120_S2x16384x1024_0_0_4096)))))

/-- The gated recurrence. -/
def before : FVec Ideal S2x16384x1024 .f32 :=
  mulf (shapeCast S2x16384x1024 (heads nw (shapeCast S2x16384x8x128 (addf rf rb) shapeCasts_S2x16384x1024_S2x16384x8x128)) shapeCasts_S2x16384x8x128_S2x16384x1024) (gate z)

/-- The residual rows, given the gated recurrence. -/
def summed (a : FVec Ideal S2x16384x1024 .f32) : FVec Ideal S2x16384x2048 .f32 :=
  addf x (mulf (broadcastInDim S2x16384x2048 ![0, 1, 2] bcast_S2x1x2048_S2x16384x2048_0_1_2 (extractStridedSlice S2x1x2048 ![0, 0, 4096] (broadcastInDim S2x1x12288 ![0, 2] bcast_S2x12288_S2x1x12288_0_2 md) slices_S2x1x12288_S2x1x2048_0_0_4096)) (Host.dotGeneral dot_S2x16384x2048_S2048x2048_S2x16384x2048_2_0_01_1_n_n none (concatenate S2x16384x2048 2 [⟨S2x16384x1024, a⟩, ⟨S2x16384x1024, att⟩] concatenates_S2x16384x1024_S2x16384x1024_S2x16384x2048_d2) w))

/-- The reference's result. -/
def out : FVec Ideal S32768x2048 .f32 :=
  shapeCast S32768x2048 (summed x att w md (before rf rb z nw)) shapeCasts_S2x16384x2048_S32768x2048

theorem gate_at (b : Fin 2) (s : Fin 16384) (k : Fin 1024) :
    gate z (ix3 b s k) = z (ix3 b s ⟨4096 + k.val, by omega⟩) * Ideal.logistic (z (ix3 b s ⟨4096 + k.val, by omega⟩)) := by
  pointwise [gate, Ideal.logistic]

theorem heads_at (o : FVec Ideal S2x16384x8x128 .f32) (b : Fin 2) (s : Fin 16384) (h : Fin 8) (d : Fin 128) :
    heads nw o (ix4 b s h d) = normed (fun e => o (ix4 b s h e)) (fun e => nw (ix1 e)) d := by
  pointwise [heads, normed]

theorem split_at (o : FVec Ideal S2x16384x1024 .f32) (b : Fin 2) (s : Fin 16384) (h : Fin 8) (d : Fin 128) :
    shapeCast S2x16384x8x128 o shapeCasts_S2x16384x1024_S2x16384x8x128 (ix4 b s h d) = o (ix3 b s (lane h d)) := by
  pointwise

theorem merge_at (o : FVec Ideal S2x16384x8x128 .f32) (b : Fin 2) (s : Fin 16384) (i : Fin 1024) :
    shapeCast S2x16384x1024 o shapeCasts_S2x16384x8x128_S2x16384x1024 (ix3 b s i)
      = o (ix4 b s ⟨i.val / 128, by omega⟩ ⟨i.val % 128, Nat.mod_lt _ (by decide)⟩) := by
  pointwise

theorem before_at (b : Fin 2) (s : Fin 16384) (i : Fin 1024) :
    before rf rb z nw (ix3 b s i) = column (fun e => rf (ix3 b s e) + rb (ix3 b s e)) (fun e => nw (ix1 e)) (z (ix3 b s ⟨4096 + i.val, by omega⟩)) i := by
  unfold before column gated
  refine congrArg₂ (fun u v : EReal => u * v) ?_ (gate_at z b s i)
  refine (merge_at _ b s i).trans ((heads_at _ _ b s _ _).trans ?_)
  congr 1
  funext e
  exact split_at _ b s _ e

theorem summed_at (a : FVec Ideal S2x16384x1024 .f32) (b : Fin 2) (s : Fin 16384) (k : Fin 2048) :
    summed x att w md a (ix3 b s k) = joined (x (ix3 b s k)) (md (ix2 b ⟨4096 + k.val, by have := k.isLt; omega⟩))
      (fun i => a (ix3 b s i)) (fun i => att (ix3 b s i)) (fun i => w (ix2 ⟨i.val, by omega⟩ k)) (fun i => w (ix2 ⟨1024 + i.val, by omega⟩ k)) := by
  have split : summed x att w md a (ix3 b s k) = x (ix3 b s k) + md (ix2 b ⟨4096 + k.val, by have := k.isLt; omega⟩)
      * ∑ q : Fin 2048, concatenate S2x16384x2048 2 [⟨S2x16384x1024, a⟩, ⟨S2x16384x1024, att⟩]
        concatenates_S2x16384x1024_S2x16384x1024_S2x16384x2048_d2 (ix3 b s q) * w (ix2 q k) := by
    pointwise [summed]
  rw [split, Fin.sum_univ_two_halves 1024 1024 rfl]
  unfold Oab.joined
  refine congrArg (fun e => x (ix3 b s k) + md (ix2 b ⟨4096 + k.val, by have := k.isLt; omega⟩) * e) (congrArg₂ (fun u v : EReal => u + v) ?_ ?_)
  · refine Finset.sum_congr rfl fun i _ => ?_
    pointwise
  · refine Finset.sum_congr rfl fun i _ => ?_
    pointwise

/-- The reference's result at row `R`, column `k`. -/
theorem out_at (R : Fin 32768) (k : Fin 2048) :
    out x rf rb z att nw w md (ix2 R k) = result x rf rb z att nw w md
      ⟨R.val / 16384, by have := R.isLt; omega⟩ ⟨R.val % 16384, Nat.mod_lt _ (by decide)⟩ k := by
  have split : ∀ v : FVec Ideal S2x16384x2048 .f32, shapeCast S32768x2048 v shapeCasts_S2x16384x2048_S32768x2048 (ix2 R k)
      = v (ix3 ⟨R.val / 16384, by have := R.isLt; omega⟩ ⟨R.val % 16384, Nat.mod_lt _ (by decide)⟩ k) := fun v => by
    pointwise
  refine (split _).trans ((summed_at _ _ _ _ _ _ _ k).trans ?_)
  unfold result
  congr 1
  funext i
  exact before_at _ _ _ _ _ _ i

end Cert.Ocd.Ref

end
-- ==== Proof.OcdClaims.lean ====
/-
  The last layer's output projection claims: the frames of the kernel at both instances and of the reference, and that the kernel and
  the reference compute the same result over exact arithmetic.
-/
module

public import proofs.«01_k».proof.Defs
public import proofs.«01_k».proof.Proof.OcdRef
public import proofs.«01_k».proof.Proof.Gen.Kernel7.Frame
public import Idealize.ShloMosaic.Adequacy
public import Idealize.ShloMosaic.Init

@[expose] public section

noncomputable section

namespace Cert.Ocd

open Idealize.ShloMosaic Idealize.ShloMosaic.TcCoe Idealize.SL.Sem

theorem frame_kernel : Cert.quiescent_Kernel7 := fun m ρ _ => Cert.Kernel7.Gen.frame (F := Bits) m ρ

theorem frame_ideal : Cert.quiescent_Kernel7Ideal := fun m ρ _ => Cert.Kernel7Ideal.Gen.frame (F := Ideal) m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference agree at every element of the result: both are `result` of the arguments. -/
theorem value : Cert.algebraic_Kernel7Ideal_Reference7Ideal := by
  intro m ρ m' ρ' _ hagree
  refine ⟨fun c => G8 m c, (θ_run Cert.Kernel7Ideal.defs _ _).mono (fun r h c => ⟨(h c).1.trans (arr_8 m c), (h c).2⟩)
    (Cert.Kernel7Ideal.Value.run_blocks (F := Ideal) m ρ), ?_⟩
  refine (θ_run Cert.Reference7Ideal.defs _ _).mono (fun r h c => ⟨(h c).1.trans ?_, (h c).2⟩)
    (Cert.Reference7Ideal.Value.run (F := Ideal) m' ρ')
  obtain ⟨e0, e1, e2, e3, e4, e5, e6, e7⟩ := hagree c
  funext i
  obtain ⟨R, k, rfl⟩ : ∃ (R : Fin 32768) (k : Fin 2048), i = ix2 R k := ⟨i 0, i 1, eq_ix2 i⟩
  refine (Ref.out_at _ _ _ _ _ _ _ _ R k).trans ?_
  rw [e0, e1, e2, e3, e4, e5, e6, e7]
  rfl

end Cert.Ocd

end
-- ==== Proof.RotTables.lean ====
/-
  The rotary projection's tables at one element: the cosines repeated over the four quarters of a head's 128 lanes, and the sines with
  their sign in the first half of each 64 lanes or the second, zero elsewhere.
-/
module

public import proofs.«01_k».proof.Proof.FirValue
public import proofs.«01_k».proof.Proof.Gen.Kernel8Ideal.Value
public import Idealize.ShloMosaic.Lib.Pointwise
public import Idealize.ShloMosaic.Lib.Pipeline.ValueKit

@[expose] public section

set_option maxRecDepth 16384

noncomputable section

namespace Cert.Rot

open Cert.Kernel8Ideal Cert.Kernel8Ideal.Gen Idealize.ShloMosaic Idealize.ShloMosaic.TcCoe Idealize.SL.Sem

/-- Two halves of 32 lanes side by side. -/
def side (a b : FVec Ideal S16384x32 .f32) : FVec Ideal S16384x64 .f32 :=
  concatenate S16384x64 1 [⟨S16384x32, a⟩, ⟨S16384x32, b⟩] concatenates_S16384x32_S16384x32_S16384x64_d1

/-- A table of 64 lanes, twice over, as one row block for the queries and one for the keys. -/
def table (y : FVec Ideal S16384x64 .f32) : FVec Ideal S2x16384x128 .f32 :=
  concatenate S2x16384x128 0 [⟨S1x16384x128, (broadcastInDim S1x16384x128 ![1, 2] bcast_S16384x128_S1x16384x128_1_2 (shapeCast S16384x128 (broadcastInDim S1x16384x2x64 ![0, 1, 2, 3] bcast_S1x16384x1x64_S1x16384x2x64_0_1_2_3 (shapeCast S1x16384x1x64 y shapeCasts_S16384x64_S1x16384x1x64)) shapeCasts_S1x16384x2x64_S16384x128))⟩,
    ⟨S1x16384x128, (broadcastInDim S1x16384x128 ![1, 2] bcast_S16384x128_S1x16384x128_1_2 (shapeCast S16384x128 (broadcastInDim S1x16384x2x64 ![0, 1, 2, 3] bcast_S1x16384x1x64_S1x16384x2x64_0_1_2_3 (shapeCast S1x16384x1x64 y shapeCasts_S16384x64_S1x16384x1x64)) shapeCasts_S1x16384x2x64_S16384x128))⟩]
    concatenates_S1x16384x128_S1x16384x128_S2x16384x128_d0

/-- The zero half. -/
def zeros : FVec Ideal S16384x32 .f32 := broadcastInDim S16384x32 ![] bcast_S_S16384x32 (constant S_ .f32 0x00000000#32)

theorem table_at (y : FVec Ideal S16384x64 .f32) (b : Fin 2) (s : Fin 16384) (d : Fin 128) :
    table y (ix3 b s d) = y (ix2 s ⟨d.val % 64, by omega⟩) := by
  match b with
  | ⟨0, _⟩ => pointwise [table]
  | ⟨1, _⟩ => pointwise [table]

theorem side_at (a b : FVec Ideal S16384x32 .f32) (s : Fin 16384) (d : Fin 64) :
    side a b (ix2 s d) = if d.val < 32 then a (ix2 s ⟨d.val % 32, by omega⟩) else b (ix2 s ⟨d.val % 32, by omega⟩) := by
  pointwise [side]
  by_cases h : d.val < 32
  · rw [dif_pos h, if_pos h]
    simp only [Nat.mod_eq_of_lt h]
  · rw [dif_neg h, if_neg h]
    simp only [show d.val % 32 = d.val - 32 by omega]

theorem zeros_at (i : S16384x32.Idx) : zeros i = 0 := by
  pointwise [zeros]

variable (m : (ℓ : Loc nD τ sig) → Buf (Elt Ideal) ℓ) (c : Dev nD)

/-- The given cosines. -/
abbrev cosines : FVec Ideal S16384x32 .f32 := m ((c : Thread nD τ).loc main_arg2)
/-- The given sines. -/
abbrev sines : FVec Ideal S16384x32 .f32 := m ((c : Thread nD τ).loc main_arg3)

theorem V_cos : V m c main_v16 = table (side (cosines m c) (cosines m c)) := by
  unfold_abbrev_sides
  after_results <;> rfl

theorem V_minus : V m c main_v19 = table (side (Host.negf (sines m c)) zeros) := by
  unfold_abbrev_sides
  after_results <;> rfl

theorem V_plus : V m c main_v22 = table (side zeros (sines m c)) := by
  unfold_abbrev_sides
  after_results <;> rfl

theorem places : ∀ t : Fin cfg0.N, win0_0.index t = ![t.val / 2, 0] ∧ win0_1.index t = ![0, 2 + t.val % 2]
    ∧ win0_2.index t = ![t.val % 2, t.val / 2 % 16, 0] ∧ win0_3.index t = ![t.val % 2, t.val / 2 % 16, 0]
    ∧ win0_4.index t = ![t.val % 2, t.val / 2 % 16, 0] ∧ win0_5.index t = ![t.val / 2, t.val % 2] :=
  (by decide +kernel : ∀ t : Fin grid0.N, _)

theorem point_lt (t : Fin cfg0.N) : t.val < 64 := lt_of_lt_of_eq t.isLt (show cfg0.N = 64 from N_0)

variable (t : Fin cfg0.N) (r : Fin 1024)

/-- Row `r` of point `t`'s row block, within its batch element. -/
abbrev pos : Fin 16384 := ⟨(1024 * (t.val / 2) + r.val) % 16384, Nat.mod_lt _ (by decide)⟩

/-- The cosine block at a lane. -/
theorem cos_at (d : Fin 128) :
    (iblk m c 2 t (ix3 0 r d) : EReal) = cosines m c (ix2 (pos t r) ⟨d.val % 32, by omega⟩) := by
  have := point_lt t
  obtain ⟨-, -, e, -⟩ := places t
  have h : iblk m c 2 t (ix3 0 r d) = V m c main_v16 (ix3 ⟨t.val % 2, by omega⟩ (pos t r) d) := by
    unfold iblk
    blk_ext! [e]
  rw [h, V_cos, table_at, side_at]
  simp only [show d.val % 64 % 32 = d.val % 32 by omega, ite_self]

/-- The first half's sine block at a lane: minus the sine in the first 32 of each 64 lanes. -/
theorem minus_at (d : Fin 128) :
    (iblk m c 3 t (ix3 0 r d) : EReal) = if d.val % 64 < 32 then -sines m c (ix2 (pos t r) ⟨d.val % 32, by omega⟩) else 0 := by
  have := point_lt t
  obtain ⟨-, -, -, e, -⟩ := places t
  have h : iblk m c 3 t (ix3 0 r d) = V m c main_v19 (ix3 ⟨t.val % 2, by omega⟩ (pos t r) d) := by
    unfold iblk
    blk_ext! [e]
  rw [h, V_minus, table_at, side_at]
  simp only [show d.val % 64 % 32 = d.val % 32 by omega, zeros_at]
  rfl

/-- The second half's sine block at a lane: the sine in the last 32 of each 64 lanes. -/
theorem plus_at (d : Fin 128) :
    (iblk m c 4 t (ix3 0 r d) : EReal) = if d.val % 64 < 32 then 0 else sines m c (ix2 (pos t r) ⟨d.val % 32, by omega⟩) := by
  have := point_lt t
  obtain ⟨-, -, -, -, e, -⟩ := places t
  have h : iblk m c 4 t (ix3 0 r d) = V m c main_v22 (ix3 ⟨t.val % 2, by omega⟩ (pos t r) d) := by
    unfold iblk
    blk_ext! [e]
  rw [h, V_plus, table_at, side_at]
  simp only [show d.val % 64 % 32 = d.val % 32 by omega, zeros_at]

end Cert.Rot

end
-- ==== Proof.RotBlock.lean ====
/-
  What the rotary projection's block holds at one element: the product's strip of 128 columns, times the cosines, plus the strip turned
  by 32 lanes either way times the two sine tables.
-/
module

public import proofs.«01_k».proof.Proof.RotTables

@[expose] public section

set_option maxRecDepth 16384

noncomputable section

namespace Cert.Rot

open Cert.Ffn (off2)
open Cert.Kernel8Ideal Cert.Kernel8Ideal.Gen Idealize.ShloMosaic Idealize.ShloMosaic.TcCoe Idealize.SL.Sem

/-- Strip `h` of a block at row `r`, lane `d`, from the product and the three tables. -/
def turned (v : FVec Ideal S1024x1024 .f32) (x2 x3 x4 : Vec Ideal S1x1024x128 .f32) (r : Fin 1024) (h : Fin 8) (d : Fin 128) : EReal :=
  v (ix2 r ⟨128 * h.val + d.val, by omega⟩) * x2 (ix3 0 r d)
    + v (ix2 r ⟨128 * h.val + (d.val + 128 - 96) % 128, by omega⟩) * x3 (ix3 0 r d)
    + v (ix2 r ⟨128 * h.val + (d.val + 128 - 32) % 128, by omega⟩) * x4 (ix3 0 r d)

theorem strip_0 (x0 : Vec Ideal S1024x2048 .bf16) (x1 : Vec Ideal S2048x1024 .bf16) (x2 x3 x4 : Vec Ideal S1x1024x128 .f32) (r : Fin 1024)
    (d : Fin 128) : k0_pay3 x0 x1 x2 x3 x4 (ix2 r d) = turned (k0_pay2 x0 x1) x2 x3 x4 r 0 d := by
  unfold k0_pay3
  generalize k0_pay2 x0 x1 = v
  pointwise [turned]

theorem strip_1 (x0 : Vec Ideal S1024x2048 .bf16) (x1 : Vec Ideal S2048x1024 .bf16) (x2 x3 x4 : Vec Ideal S1x1024x128 .f32) (r : Fin 1024)
    (d : Fin 128) : k0_pay7 (k0_pay5 x0 x1 x2 x3) (k0_pay6 x0 x1) x4 (ix2 r d) = turned (k0_pay2 x0 x1) x2 x3 x4 r 1 d := by
  unfold k0_pay7 k0_pay5 k0_pay6 k0_pay4
  generalize k0_pay2 x0 x1 = v
  pointwise [turned]

theorem strip_2 (v : FVec Ideal S1024x1024 .f32) (x2 x3 x4 : Vec Ideal S1x1024x128 .f32) (r : Fin 1024) (d : Fin 128) :
    k0_pay8 v x2 x3 x4 (ix2 r d) = turned v x2 x3 x4 r 2 d := by
  pointwise [turned, k0_pay8]

theorem strip_3 (v : FVec Ideal S1024x1024 .f32) (x2 x3 x4 : Vec Ideal S1x1024x128 .f32) (r : Fin 1024) (d : Fin 128) :
    k0_pay12 (k0_pay10 v x2 x3) (k0_pay11 v) x4 (ix2 r d) = turned v x2 x3 x4 r 3 d := by
  pointwise [turned, k0_pay9, k0_pay10, k0_pay11, k0_pay12]

theorem strip_4 (v : FVec Ideal S1024x1024 .f32) (x2 x3 x4 : Vec Ideal S1x1024x128 .f32) (r : Fin 1024) (d : Fin 128) :
    k0_pay13 v x2 x3 x4 (ix2 r d) = turned v x2 x3 x4 r 4 d := by
  pointwise [turned, k0_pay13]

theorem strip_5 (v : FVec Ideal S1024x1024 .f32) (x2 x3 x4 : Vec Ideal S1x1024x128 .f32) (r : Fin 1024) (d : Fin 128) :
    k0_pay17 (k0_pay15 v x2 x3) (k0_pay16 v) x4 (ix2 r d) = turned v x2 x3 x4 r 5 d := by
  pointwise [turned, k0_pay14, k0_pay15, k0_pay16, k0_pay17]

theorem strip_6 (v : FVec Ideal S1024x1024 .f32) (x2 x3 x4 : Vec Ideal S1x1024x128 .f32) (r : Fin 1024) (d : Fin 128) :
    k0_pay18 v x2 x3 x4 (ix2 r d) = turned v x2 x3 x4 r 6 d := by
  pointwise [turned, k0_pay18]

theorem strip_7 (v : FVec Ideal S1024x1024 .f32) (x2 x3 x4 : Vec Ideal S1x1024x128 .f32) (r : Fin 1024) (d : Fin 128) :
    k0_pay1 (k0_pay20 v x2 x3) (k0_pay21 v) x4 (ix2 r d) = turned v x2 x3 x4 r 7 d := by
  pointwise [turned, k0_pay19, k0_pay20, k0_pay21, k0_pay1]

/-- The block from the product and the tables. -/
def whole (v : FVec Ideal S1024x1024 .f32) (x2 x3 x4 : Vec Ideal S1x1024x128 .f32) : Vec Ideal S1024x1024 .bf16 := fun y =>
  turned v x2 x3 x4 (y 0) ⟨(y 1).val / 128, by have h : (y 1).val < 1024 := (y 1).isLt; omega⟩ ⟨(y 1).val % 128, Nat.mod_lt _ (by decide)⟩

theorem piece_at (v : FVec Ideal S1024x1024 .f32) (x2 x3 x4 : Vec Ideal S1x1024x128 .f32) (h : Fin 8) (o : ℕ) (ho : 128 * h.val = o)
    (h' : ∀ a, (![0, o] : Fin 2 → ℕ) a + S1024x128.size a ≤ S1024x1024.size a) (p : Vec Ideal S1024x128 .bf16)
    (hp : ∀ (r : Fin 1024) (d : Fin 128), p (ix2 r d) = turned v x2 x3 x4 r h d) (x : S1024x128.Idx) :
    p x = whole v x2 x3 x4 ((Rect.unit (s := S1024x1024) ![0, o] S1024x128.size h').idx x) := by
  obtain ⟨r, d, rfl⟩ : ∃ (r : Fin 1024) (d : Fin 128), x = ix2 r d := ⟨x 0, x 1, eq_ix2 x⟩
  rw [hp]
  unfold whole
  congr 1
  · exact Fin.ext (by show r.val = 0 + 1 * r.val; omega)
  · exact Fin.ext (by show h.val = (o + 1 * d.val) / 128; omega)
  · exact Fin.ext (by show d.val = (o + 1 * d.val) % 128; omega)

theorem off3 : (![0, 0, 0] : Fin 3 → ℕ) = fun _ => 0 := by funext a; match a with | ⟨0, _⟩ => rfl | ⟨1, _⟩ => rfl | ⟨2, _⟩ => rfl

theorem block_eq (x0 : Vec Ideal S1024x2048 .bf16) (x1 : Vec Ideal S2048x1024 .bf16) (x2 x3 x4 : Vec Ideal S1x1024x128 .f32) :
    out0_5 x0 x1 x2 x3 x4 = whole (k0_pay2 x0 x1) x2 x3 x4 := by
  funext y
  unfold out0_5 k0_pay22
  have e0 : View.ld x0 r0_0 = x0 := View.ld_unit_zero (S := S1024x2048) off2 _ x0
  have e1 : View.ld x1 r0_1 = x1 := View.ld_unit_zero (S := S2048x1024) off2 _ x1
  have e2 : ∀ x : Vec Ideal S1x1024x128 .f32, View.ld x r0_2 = x := fun x => View.ld_unit_zero (S := S1x1024x128) off3 _ x
  rw [e0, e1, e2 x2, e2 x3, e2 x4]
  refine View.canon_apply_of_pieces (whole (k0_pay2 x0 x1) x2 x3 x4) _ ?_ y (cover0_5 _ _ _ _ _ _ _ _ y)
  intro pc hpc
  simp only [List.mem_cons, List.not_mem_nil, or_false] at hpc
  rcases hpc with rfl | rfl | rfl | rfl | rfl | rfl | rfl | rfl
  · exact fun x => piece_at (k0_pay2 x0 x1) x2 x3 x4 7 896 rfl inb_S1024x1024_S1024x128_0_896 _ (strip_7 (k0_pay2 x0 x1) x2 x3 x4) x
  · exact fun x => piece_at (k0_pay2 x0 x1) x2 x3 x4 6 768 rfl inb_S1024x1024_S1024x128_0_768 _ (strip_6 (k0_pay2 x0 x1) x2 x3 x4) x
  · exact fun x => piece_at (k0_pay2 x0 x1) x2 x3 x4 5 640 rfl inb_S1024x1024_S1024x128_0_640 _ (strip_5 (k0_pay2 x0 x1) x2 x3 x4) x
  · exact fun x => piece_at (k0_pay2 x0 x1) x2 x3 x4 4 512 rfl inb_S1024x1024_S1024x128_0_512 _ (strip_4 (k0_pay2 x0 x1) x2 x3 x4) x
  · exact fun x => piece_at (k0_pay2 x0 x1) x2 x3 x4 3 384 rfl inb_S1024x1024_S1024x128_0_384 _ (strip_3 (k0_pay2 x0 x1) x2 x3 x4) x
  · exact fun x => piece_at (k0_pay2 x0 x1) x2 x3 x4 2 256 rfl inb_S1024x1024_S1024x128_0_256 _ (strip_2 (k0_pay2 x0 x1) x2 x3 x4) x
  · exact fun x => piece_at (k0_pay2 x0 x1) x2 x3 x4 1 128 rfl inb_S1024x1024_S1024x128_0_128 _ (strip_1 x0 x1 x2 x3 x4) x
  · exact fun x => piece_at (k0_pay2 x0 x1) x2 x3 x4 0 0 rfl inb_S1024x1024_S1024x128_0_0 _ (strip_0 x0 x1 x2 x3 x4) x

theorem product_at (x : Vec Ideal S1024x2048 .bf16) (w : Vec Ideal S2048x1024 .bf16) (r q : Fin 1024) :
    k0_pay2 x w (ix2 r q) = ∑ i : Fin 2048, x (ix2 r i) * w (ix2 i q) := by
  pointwise [k0_pay2]

end Cert.Rot

end
-- ==== Proof.RotResult.lean ====
/-
  The even layer's query and key projection at one element, and the kernel's turned strips as a rotation of the lanes' two halves.
-/
module

public import proofs.«01_k».proof.Proof.RotBlock

@[expose] public section

set_option maxRecDepth 16384

noncomputable section

namespace Cert.Rot

open Idealize.ShloMosaic

/-- The rotation of a row of 64-lane halves: in each 64 lanes the first 32 are paired with the last 32. -/
def rotated (z : Fin 2048 → EReal) (co si : Fin 32 → EReal) (k : Fin 2048) : EReal :=
  if h : k.val % 64 < 32 then z k * co ⟨k.val % 64, h⟩ - z ⟨k.val + 32, by omega⟩ * si ⟨k.val % 64, h⟩
  else z k * co ⟨k.val % 64 - 32, by omega⟩ + z ⟨k.val - 32, by omega⟩ * si ⟨k.val % 64 - 32, by omega⟩

/-- The result at `(b, s, k)`: the query and key columns of the product, rotated. -/
def result (h : FVec Ideal ⟨3, ![2, 16384, 2048]⟩ .f32) (w : FVec Ideal ⟨2, ![2048, 5120]⟩ .f32) (co si : FVec Ideal ⟨2, ![16384, 32]⟩ .f32)
    (b : Fin 2) (s : Fin 16384) (k : Fin 2048) : EReal :=
  rotated (fun j => ∑ i : Fin 2048, h (ix3 b s i) * w (ix2 i ⟨2048 + j.val, by omega⟩)) (fun e => co (ix2 s e)) (fun e => si (ix2 s e)) k

/-- A turned strip is the rotation: one of the two sine tables is 0 at every lane, and the other pairs the lane with its partner. -/
theorem turned_eq (z : Fin 2048 → EReal) (co si : Fin 32 → EReal) (p : Fin 16) (d : Fin 128) (v : Fin 128 → EReal) (x2 x3 x4 : EReal)
    (hv : ∀ e : Fin 128, v e = z ⟨128 * p.val + e.val, by omega⟩) (h2 : x2 = co ⟨d.val % 32, by omega⟩)
    (h3 : x3 = if d.val % 64 < 32 then -si ⟨d.val % 32, by omega⟩ else 0)
    (h4 : x4 = if d.val % 64 < 32 then 0 else si ⟨d.val % 32, by omega⟩) :
    v d * x2 + v ⟨(d.val + 128 - 96) % 128, by omega⟩ * x3 + v ⟨(d.val + 128 - 32) % 128, by omega⟩ * x4
      = rotated z co si ⟨128 * p.val + d.val, by omega⟩ := by
  subst h2 h3 h4
  rw [hv, hv, hv]
  unfold rotated
  by_cases h : d.val % 64 < 32
  · rw [if_pos h, if_pos h, dif_pos (show (128 * p.val + d.val) % 64 < 32 by omega), mul_zero, add_zero, mul_neg, ← sub_eq_add_neg]
    simp only [show 128 * p.val + (d.val + 128 - 96) % 128 = 128 * p.val + d.val + 32 by omega,
      show d.val % 32 = (128 * p.val + d.val) % 64 by omega]
  · rw [if_neg h, if_neg h, dif_neg (show ¬(128 * p.val + d.val) % 64 < 32 by omega), mul_zero, add_zero]
    simp only [show 128 * p.val + (d.val + 128 - 32) % 128 = 128 * p.val + d.val - 32 by omega,
      show d.val % 32 = (128 * p.val + d.val) % 64 - 32 by omega]

end Cert.Rot

end
-- ==== Proof.RotRef.lean ====
/-
  What the rotary projection's reference's result holds at one element.
-/
module

public import proofs.«01_k».proof.Proof.RotResult
public import proofs.«01_k».proof.Proof.Gen.Reference8Ideal.Run
public import Idealize.ShloMosaic.Lib.Pointwise

@[expose] public section

set_option maxRecDepth 16384

noncomputable section

namespace Cert.Rot.Ref

open Cert.Reference8Ideal Cert.Reference8Ideal.Gen Idealize.ShloMosaic Idealize.ShloMosaic.TcCoe Idealize.SL.Sem

variable (h : FVec Ideal S2x16384x2048 .f32) (w : FVec Ideal S2048x5120 .f32) (co si : FVec Ideal S16384x32 .f32)

/-- The product with the input weights. -/
def product : FVec Ideal S2x16384x5120 .f32 :=
  Host.dotGeneral dot_S2x16384x2048_S2048x5120_S2x16384x5120_2_0_01_1_n_n none h w

theorem product_at (b : Fin 2) (s : Fin 16384) (k : Fin 5120) :
    product h w (ix3 b s k) = ∑ i : Fin 2048, h (ix3 b s i) * w (ix2 i k) := by
  pointwise [product]

/-- A table of 32 lanes at every head and half. -/
def spread : FVec Ideal S2x16384x8x2x32 .f32 :=
  broadcastInDim S2x16384x8x2x32 ![0, 1, 2, 3, 4] bcast_S1x16384x1x1x32_S2x16384x8x2x32_0_1_2_3_4 (broadcastInDim S1x16384x1x1x32 ![1, 2, 3, 4] bcast_S16384x1x1x32_S1x16384x1x1x32_1_2_3_4 (broadcastInDim S16384x1x1x32 ![0, 3] bcast_S16384x32_S16384x1x1x32_0_3 co))

/-- The rotation of the lanes' two halves. -/
def rotation (y : FVec Ideal S2x16384x8x2x64 .f32) : FVec Ideal S2x16384x8x2x64 .f32 :=
  concatenate S2x16384x8x2x64 4 [⟨S2x16384x8x2x32, (subf (mulf (extractStridedSlice S2x16384x8x2x32 ![0, 0, 0, 0, 0] y slices_S2x16384x8x2x64_S2x16384x8x2x32_0_0_0_0_0) (spread co)) (mulf (extractStridedSlice S2x16384x8x2x32 ![0, 0, 0, 0, 32] y slices_S2x16384x8x2x64_S2x16384x8x2x32_0_0_0_0_32) (spread si)))⟩, ⟨S2x16384x8x2x32, (addf (mulf (extractStridedSlice S2x16384x8x2x32 ![0, 0, 0, 0, 32] y slices_S2x16384x8x2x64_S2x16384x8x2x32_0_0_0_0_32) (spread co)) (mulf (extractStridedSlice S2x16384x8x2x32 ![0, 0, 0, 0, 0] y slices_S2x16384x8x2x64_S2x16384x8x2x32_0_0_0_0_0) (spread si)))⟩] concatenates_S2x16384x8x2x32_S2x16384x8x2x32_S2x16384x8x2x64_d4

/-- The queries: columns 2048 to 3071, rotated. -/
def queries : FVec Ideal S32768x1024 .f32 :=
  shapeCast _ (rotation co si (shapeCast _ (extractStridedSlice S2x16384x1024 ![0, 0, 2048] (product h w) slices_S2x16384x5120_S2x16384x1024_0_0_2048) shapeCasts_S2x16384x1024_S2x16384x8x2x64)) shapeCasts_S2x16384x8x2x64_S32768x1024

/-- The keys: columns 3072 to 4095, rotated. -/
def keys : FVec Ideal S32768x1024 .f32 :=
  shapeCast _ (rotation co si (shapeCast _ (extractStridedSlice S2x16384x1024 ![0, 0, 3072] (product h w) slices_S2x16384x5120_S2x16384x1024_0_0_3072) shapeCasts_S2x16384x1024_S2x16384x8x2x64)) shapeCasts_S2x16384x8x2x64_S32768x1024

/-- The reference's result. -/
def out : FVec Ideal S32768x2048 .bf16 :=
  truncf .bf16 (concatenate S32768x2048 1 [⟨S32768x1024, queries h w co si⟩, ⟨S32768x1024, keys h w co si⟩] concatenates_S32768x1024_S32768x1024_S32768x2048_d1) bitsLt_bf16_f32

theorem res_eq (m : (ℓ : Loc nD τ sig) → Buf (Elt Ideal) ℓ) (c : Dev nD) :
    Value.res_main_v46 m c = out (m ((c.tc : Thread nD τ).loc main_arg0)) (m ((c.tc : Thread nD τ).loc main_arg1))
      (m ((c.tc : Thread nD τ).loc main_arg2)) (m ((c.tc : Thread nD τ).loc main_arg3)) := rfl

theorem rotation_at (y : FVec Ideal S2x16384x8x2x64 .f32) (b : Fin 2) (s : Fin 16384) (p : Fin 8) (j : Fin 2) (e : Fin 64) :
    rotation co si y (ix5 b s p j e)
      = if h : e.val < 32 then y (ix5 b s p j e) * co (ix2 s ⟨e.val, h⟩) - y (ix5 b s p j ⟨e.val + 32, by omega⟩) * si (ix2 s ⟨e.val, h⟩)
        else y (ix5 b s p j e) * co (ix2 s ⟨e.val - 32, by omega⟩) + y (ix5 b s p j ⟨e.val - 32, by omega⟩) * si (ix2 s ⟨e.val - 32, by omega⟩) := by
  pointwise [rotation, spread]
  by_cases h : e.val < 32
  · rw [dif_pos h, dif_pos h]
    simp only [Nat.add_comm 32]
  · rw [dif_neg h, dif_neg h]
    simp only [show 32 + (e.val - 32) = e.val by omega]

theorem queries_at (R : Fin 32768) (k : Fin 1024) :
    queries h w co si (ix2 R k) = result h w co si ⟨R.val / 16384, by omega⟩ ⟨R.val % 16384, Nat.mod_lt _ (by decide)⟩ ⟨k.val, by omega⟩ := by
  have e : queries h w co si (ix2 R k) = rotation co si (shapeCast S2x16384x8x2x64 (extractStridedSlice S2x16384x1024 ![0, 0, 2048] (product h w)
      slices_S2x16384x5120_S2x16384x1024_0_0_2048) shapeCasts_S2x16384x1024_S2x16384x8x2x64)
      (ix5 ⟨R.val / 16384, by omega⟩ ⟨R.val % 16384, Nat.mod_lt _ (by decide)⟩ ⟨k.val / 128, by omega⟩ ⟨k.val / 64 % 2, by omega⟩ ⟨k.val % 64, by omega⟩) := by
    pointwise [queries]
  have read : ∀ (b : Fin 2) (s : Fin 16384) (p : Fin 8) (j : Fin 2) (e : Fin 64),
      shapeCast S2x16384x8x2x64 (extractStridedSlice S2x16384x1024 ![0, 0, 2048] (product h w)
        slices_S2x16384x5120_S2x16384x1024_0_0_2048) shapeCasts_S2x16384x1024_S2x16384x8x2x64 (ix5 b s p j e)
      = product h w (ix3 b s ⟨2048 + (p.val * 128 + j.val * 64 + e.val), by omega⟩) := by
    intro b s p j e
    pointwise []
  rw [e, rotation_at]
  simp only [read, product_at]
  unfold result rotated
  split
  · simp only [show k.val / 128 * 128 + k.val / 64 % 2 * 64 + k.val % 64 = k.val by omega,
      show k.val / 128 * 128 + k.val / 64 % 2 * 64 + (k.val % 64 + 32) = k.val + 32 by omega]
  · rename_i h32
    simp only [show k.val / 128 * 128 + k.val / 64 % 2 * 64 + k.val % 64 = k.val by omega,
      show k.val / 128 * 128 + k.val / 64 % 2 * 64 + (k.val % 64 - 32) = k.val - 32 by omega]

theorem keys_at (R : Fin 32768) (k : Fin 1024) :
    keys h w co si (ix2 R k) = result h w co si ⟨R.val / 16384, by omega⟩ ⟨R.val % 16384, Nat.mod_lt _ (by decide)⟩ ⟨k.val + 1024, by omega⟩ := by
  have e : keys h w co si (ix2 R k) = rotation co si (shapeCast S2x16384x8x2x64 (extractStridedSlice S2x16384x1024 ![0, 0, 3072] (product h w)
      slices_S2x16384x5120_S2x16384x1024_0_0_3072) shapeCasts_S2x16384x1024_S2x16384x8x2x64)
      (ix5 ⟨R.val / 16384, by omega⟩ ⟨R.val % 16384, Nat.mod_lt _ (by decide)⟩ ⟨k.val / 128, by omega⟩ ⟨k.val / 64 % 2, by omega⟩ ⟨k.val % 64, by omega⟩) := by
    pointwise [keys]
  have read : ∀ (b : Fin 2) (s : Fin 16384) (p : Fin 8) (j : Fin 2) (e : Fin 64),
      shapeCast S2x16384x8x2x64 (extractStridedSlice S2x16384x1024 ![0, 0, 3072] (product h w)
        slices_S2x16384x5120_S2x16384x1024_0_0_3072) shapeCasts_S2x16384x1024_S2x16384x8x2x64 (ix5 b s p j e)
      = product h w (ix3 b s ⟨3072 + (p.val * 128 + j.val * 64 + e.val), by omega⟩) := by
    intro b s p j e
    pointwise []
  rw [e, rotation_at]
  simp only [read, product_at]
  unfold result rotated
  simp only [show (k.val + 1024) % 64 = k.val % 64 by omega]
  split
  · simp only [show 3072 + (k.val / 128 * 128 + k.val / 64 % 2 * 64 + k.val % 64) = 2048 + (k.val + 1024) by omega,
      show 3072 + (k.val / 128 * 128 + k.val / 64 % 2 * 64 + (k.val % 64 + 32)) = 2048 + (k.val + 1024 + 32) by omega]
  · rename_i h32
    simp only [show 3072 + (k.val / 128 * 128 + k.val / 64 % 2 * 64 + k.val % 64) = 2048 + (k.val + 1024) by omega,
      show 3072 + (k.val / 128 * 128 + k.val / 64 % 2 * 64 + (k.val % 64 - 32)) = 2048 + (k.val + 1024 - 32) by omega]

/-- The reference's result at row `R`, column `k`. -/
theorem out_at (R : Fin 32768) (k : Fin 2048) :
    out h w co si (ix2 R k) = result h w co si ⟨R.val / 16384, by omega⟩ ⟨R.val % 16384, Nat.mod_lt _ (by decide)⟩ k := by
  have e : out h w co si (ix2 R k) = if hk : k.val < 1024 then queries h w co si (ix2 R ⟨k.val, hk⟩)
      else keys h w co si (ix2 R ⟨k.val - 1024, by omega⟩) := by
    pointwise [out]
  rw [e]
  split
  · rw [queries_at]
  · rename_i hk
    rw [keys_at]
    simp only [show k.val - 1024 + 1024 = k.val by omega]

end Cert.Rot.Ref

end
-- ==== Proof.RotValue.lean ====
/-
  What the rotary projection leaves in its result array, at one element, in terms of the arguments. Point `t` of the grid works on row
  block `t / 2`, and on the queries where `t` is even, on the keys where it is odd.
-/
module

public import proofs.«01_k».proof.Proof.RotResult

@[expose] public section

set_option maxRecDepth 16384

noncomputable section

namespace Cert.Rot

open Cert.Kernel8Ideal Cert.Kernel8Ideal.Gen Idealize.ShloMosaic Idealize.ShloMosaic.TcCoe Idealize.SL.Sem
open Idealize.ShloMosaic.Tactic

variable (m : (ℓ : Loc nD τ sig) → Buf (Elt Ideal) ℓ) (c : Dev nD)

/-- The given rows. -/
abbrev rows : FVec Ideal S2x16384x2048 .f32 := m ((c : Thread nD τ).loc main_arg0)
/-- The given weights. -/
abbrev weights : FVec Ideal S2048x5120 .f32 := m ((c : Thread nD τ).loc main_arg1)

/-- The batch element of point `t`'s row block. -/
abbrev bat (t : Fin cfg0.N) : Fin 2 := ⟨t.val / 32, by have := point_lt t; omega⟩

theorem h_at (t : Fin cfg0.N) (r : Fin 1024) (k : Fin 2048) :
    iblk m c 0 t (ix2 r k) = rows m c (ix3 (bat t) (pos t r) k) := by
  have := point_lt t
  obtain ⟨e, -⟩ := places t
  blk_ext! [iblk, V, e]

theorem w_at (t : Fin cfg0.N) (i : Fin 2048) (q : Fin 1024) :
    iblk m c 1 t (ix2 i q) = weights m c (ix2 i ⟨2048 + (t.val % 2 * 1024 + q.val), by omega⟩) := by
  have := point_lt t
  obtain ⟨-, e, -⟩ := places t
  blk_ext! [iblk, V, e]

/-- The result as an array of the memory. -/
def G5 : FVec Ideal S32768x2048 .bf16 := fun z =>
  result (rows m c) (weights m c) (cosines m c) (sines m c)
    ⟨(z 0).val / 16384, by have h : (z 0).val < 32768 := (z 0).isLt; omega⟩ ⟨(z 0).val % 16384, Nat.mod_lt _ (by decide)⟩ (z 1)

theorem out_at (t : Fin cfg0.N) (r q : Fin 1024) :
    out0_5 (iblk m c 0 t) (iblk m c 1 t) (iblk m c 2 t) (iblk m c 3 t) (iblk m c 4 t) (ix2 r q)
      = result (rows m c) (weights m c) (cosines m c) (sines m c) (bat t) (pos t r)
        ⟨t.val % 2 * 1024 + q.val, by omega⟩ := by
  refine (congrFun (block_eq _ _ _ _ _) _).trans ?_
  unfold whole turned result
  refine (turned_eq (fun j => ∑ i : Fin 2048, rows m c (ix3 (bat t) (pos t r) i)
      * weights m c (ix2 i ⟨2048 + j.val, by omega⟩)) (fun e => cosines m c (ix2 (pos t r) e))
      (fun e => sines m c (ix2 (pos t r) e)) ⟨t.val % 2 * 8 + q.val / 128, by omega⟩ ⟨q.val % 128, by omega⟩
      (fun e => k0_pay2 (iblk m c 0 t) (iblk m c 1 t) (ix2 r ⟨128 * (q.val / 128) + e.val, by omega⟩)) _ _ _ ?_
      (cos_at m c t r _) (minus_at m c t r _) (plus_at m c t r _)).trans ?_
  · intro e
    refine (product_at _ _ _ _).trans ?_
    refine Finset.sum_congr rfl fun i _ => ?_
    rw [h_at, w_at]
    simp only [show 2048 + (t.val % 2 * 1024 + (128 * (q.val / 128) + e.val)) = 2048 + (128 * (t.val % 2 * 8 + q.val / 128) + e.val) by omega]
  · simp only [show 128 * (t.val % 2 * 8 + q.val / 128) + q.val % 128 = t.val % 2 * 1024 + q.val by omega]

theorem arr_5 : (dats m 0 c).arrAt 5 cfg0.N = G5 m c := by
  refine (dats m 0 c).arrAt_eq_of_covers 5 _ (by decide +kernel) fun t hf y => ?_
  have ht := point_lt t
  obtain ⟨-, -, -, -, -, p⟩ := places t
  blk_simp [p]
  rw [after0_5]
  obtain ⟨r, q, rfl⟩ : ∃ (r : Fin 1024) (q : Fin 1024), y = ix2 r q := ⟨y 0, y 1, eq_ix2 y⟩
  have hr := r.isLt
  have hq := q.isLt
  have place : (win0_5.blk t).view.emb (ix2 r q) = ix2 ⟨t.val / 2 * 1024 + r.val, by omega⟩ ⟨t.val % 2 * 1024 + q.val, by omega⟩ := by
    blk_ext! [p]
  refine Eq.trans ?_ (congrArg (G5 m c) place.symm)
  refine (out_at m c t r q).trans ?_
  unfold G5
  congr 1
  · exact Fin.ext (by show t.val / 32 = (t.val / 2 * 1024 + r.val) / 16384; omega)
  · exact Fin.ext (by show (1024 * (t.val / 2) + r.val) % 16384 = (t.val / 2 * 1024 + r.val) % 16384; omega)

end Cert.Rot

end
-- ==== Proof.RotClaims.lean ====
/-
  The even layer's query and key projection's claims: the frames of the kernel at both instances and of the reference, and that the kernel and
  the reference compute the same result over exact arithmetic.
-/
module

public import proofs.«01_k».proof.Defs
public import proofs.«01_k».proof.Proof.RotRef
public import proofs.«01_k».proof.Proof.RotValue
public import proofs.«01_k».proof.Proof.Gen.Kernel8.Frame
public import Idealize.ShloMosaic.Adequacy
public import Idealize.ShloMosaic.Init

@[expose] public section

noncomputable section

namespace Cert.Rot

open Idealize.ShloMosaic Idealize.ShloMosaic.TcCoe Idealize.SL.Sem

theorem frame_kernel : Cert.quiescent_Kernel8 := fun m ρ _ => Cert.Kernel8.Gen.frame (F := Bits) m ρ

theorem frame_ideal : Cert.quiescent_Kernel8Ideal := fun m ρ _ => Cert.Kernel8Ideal.Gen.frame (F := Ideal) m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference agree at every element of the result: both are `result` of the arguments. -/
theorem value : Cert.algebraic_Kernel8Ideal_Reference8Ideal := by
  intro m ρ m' ρ' _ hagree
  refine ⟨fun c => G5 m c, (θ_run Cert.Kernel8Ideal.defs _ _).mono (fun r h c => ⟨(h c).1.trans (arr_5 m c), (h c).2⟩)
    (Cert.Kernel8Ideal.Value.run_blocks (F := Ideal) m ρ), ?_⟩
  refine (θ_run Cert.Reference8Ideal.defs _ _).mono (fun r h c => ⟨(h c).1.trans ?_, (h c).2⟩)
    (Cert.Reference8Ideal.Value.run (F := Ideal) m' ρ')
  obtain ⟨e0, e1, e2, e3⟩ := hagree c
  funext i
  obtain ⟨R, k, rfl⟩ : ∃ (R : Fin 32768) (k : Fin 2048), i = ix2 R k := ⟨i 0, i 1, eq_ix2 i⟩
  refine (congrFun (Ref.res_eq m' c) _).trans ((Ref.out_at _ _ _ _ R k).trans ?_)
  rw [e0, e1, e2, e3]
  rfl

end Cert.Rot

end
-- ==== Proof.GxValue.lean ====
/-
  What the even layer's gate and recurrence projection leaves in its result array, at one element, in terms of the arguments. Point `t` of the grid works on row
  block `t / 2` and column block `t % 2`.
-/
module

public import proofs.«01_k».proof.Proof.PzValue
public import proofs.«01_k».proof.Proof.Gen.Kernel9Ideal.Value

@[expose] public section

set_option maxRecDepth 16384

noncomputable section

namespace Cert.Gx

open Cert.Ffn (off2)
open Cert.Kernel9Ideal Cert.Kernel9Ideal.Gen Idealize.ShloMosaic Idealize.ShloMosaic.TcCoe Idealize.SL.Sem
open Idealize.ShloMosaic.Tactic

/-- The result at `(b, s, k)`. -/
def result (h : FVec Ideal ⟨3, ![2, 16384, 2048]⟩ .f32) (w : FVec Ideal ⟨2, ![2048, 5120]⟩ .f32) (b : Fin 2) (s : Fin 16384)
    (k : Fin 2048) : EReal :=
  ∑ i : Fin 2048, h (ix3 b s i) * w (ix2 i ⟨k.val, by omega⟩)

/-- The product of a block's rows and columns. -/
def whole (x0 : Vec Ideal S1024x2048 .bf16) (x1 : Vec Ideal S2048x1024 .bf16) : Vec Ideal S1024x1024 .f32 := fun y => k0_pay1 x0 x1 y

theorem out_eq (x0 : Vec Ideal S1024x2048 .bf16) (x1 : Vec Ideal S2048x1024 .bf16) : out0_2 x0 x1 = whole x0 x1 := by
  funext y
  unfold out0_2
  rw [View.ld_unit_zero (S := S1024x2048) off2, View.ld_unit_zero (S := S2048x1024) off2]
  refine View.canon_apply_of_pieces (whole x0 x1) _ ?_ y (cover0_2 _ _ _ _ _ _ _ _ y)
  intro pc hpc
  simp only [List.mem_cons, List.not_mem_nil, or_false] at hpc
  rcases hpc with rfl | rfl | rfl | rfl | rfl | rfl | rfl | rfl
  · exact fun x => Pz.strip_at (k0_pay1 x0 x1) 896 (by decide) slices_S1024x1024_o0_896_S1024x128 inb_S1024x1024_S1024x128_0_896 x
  · exact fun x => Pz.strip_at (k0_pay1 x0 x1) 768 (by decide) slices_S1024x1024_o0_768_S1024x128 inb_S1024x1024_S1024x128_0_768 x
  · exact fun x => Pz.strip_at (k0_pay1 x0 x1) 640 (by decide) slices_S1024x1024_o0_640_S1024x128 inb_S1024x1024_S1024x128_0_640 x
  · exact fun x => Pz.strip_at (k0_pay1 x0 x1) 512 (by decide) slices_S1024x1024_o0_512_S1024x128 inb_S1024x1024_S1024x128_0_512 x
  · exact fun x => Pz.strip_at (k0_pay1 x0 x1) 384 (by decide) slices_S1024x1024_o0_384_S1024x128 inb_S1024x1024_S1024x128_0_384 x
  · exact fun x => Pz.strip_at (k0_pay1 x0 x1) 256 (by decide) slices_S1024x1024_o0_256_S1024x128 inb_S1024x1024_S1024x128_0_256 x
  · exact fun x => Pz.strip_at (k0_pay1 x0 x1) 128 (by decide) slices_S1024x1024_o0_128_S1024x128 inb_S1024x1024_S1024x128_0_128 x
  · exact fun x => Pz.strip_at (k0_pay1 x0 x1) 0 (by decide) slices_S1024x1024_o0_0_S1024x128 inb_S1024x1024_S1024x128_0_0 x

theorem pay_at (x : Vec Ideal S1024x2048 .bf16) (w : Vec Ideal S2048x1024 .bf16) (r : Fin 1024) (q : Fin 1024) :
    k0_pay1 x w (ix2 r q) = ∑ i : Fin 2048, x (ix2 r i) * w (ix2 i q) := by
  pointwise [k0_pay1]

variable (m : (ℓ : Loc nD τ sig) → Buf (Elt Ideal) ℓ) (c : Dev nD)

theorem places : ∀ t : Fin cfg0.N, win0_0.index t = ![t.val / 2, 0] ∧ win0_1.index t = ![0, t.val % 2]
    ∧ win0_2.index t = ![t.val / 2, t.val % 2] :=
  (by decide +kernel : ∀ t : Fin grid0.N, _)

theorem point_lt (t : Fin cfg0.N) : t.val < 64 := lt_of_lt_of_eq t.isLt (show cfg0.N = 64 from N_0)

/-- The batch element of point `t`'s row block. -/
abbrev bat (t : Fin cfg0.N) : Fin 2 := ⟨t.val / 32, by have := point_lt t; omega⟩
/-- Row `r` of point `t`'s row block, within its batch element. -/
abbrev pos (t : Fin cfg0.N) (r : Fin 1024) : Fin 16384 := ⟨(1024 * (t.val / 2) + r.val) % 16384, Nat.mod_lt _ (by decide)⟩

theorem h_at (t : Fin cfg0.N) (r : Fin 1024) (k : Fin 2048) :
    iblk m c 0 t (ix2 r k) = m ((c : Thread nD τ).loc main_arg0) (ix3 (bat t) (pos t r) k) := by
  have := point_lt t
  obtain ⟨e, -⟩ := places t
  blk_ext! [iblk, V, e]

theorem w_at (t : Fin cfg0.N) (i : Fin 2048) (q : Fin 1024) :
    iblk m c 1 t (ix2 i q) = m ((c : Thread nD τ).loc main_arg1) (ix2 i ⟨t.val % 2 * 1024 + q.val, by omega⟩) := by
  have := point_lt t
  obtain ⟨-, e, -⟩ := places t
  blk_ext! [iblk, V, e]

/-- The result as an array of the memory. -/
def G2 : FVec Ideal S32768x2048 .f32 := fun z =>
  result (m ((c : Thread nD τ).loc main_arg0)) (m ((c : Thread nD τ).loc main_arg1))
    ⟨(z 0).val / 16384, by have h : (z 0).val < 32768 := (z 0).isLt; omega⟩ ⟨(z 0).val % 16384, Nat.mod_lt _ (by decide)⟩ (z 1)

theorem out_at (t : Fin cfg0.N) (r : Fin 1024) (q : Fin 1024) :
    out0_2 (iblk m c 0 t) (iblk m c 1 t) (ix2 r q) = result (m ((c : Thread nD τ).loc main_arg0)) (m ((c : Thread nD τ).loc main_arg1))
      (bat t) (pos t r) ⟨t.val % 2 * 1024 + q.val, by omega⟩ := by
  refine (congrFun (out_eq _ _) _).trans ((pay_at _ _ r q).trans ?_)
  unfold result
  refine Finset.sum_congr rfl fun i _ => ?_
  rw [h_at, w_at]

theorem arr_2 : (dats m 0 c).arrAt 2 cfg0.N = G2 m c := by
  refine (dats m 0 c).arrAt_eq_of_covers 2 _ (by decide +kernel) fun t hf y => ?_
  have ht := point_lt t
  obtain ⟨-, -, p⟩ := places t
  blk_simp [p]
  rw [after0_2]
  obtain ⟨r, q, rfl⟩ : ∃ (r : Fin 1024) (q : Fin 1024), y = ix2 r q := ⟨y 0, y 1, eq_ix2 y⟩
  have hr := r.isLt
  have hq := q.isLt
  have place : (win0_2.blk t).view.emb (ix2 r q) = ix2 ⟨t.val / 2 * 1024 + r.val, by omega⟩ ⟨t.val % 2 * 1024 + q.val, by omega⟩ := by
    blk_ext! [p]
  refine Eq.trans ?_ (congrArg (G2 m c) place.symm)
  refine (out_at m c t r q).trans ?_
  unfold G2
  congr 1
  · exact Fin.ext (by show t.val / 32 = (t.val / 2 * 1024 + r.val) / 16384; omega)
  · exact Fin.ext (by show (1024 * (t.val / 2) + r.val) % 16384 = (t.val / 2 * 1024 + r.val) % 16384; omega)

end Cert.Gx

end
-- ==== Proof.GxRef.lean ====
/-
  What the even layer's gate and recurrence projection's reference's result holds at one element.
-/
module

public import proofs.«01_k».proof.Proof.GxValue
public import proofs.«01_k».proof.Proof.Gen.Reference9Ideal.Run
public import Idealize.ShloMosaic.Lib.Pointwise

@[expose] public section

set_option maxRecDepth 16384

noncomputable section

namespace Cert.Gx.Ref

open Cert.Reference9Ideal Cert.Reference9Ideal.Gen Idealize.ShloMosaic Idealize.ShloMosaic.TcCoe Idealize.SL.Sem

variable (h : FVec Ideal S2x16384x2048 .f32) (w : FVec Ideal S2048x5120 .f32)

/-- The reference's result. -/
def out : FVec Ideal S32768x2048 .f32 :=
  shapeCast S32768x2048 (extractStridedSlice S2x16384x2048 ![0, 0, 0] (Host.dotGeneral dot_S2x16384x2048_S2048x5120_S2x16384x5120_2_0_01_1_n_n none h w) slices_S2x16384x5120_S2x16384x2048_0_0_0) shapeCasts_S2x16384x2048_S32768x2048

/-- The reference's result at row `R`, column `k`. -/
theorem out_at (R : Fin 32768) (k : Fin 2048) :
    out h w (ix2 R k) = result h w ⟨R.val / 16384, by have := R.isLt; omega⟩ ⟨R.val % 16384, Nat.mod_lt _ (by decide)⟩ k := by
  pointwise [out, result]

end Cert.Gx.Ref

end
-- ==== Proof.GxClaims.lean ====
/-
  The even layer's gate and recurrence projection's claims: the frames of the kernel at both instances and of the reference, and that the kernel and
  the reference compute the same result over exact arithmetic.
-/
module

public import proofs.«01_k».proof.Defs
public import proofs.«01_k».proof.Proof.GxRef
public import proofs.«01_k».proof.Proof.Gen.Kernel9.Frame
public import Idealize.ShloMosaic.Adequacy
public import Idealize.ShloMosaic.Init

@[expose] public section

noncomputable section

namespace Cert.Gx

open Idealize.ShloMosaic Idealize.ShloMosaic.TcCoe Idealize.SL.Sem

theorem frame_kernel : Cert.quiescent_Kernel9 := fun m ρ _ => Cert.Kernel9.Gen.frame (F := Bits) m ρ

theorem frame_ideal : Cert.quiescent_Kernel9Ideal := fun m ρ _ => Cert.Kernel9Ideal.Gen.frame (F := Ideal) m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference agree at every element of the result: both are `result` of the arguments. -/
theorem value : Cert.algebraic_Kernel9Ideal_Reference9Ideal := by
  intro m ρ m' ρ' _ hagree
  refine ⟨fun c => G2 m c, (θ_run Cert.Kernel9Ideal.defs _ _).mono (fun r h c => ⟨(h c).1.trans (arr_2 m c), (h c).2⟩)
    (Cert.Kernel9Ideal.Value.run_blocks (F := Ideal) m ρ), ?_⟩
  refine (θ_run Cert.Reference9Ideal.defs _ _).mono (fun r h c => ⟨(h c).1.trans ?_, (h c).2⟩)
    (Cert.Reference9Ideal.Value.run (F := Ideal) m' ρ')
  obtain ⟨e0, e1⟩ := hagree c
  funext i
  obtain ⟨R, k, rfl⟩ : ∃ (R : Fin 32768) (k : Fin 2048), i = ix2 R k := ⟨i 0, i 1, eq_ix2 i⟩
  refine (Ref.out_at _ _ R k).trans ?_
  rw [e0, e1]
  rfl

end Cert.Gx

end
-- ==== Proof.VabValue.lean ====
/-
  What the even layer's value projection leaves in its result array, at one element, in terms of the arguments. Point `t` of the grid works on row
  block `t`.
-/
module

public import proofs.«01_k».proof.Proof.PzValue
public import proofs.«01_k».proof.Proof.Gen.Kernel10Ideal.Value

@[expose] public section

set_option maxRecDepth 16384

noncomputable section

namespace Cert.Vab

open Cert.Ffn (off2)
open Cert.Kernel10Ideal Cert.Kernel10Ideal.Gen Idealize.ShloMosaic Idealize.ShloMosaic.TcCoe Idealize.SL.Sem
open Idealize.ShloMosaic.Tactic

/-- The result at `(b, s, k)`. -/
def result (h : FVec Ideal ⟨3, ![2, 16384, 2048]⟩ .f32) (w : FVec Ideal ⟨2, ![2048, 5120]⟩ .f32) (b : Fin 2) (s : Fin 16384)
    (k : Fin 1024) : EReal :=
  ∑ i : Fin 2048, h (ix3 b s i) * w (ix2 i ⟨4096 + k.val, by omega⟩)

/-- The product of a block's rows and columns. -/
def whole (x0 : Vec Ideal S1024x2048 .bf16) (x1 : Vec Ideal S2048x1024 .bf16) : Vec Ideal S1024x1024 .bf16 := fun y => k0_pay1 x0 x1 y

theorem out_eq (x0 : Vec Ideal S1024x2048 .bf16) (x1 : Vec Ideal S2048x1024 .bf16) : out0_2 x0 x1 = whole x0 x1 := by
  funext y
  unfold out0_2
  rw [View.ld_unit_zero (S := S1024x2048) off2, View.ld_unit_zero (S := S2048x1024) off2]
  refine View.canon_apply_of_pieces (whole x0 x1) _ ?_ y (cover0_2 _ _ _ _ _ _ _ _ y)
  intro pc hpc
  simp only [List.mem_cons, List.not_mem_nil, or_false] at hpc
  rcases hpc with rfl | rfl | rfl | rfl | rfl | rfl | rfl | rfl
  · exact fun x => Pz.strip_at (k0_pay1 x0 x1) 896 (by decide) slices_S1024x1024_o0_896_S1024x128 inb_S1024x1024_S1024x128_0_896 x
  · exact fun x => Pz.strip_at (k0_pay1 x0 x1) 768 (by decide) slices_S1024x1024_o0_768_S1024x128 inb_S1024x1024_S1024x128_0_768 x
  · exact fun x => Pz.strip_at (k0_pay1 x0 x1) 640 (by decide) slices_S1024x1024_o0_640_S1024x128 inb_S1024x1024_S1024x128_0_640 x
  · exact fun x => Pz.strip_at (k0_pay1 x0 x1) 512 (by decide) slices_S1024x1024_o0_512_S1024x128 inb_S1024x1024_S1024x128_0_512 x
  · exact fun x => Pz.strip_at (k0_pay1 x0 x1) 384 (by decide) slices_S1024x1024_o0_384_S1024x128 inb_S1024x1024_S1024x128_0_384 x
  · exact fun x => Pz.strip_at (k0_pay1 x0 x1) 256 (by decide) slices_S1024x1024_o0_256_S1024x128 inb_S1024x1024_S1024x128_0_256 x
  · exact fun x => Pz.strip_at (k0_pay1 x0 x1) 128 (by decide) slices_S1024x1024_o0_128_S1024x128 inb_S1024x1024_S1024x128_0_128 x
  · exact fun x => Pz.strip_at (k0_pay1 x0 x1) 0 (by decide) slices_S1024x1024_o0_0_S1024x128 inb_S1024x1024_S1024x128_0_0 x

theorem pay_at (x : Vec Ideal S1024x2048 .bf16) (w : Vec Ideal S2048x1024 .bf16) (r : Fin 1024) (q : Fin 1024) :
    k0_pay1 x w (ix2 r q) = ∑ i : Fin 2048, x (ix2 r i) * w (ix2 i q) := by
  pointwise [k0_pay1]

variable (m : (ℓ : Loc nD τ sig) → Buf (Elt Ideal) ℓ) (c : Dev nD)

theorem places : ∀ t : Fin cfg0.N, win0_0.index t = ![t.val, 0] ∧ win0_1.index t = ![0, 4]
    ∧ win0_2.index t = ![t.val, 0] :=
  (by decide +kernel : ∀ t : Fin grid0.N, _)

theorem point_lt (t : Fin cfg0.N) : t.val < 32 := lt_of_lt_of_eq t.isLt (show cfg0.N = 32 from N_0)

/-- The batch element of point `t`'s row block. -/
abbrev bat (t : Fin cfg0.N) : Fin 2 := ⟨t.val / 16, by have := point_lt t; omega⟩
/-- Row `r` of point `t`'s row block, within its batch element. -/
abbrev pos (t : Fin cfg0.N) (r : Fin 1024) : Fin 16384 := ⟨(1024 * t.val + r.val) % 16384, Nat.mod_lt _ (by decide)⟩

theorem h_at (t : Fin cfg0.N) (r : Fin 1024) (k : Fin 2048) :
    iblk m c 0 t (ix2 r k) = m ((c : Thread nD τ).loc main_arg0) (ix3 (bat t) (pos t r) k) := by
  have := point_lt t
  obtain ⟨e, -⟩ := places t
  blk_ext! [iblk, V, e]

theorem w_at (t : Fin cfg0.N) (i : Fin 2048) (q : Fin 1024) :
    iblk m c 1 t (ix2 i q) = m ((c : Thread nD τ).loc main_arg1) (ix2 i ⟨4096 + q.val, by omega⟩) := by
  have := point_lt t
  obtain ⟨-, e, -⟩ := places t
  blk_ext! [iblk, V, e]

/-- The result as an array of the memory. -/
def G2 : FVec Ideal S32768x1024 .bf16 := fun z =>
  result (m ((c : Thread nD τ).loc main_arg0)) (m ((c : Thread nD τ).loc main_arg1))
    ⟨(z 0).val / 16384, by have h : (z 0).val < 32768 := (z 0).isLt; omega⟩ ⟨(z 0).val % 16384, Nat.mod_lt _ (by decide)⟩ (z 1)

theorem out_at (t : Fin cfg0.N) (r : Fin 1024) (q : Fin 1024) :
    out0_2 (iblk m c 0 t) (iblk m c 1 t) (ix2 r q) = result (m ((c : Thread nD τ).loc main_arg0)) (m ((c : Thread nD τ).loc main_arg1))
      (bat t) (pos t r) ⟨q.val, by omega⟩ := by
  refine (congrFun (out_eq _ _) _).trans ((pay_at _ _ r q).trans ?_)
  unfold result
  refine Finset.sum_congr rfl fun i _ => ?_
  rw [h_at, w_at]

theorem arr_2 : (dats m 0 c).arrAt 2 cfg0.N = G2 m c := by
  refine (dats m 0 c).arrAt_eq_of_covers 2 _ (by decide +kernel) fun t hf y => ?_
  have ht := point_lt t
  obtain ⟨-, -, p⟩ := places t
  blk_simp [p]
  rw [after0_2]
  obtain ⟨r, q, rfl⟩ : ∃ (r : Fin 1024) (q : Fin 1024), y = ix2 r q := ⟨y 0, y 1, eq_ix2 y⟩
  have hr := r.isLt
  have hq := q.isLt
  have place : (win0_2.blk t).view.emb (ix2 r q) = ix2 ⟨t.val * 1024 + r.val, by omega⟩ ⟨q.val, by omega⟩ := by
    blk_ext! [p]
  refine Eq.trans ?_ (congrArg (G2 m c) place.symm)
  refine (out_at m c t r q).trans ?_
  unfold G2
  congr 1
  · exact Fin.ext (by show t.val / 16 = (t.val * 1024 + r.val) / 16384; omega)
  · exact Fin.ext (by show (1024 * t.val + r.val) % 16384 = (t.val * 1024 + r.val) % 16384; omega)

end Cert.Vab

end
-- ==== Proof.VabRef.lean ====
/-
  What the even layer's value projection's reference's result holds at one element.
-/
module

public import proofs.«01_k».proof.Proof.VabValue
public import proofs.«01_k».proof.Proof.Gen.Reference10Ideal.Run
public import Idealize.ShloMosaic.Lib.Pointwise

@[expose] public section

set_option maxRecDepth 16384

noncomputable section

namespace Cert.Vab.Ref

open Cert.Reference10Ideal Cert.Reference10Ideal.Gen Idealize.ShloMosaic Idealize.ShloMosaic.TcCoe Idealize.SL.Sem

variable (h : FVec Ideal S2x16384x2048 .f32) (w : FVec Ideal S2048x5120 .f32)

/-- The reference's result. -/
def out : FVec Ideal S32768x1024 .bf16 :=
  truncf .bf16 (shapeCast S32768x1024 (extractStridedSlice S2x16384x1024 ![0, 0, 4096] (Host.dotGeneral dot_S2x16384x2048_S2048x5120_S2x16384x5120_2_0_01_1_n_n none h w) slices_S2x16384x5120_S2x16384x1024_0_0_4096) shapeCasts_S2x16384x1024_S32768x1024) bitsLt_bf16_f32

/-- The reference's result at row `R`, column `k`. -/
theorem out_at (R : Fin 32768) (k : Fin 1024) :
    out h w (ix2 R k) = result h w ⟨R.val / 16384, by have := R.isLt; omega⟩ ⟨R.val % 16384, Nat.mod_lt _ (by decide)⟩ k := by
  pointwise [out, result]

end Cert.Vab.Ref

end
-- ==== Proof.VabClaims.lean ====
/-
  The even layer's value projection's claims: the frames of the kernel at both instances and of the reference, and that the kernel and
  the reference compute the same result over exact arithmetic.
-/
module

public import proofs.«01_k».proof.Defs
public import proofs.«01_k».proof.Proof.VabRef
public import proofs.«01_k».proof.Proof.Gen.Kernel10.Frame
public import Idealize.ShloMosaic.Adequacy
public import Idealize.ShloMosaic.Init

@[expose] public section

noncomputable section

namespace Cert.Vab

open Idealize.ShloMosaic Idealize.ShloMosaic.TcCoe Idealize.SL.Sem

theorem frame_kernel : Cert.quiescent_Kernel10 := fun m ρ _ => Cert.Kernel10.Gen.frame (F := Bits) m ρ

theorem frame_ideal : Cert.quiescent_Kernel10Ideal := fun m ρ _ => Cert.Kernel10Ideal.Gen.frame (F := Ideal) m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference agree at every element of the result: both are `result` of the arguments. -/
theorem value : Cert.algebraic_Kernel10Ideal_Reference10Ideal := by
  intro m ρ m' ρ' _ hagree
  refine ⟨fun c => G2 m c, (θ_run Cert.Kernel10Ideal.defs _ _).mono (fun r h c => ⟨(h c).1.trans (arr_2 m c), (h c).2⟩)
    (Cert.Kernel10Ideal.Value.run_blocks (F := Ideal) m ρ), ?_⟩
  refine (θ_run Cert.Reference10Ideal.defs _ _).mono (fun r h c => ⟨(h c).1.trans ?_, (h c).2⟩)
    (Cert.Reference10Ideal.Value.run (F := Ideal) m' ρ')
  obtain ⟨e0, e1⟩ := hagree c
  funext i
  obtain ⟨R, k, rfl⟩ : ∃ (R : Fin 32768) (k : Fin 1024), i = ix2 R k := ⟨i 0, i 1, eq_ix2 i⟩
  refine (Ref.out_at _ _ R k).trans ?_
  rw [e0, e1]
  rfl

end Cert.Vab

end
-- ==== Proof.NqkBlock.lean ====
/-
  What the odd layer's query and key projection's block holds at one element: a strip of 128 columns of the product under its norm and
  weight, times the cosines, plus the same turned by half its lanes times the signed sines.
-/
module

public import proofs.«01_k».proof.Proof.OcdGate
public import proofs.«01_k».proof.Proof.Gen.Kernel11Ideal.Value

@[expose] public section

set_option maxRecDepth 16384

noncomputable section

namespace Cert.Nqk

open Cert.Ffn (off2)
open Cert.Ocd (normed)
open Cert.Kernel11Ideal Cert.Kernel11Ideal.Gen Idealize.ShloMosaic Idealize.ShloMosaic.TcCoe Idealize.SL.Sem
open Idealize.ShloMosaic.Tactic

/-- Strip `h` of a block at row `r`, lane `d`, from the product, the strip's weights and the two tables. -/
def strip (v : FVec Ideal S1024x1280 .f32) (u : Vec Ideal S1x128 .f32) (x3 x4 : Vec Ideal S1024x128 .f32) (r : Fin 1024) (h : Fin 10)
    (d : Fin 128) : EReal :=
  normed (fun e => v (ix2 r ⟨128 * h.val + e.val, by omega⟩)) (fun e => u (ix2 0 e)) d * x3 (ix2 r d)
    + normed (fun e => v (ix2 r ⟨128 * h.val + e.val, by omega⟩)) (fun e => u (ix2 0 e)) ⟨(d.val + 128 - 64) % 128, by omega⟩ * x4 (ix2 r d)

theorem strip_0 (x0 : Vec Ideal S1024x2048 .bf16) (x1 : Vec Ideal S2048x1280 .bf16) (u : Vec Ideal S1x128 .f32) (x3 x4 : Vec Ideal S1024x128 .f32)
    (r : Fin 1024) (d : Fin 128) : k0_pay3 x0 x1 u x3 x4 (ix2 r d) = strip (k0_pay2 x0 x1) u x3 x4 r 0 d := by
  unfold k0_pay3
  generalize k0_pay2 x0 x1 = v
  pointwise [strip, normed]

theorem strip_1 (x0 : Vec Ideal S1024x2048 .bf16) (x1 : Vec Ideal S2048x1280 .bf16) (u : Vec Ideal S1x128 .f32) (x3 x4 : Vec Ideal S1024x128 .f32)
    (r : Fin 1024) (d : Fin 128) : k0_pay7 (k0_pay4 x0 x1) (k0_pay5 x0 x1) k0_pay6 u x3 x4 (ix2 r d) = strip (k0_pay2 x0 x1) u x3 x4 r 1 d := by
  unfold k0_pay7 k0_pay5 k0_pay6 k0_pay4
  generalize k0_pay2 x0 x1 = v
  pointwise [strip, normed]

theorem strip_2 (v : FVec Ideal S1024x1280 .f32) (u : Vec Ideal S1x128 .f32) (x3 x4 : Vec Ideal S1024x128 .f32) (r : Fin 1024) (d : Fin 128) :
    k0_pay11 (k0_pay9 v u x3) (k0_pay10 v u x4) (ix2 r d) = strip v u x3 x4 r 2 d := by
  pointwise [strip, normed, k0_pay11, k0_pay9, k0_pay10, k0_pay8]

theorem strip_3 (v : FVec Ideal S1024x1280 .f32) (u : Vec Ideal S1x128 .f32) (x3 x4 : Vec Ideal S1024x128 .f32) (r : Fin 1024) (d : Fin 128) :
    k0_pay12 v u x3 x4 (ix2 r d) = strip v u x3 x4 r 3 d := by
  pointwise [strip, normed, k0_pay12]

theorem strip_4 (v : FVec Ideal S1024x1280 .f32) (u : Vec Ideal S1x128 .f32) (x3 x4 : Vec Ideal S1024x128 .f32) (r : Fin 1024) (d : Fin 128) :
    k0_pay14 (k0_pay13 v) u x3 x4 (ix2 r d) = strip v u x3 x4 r 4 d := by
  pointwise [strip, normed, k0_pay13, k0_pay14]

theorem strip_5 (v : FVec Ideal S1024x1280 .f32) (u : Vec Ideal S1x128 .f32) (x3 x4 : Vec Ideal S1024x128 .f32) (r : Fin 1024) (d : Fin 128) :
    k0_pay15 v u x3 x4 (ix2 r d) = strip v u x3 x4 r 5 d := by
  pointwise [strip, normed, k0_pay15]

theorem strip_6 (v : FVec Ideal S1024x1280 .f32) (u : Vec Ideal S1x128 .f32) (x3 x4 : Vec Ideal S1024x128 .f32) (r : Fin 1024) (d : Fin 128) :
    k0_pay16 v u x3 x4 (ix2 r d) = strip v u x3 x4 r 6 d := by
  pointwise [strip, normed, k0_pay16]

theorem strip_7 (v : FVec Ideal S1024x1280 .f32) (u : Vec Ideal S1x128 .f32) (x3 x4 : Vec Ideal S1024x128 .f32) (r : Fin 1024) (d : Fin 128) :
    k0_pay18 (k0_pay17 v u) x3 x4 (ix2 r d) = strip v u x3 x4 r 7 d := by
  pointwise [strip, normed, k0_pay17, k0_pay18]

theorem strip_8 (v : FVec Ideal S1024x1280 .f32) (u : Vec Ideal S1x128 .f32) (x3 x4 : Vec Ideal S1024x128 .f32) (r : Fin 1024) (d : Fin 128) :
    k0_pay19 v u x3 x4 (ix2 r d) = strip v u x3 x4 r 8 d := by
  pointwise [strip, normed, k0_pay19]

theorem strip_9 (v : FVec Ideal S1024x1280 .f32) (u : Vec Ideal S1x128 .f32) (x3 x4 : Vec Ideal S1024x128 .f32) (r : Fin 1024) (d : Fin 128) :
    k0_pay1 (k0_pay20 v) (k0_pay21 v) (FloatOps.ofBits .f32 0x43000000#32) u x3 x4 (ix2 r d) = strip v u x3 x4 r 9 d := by
  pointwise [strip, normed, k0_pay20, k0_pay21, k0_pay1]

/-- The strip's weights, from the row of all weights. -/
def part (x2 : Vec Ideal S1x1280 .f32) (h : Fin 10) : Vec Ideal S1x128 .f32 := fun z =>
  x2 (ix2 0 ⟨128 * h.val + (z 1).val, by have h : (z 1).val < 128 := (z 1).isLt; omega⟩)

/-- The block from the product, the weights and the tables. -/
def whole (v : FVec Ideal S1024x1280 .f32) (x2 : Vec Ideal S1x1280 .f32) (x3 x4 : Vec Ideal S1024x128 .f32) : Vec Ideal S1024x1280 .bf16 :=
  fun y => strip v (part x2 ⟨(y 1).val / 128, by have h : (y 1).val < 1280 := (y 1).isLt; omega⟩) x3 x4 (y 0)
    ⟨(y 1).val / 128, by have h : (y 1).val < 1280 := (y 1).isLt; omega⟩ ⟨(y 1).val % 128, Nat.mod_lt _ (by decide)⟩

theorem piece_at (v : FVec Ideal S1024x1280 .f32) (x2 : Vec Ideal S1x1280 .f32) (x3 x4 : Vec Ideal S1024x128 .f32) (h : Fin 10) (o : ℕ)
    (ho : 128 * h.val = o) (h' : ∀ a, (![0, o] : Fin 2 → ℕ) a + S1024x128.size a ≤ S1024x1280.size a)
    (h'' : ∀ a, (![0, o] : Fin 2 → ℕ) a + S1x128.size a ≤ S1x1280.size a) (p : Vec Ideal S1024x128 .bf16)
    (hp : ∀ (r : Fin 1024) (d : Fin 128), p (ix2 r d)
      = strip v (View.ld x2 (Rect.unit (s := S1x1280) ![0, o] S1x128.size h'')) x3 x4 r h d) (x : S1024x128.Idx) :
    p x = whole v x2 x3 x4 ((Rect.unit (s := S1024x1280) ![0, o] S1024x128.size h').idx x) := by
  obtain ⟨r, d, rfl⟩ : ∃ (r : Fin 1024) (d : Fin 128), x = ix2 r d := ⟨x 0, x 1, eq_ix2 x⟩
  have e1 : h = ⟨(o + 1 * d.val) / 128, by omega⟩ := Fin.ext (by show h.val = (o + 1 * d.val) / 128; omega)
  have e2 : View.ld x2 (Rect.unit (s := S1x1280) ![0, o] S1x128.size h'') = part x2 h := by
    funext z
    refine congrArg x2 (funext fun a => Fin.ext ?_)
    match a with
    | ⟨0, _⟩ => show 0 + 1 * (z 0).val = 0; have : (z 0).val < 1 := (z 0).isLt; omega
    | ⟨1, _⟩ => show o + 1 * (z 1).val = 128 * h.val + (z 1).val; omega
  rw [hp, e2]
  unfold whole
  congr 1
  · exact congrArg (part x2) e1
  · exact Fin.ext (by show r.val = 0 + 1 * r.val; omega)
  · exact Fin.ext (by show d.val = (o + 1 * d.val) % 128; omega)

theorem block_eq (c : Dev nD) (i : grid0.Coords) (a2 : Memref sig .tc .vmem S1024x2048 .bf16) (h2 : a2.IsWhole)
    (a3 : Memref sig .tc .vmem S2048x1280 .bf16) (h3 : a3.IsWhole) (a4 : Memref sig .tc .vmem S1x1280 .f32) (h4 : a4.IsWhole)
    (a5 : Memref sig .tc .vmem S1024x128 .f32) (h5 : a5.IsWhole) (a6 : Memref sig .tc .vmem S1024x128 .f32) (h6 : a6.IsWhole)
    (a7 : Memref sig .tc .vmem S1024x1280 .bf16) (h7 : a7.IsWhole)
    (x0 : Vec Ideal S1024x2048 .bf16) (x1 : Vec Ideal S2048x1280 .bf16) (x2 : Vec Ideal S1x1280 .f32) (x3 x4 : Vec Ideal S1024x128 .f32) :
    out0_A_5 c i a2 h2 a3 h3 a4 h4 a5 h5 a6 h6 a7 h7 x0 x1 x2 x3 x4 = whole (k0_pay2 x0 x1) x2 x3 x4 := by
  funext y
  unfold out0_A_5
  rw [View.read_writes_eq_canon _ _ _ (cover0_A_5 c i a2 h2 a3 h3 a4 h4 a5 h5 a6 h6 a7 h7 x0 x1 x2 x3 x4)]
  refine View.canon_apply_of_pieces (whole (k0_pay2 x0 x1) x2 x3 x4) _ ?_ y (cover0_A_5 c i a2 h2 a3 h3 a4 h4 a5 h5 a6 h6 a7 h7 x0 x1 x2 x3 x4 y)
  unfold kernelRun0_A
  dsimp only
  sl_unfold_words
  simp only [View.readAt_eq_ld, h2.read_unread, h3.read_unread, h4.read_unread, h5.read_unread, h6.read_unread,
    View.ld_unit_zero (S := S1024x2048) off2, View.ld_unit_zero (S := S2048x1280) off2, View.ld_unit_zero (S := S1024x128) off2]
  intro pc hpc
  simp only [List.mem_cons, List.not_mem_nil, or_false] at hpc
  rcases hpc with rfl | rfl | rfl | rfl | rfl | rfl | rfl | rfl | rfl | rfl
  · exact fun x => piece_at (k0_pay2 x0 x1) x2 x3 x4 9 1152 rfl inb_S1024x1280_S1024x128_0_1152 inb_S1x1280_S1x128_0_1152 _ (strip_9 (k0_pay2 x0 x1) _ x3 x4) x
  · exact fun x => piece_at (k0_pay2 x0 x1) x2 x3 x4 8 1024 rfl inb_S1024x1280_S1024x128_0_1024 inb_S1x1280_S1x128_0_1024 _ (strip_8 (k0_pay2 x0 x1) _ x3 x4) x
  · exact fun x => piece_at (k0_pay2 x0 x1) x2 x3 x4 7 896 rfl inb_S1024x1280_S1024x128_0_896 inb_S1x1280_S1x128_0_896 _ (strip_7 (k0_pay2 x0 x1) _ x3 x4) x
  · exact fun x => piece_at (k0_pay2 x0 x1) x2 x3 x4 6 768 rfl inb_S1024x1280_S1024x128_0_768 inb_S1x1280_S1x128_0_768 _ (strip_6 (k0_pay2 x0 x1) _ x3 x4) x
  · exact fun x => piece_at (k0_pay2 x0 x1) x2 x3 x4 5 640 rfl inb_S1024x1280_S1024x128_0_640 inb_S1x1280_S1x128_0_640 _ (strip_5 (k0_pay2 x0 x1) _ x3 x4) x
  · exact fun x => piece_at (k0_pay2 x0 x1) x2 x3 x4 4 512 rfl inb_S1024x1280_S1024x128_0_512 inb_S1x1280_S1x128_0_512 _ (strip_4 (k0_pay2 x0 x1) _ x3 x4) x
  · exact fun x => piece_at (k0_pay2 x0 x1) x2 x3 x4 3 384 rfl inb_S1024x1280_S1024x128_0_384 inb_S1x1280_S1x128_0_384 _ (strip_3 (k0_pay2 x0 x1) _ x3 x4) x
  · exact fun x => piece_at (k0_pay2 x0 x1) x2 x3 x4 2 256 rfl inb_S1024x1280_S1024x128_0_256 inb_S1x1280_S1x128_0_256 _ (strip_2 (k0_pay2 x0 x1) _ x3 x4) x
  · exact fun x => piece_at (k0_pay2 x0 x1) x2 x3 x4 1 128 rfl inb_S1024x1280_S1024x128_0_128 inb_S1x1280_S1x128_0_128 _ (strip_1 x0 x1 _ x3 x4) x
  · exact fun x => piece_at (k0_pay2 x0 x1) x2 x3 x4 0 0 rfl inb_S1024x1280_S1024x128_0_0 inb_S1x1280_S1x128_0_0 _ (strip_0 x0 x1 _ x3 x4) x

theorem product_at (x : Vec Ideal S1024x2048 .bf16) (w : Vec Ideal S2048x1280 .bf16) (r : Fin 1024) (q : Fin 1280) :
    k0_pay2 x w (ix2 r q) = ∑ i : Fin 2048, x (ix2 r i) * w (ix2 i q) := by
  pointwise [k0_pay2]

end Cert.Nqk

end
-- ==== Proof.NqkValue.lean ====
/-
  What the odd layer's query and key projection leaves in its result array, at one element, in terms of the arguments. Point `t` of the
  grid works on row block `t`, on all ten heads (eight of queries, two of keys).
-/
module

public import proofs.«01_k».proof.Proof.NqkBlock

@[expose] public section

set_option maxRecDepth 16384

noncomputable section

namespace Cert.Nqk

open Cert.Ocd (normed)
open Cert.Kernel11Ideal Cert.Kernel11Ideal.Gen Idealize.ShloMosaic Idealize.ShloMosaic.TcCoe Idealize.SL.Sem
open Idealize.ShloMosaic.Tactic

/-- The rotation of a head: the first 64 lanes are paired with the last 64. -/
def rotated (y : Fin 128 → EReal) (co si : Fin 64 → EReal) (d : Fin 128) : EReal :=
  if h : d.val < 64 then y d * co ⟨d.val, h⟩ - y ⟨d.val + 64, by omega⟩ * si ⟨d.val, h⟩
  else y d * co ⟨d.val - 64, by omega⟩ + y ⟨d.val - 64, by omega⟩ * si ⟨d.val - 64, by omega⟩

/-- The result at `(b, s, k)`: the query and key columns of the product, each head under its norm, rotated. -/
def result (h : FVec Ideal ⟨3, ![2, 16384, 2048]⟩ .f32) (w : FVec Ideal ⟨2, ![2048, 6656]⟩ .f32) (qn kn : FVec Ideal ⟨1, ![128]⟩ .f32)
    (co si : FVec Ideal ⟨2, ![16384, 64]⟩ .f32) (b : Fin 2) (s : Fin 16384) (k : Fin 1280) : EReal :=
  rotated (normed (fun e => ∑ i : Fin 2048, h (ix3 b s i) * w (ix2 i ⟨5120 + (128 * (k.val / 128) + e.val), by omega⟩))
    (fun e => if k.val < 1024 then qn (ix1 e) else kn (ix1 e))) (fun e => co (ix2 s e)) (fun e => si (ix2 s e)) ⟨k.val % 128, by omega⟩

theorem turned_eq (y : Fin 128 → EReal) (co si : Fin 64 → EReal) (d : Fin 128) (x3 x4 : EReal) (h3 : x3 = co ⟨d.val % 64, by omega⟩)
    (h4 : x4 = if d.val < 64 then -si ⟨d.val % 64, by omega⟩ else si ⟨d.val % 64, by omega⟩) :
    y d * x3 + y ⟨(d.val + 128 - 64) % 128, by omega⟩ * x4 = rotated y co si d := by
  subst h3 h4
  unfold rotated
  by_cases h : d.val < 64
  · rw [if_pos h, dif_pos h, mul_neg, ← sub_eq_add_neg]
    simp only [show (d.val + 128 - 64) % 128 = d.val + 64 by omega, show d.val % 64 = d.val by omega]
  · rw [if_neg h, dif_neg h]
    simp only [show (d.val + 128 - 64) % 128 = d.val - 64 by omega, show d.val % 64 = d.val - 64 by omega]

/-- Two halves of 64 lanes side by side. -/
def side (a b : FVec Ideal S16384x64 .f32) : FVec Ideal S16384x128 .f32 :=
  concatenate S16384x128 1 [⟨S16384x64, a⟩, ⟨S16384x64, b⟩] concatenates_S16384x64_S16384x64_S16384x128_d1

theorem side_at (a b : FVec Ideal S16384x64 .f32) (s : Fin 16384) (d : Fin 128) :
    side a b (ix2 s d) = if d.val < 64 then a (ix2 s ⟨d.val % 64, by omega⟩) else b (ix2 s ⟨d.val % 64, by omega⟩) := by
  pointwise [side]
  by_cases h : d.val < 64
  · rw [dif_pos h, if_pos h]
    simp only [Nat.mod_eq_of_lt h]
  · rw [dif_neg h, if_neg h]
    simp only [show d.val % 64 = d.val - 64 by omega]

/-- The norm weights repeated over the heads. -/
def repeated (qn kn : FVec Ideal S128 .f32) : FVec Ideal S1x1280 .f32 :=
  shapeCast S1x1280 (concatenate S1280 0 [⟨S1024, shapeCast S1024 (broadcastInDim S8x128 ![0, 1] bcast_S1x128_S8x128_0_1 (shapeCast S1x128 qn shapeCasts_S128_S1x128)) shapeCasts_S8x128_S1024⟩,
    ⟨S256, shapeCast S256 (broadcastInDim S2x128 ![0, 1] bcast_S1x128_S2x128_0_1 (shapeCast S1x128 kn shapeCasts_S128_S1x128)) shapeCasts_S2x128_S256⟩] concatenates_S1024_S256_S1280_d0) shapeCasts_S1280_S1x1280

theorem repeated_at (qn kn : FVec Ideal S128 .f32) (k : Fin 1280) :
    repeated qn kn (ix2 0 k) = if k.val < 1024 then qn (ix1 ⟨k.val % 128, by omega⟩) else kn (ix1 ⟨k.val % 128, by omega⟩) := by
  pointwise [repeated]
  by_cases h : k.val < 1024
  · rw [dif_pos h, if_pos h]
  · rw [dif_neg h, if_neg h]
    simp only [show (k.val - 1024) % 128 = k.val % 128 by omega]

variable (m : (ℓ : Loc nD τ sig) → Buf (Elt Ideal) ℓ) (c : Dev nD)

/-- The given rows. -/
abbrev rows : FVec Ideal S2x16384x2048 .f32 := m ((c : Thread nD τ).loc main_arg0)
/-- The given weights. -/
abbrev weights : FVec Ideal S2048x6656 .f32 := m ((c : Thread nD τ).loc main_arg1)
/-- The queries' norm weight. -/
abbrev qw : FVec Ideal S128 .f32 := m ((c : Thread nD τ).loc main_arg2)
/-- The keys' norm weight. -/
abbrev kw : FVec Ideal S128 .f32 := m ((c : Thread nD τ).loc main_arg3)
/-- The given cosines. -/
abbrev cosines : FVec Ideal S16384x64 .f32 := m ((c : Thread nD τ).loc main_arg4)
/-- The given sines. -/
abbrev sines : FVec Ideal S16384x64 .f32 := m ((c : Thread nD τ).loc main_arg5)

theorem V_norm : V m c main_v7 = repeated (qw m c) (kw m c) := by
  unfold_abbrev_sides
  after_results <;> rfl

theorem V_cos : V m c main_v8 = side (cosines m c) (cosines m c) := by
  unfold_abbrev_sides
  after_results <;> rfl

theorem V_sin : V m c main_v10 = side (Host.negf (sines m c)) (sines m c) := by
  unfold_abbrev_sides
  after_results <;> rfl

theorem places : ∀ t : Fin cfg0.N, win0_0.index t = ![t.val, 0] ∧ win0_1.index t = ![0, 4]
    ∧ win0_2.index t = ![0, 0] ∧ win0_3.index t = ![t.val % 16, 0] ∧ win0_4.index t = ![t.val % 16, 0] ∧ win0_5.index t = ![t.val, 0] :=
  (by decide +kernel : ∀ t : Fin grid0.N, _)

theorem point_lt (t : Fin cfg0.N) : t.val < 32 := lt_of_lt_of_eq t.isLt (show cfg0.N = 32 from N_0)

variable (t : Fin cfg0.N) (r : Fin 1024)

/-- The batch element of point `t`'s row block. -/
abbrev bat : Fin 2 := ⟨t.val / 16, by have := point_lt t; omega⟩
/-- Row `r` of point `t`'s row block, within its batch element. -/
abbrev pos : Fin 16384 := ⟨(1024 * t.val + r.val) % 16384, Nat.mod_lt _ (by decide)⟩

theorem h_at (k : Fin 2048) : iblk m c 0 t (ix2 r k) = rows m c (ix3 (bat t) (pos t r) k) := by
  have := point_lt t
  obtain ⟨e, -⟩ := places t
  blk_ext! [iblk, V, e]

theorem w_at (i : Fin 2048) (q : Fin 1280) : X0_1 m c t (ix2 i q) = weights m c (ix2 i ⟨5120 + q.val, by omega⟩) := by
  have := point_lt t
  obtain ⟨-, e, -⟩ := places t
  unfold X0_1 Pipeline.Window.fill
  rw [dif_pos (moved0_1 t (ix2 i q))]
  blk_ext! [iblk, V, e]

theorem norm_at (k : Fin 1280) : (iblk m c 2 t (ix2 0 k) : EReal)
    = if k.val < 1024 then qw m c (ix1 ⟨k.val % 128, by omega⟩) else kw m c (ix1 ⟨k.val % 128, by omega⟩) := by
  obtain ⟨-, -, e, -⟩ := places t
  have h : iblk m c 2 t (ix2 0 k) = V m c main_v7 (ix2 0 k) := by
    unfold iblk
    blk_ext! [e]
  rw [h, V_norm, repeated_at]

theorem cos_at (d : Fin 128) : (iblk m c 3 t (ix2 r d) : EReal) = cosines m c (ix2 (pos t r) ⟨d.val % 64, by omega⟩) := by
  have := point_lt t
  obtain ⟨-, -, -, e, -⟩ := places t
  have h : iblk m c 3 t (ix2 r d) = V m c main_v8 (ix2 (pos t r) d) := by
    unfold iblk
    blk_ext! [e]
  rw [h, V_cos, side_at, ite_self]

theorem sin_at (d : Fin 128) : (iblk m c 4 t (ix2 r d) : EReal)
    = if d.val < 64 then -sines m c (ix2 (pos t r) ⟨d.val % 64, by omega⟩) else sines m c (ix2 (pos t r) ⟨d.val % 64, by omega⟩) := by
  have := point_lt t
  obtain ⟨-, -, -, -, e, -⟩ := places t
  have h : iblk m c 4 t (ix2 r d) = V m c main_v10 (ix2 (pos t r) d) := by
    unfold iblk
    blk_ext! [e]
  rw [h, V_sin, side_at]
  rfl

/-- The result as an array of the memory. -/
def G5 : FVec Ideal S32768x1280 .bf16 := fun z =>
  result (rows m c) (weights m c) (qw m c) (kw m c) (cosines m c) (sines m c)
    ⟨(z 0).val / 16384, by have h : (z 0).val < 32768 := (z 0).isLt; omega⟩ ⟨(z 0).val % 16384, Nat.mod_lt _ (by decide)⟩ (z 1)

theorem out_at (q : Fin 1280) :
    outsAt0 m c t (ix2 r q) = result (rows m c) (weights m c) (qw m c) (kw m c) (cosines m c) (sines m c) (bat t) (pos t r) q := by
  unfold outsAt0
  rw [block_eq]
  unfold whole strip
  refine (turned_eq _ (fun e => cosines m c (ix2 (pos t r) e)) (fun e => sines m c (ix2 (pos t r) e)) ⟨q.val % 128, by omega⟩ _ _
    (cos_at m c t r _) (sin_at m c t r _)).trans ?_
  unfold result
  congr 2
  · funext e
    refine (product_at _ _ _ _).trans ?_
    refine Finset.sum_congr rfl fun i _ => ?_
    exact congrArg₂ (fun a b : EReal => a * b) (h_at m c t r i) (w_at m c t i _)
  · funext e
    refine (norm_at m c t _).trans ?_
    have he := e.isLt
    have hd : (128 * (q.val / 128) + e.val) % 128 = e.val := by omega
    by_cases hq : q.val < 1024
    · rw [if_pos hq]
      exact (if_pos (show 128 * (q.val / 128) + e.val < 1024 by omega)).trans (congrArg (fun x => qw m c (ix1 x)) (Fin.ext hd))
    · rw [if_neg hq]
      exact (if_neg (show ¬128 * (q.val / 128) + e.val < 1024 by omega)).trans (congrArg (fun x => kw m c (ix1 x)) (Fin.ext hd))

theorem arr_5 : (dats m 0 c).arrAt 5 cfg0.N = G5 m c := by
  refine (dats m 0 c).arrAt_eq_of_covers 5 _ (by decide +kernel) fun t hf y => ?_
  have ht := point_lt t
  obtain ⟨-, -, -, -, -, p⟩ := places t
  blk_simp [p]
  rw [after0_5]
  obtain ⟨r, q, rfl⟩ : ∃ (r : Fin 1024) (q : Fin 1280), y = ix2 r q := ⟨y 0, y 1, eq_ix2 y⟩
  have hr := r.isLt
  have place : (win0_5.blk t).view.emb (ix2 r q) = ix2 ⟨t.val * 1024 + r.val, by omega⟩ q := by
    blk_ext! [p]
  refine Eq.trans ?_ (congrArg (G5 m c) place.symm)
  refine (out_at m c t r q).trans ?_
  unfold G5
  congr 1
  · exact Fin.ext (by show t.val / 16 = (t.val * 1024 + r.val) / 16384; omega)
  · exact Fin.ext (by show (1024 * t.val + r.val) % 16384 = (t.val * 1024 + r.val) % 16384; omega)

end Cert.Nqk

end
-- ==== Proof.NqkRef.lean ====
/-
  What the odd layer's query and key projection's reference's result holds at one element. Queries and keys go through the same stages: the
  columns by heads, the norm, the rotation.
-/
module

public import proofs.«01_k».proof.Proof.NqkValue
public import proofs.«01_k».proof.Proof.Gen.Reference11Ideal.Run
public import Idealize.ShloMosaic.Lib.Pointwise

@[expose] public section

set_option maxRecDepth 16384

noncomputable section

namespace Cert.Nqk.Ref

open Cert.Ocd (normed)
open Cert.Reference11Ideal Cert.Reference11Ideal.Gen Idealize.ShloMosaic Idealize.ShloMosaic.TcCoe Idealize.SL.Sem

variable (h : FVec Ideal S2x16384x2048 .f32) (w : FVec Ideal S2048x6656 .f32) (co si : FVec Ideal S16384x64 .f32)

/-- The product with the input weights. -/
def product : FVec Ideal S2x16384x6656 .f32 :=
  Host.dotGeneral dot_S2x16384x2048_S2048x6656_S2x16384x6656_2_0_01_1_n_n none h w

theorem product_at (b : Fin 2) (s : Fin 16384) (k : Fin 6656) :
    product h w (ix3 b s k) = ∑ i : Fin 2048, h (ix3 b s i) * w (ix2 i k) := by
  pointwise [product]

/-- The queries' heads, each under its norm and the weight. -/
def queriesNormed (nw : FVec Ideal S128 .f32) (o : FVec Ideal S2x16384x8x128 .f32) : FVec Ideal S2x16384x8x128 .f32 :=
  mulf (mulf o (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf o o) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x358637BD#32)))))) (broadcastInDim S2x16384x8x128 ![0, 1, 2, 3] bcast_S1x1x1x128_S2x16384x8x128_0_1_2_3 (broadcastInDim S1x1x1x128 ![3] bcast_S128_S1x1x1x128_3 nw))

/-- A table at every head of the queries. -/
def queriesSpread (co : FVec Ideal S16384x64 .f32) : FVec Ideal S2x16384x8x64 .f32 :=
  broadcastInDim S2x16384x8x64 ![0, 1, 2, 3] bcast_S1x16384x1x64_S2x16384x8x64_0_1_2_3 (broadcastInDim S1x16384x1x64 ![1, 2, 3] bcast_S16384x1x64_S1x16384x1x64_1_2_3 (broadcastInDim S16384x1x64 ![0, 2] bcast_S16384x64_S16384x1x64_0_2 co))

/-- The queries' rotation. -/
def queriesRotation (co si : FVec Ideal S16384x64 .f32) (y : FVec Ideal S2x16384x8x128 .f32) : FVec Ideal S2x16384x8x128 .f32 :=
  concatenate S2x16384x8x128 3 [⟨S2x16384x8x64, (subf (mulf (extractStridedSlice S2x16384x8x64 ![0, 0, 0, 0] y slices_S2x16384x8x128_S2x16384x8x64_0_0_0_0) (queriesSpread co)) (mulf (extractStridedSlice S2x16384x8x64 ![0, 0, 0, 64] y slices_S2x16384x8x128_S2x16384x8x64_0_0_0_64) (queriesSpread si)))⟩, ⟨S2x16384x8x64, (addf (mulf (extractStridedSlice S2x16384x8x64 ![0, 0, 0, 64] y slices_S2x16384x8x128_S2x16384x8x64_0_0_0_64) (queriesSpread co)) (mulf (extractStridedSlice S2x16384x8x64 ![0, 0, 0, 0] y slices_S2x16384x8x128_S2x16384x8x64_0_0_0_0) (queriesSpread si)))⟩] concatenates_S2x16384x8x64_S2x16384x8x64_S2x16384x8x128_d3

/-- The queries' columns of the product, by heads. -/
def queriesHeads : FVec Ideal S2x16384x8x128 .f32 :=
  shapeCast _ (extractStridedSlice S2x16384x1024 ![0, 0, 5120] (product h w) slices_S2x16384x6656_S2x16384x1024_0_0_5120) shapeCasts_S2x16384x1024_S2x16384x8x128

/-- The queries. -/
def queries (nw : FVec Ideal S128 .f32) : FVec Ideal S32768x1024 .f32 :=
  shapeCast _ (queriesRotation co si (queriesNormed nw (queriesHeads h w))) shapeCasts_S2x16384x8x128_S32768x1024

theorem queriesHeads_at (b : Fin 2) (s : Fin 16384) (p : Fin 8) (e : Fin 128) : queriesHeads h w (ix4 b s p e)
    = ∑ i : Fin 2048, h (ix3 b s i) * w (ix2 i ⟨5120 + (p.val * 128 + e.val), by omega⟩) := by
  have read : queriesHeads h w (ix4 b s p e) = product h w (ix3 b s ⟨5120 + (p.val * 128 + e.val), by omega⟩) := by
    pointwise [queriesHeads]
  exact read.trans (product_at h w _ _ _)

theorem queriesNormed_at (nw : FVec Ideal S128 .f32) (o : FVec Ideal S2x16384x8x128 .f32) (b : Fin 2) (s : Fin 16384) (p : Fin 8) (d : Fin 128) :
    queriesNormed nw o (ix4 b s p d) = normed (fun e => o (ix4 b s p e)) (fun e => nw (ix1 e)) d := by
  pointwise [queriesNormed, normed]

theorem queriesRotation_at (y : FVec Ideal S2x16384x8x128 .f32) (b : Fin 2) (s : Fin 16384) (p : Fin 8) (d : Fin 128) :
    queriesRotation co si y (ix4 b s p d) = rotated (fun e => y (ix4 b s p e)) (fun e => co (ix2 s e)) (fun e => si (ix2 s e)) d := by
  pointwise [queriesRotation, queriesSpread, rotated]
  by_cases h : d.val < 64
  · rw [dif_pos h, dif_pos h]
    simp only [Nat.add_comm 64]
  · rw [dif_neg h, dif_neg h]
    simp only [show 64 + (d.val - 64) = d.val by omega]

theorem queries_at (qn kn : FVec Ideal S128 .f32) (R : Fin 32768) (k : Fin 1024) : queries h w co si qn (ix2 R k)
    = result h w qn kn co si ⟨R.val / 16384, by omega⟩ ⟨R.val % 16384, Nat.mod_lt _ (by decide)⟩ ⟨k.val, by omega⟩ := by
  have e : queries h w co si qn (ix2 R k) = queriesRotation co si (queriesNormed qn (queriesHeads h w))
      (ix4 ⟨R.val / 16384, by omega⟩ ⟨R.val % 16384, Nat.mod_lt _ (by decide)⟩ ⟨k.val / 128, by omega⟩ ⟨k.val % 128, by omega⟩) := by
    pointwise [queries]
  rw [e, queriesRotation_at]
  simp only [queriesNormed_at, queriesHeads_at]
  unfold result
  simp only [k.isLt, if_true, Nat.mul_comm 128]

/-- The keys' heads, each under its norm and the weight. -/
def keysNormed (nw : FVec Ideal S128 .f32) (o : FVec Ideal S2x16384x2x128 .f32) : FVec Ideal S2x16384x2x128 .f32 :=
  mulf (mulf o (broadcastInDim S2x16384x2x128 ![0, 1, 2, 3] bcast_S2x16384x2x1_S2x16384x2x128_0_1_2_3 (Host.rsqrt (addf (Host.divf (broadcastInDim S2x16384x2x1 ![0, 1, 2] bcast_S2x16384x2_S2x16384x2x1_0_1_2 (Host.reduceAdd (mulf o o) (constant S_ .f32 0x00000000#32) reducesTo_S2x16384x2x128_S2x16384x2_d3 h_S_)) (broadcastInDim S2x16384x2x1 ![] bcast_S_S2x16384x2x1 (constant S_ .f32 0x43000000#32))) (broadcastInDim S2x16384x2x1 ![] bcast_S_S2x16384x2x1 (constant S_ .f32 0x358637BD#32)))))) (broadcastInDim S2x16384x2x128 ![0, 1, 2, 3] bcast_S1x1x1x128_S2x16384x2x128_0_1_2_3 (broadcastInDim S1x1x1x128 ![3] bcast_S128_S1x1x1x128_3 nw))

/-- A table at every head of the keys. -/
def keysSpread (co : FVec Ideal S16384x64 .f32) : FVec Ideal S2x16384x2x64 .f32 :=
  broadcastInDim S2x16384x2x64 ![0, 1, 2, 3] bcast_S1x16384x1x64_S2x16384x2x64_0_1_2_3 (broadcastInDim S1x16384x1x64 ![1, 2, 3] bcast_S16384x1x64_S1x16384x1x64_1_2_3 (broadcastInDim S16384x1x64 ![0, 2] bcast_S16384x64_S16384x1x64_0_2 co))

/-- The keys' rotation. -/
def keysRotation (co si : FVec Ideal S16384x64 .f32) (y : FVec Ideal S2x16384x2x128 .f32) : FVec Ideal S2x16384x2x128 .f32 :=
  concatenate S2x16384x2x128 3 [⟨S2x16384x2x64, (subf (mulf (extractStridedSlice S2x16384x2x64 ![0, 0, 0, 0] y slices_S2x16384x2x128_S2x16384x2x64_0_0_0_0) (keysSpread co)) (mulf (extractStridedSlice S2x16384x2x64 ![0, 0, 0, 64] y slices_S2x16384x2x128_S2x16384x2x64_0_0_0_64) (keysSpread si)))⟩, ⟨S2x16384x2x64, (addf (mulf (extractStridedSlice S2x16384x2x64 ![0, 0, 0, 64] y slices_S2x16384x2x128_S2x16384x2x64_0_0_0_64) (keysSpread co)) (mulf (extractStridedSlice S2x16384x2x64 ![0, 0, 0, 0] y slices_S2x16384x2x128_S2x16384x2x64_0_0_0_0) (keysSpread si)))⟩] concatenates_S2x16384x2x64_S2x16384x2x64_S2x16384x2x128_d3

/-- The keys' columns of the product, by heads. -/
def keysHeads : FVec Ideal S2x16384x2x128 .f32 :=
  shapeCast _ (extractStridedSlice S2x16384x256 ![0, 0, 6144] (product h w) slices_S2x16384x6656_S2x16384x256_0_0_6144) shapeCasts_S2x16384x256_S2x16384x2x128

/-- The keys. -/
def keys (nw : FVec Ideal S128 .f32) : FVec Ideal S32768x256 .f32 :=
  shapeCast _ (keysRotation co si (keysNormed nw (keysHeads h w))) shapeCasts_S2x16384x2x128_S32768x256

theorem keysHeads_at (b : Fin 2) (s : Fin 16384) (p : Fin 2) (e : Fin 128) : keysHeads h w (ix4 b s p e)
    = ∑ i : Fin 2048, h (ix3 b s i) * w (ix2 i ⟨6144 + (p.val * 128 + e.val), by omega⟩) := by
  have read : keysHeads h w (ix4 b s p e) = product h w (ix3 b s ⟨6144 + (p.val * 128 + e.val), by omega⟩) := by
    pointwise [keysHeads]
  exact read.trans (product_at h w _ _ _)

theorem keysNormed_at (nw : FVec Ideal S128 .f32) (o : FVec Ideal S2x16384x2x128 .f32) (b : Fin 2) (s : Fin 16384) (p : Fin 2) (d : Fin 128) :
    keysNormed nw o (ix4 b s p d) = normed (fun e => o (ix4 b s p e)) (fun e => nw (ix1 e)) d := by
  pointwise [keysNormed, normed]

theorem keysRotation_at (y : FVec Ideal S2x16384x2x128 .f32) (b : Fin 2) (s : Fin 16384) (p : Fin 2) (d : Fin 128) :
    keysRotation co si y (ix4 b s p d) = rotated (fun e => y (ix4 b s p e)) (fun e => co (ix2 s e)) (fun e => si (ix2 s e)) d := by
  pointwise [keysRotation, keysSpread, rotated]
  by_cases h : d.val < 64
  · rw [dif_pos h, dif_pos h]
    simp only [Nat.add_comm 64]
  · rw [dif_neg h, dif_neg h]
    simp only [show 64 + (d.val - 64) = d.val by omega]

theorem keys_at (qn kn : FVec Ideal S128 .f32) (R : Fin 32768) (k : Fin 256) : keys h w co si kn (ix2 R k)
    = result h w qn kn co si ⟨R.val / 16384, by omega⟩ ⟨R.val % 16384, Nat.mod_lt _ (by decide)⟩ ⟨1024 + k.val, by omega⟩ := by
  have e : keys h w co si kn (ix2 R k) = keysRotation co si (keysNormed kn (keysHeads h w))
      (ix4 ⟨R.val / 16384, by omega⟩ ⟨R.val % 16384, Nat.mod_lt _ (by decide)⟩ ⟨k.val / 128, by omega⟩ ⟨k.val % 128, by omega⟩) := by
    pointwise [keys]
  rw [e, keysRotation_at]
  simp only [keysNormed_at, keysHeads_at]
  unfold result
  simp only [show ¬1024 + k.val < 1024 by omega, if_false, show (1024 + k.val) % 128 = k.val % 128 by omega,
    show ∀ e : Fin 128, 6144 + (k.val / 128 * 128 + e.val) = 5120 + (128 * ((1024 + k.val) / 128) + e.val) from fun e => by omega]

/-- The reference's result. -/
def out (qn kn : FVec Ideal S128 .f32) : FVec Ideal S32768x1280 .bf16 :=
  truncf .bf16 (concatenate S32768x1280 1 [⟨S32768x1024, queries h w co si qn⟩, ⟨S32768x256, keys h w co si kn⟩] concatenates_S32768x1024_S32768x256_S32768x1280_d1) bitsLt_bf16_f32

theorem res_eq (m : (ℓ : Loc nD τ sig) → Buf (Elt Ideal) ℓ) (c : Dev nD) :
    Value.res_main_v72 m c = out (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg2))
      (m ((c.tc : Thread nD τ).loc main_arg3)) := rfl

/-- The reference's result at row `R`, column `k`. -/
theorem out_at (qn kn : FVec Ideal S128 .f32) (R : Fin 32768) (k : Fin 1280) : out h w co si qn kn (ix2 R k)
    = result h w qn kn co si ⟨R.val / 16384, by omega⟩ ⟨R.val % 16384, Nat.mod_lt _ (by decide)⟩ k := by
  have e : out h w co si qn kn (ix2 R k) = if hk : k.val < 1024 then queries h w co si qn (ix2 R ⟨k.val, hk⟩)
      else keys h w co si kn (ix2 R ⟨k.val - 1024, by omega⟩) := by
    pointwise [out]
  rw [e]
  split
  · rw [queries_at h w co si qn kn]
  · rename_i hk
    rw [keys_at h w co si qn kn]
    simp only [show 1024 + (k.val - 1024) = k.val by omega]

end Cert.Nqk.Ref

end
-- ==== Proof.NqkClaims.lean ====
/-
  The odd layer's query and key projection's claims: the frames of the kernel at both instances and of the reference, and that the kernel and
  the reference compute the same result over exact arithmetic.
-/
module

public import proofs.«01_k».proof.Defs
public import proofs.«01_k».proof.Proof.NqkRef
public import proofs.«01_k».proof.Proof.NqkValue
public import proofs.«01_k».proof.Proof.Gen.Kernel11.Frame
public import Idealize.ShloMosaic.Adequacy
public import Idealize.ShloMosaic.Init

@[expose] public section

noncomputable section

namespace Cert.Nqk

open Idealize.ShloMosaic Idealize.ShloMosaic.TcCoe Idealize.SL.Sem

theorem frame_kernel : Cert.quiescent_Kernel11 := fun m ρ _ => Cert.Kernel11.Gen.frame (F := Bits) m ρ

theorem frame_ideal : Cert.quiescent_Kernel11Ideal := fun m ρ _ => Cert.Kernel11Ideal.Gen.frame (F := Ideal) m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Kernel and reference agree at every element of the result: both are `result` of the arguments. -/
theorem value : Cert.algebraic_Kernel11Ideal_Reference11Ideal := by
  intro m ρ m' ρ' _ hagree
  refine ⟨fun c => G5 m c, (θ_run Cert.Kernel11Ideal.defs _ _).mono (fun r h c => ⟨(h c).1.trans (arr_5 m c), (h c).2⟩)
    (Cert.Kernel11Ideal.Value.run_blocks (F := Ideal) m ρ), ?_⟩
  refine (θ_run Cert.Reference11Ideal.defs _ _).mono (fun r h c => ⟨(h c).1.trans ?_, (h c).2⟩)
    (Cert.Reference11Ideal.Value.run (F := Ideal) m' ρ')
  obtain ⟨e0, e1, e2, e3, e4, e5⟩ := hagree c
  funext i
  obtain ⟨R, k, rfl⟩ : ∃ (R : Fin 32768) (k : Fin 1280), i = ix2 R k := ⟨i 0, i 1, eq_ix2 i⟩
  refine (congrFun (Ref.res_eq m' c) _).trans ((Ref.out_at _ _ _ _ _ _ R k).trans ?_)
  rw [e0, e1, e2, e3, e4, e5]
  rfl

end Cert.Nqk

end
-- ==== Proof.VcdValue.lean ====
/-
  What the odd layer's value projection leaves in its result array, at one element, in terms of the arguments. Point `t` of the grid works on row
  block `t`.
-/
module

public import proofs.«01_k».proof.Proof.PzValue
public import proofs.«01_k».proof.Proof.Gen.Kernel12Ideal.Value

@[expose] public section

set_option maxRecDepth 16384

noncomputable section

namespace Cert.Vcd

open Cert.Ffn (off2)
open Cert.Kernel12Ideal Cert.Kernel12Ideal.Gen Idealize.ShloMosaic Idealize.ShloMosaic.TcCoe Idealize.SL.Sem
open Idealize.ShloMosaic.Tactic

/-- The result at `(b, s, k)`. -/
def result (h : FVec Ideal ⟨3, ![2, 16384, 2048]⟩ .f32) (w : FVec Ideal ⟨2, ![2048, 6656]⟩ .f32) (b : Fin 2) (s : Fin 16384)
    (k : Fin 256) : EReal :=
  ∑ i : Fin 2048, h (ix3 b s i) * w (ix2 i ⟨6400 + k.val, by omega⟩)

/-- A strip of a block's product is the product read at the strip's columns. -/
theorem strip_at {α : Type} (v : S1024x256.Idx → α) (o : ℕ) (ho : o + 128 ≤ 256) (h : S1024x256.Slices ![0, o] S1024x128)
    (h' : ∀ a, (![0, o] : Fin 2 → ℕ) a + S1024x128.size a ≤ S1024x256.size a) (x : S1024x128.Idx) :
    extractStridedSlice S1024x128 ![0, o] v h x = v ((Rect.unit (s := S1024x256) ![0, o] S1024x128.size h').idx x) := by
  unfold extractStridedSlice
  refine congrArg v (funext fun a => Fin.ext ?_)
  match a with
  | ⟨0, _⟩ => show 0 + (x 0).val = 0 + 1 * (x 0).val; omega
  | ⟨1, _⟩ => show o + (x 1).val = o + 1 * (x 1).val; omega

/-- The product of a block's rows and columns. -/
def whole (x0 : Vec Ideal S1024x2048 .bf16) (x1 : Vec Ideal S2048x256 .bf16) : Vec Ideal S1024x256 .bf16 := fun y => k0_pay1 x0 x1 y

theorem out_eq (x0 : Vec Ideal S1024x2048 .bf16) (x1 : Vec Ideal S2048x256 .bf16) : out0_2 x0 x1 = whole x0 x1 := by
  funext y
  unfold out0_2
  rw [View.ld_unit_zero (S := S1024x2048) off2, View.ld_unit_zero (S := S2048x256) off2]
  refine View.canon_apply_of_pieces (whole x0 x1) _ ?_ y (cover0_2 _ _ y)
  intro pc hpc
  simp only [List.mem_cons, List.not_mem_nil, or_false] at hpc
  rcases hpc with rfl | rfl
  · exact fun x => strip_at (k0_pay1 x0 x1) 128 (by decide) slices_S1024x256_o0_128_S1024x128 inb_S1024x256_S1024x128_0_128 x
  · exact fun x => strip_at (k0_pay1 x0 x1) 0 (by decide) slices_S1024x256_o0_0_S1024x128 inb_S1024x256_S1024x128_0_0 x

theorem pay_at (x : Vec Ideal S1024x2048 .bf16) (w : Vec Ideal S2048x256 .bf16) (r : Fin 1024) (q : Fin 256) :
    k0_pay1 x w (ix2 r q) = ∑ i : Fin 2048, x (ix2 r i) * w (ix2 i q) := by
  pointwise [k0_pay1]

variable (m : (ℓ : Loc nD τ sig) → Buf (Elt Ideal) ℓ) (c : Dev nD)

theorem places : ∀ t : Fin cfg0.N, win0_0.index t = ![t.val, 0] ∧ win0_1.index t = ![0, 25]
    ∧ win0_2.index t = ![t.val, 0] :=
  (by decide +kernel : ∀ t : Fin grid0.N, _)

theorem point_lt (t : Fin cfg0.N) : t.val < 32 := lt_of_lt_of_eq t.isLt (show cfg0.N = 32 from N_0)

/-- The batch element of point `t`'s row block. -/
abbrev bat (t : Fin cfg0.N) : Fin 2 := ⟨t.val / 16, by have := point_lt t; omega⟩
/-- Row `r` of point `t`'s row block, within its batch element. -/
abbrev pos (t : Fin cfg0.N) (r : Fin 1024) : Fin 16384 := ⟨(1024 * t.val + r.val) % 16384, Nat.mod_lt _ (by decide)⟩

theorem h_at (t : Fin cfg0.N) (r : Fin 1024) (k : Fin 2048) :
    iblk m c 0 t (ix2 r k) = m ((c : Thread nD τ).loc main_arg0) (ix3 (bat t) (pos t r) k) := by
  have := point_lt t
  obtain ⟨e, -⟩ := places t
  blk_ext! [iblk, V, e]

theorem w_at (t : Fin cfg0.N) (i : Fin 2048) (q : Fin 256) :
    iblk m c 1 t (ix2 i q) = m ((c : Thread nD τ).loc main_arg1) (ix2 i ⟨6400 + q.val, by omega⟩) := by
  have := point_lt t
  obtain ⟨-, e, -⟩ := places t
  blk_ext! [iblk, V, e]

/-- The result as an array of the memory. -/
def G2 : FVec Ideal S32768x256 .bf16 := fun z =>
  result (m ((c : Thread nD τ).loc main_arg0)) (m ((c : Thread nD τ).loc main_arg1))
    ⟨(z 0).val / 16384, by have h : (z 0).val < 32768 := (z 0).isLt; omega⟩ ⟨(z 0).val % 16384, Nat.mod_lt _ (by decide)⟩ (z 1)

theorem out_at (t : Fin cfg0.N) (r : Fin 1024) (q : Fin 256) :
    out0_2 (iblk m c 0 t) (iblk m c 1 t) (ix2 r q) = result (m ((c : Thread nD τ).loc main_arg0)) (m ((c : Thread nD τ).loc main_arg1))
      (bat t) (pos t r) ⟨q.val, by omega⟩ := by
  refine (congrFun (out_eq _ _) _).trans ((pay_at _ _ r q).trans ?_)
  unfold result
  refine Finset.sum_congr rfl fun i _ => ?_
  rw [h_at, w_at]

theorem arr_2 : (dats m 0 c).arrAt 2 cfg0.N = G2 m c := by
  refine (dats m 0 c).arrAt_eq_of_covers 2 _ (by decide +kernel) fun t hf y => ?_
  have ht := point_lt t
  obtain ⟨-, -, p⟩ := places t
  blk_simp [p]
  rw [after0_2]
  obtain ⟨r, q, rfl⟩ : ∃ (r : Fin 1024) (q : Fin 256), y = ix2 r q := ⟨y 0, y 1, eq_ix2 y⟩
  have hr := r.isLt
  have hq := q.isLt
  have place : (win0_2.blk t).view.emb (ix2 r q) = ix2 ⟨t.val * 1024 + r.val, by omega⟩ ⟨q.val, by omega⟩ := by
    blk_ext! [p]
  refine Eq.trans ?_ (congrArg (G2 m c) place.symm)
  refine (out_at m c t r q).trans ?_
  unfold G2
  congr 1
  · exact Fin.ext (by show t.val / 16 = (t.val * 1024 + r.val) / 16384; omega)
  · exact Fin.ext (by show (1024 * t.val + r.val) % 16384 = (t.val * 1024 + r.val) % 16384; omega)

end Cert.Vcd

end
-- ==== Proof.VcdRef.lean ====
/-
  What the odd layer's value projection's reference's result holds at one element.
-/
module

public import proofs.«01_k».proof.Proof.VcdValue
public import proofs.«01_k».proof.Proof.Gen.Reference12Ideal.Run
public import Idealize.ShloMosaic.Lib.Pointwise

@[expose] public section

set_option maxRecDepth 16384

noncomputable section

namespace Cert.Vcd.Ref

open Cert.Reference12Ideal Cert.Reference12Ideal.Gen Idealize.ShloMosaic Idealize.ShloMosaic.TcCoe Idealize.SL.Sem

variable (h : FVec Ideal S2x16384x2048 .f32) (w : FVec Ideal S2048x6656 .f32)

/-- The reference's result. -/
def out : FVec Ideal S32768x256 .bf16 :=
  truncf .bf16 (shapeCast S32768x256 (extractStridedSlice S2x16384x256 ![0, 0, 6400] (Host.dotGeneral dot_S2x16384x2048_S2048x6656_S2x16384x6656_2_0_01_1_n_n none h w) slices_S2x16384x6656_S2x16384x256_0_0_6400) shapeCasts_S2x16384x256_S32768x256) bitsLt_bf16_f32

/-- The reference's result at row `R`, column `k`. -/
theorem out_at (R : Fin 32768) (k : Fin 256) :
    out h w (ix2 R k) = result h w ⟨R.val / 16384, by have := R.isLt; omega⟩ ⟨R.val % 16384, Nat.mod_lt _ (by decide)⟩ k := by
  pointwise [out, result]

end Cert.Vcd.Ref

end
-- ==== Proof.VcdClaims.lean ====
/-
  The odd layer's value projection's claims: the frames of the kernel at both instances and of the reference, and that the kernel and
  the reference compute the same result over exact arithmetic.
-/
module

public import proofs.«01_k».proof.Defs
public import proofs.«01_k».proof.Proof.VcdRef
public import proofs.«01_k».proof.Proof.Gen.Kernel12.Frame
public import Idealize.ShloMosaic.Adequacy
public import Idealize.ShloMosaic.Init

@[expose] public section

noncomputable section

namespace Cert.Vcd

open Idealize.ShloMosaic Idealize.ShloMosaic.TcCoe Idealize.SL.Sem

theorem frame_kernel : Cert.quiescent_Kernel12 := fun m ρ _ => Cert.Kernel12.Gen.frame (F := Bits) m ρ

theorem frame_ideal : Cert.quiescent_Kernel12Ideal := fun m ρ _ => Cert.Kernel12Ideal.Gen.frame (F := Ideal) m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference agree at every element of the result: both are `result` of the arguments. -/
theorem value : Cert.algebraic_Kernel12Ideal_Reference12Ideal := by
  intro m ρ m' ρ' _ hagree
  refine ⟨fun c => G2 m c, (θ_run Cert.Kernel12Ideal.defs _ _).mono (fun r h c => ⟨(h c).1.trans (arr_2 m c), (h c).2⟩)
    (Cert.Kernel12Ideal.Value.run_blocks (F := Ideal) m ρ), ?_⟩
  refine (θ_run Cert.Reference12Ideal.defs _ _).mono (fun r h c => ⟨(h c).1.trans ?_, (h c).2⟩)
    (Cert.Reference12Ideal.Value.run (F := Ideal) m' ρ')
  obtain ⟨e0, e1⟩ := hagree c
  funext i
  obtain ⟨R, k, rfl⟩ : ∃ (R : Fin 32768) (k : Fin 256), i = ix2 R k := ⟨i 0, i 1, eq_ix2 i⟩
  refine (Ref.out_at _ _ R k).trans ?_
  rw [e0, e1]
  rfl

end Cert.Vcd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.GqaClaims
public import proofs.«01_k».proof.Proof.FfnClaims
public import proofs.«01_k».proof.Proof.DifClaims
public import proofs.«01_k».proof.Proof.FirClaims
public import proofs.«01_k».proof.Proof.PzClaims
public import proofs.«01_k».proof.Proof.OabClaims
public import proofs.«01_k».proof.Proof.OcdClaims
public import proofs.«01_k».proof.Proof.RotClaims
public import proofs.«01_k».proof.Proof.GxClaims
public import proofs.«01_k».proof.Proof.VabClaims
public import proofs.«01_k».proof.Proof.NqkClaims
public import proofs.«01_k».proof.Proof.VcdClaims
public import Idealize.ShloMosaic.Adequacy
public import Idealize.ShloMosaic.Init

@[expose] public section

noncomputable section

theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Gqa.preFacts, Cert.Dif.preFacts,
    Cert.Gqa.frame_kernel, Cert.Gqa.frame_ideal, Cert.Gqa.frame_ideal_pre, Cert.Gqa.frame_reference, Cert.Gqa.frame_reference_pre,
    Cert.Ffn.frame_kernel, Cert.Ffn.frame_ideal, Cert.Ffn.frame_reference,
    Cert.Dif.frame_kernel, Cert.Dif.frame_ideal, Cert.Dif.frame_ideal_pre, Cert.Dif.frame_reference, Cert.Dif.frame_reference_pre,
    Cert.Fir.frame_kernel, Cert.Fir.frame_ideal, Cert.Fir.frame_reference,
    Cert.Pz.frame_kernel, Cert.Pz.frame_ideal, Cert.Pz.frame_reference,
    Cert.Oab.frame_kernel, Cert.Oab.frame_ideal, Cert.Oab.frame_reference,
    Cert.Ocd.frame_kernel, Cert.Ocd.frame_ideal, Cert.Ocd.frame_reference,
    Cert.Rot.frame_kernel, Cert.Rot.frame_ideal, Cert.Rot.frame_reference,
    Cert.Gx.frame_kernel, Cert.Gx.frame_ideal, Cert.Gx.frame_reference,
    Cert.Vab.frame_kernel, Cert.Vab.frame_ideal, Cert.Vab.frame_reference,
    Cert.Nqk.frame_kernel, Cert.Nqk.frame_ideal, Cert.Nqk.frame_reference,
    Cert.Vcd.frame_kernel, Cert.Vcd.frame_ideal, Cert.Vcd.frame_reference,
    trivial, Cert.Gqa.value, trivial, Cert.Ffn.value, trivial, Cert.Dif.value, trivial, Cert.Fir.value, trivial, Cert.Pz.value, trivial, Cert.Oab.value, trivial, Cert.Ocd.value, trivial, Cert.Rot.value, trivial, Cert.Gx.value, trivial, Cert.Vab.value, trivial, Cert.Nqk.value, trivial, Cert.Vcd.value⟩

end
